-- ==== Defs.lean ====
def Pre_Grad (m : (ℓ : Loc Cert.Grad.nD Cert.Grad.τ Cert.Grad.sig) → Buf (Elt Bits) ℓ) : Prop :=
  True

def Pre_GradIdeal (m : (ℓ : Loc Cert.GradIdeal.nD Cert.GradIdeal.τ Cert.GradIdeal.sig) → Buf (Elt Ideal) ℓ) : Prop :=
  True

def Pre_GradRefIdeal (m : (ℓ : Loc Cert.GradRefIdeal.nD Cert.GradRefIdeal.τ Cert.GradRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Quant (m : (ℓ : Loc Cert.Quant.nD Cert.Quant.τ Cert.Quant.sig) → Buf (Elt Bits) ℓ) : Prop :=
  True

def Pre_QuantIdeal (m : (ℓ : Loc Cert.QuantIdeal.nD Cert.QuantIdeal.τ Cert.QuantIdeal.sig) → Buf (Elt Ideal) ℓ) : Prop :=
  True

def Pre_QuantRefIdeal (m : (ℓ : Loc Cert.QuantRefIdeal.nD Cert.QuantRefIdeal.τ Cert.QuantRefIdeal.sig) → Buf (Elt Ideal) ℓ) : Prop :=
  True

def quiescent_Grad [hGrad : Cert.Grad.Facts] : Prop :=
  ∀ (m : (ℓ : Loc Cert.Grad.nD Cert.Grad.τ Cert.Grad.sig) → Buf (Elt Bits) ℓ) (g : Dev Cert.Grad.nD → PrngReg), Pre_Grad m →
    θ_run (Cert.Grad.defs (F := Bits)) (onTc (τ := Cert.Grad.τ) (Cert.Grad.main (F := Bits))) ⟨m, fun _ => 0, g⟩ (fun r => (∀ c : Dev Cert.Grad.nD,
      r.2.mem ((c.tc : Thread Cert.Grad.nD Cert.Grad.τ).loc Cert.Grad.main_arg0) = m ((c.tc : Thread Cert.Grad.nD Cert.Grad.τ).loc Cert.Grad.main_arg0)
      ∧ r.2.mem ((c.tc : Thread Cert.Grad.nD Cert.Grad.τ).loc Cert.Grad.main_arg1) = m ((c.tc : Thread Cert.Grad.nD Cert.Grad.τ).loc Cert.Grad.main_arg1)
      ∧ r.2.mem ((c.tc : Thread Cert.Grad.nD Cert.Grad.τ).loc Cert.Grad.main_arg2) = m ((c.tc : Thread Cert.Grad.nD Cert.Grad.τ).loc Cert.Grad.main_arg2)
      ∧ r.2.mem ((c.tc : Thread Cert.Grad.nD Cert.Grad.τ).loc Cert.Grad.main_arg3) = m ((c.tc : Thread Cert.Grad.nD Cert.Grad.τ).loc Cert.Grad.main_arg3)
      ∧ r.2.mem ((c.tc : Thread Cert.Grad.nD Cert.Grad.τ).loc Cert.Grad.main_arg4) = m ((c.tc : Thread Cert.Grad.nD Cert.Grad.τ).loc Cert.Grad.main_arg4)
      ∧ r.2.mem ((c.tc : Thread Cert.Grad.nD Cert.Grad.τ).loc Cert.Grad.main_arg5) = m ((c.tc : Thread Cert.Grad.nD Cert.Grad.τ).loc Cert.Grad.main_arg5)
      ∧ r.2.mem ((c.tc : Thread Cert.Grad.nD Cert.Grad.τ).loc Cert.Grad.main_arg6) = m ((c.tc : Thread Cert.Grad.nD Cert.Grad.τ).loc Cert.Grad.main_arg6)
      ∧ r.2.mem ((c.tc : Thread Cert.Grad.nD Cert.Grad.τ).loc Cert.Grad.main_arg7) = m ((c.tc : Thread Cert.Grad.nD Cert.Grad.τ).loc Cert.Grad.main_arg7)
      ∧ r.2.mem ((c.tc : Thread Cert.Grad.nD Cert.Grad.τ).loc Cert.Grad.main_arg8) = m ((c.tc : Thread Cert.Grad.nD Cert.Grad.τ).loc Cert.Grad.main_arg8)
      ∧ r.2.mem ((c.tc : Thread Cert.Grad.nD Cert.Grad.τ).loc Cert.Grad.main_arg9) = m ((c.tc : Thread Cert.Grad.nD Cert.Grad.τ).loc Cert.Grad.main_arg9))
      ∧ r.2.sem = fun _ => 0)

def quiescent_GradIdeal [hGradIdeal : Cert.GradIdeal.Facts] : Prop :=
  ∀ (m : (ℓ : Loc Cert.GradIdeal.nD Cert.GradIdeal.τ Cert.GradIdeal.sig) → Buf (Elt Ideal) ℓ) (g : Dev Cert.GradIdeal.nD → PrngReg), Pre_GradIdeal m →
    θ_run (Cert.GradIdeal.defs (F := Ideal)) (onTc (τ := Cert.GradIdeal.τ) (Cert.GradIdeal.main (F := Ideal))) ⟨m, fun _ => 0, g⟩ (fun r => (∀ c : Dev Cert.GradIdeal.nD,
      r.2.mem ((c.tc : Thread Cert.GradIdeal.nD Cert.GradIdeal.τ).loc Cert.GradIdeal.main_arg0) = m ((c.tc : Thread Cert.GradIdeal.nD Cert.GradIdeal.τ).loc Cert.GradIdeal.main_arg0)
      ∧ r.2.mem ((c.tc : Thread Cert.GradIdeal.nD Cert.GradIdeal.τ).loc Cert.GradIdeal.main_arg1) = m ((c.tc : Thread Cert.GradIdeal.nD Cert.GradIdeal.τ).loc Cert.GradIdeal.main_arg1)
      ∧ r.2.mem ((c.tc : Thread Cert.GradIdeal.nD Cert.GradIdeal.τ).loc Cert.GradIdeal.main_arg2) = m ((c.tc : Thread Cert.GradIdeal.nD Cert.GradIdeal.τ).loc Cert.GradIdeal.main_arg2)
      ∧ r.2.mem ((c.tc : Thread Cert.GradIdeal.nD Cert.GradIdeal.τ).loc Cert.GradIdeal.main_arg3) = m ((c.tc : Thread Cert.GradIdeal.nD Cert.GradIdeal.τ).loc Cert.GradIdeal.main_arg3)
      ∧ r.2.mem ((c.tc : Thread Cert.GradIdeal.nD Cert.GradIdeal.τ).loc Cert.GradIdeal.main_arg4) = m ((c.tc : Thread Cert.GradIdeal.nD Cert.GradIdeal.τ).loc Cert.GradIdeal.main_arg4)
      ∧ r.2.mem ((c.tc : Thread Cert.GradIdeal.nD Cert.GradIdeal.τ).loc Cert.GradIdeal.main_arg5) = m ((c.tc : Thread Cert.GradIdeal.nD Cert.GradIdeal.τ).loc Cert.GradIdeal.main_arg5)
      ∧ r.2.mem ((c.tc : Thread Cert.GradIdeal.nD Cert.GradIdeal.τ).loc Cert.GradIdeal.main_arg6) = m ((c.tc : Thread Cert.GradIdeal.nD Cert.GradIdeal.τ).loc Cert.GradIdeal.main_arg6)
      ∧ r.2.mem ((c.tc : Thread Cert.GradIdeal.nD Cert.GradIdeal.τ).loc Cert.GradIdeal.main_arg7) = m ((c.tc : Thread Cert.GradIdeal.nD Cert.GradIdeal.τ).loc Cert.GradIdeal.main_arg7)
      ∧ r.2.mem ((c.tc : Thread Cert.GradIdeal.nD Cert.GradIdeal.τ).loc Cert.GradIdeal.main_arg8) = m ((c.tc : Thread Cert.GradIdeal.nD Cert.GradIdeal.τ).loc Cert.GradIdeal.main_arg8)
      ∧ r.2.mem ((c.tc : Thread Cert.GradIdeal.nD Cert.GradIdeal.τ).loc Cert.GradIdeal.main_arg9) = m ((c.tc : Thread Cert.GradIdeal.nD Cert.GradIdeal.τ).loc Cert.GradIdeal.main_arg9))
      ∧ r.2.sem = fun _ => 0)

def quiescent_GradRefIdeal [hGradRefIdeal : Cert.GradRefIdeal.Facts] : Prop :=
  ∀ (m : (ℓ : Loc Cert.GradRefIdeal.nD Cert.GradRefIdeal.τ Cert.GradRefIdeal.sig) → Buf (Elt Ideal) ℓ) (g : Dev Cert.GradRefIdeal.nD → PrngReg), Pre_GradRefIdeal m →
    θ_run (Cert.GradRefIdeal.defs (F := Ideal)) (onTc (τ := Cert.GradRefIdeal.τ) (Cert.GradRefIdeal.main (F := Ideal))) ⟨m, fun _ => 0, g⟩ (fun r => (∀ c : Dev Cert.GradRefIdeal.nD,
      r.2.mem ((c.tc : Thread Cert.GradRefIdeal.nD Cert.GradRefIdeal.τ).loc Cert.GradRefIdeal.main_arg0) = m ((c.tc : Thread Cert.GradRefIdeal.nD Cert.GradRefIdeal.τ).loc Cert.GradRefIdeal.main_arg0)
      ∧ r.2.mem ((c.tc : Thread Cert.GradRefIdeal.nD Cert.GradRefIdeal.τ).loc Cert.GradRefIdeal.main_arg1) = m ((c.tc : Thread Cert.GradRefIdeal.nD Cert.GradRefIdeal.τ).loc Cert.GradRefIdeal.main_arg1)
      ∧ r.2.mem ((c.tc : Thread Cert.GradRefIdeal.nD Cert.GradRefIdeal.τ).loc Cert.GradRefIdeal.main_arg2) = m ((c.tc : Thread Cert.GradRefIdeal.nD Cert.GradRefIdeal.τ).loc Cert.GradRefIdeal.main_arg2)
      ∧ r.2.mem ((c.tc : Thread Cert.GradRefIdeal.nD Cert.GradRefIdeal.τ).loc Cert.GradRefIdeal.main_arg3) = m ((c.tc : Thread Cert.GradRefIdeal.nD Cert.GradRefIdeal.τ).loc Cert.GradRefIdeal.main_arg3)
      ∧ r.2.mem ((c.tc : Thread Cert.GradRefIdeal.nD Cert.GradRefIdeal.τ).loc Cert.GradRefIdeal.main_arg4) = m ((c.tc : Thread Cert.GradRefIdeal.nD Cert.GradRefIdeal.τ).loc Cert.GradRefIdeal.main_arg4)
      ∧ r.2.mem ((c.tc : Thread Cert.GradRefIdeal.nD Cert.GradRefIdeal.τ).loc Cert.GradRefIdeal.main_arg5) = m ((c.tc : Thread Cert.GradRefIdeal.nD Cert.GradRefIdeal.τ).loc Cert.GradRefIdeal.main_arg5)
      ∧ r.2.mem ((c.tc : Thread Cert.GradRefIdeal.nD Cert.GradRefIdeal.τ).loc Cert.GradRefIdeal.main_arg6) = m ((c.tc : Thread Cert.GradRefIdeal.nD Cert.GradRefIdeal.τ).loc Cert.GradRefIdeal.main_arg6)
      ∧ r.2.mem ((c.tc : Thread Cert.GradRefIdeal.nD Cert.GradRefIdeal.τ).loc Cert.GradRefIdeal.main_arg7) = m ((c.tc : Thread Cert.GradRefIdeal.nD Cert.GradRefIdeal.τ).loc Cert.GradRefIdeal.main_arg7)
      ∧ r.2.mem ((c.tc : Thread Cert.GradRefIdeal.nD Cert.GradRefIdeal.τ).loc Cert.GradRefIdeal.main_arg8) = m ((c.tc : Thread Cert.GradRefIdeal.nD Cert.GradRefIdeal.τ).loc Cert.GradRefIdeal.main_arg8)
      ∧ r.2.mem ((c.tc : Thread Cert.GradRefIdeal.nD Cert.GradRefIdeal.τ).loc Cert.GradRefIdeal.main_arg9) = m ((c.tc : Thread Cert.GradRefIdeal.nD Cert.GradRefIdeal.τ).loc Cert.GradRefIdeal.main_arg9))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5)
      ∧ r.2.mem ((c.tc : Thread Cert.Down.nD Cert.Down.τ).loc Cert.Down.main_arg6) = m ((c.tc : Thread Cert.Down.nD Cert.Down.τ).loc Cert.Down.main_arg6)
      ∧ r.2.mem ((c.tc : Thread Cert.Down.nD Cert.Down.τ).loc Cert.Down.main_arg7) = m ((c.tc : Thread Cert.Down.nD Cert.Down.τ).loc Cert.Down.main_arg7)
      ∧ r.2.mem ((c.tc : Thread Cert.Down.nD Cert.Down.τ).loc Cert.Down.main_arg8) = m ((c.tc : Thread Cert.Down.nD Cert.Down.τ).loc Cert.Down.main_arg8))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
      ∧ r.2.mem ((c.tc : Thread Cert.DownIdeal.nD Cert.DownIdeal.τ).loc Cert.DownIdeal.main_arg6) = m ((c.tc : Thread Cert.DownIdeal.nD Cert.DownIdeal.τ).loc Cert.DownIdeal.main_arg6)
      ∧ r.2.mem ((c.tc : Thread Cert.DownIdeal.nD Cert.DownIdeal.τ).loc Cert.DownIdeal.main_arg7) = m ((c.tc : Thread Cert.DownIdeal.nD Cert.DownIdeal.τ).loc Cert.DownIdeal.main_arg7)
      ∧ r.2.mem ((c.tc : Thread Cert.DownIdeal.nD Cert.DownIdeal.τ).loc Cert.DownIdeal.main_arg8) = m ((c.tc : Thread Cert.DownIdeal.nD Cert.DownIdeal.τ).loc Cert.DownIdeal.main_arg8))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5)
      ∧ r.2.mem ((c.tc : Thread Cert.DownRefIdeal.nD Cert.DownRefIdeal.τ).loc Cert.DownRefIdeal.main_arg6) = m ((c.tc : Thread Cert.DownRefIdeal.nD Cert.DownRefIdeal.τ).loc Cert.DownRefIdeal.main_arg6)
      ∧ r.2.mem ((c.tc : Thread Cert.DownRefIdeal.nD Cert.DownRefIdeal.τ).loc Cert.DownRefIdeal.main_arg7) = m ((c.tc : Thread Cert.DownRefIdeal.nD Cert.DownRefIdeal.τ).loc Cert.DownRefIdeal.main_arg7)
      ∧ r.2.mem ((c.tc : Thread Cert.DownRefIdeal.nD Cert.DownRefIdeal.τ).loc Cert.DownRefIdeal.main_arg8) = m ((c.tc : Thread Cert.DownRefIdeal.nD Cert.DownRefIdeal.τ).loc Cert.DownRefIdeal.main_arg8))
      ∧ r.2.sem = fun _ => 0)

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0)
      ∧ r.2.mem ((c.tc : Thread Cert.Quant.nD Cert.Quant.τ).loc Cert.Quant.main_arg1) = m ((c.tc : Thread Cert.Quant.nD Cert.Quant.τ).loc Cert.Quant.main_arg1))
      ∧ r.2.sem = fun _ => 0)

def quiescent_QuantIdeal [hQuantIdeal : Cert.QuantIdeal.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
      ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1))
      ∧ r.2.sem = fun _ => 0)

def quiescent_QuantRefIdeal [hQuantRefIdeal : Cert.QuantRefIdeal.Facts] : Prop :=
  ∀ (m : (ℓ : Loc Cert.QuantRefIdeal.nD Cert.QuantRefIdeal.τ Cert.QuantRefIdeal.sig) → Buf (Elt Ideal) ℓ) (g : Dev Cert.QuantRefIdeal.nD → PrngReg), Pre_QuantRefIdeal m →
    θ_run (Cert.QuantRefIdeal.defs (F := Ideal)) (onTc (τ := Cert.QuantRefIdeal.τ) (Cert.QuantRefIdeal.main (F := Ideal))) ⟨m, fun _ => 0, g⟩ (fun r => (∀ c : Dev Cert.QuantRefIdeal.nD,
      r.2.mem ((c.tc : Thread Cert.QuantRefIdeal.nD Cert.QuantRefIdeal.τ).loc Cert.QuantRefIdeal.main_arg0) = m ((c.tc : Thread Cert.QuantRefIdeal.nD Cert.QuantRefIdeal.τ).loc Cert.QuantRefIdeal.main_arg0)
      ∧ r.2.mem ((c.tc : Thread Cert.QuantRefIdeal.nD Cert.QuantRefIdeal.τ).loc Cert.QuantRefIdeal.main_arg1) = m ((c.tc : Thread Cert.QuantRefIdeal.nD Cert.QuantRefIdeal.τ).loc Cert.QuantRefIdeal.main_arg1))
      ∧ r.2.sem = fun _ => 0)

def preserves_Grad_GradIdeal : Prop :=
  True

def algebraic_GradIdeal_GradRefIdeal [hGradIdeal : Cert.GradIdeal.Facts] [hGradRefIdeal : Cert.GradRefIdeal.Facts] : Prop :=
  ∀ (m : (ℓ : Loc Cert.GradIdeal.nD Cert.GradIdeal.τ Cert.GradIdeal.sig) → Buf (Elt Ideal) ℓ) (g : Dev Cert.GradIdeal.nD → PrngReg)
    (m' : (ℓ : Loc Cert.GradRefIdeal.nD Cert.GradRefIdeal.τ Cert.GradRefIdeal.sig) → Buf (Elt Ideal) ℓ) (g' : Dev Cert.GradRefIdeal.nD → PrngReg), Pre_GradIdeal m →
    (∀ c : Dev Cert.GradIdeal.nD,
      m' ((c.tc : Thread Cert.GradRefIdeal.nD Cert.GradRefIdeal.τ).loc Cert.GradRefIdeal.main_arg0) = m ((c.tc : Thread Cert.GradIdeal.nD Cert.GradIdeal.τ).loc Cert.GradIdeal.main_arg0)
      ∧ m' ((c.tc : Thread Cert.GradRefIdeal.nD Cert.GradRefIdeal.τ).loc Cert.GradRefIdeal.main_arg1) = m ((c.tc : Thread Cert.GradIdeal.nD Cert.GradIdeal.τ).loc Cert.GradIdeal.main_arg1)
      ∧ m' ((c.tc : Thread Cert.GradRefIdeal.nD Cert.GradRefIdeal.τ).loc Cert.GradRefIdeal.main_arg2) = m ((c.tc : Thread Cert.GradIdeal.nD Cert.GradIdeal.τ).loc Cert.GradIdeal.main_arg2)
      ∧ m' ((c.tc : Thread Cert.GradRefIdeal.nD Cert.GradRefIdeal.τ).loc Cert.GradRefIdeal.main_arg3) = m ((c.tc : Thread Cert.GradIdeal.nD Cert.GradIdeal.τ).loc Cert.GradIdeal.main_arg3)
      ∧ m' ((c.tc : Thread Cert.GradRefIdeal.nD Cert.GradRefIdeal.τ).loc Cert.GradRefIdeal.main_arg4) = m ((c.tc : Thread Cert.GradIdeal.nD Cert.GradIdeal.τ).loc Cert.GradIdeal.main_arg4)
      ∧ m' ((c.tc : Thread Cert.GradRefIdeal.nD Cert.GradRefIdeal.τ).loc Cert.GradRefIdeal.main_arg5) = m ((c.tc : Thread Cert.GradIdeal.nD Cert.GradIdeal.τ).loc Cert.GradIdeal.main_arg5)
      ∧ m' ((c.tc : Thread Cert.GradRefIdeal.nD Cert.GradRefIdeal.τ).loc Cert.GradRefIdeal.main_arg6) = m ((c.tc : Thread Cert.GradIdeal.nD Cert.GradIdeal.τ).loc Cert.GradIdeal.main_arg6)
      ∧ m' ((c.tc : Thread Cert.GradRefIdeal.nD Cert.GradRefIdeal.τ).loc Cert.GradRefIdeal.main_arg7) = m ((c.tc : Thread Cert.GradIdeal.nD Cert.GradIdeal.τ).loc Cert.GradIdeal.main_arg7)
      ∧ m' ((c.tc : Thread Cert.GradRefIdeal.nD Cert.GradRefIdeal.τ).loc Cert.GradRefIdeal.main_arg8) = m ((c.tc : Thread Cert.GradIdeal.nD Cert.GradIdeal.τ).loc Cert.GradIdeal.main_arg8)
      ∧ m' ((c.tc : Thread Cert.GradRefIdeal.nD Cert.GradRefIdeal.τ).loc Cert.GradRefIdeal.main_arg9) = m ((c.tc : Thread Cert.GradIdeal.nD Cert.GradIdeal.τ).loc Cert.GradIdeal.main_arg9)) →
    ∃ (v0 : (c : Dev Cert.GradIdeal.nD) → Buf (Elt Ideal) ((c.tc : Thread Cert.GradIdeal.nD Cert.GradIdeal.τ).loc Cert.GradIdeal.main_v0_0)) (v1 : (c : Dev Cert.GradIdeal.nD) → Buf (Elt Ideal) ((c.tc : Thread Cert.GradIdeal.nD Cert.GradIdeal.τ).loc Cert.GradIdeal.main_v0_1)) (v2 : (c : Dev Cert.GradIdeal.nD) → Buf (Elt Ideal) ((c.tc : Thread Cert.GradIdeal.nD Cert.GradIdeal.τ).loc Cert.GradIdeal.main_v0_2)),
      θ_run (Cert.GradIdeal.defs (F := Ideal)) (onTc (τ := Cert.GradIdeal.τ) (Cert.GradIdeal.main (F := Ideal))) ⟨m, fun _ => 0, g⟩ (fun r => ∀ c : Dev Cert.GradIdeal.nD,
          r.2.mem ((c.tc : Thread Cert.GradIdeal.nD Cert.GradIdeal.τ).loc Cert.GradIdeal.main_v0_0) = v0 c
          ∧ r.2.mem ((c.tc : Thread Cert.GradIdeal.nD Cert.GradIdeal.τ).loc Cert.GradIdeal.main_v0_1) = v1 c
          ∧ r.2.mem ((c.tc : Thread Cert.GradIdeal.nD Cert.GradIdeal.τ).loc Cert.GradIdeal.main_v0_2) = v2 c
          ∧ r.2.mem ((c.tc : Thread Cert.GradIdeal.nD Cert.GradIdeal.τ).loc Cert.GradIdeal.main_arg0) = m ((c.tc : Thread Cert.GradIdeal.nD Cert.GradIdeal.τ).loc Cert.GradIdeal.main_arg0)
          ∧ r.2.mem ((c.tc : Thread Cert.GradIdeal.nD Cert.GradIdeal.τ).loc Cert.GradIdeal.main_arg1) = m ((c.tc : Thread Cert.GradIdeal.nD Cert.GradIdeal.τ).loc Cert.GradIdeal.main_arg1)
          ∧ r.2.mem ((c.tc : Thread Cert.GradIdeal.nD Cert.GradIdeal.τ).loc Cert.GradIdeal.main_arg2) = m ((c.tc : Thread Cert.GradIdeal.nD Cert.GradIdeal.τ).loc Cert.GradIdeal.main_arg2)
          ∧ r.2.mem ((c.tc : Thread Cert.GradIdeal.nD Cert.GradIdeal.τ).loc Cert.GradIdeal.main_arg3) = m ((c.tc : Thread Cert.GradIdeal.nD Cert.GradIdeal.τ).loc Cert.GradIdeal.main_arg3)
          ∧ r.2.mem ((c.tc : Thread Cert.GradIdeal.nD Cert.GradIdeal.τ).loc Cert.GradIdeal.main_arg4) = m ((c.tc : Thread Cert.GradIdeal.nD Cert.GradIdeal.τ).loc Cert.GradIdeal.main_arg4)
          ∧ r.2.mem ((c.tc : Thread Cert.GradIdeal.nD Cert.GradIdeal.τ).loc Cert.GradIdeal.main_arg5) = m ((c.tc : Thread Cert.GradIdeal.nD Cert.GradIdeal.τ).loc Cert.GradIdeal.main_arg5)
          ∧ r.2.mem ((c.tc : Thread Cert.GradIdeal.nD Cert.GradIdeal.τ).loc Cert.GradIdeal.main_arg6) = m ((c.tc : Thread Cert.GradIdeal.nD Cert.GradIdeal.τ).loc Cert.GradIdeal.main_arg6)
          ∧ r.2.mem ((c.tc : Thread Cert.GradIdeal.nD Cert.GradIdeal.τ).loc Cert.GradIdeal.main_arg7) = m ((c.tc : Thread Cert.GradIdeal.nD Cert.GradIdeal.τ).loc Cert.GradIdeal.main_arg7)
          ∧ r.2.mem ((c.tc : Thread Cert.GradIdeal.nD Cert.GradIdeal.τ).loc Cert.GradIdeal.main_arg8) = m ((c.tc : Thread Cert.GradIdeal.nD Cert.GradIdeal.τ).loc Cert.GradIdeal.main_arg8)
          ∧ r.2.mem ((c.tc : Thread Cert.GradIdeal.nD Cert.GradIdeal.τ).loc Cert.GradIdeal.main_arg9) = m ((c.tc : Thread Cert.GradIdeal.nD Cert.GradIdeal.τ).loc Cert.GradIdeal.main_arg9))
      ∧ θ_run (Cert.GradRefIdeal.defs (F := Ideal)) (onTc (τ := Cert.GradRefIdeal.τ) (Cert.GradRefIdeal.main (F := Ideal))) ⟨m', fun _ => 0, g'⟩ (fun r => ∀ c : Dev Cert.GradRefIdeal.nD,
          r.2.mem ((c.tc : Thread Cert.GradRefIdeal.nD Cert.GradRefIdeal.τ).loc Cert.GradRefIdeal.main_v0_0) = v0 c
          ∧ r.2.mem ((c.tc : Thread Cert.GradRefIdeal.nD Cert.GradRefIdeal.τ).loc Cert.GradRefIdeal.main_v0_1) = v1 c
          ∧ r.2.mem ((c.tc : Thread Cert.GradRefIdeal.nD Cert.GradRefIdeal.τ).loc Cert.GradRefIdeal.main_v0_2) = v2 c
          ∧ r.2.mem ((c.tc : Thread Cert.GradRefIdeal.nD Cert.GradRefIdeal.τ).loc Cert.GradRefIdeal.main_arg0) = m' ((c.tc : Thread Cert.GradRefIdeal.nD Cert.GradRefIdeal.τ).loc Cert.GradRefIdeal.main_arg0)
          ∧ r.2.mem ((c.tc : Thread Cert.GradRefIdeal.nD Cert.GradRefIdeal.τ).loc Cert.GradRefIdeal.main_arg1) = m' ((c.tc : Thread Cert.GradRefIdeal.nD Cert.GradRefIdeal.τ).loc Cert.GradRefIdeal.main_arg1)
          ∧ r.2.mem ((c.tc : Thread Cert.GradRefIdeal.nD Cert.GradRefIdeal.τ).loc Cert.GradRefIdeal.main_arg2) = m' ((c.tc : Thread Cert.GradRefIdeal.nD Cert.GradRefIdeal.τ).loc Cert.GradRefIdeal.main_arg2)
          ∧ r.2.mem ((c.tc : Thread Cert.GradRefIdeal.nD Cert.GradRefIdeal.τ).loc Cert.GradRefIdeal.main_arg3) = m' ((c.tc : Thread Cert.GradRefIdeal.nD Cert.GradRefIdeal.τ).loc Cert.GradRefIdeal.main_arg3)
          ∧ r.2.mem ((c.tc : Thread Cert.GradRefIdeal.nD Cert.GradRefIdeal.τ).loc Cert.GradRefIdeal.main_arg4) = m' ((c.tc : Thread Cert.GradRefIdeal.nD Cert.GradRefIdeal.τ).loc Cert.GradRefIdeal.main_arg4)
          ∧ r.2.mem ((c.tc : Thread Cert.GradRefIdeal.nD Cert.GradRefIdeal.τ).loc Cert.GradRefIdeal.main_arg5) = m' ((c.tc : Thread Cert.GradRefIdeal.nD Cert.GradRefIdeal.τ).loc Cert.GradRefIdeal.main_arg5)
          ∧ r.2.mem ((c.tc : Thread Cert.GradRefIdeal.nD Cert.GradRefIdeal.τ).loc Cert.GradRefIdeal.main_arg6) = m' ((c.tc : Thread Cert.GradRefIdeal.nD Cert.GradRefIdeal.τ).loc Cert.GradRefIdeal.main_arg6)
          ∧ r.2.mem ((c.tc : Thread Cert.GradRefIdeal.nD Cert.GradRefIdeal.τ).loc Cert.GradRefIdeal.main_arg7) = m' ((c.tc : Thread Cert.GradRefIdeal.nD Cert.GradRefIdeal.τ).loc Cert.GradRefIdeal.main_arg7)
          ∧ r.2.mem ((c.tc : Thread Cert.GradRefIdeal.nD Cert.GradRefIdeal.τ).loc Cert.GradRefIdeal.main_arg8) = m' ((c.tc : Thread Cert.GradRefIdeal.nD Cert.GradRefIdeal.τ).loc Cert.GradRefIdeal.main_arg8)
          ∧ r.2.mem ((c.tc : Thread Cert.GradRefIdeal.nD Cert.GradRefIdeal.τ).loc Cert.GradRefIdeal.main_arg9) = m' ((c.tc : Thread Cert.GradRefIdeal.nD Cert.GradRefIdeal.τ).loc Cert.GradRefIdeal.main_arg9))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)
      ∧ m' ((c.tc : Thread Cert.DownRefIdeal.nD Cert.DownRefIdeal.τ).loc Cert.DownRefIdeal.main_arg6) = m ((c.tc : Thread Cert.DownIdeal.nD Cert.DownIdeal.τ).loc Cert.DownIdeal.main_arg6)
      ∧ m' ((c.tc : Thread Cert.DownRefIdeal.nD Cert.DownRefIdeal.τ).loc Cert.DownRefIdeal.main_arg7) = m ((c.tc : Thread Cert.DownIdeal.nD Cert.DownIdeal.τ).loc Cert.DownIdeal.main_arg7)
      ∧ m' ((c.tc : Thread Cert.DownRefIdeal.nD Cert.DownRefIdeal.τ).loc Cert.DownRefIdeal.main_arg8) = m ((c.tc : Thread Cert.DownIdeal.nD Cert.DownIdeal.τ).loc Cert.DownIdeal.main_arg8)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
          ∧ r.2.mem ((c.tc : Thread Cert.DownIdeal.nD Cert.DownIdeal.τ).loc Cert.DownIdeal.main_arg6) = m ((c.tc : Thread Cert.DownIdeal.nD Cert.DownIdeal.τ).loc Cert.DownIdeal.main_arg6)
          ∧ r.2.mem ((c.tc : Thread Cert.DownIdeal.nD Cert.DownIdeal.τ).loc Cert.DownIdeal.main_arg7) = m ((c.tc : Thread Cert.DownIdeal.nD Cert.DownIdeal.τ).loc Cert.DownIdeal.main_arg7)
          ∧ r.2.mem ((c.tc : Thread Cert.DownIdeal.nD Cert.DownIdeal.τ).loc Cert.DownIdeal.main_arg8) = m ((c.tc : Thread Cert.DownIdeal.nD Cert.DownIdeal.τ).loc Cert.DownIdeal.main_arg8))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0_0) = v0 c
          ∧ r.2.mem ((c.tc : Thread Cert.DownRefIdeal.nD Cert.DownRefIdeal.τ).loc Cert.DownRefIdeal.main_v0_1) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5)
          ∧ r.2.mem ((c.tc : Thread Cert.DownRefIdeal.nD Cert.DownRefIdeal.τ).loc Cert.DownRefIdeal.main_arg6) = m' ((c.tc : Thread Cert.DownRefIdeal.nD Cert.DownRefIdeal.τ).loc Cert.DownRefIdeal.main_arg6)
          ∧ r.2.mem ((c.tc : Thread Cert.DownRefIdeal.nD Cert.DownRefIdeal.τ).loc Cert.DownRefIdeal.main_arg7) = m' ((c.tc : Thread Cert.DownRefIdeal.nD Cert.DownRefIdeal.τ).loc Cert.DownRefIdeal.main_arg7)
          ∧ r.2.mem ((c.tc : Thread Cert.DownRefIdeal.nD Cert.DownRefIdeal.τ).loc Cert.DownRefIdeal.main_arg8) = m' ((c.tc : Thread Cert.DownRefIdeal.nD Cert.DownRefIdeal.τ).loc Cert.DownRefIdeal.main_arg8))

def preserves_Quant_QuantIdeal : Prop :=
  True

def algebraic_QuantIdeal_QuantRefIdeal [hQuantIdeal : Cert.QuantIdeal.Facts] [hQuantRefIdeal : Cert.QuantRefIdeal.Facts] : Prop :=
  ∀ (m : (ℓ : Loc Cert.QuantIdeal.nD Cert.QuantIdeal.τ Cert.QuantIdeal.sig) → Buf (Elt Ideal) ℓ) (g : Dev Cert.QuantIdeal.nD → PrngReg)
    (m' : (ℓ : Loc Cert.QuantRefIdeal.nD Cert.QuantRefIdeal.τ Cert.QuantRefIdeal.sig) → Buf (Elt Ideal) ℓ) (g' : Dev Cert.QuantRefIdeal.nD → PrngReg), Pre_QuantIdeal m →
    (∀ c : Dev Cert.QuantIdeal.nD,
      m' ((c.tc : Thread Cert.QuantRefIdeal.nD Cert.QuantRefIdeal.τ).loc Cert.QuantRefIdeal.main_arg0) = m ((c.tc : Thread Cert.QuantIdeal.nD Cert.QuantIdeal.τ).loc Cert.QuantIdeal.main_arg0)
      ∧ m' ((c.tc : Thread Cert.QuantRefIdeal.nD Cert.QuantRefIdeal.τ).loc Cert.QuantRefIdeal.main_arg1) = m ((c.tc : Thread Cert.QuantIdeal.nD Cert.QuantIdeal.τ).loc Cert.QuantIdeal.main_arg1)) →
    ∃ (v0 : (c : Dev Cert.QuantIdeal.nD) → Buf (Elt Ideal) ((c.tc : Thread Cert.QuantIdeal.nD Cert.QuantIdeal.τ).loc Cert.QuantIdeal.main_v0_0)) (v1 : (c : Dev Cert.QuantIdeal.nD) → Buf (Elt Ideal) ((c.tc : Thread Cert.QuantIdeal.nD Cert.QuantIdeal.τ).loc Cert.QuantIdeal.main_v0_1)) (v2 : (c : Dev Cert.QuantIdeal.nD) → Buf (Elt Ideal) ((c.tc : Thread Cert.QuantIdeal.nD Cert.QuantIdeal.τ).loc Cert.QuantIdeal.main_v0_2)) (v3 : (c : Dev Cert.QuantIdeal.nD) → Buf (Elt Ideal) ((c.tc : Thread Cert.QuantIdeal.nD Cert.QuantIdeal.τ).loc Cert.QuantIdeal.main_v0_3)) (v4 : (c : Dev Cert.QuantIdeal.nD) → Buf (Elt Ideal) ((c.tc : Thread Cert.QuantIdeal.nD Cert.QuantIdeal.τ).loc Cert.QuantIdeal.main_v0_4)) (v5 : (c : Dev Cert.QuantIdeal.nD) → Buf (Elt Ideal) ((c.tc : Thread Cert.QuantIdeal.nD Cert.QuantIdeal.τ).loc Cert.QuantIdeal.main_v0_5)) (v6 : (c : Dev Cert.QuantIdeal.nD) → Buf (Elt Ideal) ((c.tc : Thread Cert.QuantIdeal.nD Cert.QuantIdeal.τ).loc Cert.QuantIdeal.main_v0_6)) (v7 : (c : Dev Cert.QuantIdeal.nD) → Buf (Elt Ideal) ((c.tc : Thread Cert.QuantIdeal.nD Cert.QuantIdeal.τ).loc Cert.QuantIdeal.main_v0_7)) (v8 : (c : Dev Cert.QuantIdeal.nD) → Buf (Elt Ideal) ((c.tc : Thread Cert.QuantIdeal.nD Cert.QuantIdeal.τ).loc Cert.QuantIdeal.main_v0_8)) (v9 : (c : Dev Cert.QuantIdeal.nD) → Buf (Elt Ideal) ((c.tc : Thread Cert.QuantIdeal.nD Cert.QuantIdeal.τ).loc Cert.QuantIdeal.main_v0_9)),
      θ_run (Cert.QuantIdeal.defs (F := Ideal)) (onTc (τ := Cert.QuantIdeal.τ) (Cert.QuantIdeal.main (F := Ideal))) ⟨m, fun _ => 0, g⟩ (fun r => ∀ c : Dev Cert.QuantIdeal.nD,
          r.2.mem ((c.tc : Thread Cert.QuantIdeal.nD Cert.QuantIdeal.τ).loc Cert.QuantIdeal.main_v0_0) = v0 c
          ∧ r.2.mem ((c.tc : Thread Cert.QuantIdeal.nD Cert.QuantIdeal.τ).loc Cert.QuantIdeal.main_v0_1) = v1 c
          ∧ r.2.mem ((c.tc : Thread Cert.QuantIdeal.nD Cert.QuantIdeal.τ).loc Cert.QuantIdeal.main_v0_2) = v2 c
          ∧ r.2.mem ((c.tc : Thread Cert.QuantIdeal.nD Cert.QuantIdeal.τ).loc Cert.QuantIdeal.main_v0_3) = v3 c
          ∧ r.2.mem ((c.tc : Thread Cert.QuantIdeal.nD Cert.QuantIdeal.τ).loc Cert.QuantIdeal.main_v0_4) = v4 c
          ∧ r.2.mem ((c.tc : Thread Cert.QuantIdeal.nD Cert.QuantIdeal.τ).loc Cert.QuantIdeal.main_v0_5) = v5 c
          ∧ r.2.mem ((c.tc : Thread Cert.QuantIdeal.nD Cert.QuantIdeal.τ).loc Cert.QuantIdeal.main_v0_6) = v6 c
          ∧ r.2.mem ((c.tc : Thread Cert.QuantIdeal.nD Cert.QuantIdeal.τ).loc Cert.QuantIdeal.main_v0_7) = v7 c
          ∧ r.2.mem ((c.tc : Thread Cert.QuantIdeal.nD Cert.QuantIdeal.τ).loc Cert.QuantIdeal.main_v0_8) = v8 c
          ∧ r.2.mem ((c.tc : Thread Cert.QuantIdeal.nD Cert.QuantIdeal.τ).loc Cert.QuantIdeal.main_v0_9) = v9 c
          ∧ r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
          ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1))
      ∧ θ_run (Cert.QuantRefIdeal.defs (F := Ideal)) (onTc (τ := Cert.QuantRefIdeal.τ) (Cert.QuantRefIdeal.main (F := Ideal))) ⟨m', fun _ => 0, g'⟩ (fun r => ∀ c : Dev Cert.QuantRefIdeal.nD,
          r.2.mem ((c.tc : Thread Cert.QuantRefIdeal.nD Cert.QuantRefIdeal.τ).loc Cert.QuantRefIdeal.main_v0_0) = v0 c
          ∧ r.2.mem ((c.tc : Thread Cert.QuantRefIdeal.nD Cert.QuantRefIdeal.τ).loc Cert.QuantRefIdeal.main_v0_1) = v1 c
          ∧ r.2.mem ((c.tc : Thread Cert.QuantRefIdeal.nD Cert.QuantRefIdeal.τ).loc Cert.QuantRefIdeal.main_v0_2) = v2 c
          ∧ r.2.mem ((c.tc : Thread Cert.QuantRefIdeal.nD Cert.QuantRefIdeal.τ).loc Cert.QuantRefIdeal.main_v0_3) = v3 c
          ∧ r.2.mem ((c.tc : Thread Cert.QuantRefIdeal.nD Cert.QuantRefIdeal.τ).loc Cert.QuantRefIdeal.main_v0_4) = v4 c
          ∧ r.2.mem ((c.tc : Thread Cert.QuantRefIdeal.nD Cert.QuantRefIdeal.τ).loc Cert.QuantRefIdeal.main_v0_5) = v5 c
          ∧ r.2.mem ((c.tc : Thread Cert.QuantRefIdeal.nD Cert.QuantRefIdeal.τ).loc Cert.QuantRefIdeal.main_v0_6) = v6 c
          ∧ r.2.mem ((c.tc : Thread Cert.QuantRefIdeal.nD Cert.QuantRefIdeal.τ).loc Cert.QuantRefIdeal.main_v0_7) = v7 c
          ∧ r.2.mem ((c.tc : Thread Cert.QuantRefIdeal.nD Cert.QuantRefIdeal.τ).loc Cert.QuantRefIdeal.main_v0_8) = v8 c
          ∧ r.2.mem ((c.tc : Thread Cert.QuantRefIdeal.nD Cert.QuantRefIdeal.τ).loc Cert.QuantRefIdeal.main_v0_9) = v9 c
          ∧ r.2.mem ((c.tc : Thread Cert.QuantRefIdeal.nD Cert.QuantRefIdeal.τ).loc Cert.QuantRefIdeal.main_arg0) = m' ((c.tc : Thread Cert.QuantRefIdeal.nD Cert.QuantRefIdeal.τ).loc Cert.QuantRefIdeal.main_arg0)
          ∧ r.2.mem ((c.tc : Thread Cert.QuantRefIdeal.nD Cert.QuantRefIdeal.τ).loc Cert.QuantRefIdeal.main_arg1) = m' ((c.tc : Thread Cert.QuantRefIdeal.nD Cert.QuantRefIdeal.τ).loc Cert.QuantRefIdeal.main_arg1))

def Claim : Prop :=
  ∃ (hGrad : Cert.Grad.Facts) (hGradIdeal : Cert.GradIdeal.Facts) (hGradRefIdeal : Cert.GradRefIdeal.Facts) (hDown : Cert.Down.Facts) (hDownIdeal : Cert.DownIdeal.Facts) (hDownRefIdeal : Cert.DownRefIdeal.Facts) (hQuant : Cert.Quant.Facts) (hQuantIdeal : Cert.QuantIdeal.Facts) (hQuantRefIdeal : Cert.QuantRefIdeal.Facts),
    quiescent_Grad (hGrad := hGrad)
    ∧ quiescent_GradIdeal (hGradIdeal := hGradIdeal)
    ∧ quiescent_GradRefIdeal (hGradRefIdeal := hGradRefIdeal)
    ∧ quiescent_Down (hDown := hDown)
    ∧ quiescent_DownIdeal (hDownIdeal := hDownIdeal)
    ∧ quiescent_DownRefIdeal (hDownRefIdeal := hDownRefIdeal)
    ∧ quiescent_Quant (hQuant := hQuant)
    ∧ quiescent_QuantIdeal (hQuantIdeal := hQuantIdeal)
    ∧ quiescent_QuantRefIdeal (hQuantRefIdeal := hQuantRefIdeal)
    ∧ preserves_Grad_GradIdeal
    ∧ algebraic_GradIdeal_GradRefIdeal (hGradIdeal := hGradIdeal) (hGradRefIdeal := hGradRefIdeal)
    ∧ preserves_Down_DownIdeal
    ∧ algebraic_DownIdeal_DownRefIdeal (hDownIdeal := hDownIdeal) (hDownRefIdeal := hDownRefIdeal)
    ∧ preserves_Quant_QuantIdeal
    ∧ algebraic_QuantIdeal_QuantRefIdeal (hQuantIdeal := hQuantIdeal) (hQuantRefIdeal := hQuantRefIdeal)
-- ==== Grad.lean ====
abbrev S1536x2048 : Shape := ⟨2, ![1536, 2048]⟩
abbrev S12x1x2048 : Shape := ⟨3, ![12, 1, 2048]⟩
abbrev S1536x7168 : Shape := ⟨2, ![1536, 7168]⟩
abbrev S12x1x7168 : Shape := ⟨3, ![12, 1, 7168]⟩
abbrev S7168x2048 : Shape := ⟨2, ![7168, 2048]⟩
abbrev S2048x7168 : Shape := ⟨2, ![2048, 7168]⟩
abbrev S1536x256 : Shape := ⟨2, ![1536, 256]⟩
abbrev S12x1x256 : Shape := ⟨3, ![12, 1, 256]⟩
abbrev S256x2048 : Shape := ⟨2, ![256, 2048]⟩
abbrev S2048x256 : Shape := ⟨2, ![2048, 256]⟩
abbrev S128x2048 : Shape := ⟨2, ![128, 2048]⟩
abbrev S1x1x2048 : Shape := ⟨3, ![1, 1, 2048]⟩
abbrev S1x2048 : Shape := ⟨2, ![1, 2048]⟩
abbrev S128x256 : Shape := ⟨2, ![128, 256]⟩
abbrev S1x1x256 : Shape := ⟨3, ![1, 1, 256]⟩
abbrev S1x256 : Shape := ⟨2, ![1, 256]⟩

abbrev nBuf : Space → Nat
  | .hbm => 13
  | .vmem => 23
  | .smem => 0
  | _ => 0

abbrev bufTy : (tb : Table) → Fin (tcTables nBuf tb) → BufTy
  | .hbm, ⟨0, _⟩ => ⟨S1536x2048, .fp8e4m3⟩
  | .hbm, ⟨1, _⟩ => ⟨S12x1x2048, .f32⟩
  | .hbm, ⟨2, _⟩ => ⟨S1536x2048, .fp8e5m2⟩
  | .hbm, ⟨3, _⟩ => ⟨S12x1x2048, .f32⟩
  | .hbm, ⟨4, _⟩ => ⟨S1536x2048, .fp8e5m2⟩
  | .hbm, ⟨5, _⟩ => ⟨S12x1x2048, .f32⟩
  | .hbm, ⟨6, _⟩ => ⟨S1536x7168, .fp8e4m3⟩
  | .hbm, ⟨7, _⟩ => ⟨S12x1x7168, .f32⟩
  | .hbm, ⟨8, _⟩ => ⟨S1536x7168, .fp8e5m2⟩
  | .hbm, ⟨9, _⟩ => ⟨S12x1x7168, .f32⟩
  | .hbm, ⟨10, _⟩ => ⟨S7168x2048, .f32⟩
  | .hbm, ⟨11, _⟩ => ⟨S7168x2048, .f32⟩
  | .hbm, ⟨12, _⟩ => ⟨S2048x7168, .f32⟩
  | .local _ .vmem, ⟨0, _⟩ => ⟨S1536x2048, .fp8e4m3⟩
  | .local _ .vmem, ⟨1, _⟩ => ⟨S12x1x2048, .f32⟩
  | .local _ .vmem, ⟨2, _⟩ => ⟨S1536x2048, .fp8e5m2⟩
  | .local _ .vmem, ⟨3, _⟩ => ⟨S12x1x2048, .f32⟩
  | .local _ .vmem, ⟨4, _⟩ => ⟨S1536x2048, .fp8e5m2⟩
  | .local _ .vmem, ⟨5, _⟩ => ⟨S12x1x2048, .f32⟩
  | .local _ .vmem, ⟨6, _⟩ => ⟨S1536x256, .fp8e4m3⟩
  | .local _ .vmem, ⟨7, _⟩ => ⟨S1536x256, .fp8e4m3⟩
  | .local _ .vmem, ⟨8, _⟩ => ⟨S12x1x256, .f32⟩
  | .local _ .vmem, ⟨9, _⟩ => ⟨S12x1x256, .f32⟩
  | .local _ .vmem, ⟨10, _⟩ => ⟨S1536x256, .fp8e5m2⟩
  | .local _ .vmem, ⟨11, _⟩ => ⟨S1536x256, .fp8e5m2⟩
  | .local _ .vmem, ⟨12, _⟩ => ⟨S12x1x256, .f32⟩
  | .local _ .vmem, ⟨13, _⟩ => ⟨S12x1x256, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S2048x256, .f32⟩
  | .local _ .vmem, ⟨19, _⟩ => ⟨S2048x256, .f32⟩
  | .local _ .vmem, ⟨20, _⟩ => ⟨S1536x2048, .bf16⟩
  | .local _ .vmem, ⟨21, _⟩ => ⟨S1536x2048, .bf16⟩
  | .local _ .vmem, ⟨22, _⟩ => ⟨S1536x2048, .bf16⟩
  | _, _ => ⟨S1536x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![28], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1536x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S12x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x2048 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S12x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536x2048 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S12x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1536x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S12x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1536x256 .fp8e5m2 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S12x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== GradRefIdeal.lean ====
abbrev S1536x2048 : Shape := ⟨2, ![1536, 2048]⟩
abbrev S12x1x2048 : Shape := ⟨3, ![12, 1, 2048]⟩
abbrev S1536x7168 : Shape := ⟨2, ![1536, 7168]⟩
abbrev S12x1x7168 : Shape := ⟨3, ![12, 1, 7168]⟩
abbrev S7168x2048 : Shape := ⟨2, ![7168, 2048]⟩
abbrev S2048x7168 : Shape := ⟨2, ![2048, 7168]⟩
abbrev S12x128x7168 : Shape := ⟨3, ![12, 128, 7168]⟩
abbrev S12x128x2048 : Shape := ⟨3, ![12, 128, 2048]⟩

abbrev nBuf : Space → Nat
  | .hbm => 13
  | .vmem => 13
  | .smem => 0
  | _ => 0

abbrev bufTy : (tb : Table) → Fin (tcTables nBuf tb) → BufTy
  | .hbm, ⟨0, _⟩ => ⟨S1536x2048, .fp8e4m3⟩
  | .hbm, ⟨1, _⟩ => ⟨S12x1x2048, .f32⟩
  | .hbm, ⟨2, _⟩ => ⟨S1536x2048, .fp8e5m2⟩
  | .hbm, ⟨3, _⟩ => ⟨S12x1x2048, .f32⟩
  | .hbm, ⟨4, _⟩ => ⟨S1536x2048, .fp8e5m2⟩
  | .hbm, ⟨5, _⟩ => ⟨S12x1x2048, .f32⟩
  | .hbm, ⟨6, _⟩ => ⟨S1536x7168, .fp8e4m3⟩
  | .hbm, ⟨7, _⟩ => ⟨S12x1x7168, .f32⟩
  | .hbm, ⟨8, _⟩ => ⟨S1536x7168, .fp8e5m2⟩
  | .hbm, ⟨9, _⟩ => ⟨S12x1x7168, .f32⟩
  | .hbm, ⟨10, _⟩ => ⟨S7168x2048, .f32⟩
  | .hbm, ⟨11, _⟩ => ⟨S7168x2048, .f32⟩
  | .hbm, ⟨12, _⟩ => ⟨S2048x7168, .f32⟩
  | .local _ .vmem, ⟨0, _⟩ => ⟨S1536x2048, .fp8e4m3⟩
  | .local _ .vmem, ⟨1, _⟩ => ⟨S12x1x2048, .f32⟩
  | .local _ .vmem, ⟨2, _⟩ => ⟨S1536x2048, .fp8e5m2⟩
  | .local _ .vmem, ⟨3, _⟩ => ⟨S12x1x2048, .f32⟩
  | .local _ .vmem, ⟨4, _⟩ => ⟨S1536x2048, .fp8e5m2⟩
  | .local _ .vmem, ⟨5, _⟩ => ⟨S12x1x2048, .f32⟩
  | .local _ .vmem, ⟨6, _⟩ => ⟨S1536x7168, .fp8e4m3⟩
  | .local _ .vmem, ⟨7, _⟩ => ⟨S12x1x7168, .f32⟩
  | .local _ .vmem, ⟨8, _⟩ => ⟨S1536x7168, .fp8e5m2⟩
  | .local _ .vmem, ⟨9, _⟩ => ⟨S12x1x7168, .f32⟩
  | .local _ .vmem, ⟨10, _⟩ => ⟨S7168x2048, .f32⟩
  | .local _ .vmem, ⟨11, _⟩ => ⟨S7168x2048, .f32⟩
  | .local _ .vmem, ⟨12, _⟩ => ⟨S2048x7168, .f32⟩
  | _, _ => ⟨S1536x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S1536x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x2048 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x2048 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x7168 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12x1x7168 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536x7168 .fp8e5m2 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12x1x7168 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S7168x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S7168x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2048x7168 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Down.lean ====
abbrev S1536x2048 : Shape := ⟨2, ![1536, 2048]⟩
abbrev S7168x2048 : Shape := ⟨2, ![7168, 2048]⟩
abbrev S2048x7168 : Shape := ⟨2, ![2048, 7168]⟩
abbrev S56x16 : Shape := ⟨2, ![56, 16]⟩
abbrev S16x56 : Shape := ⟨2, ![16, 56]⟩
abbrev S1536x7168 : Shape := ⟨2, ![1536, 7168]⟩
abbrev S256x2048 : Shape := ⟨2, ![256, 2048]⟩
abbrev S2048x256 : Shape := ⟨2, ![2048, 256]⟩
abbrev S1536x256 : Shape := ⟨2, ![1536, 256]⟩
abbrev S128x128 : Shape := ⟨2, ![128, 128]⟩
abbrev S1x1 : Shape := ⟨2, ![1, 1]⟩

abbrev nBuf : Space → Nat
  | .hbm => 11
  | .vmem => 16
  | .smem => 3
  | _ => 0

abbrev bufTy : (tb : Table) → Fin (tcTables nBuf tb) → BufTy
  | .hbm, ⟨0, _⟩ => ⟨S1536x2048, .bf16⟩
  | .hbm, ⟨1, _⟩ => ⟨S1536x2048, .bf16⟩
  | .hbm, ⟨2, _⟩ => ⟨S1536x2048, .bf16⟩
  | .hbm, ⟨3, _⟩ => ⟨S7168x2048, .fp8e4m3⟩
  | .hbm, ⟨4, _⟩ => ⟨S7168x2048, .fp8e4m3⟩
  | .hbm, ⟨5, _⟩ => ⟨S2048x7168, .fp8e4m3⟩
  | .hbm, ⟨6, _⟩ => ⟨S56x16, .f32⟩
  | .hbm, ⟨7, _⟩ => ⟨S56x16, .f32⟩
  | .hbm, ⟨8, _⟩ => ⟨S16x56, .f32⟩
  | .hbm, ⟨9, _⟩ => ⟨S1536x7168, .bf16⟩
  | .hbm, ⟨10, _⟩ => ⟨S1536x7168, .bf16⟩
  | .local _ .vmem, ⟨0, _⟩ => ⟨S1536x2048, .bf16⟩
  | .local _ .vmem, ⟨1, _⟩ => ⟨S1536x2048, .bf16⟩
  | .local _ .vmem, ⟨2, _⟩ => ⟨S1536x2048, .bf16⟩
  | .local _ .vmem, ⟨3, _⟩ => ⟨S256x2048, .fp8e4m3⟩
  | .local _ .vmem, ⟨4, _⟩ => ⟨S256x2048, .fp8e4m3⟩
  | .local _ .vmem, ⟨5, _⟩ => ⟨S256x2048, .fp8e4m3⟩
  | .local _ .vmem, ⟨6, _⟩ => ⟨S256x2048, .fp8e4m3⟩
  | .local _ .vmem, ⟨7, _⟩ => ⟨S2048x256, .fp8e4m3⟩
  | .local _ .vmem, ⟨8, _⟩ => ⟨S2048x256, .fp8e4m3⟩
  | .local _ .vmem, ⟨9, _⟩ => ⟨S1536x256, .bf16⟩
  | .local _ .vmem, ⟨10, _⟩ => ⟨S1536x256, .bf16⟩
  | .local _ .vmem, ⟨11, _⟩ => ⟨S1536x256, .bf16⟩
  | .local _ .vmem, ⟨12, _⟩ => ⟨S1536x256, .bf16⟩
  | .local _ .vmem, ⟨13, _⟩ => ⟨S256x2048, .bf16⟩
  | .local _ .vmem, ⟨14, _⟩ => ⟨S256x2048, .bf16⟩
  | .local _ .vmem, ⟨15, _⟩ => ⟨S2048x256, .bf16⟩
  | .local _ .smem, ⟨0, _⟩ => ⟨S56x16, .f32⟩
  | .local _ .smem, ⟨1, _⟩ => ⟨S56x16, .f32⟩
  | .local _ .smem, ⟨2, _⟩ => ⟨S16x56, .f32⟩
  | _, _ => ⟨S1536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg6_1 : Ref sig .tc := ⟨.vmem, 4, rfl⟩
abbrev cc0_stg7_0 : Ref sig .tc := ⟨.vmem, 5, rfl⟩
abbrev cc0_stg7_1 : Ref sig .tc := ⟨.vmem, 6, rfl⟩
abbrev cc0_stg8_0 : Ref sig .tc := ⟨.vmem, 7, rfl⟩
abbrev cc0_stg8_1 : Ref sig .tc := ⟨.vmem, 8, rfl⟩
abbrev cc0_stg9_0 : Ref sig .tc := ⟨.vmem, 9, rfl⟩
abbrev cc0_stg9_1 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![28], ![false]⟩

def k0_off1 (i : grid0.Coords) (c0_i32 : BitVec 32) : Fin 2 → Nat :=
  let c0_1 : Index := 0#32
  let arg0 : BitVec 32 := BitVec.ofNat 32 (i 0).val
  let c2_i32 : BitVec 32 := 2#32
  let v2 : BitVec 32 := Scalar.muli arg0 c2_i32
  let v3 : BitVec 32 := Scalar.addi v2 c0_i32
  let v4 : Index := Scalar.indexCast v3
  ![0, v4.toNat]
def k0_off2 (i : grid0.Coords) (c0_i32_12 : BitVec 32) : Fin 2 → Nat :=
  let c1 : Index := 1#32
  let arg0 : BitVec 32 := BitVec.ofNat 32 (i 0).val
  let c2_i32_11 : BitVec 32 := 2#32
  let v26 : BitVec 32 := Scalar.muli arg0 c2_i32_11
  let v27 : BitVec 32 := Scalar.addi v26 c0_i32_12
  let v28 : Index := Scalar.indexCast v27
  ![1, v28.toNat]
def k0_off3 (i : grid0.Coords) (c0_i32_24 : BitVec 32) : Fin 2 → Nat :=
  let c2 : Index := 2#32
  let arg0 : BitVec 32 := BitVec.ofNat 32 (i 0).val
  let c2_i32_23 : BitVec 32 := 2#32
  let v50 : BitVec 32 := Scalar.muli arg0 c2_i32_23
  let v51 : BitVec 32 := Scalar.addi v50 c0_i32_24
  let v52 : Index := Scalar.indexCast v51
  ![2, v52.toNat]
def k0_off4 (i : grid0.Coords) (c0_i32_36 : BitVec 32) : Fin 2 → Nat :=
  let c3 : Index := 3#32
  let arg0 : BitVec 32 := BitVec.ofNat 32 (i 0).val
  let c2_i32_35 : BitVec 32 := 2#32
  let v74 : BitVec 32 := Scalar.muli arg0 c2_i32_35
  let v75 : BitVec 32 := Scalar.addi v74 c0_i32_36
  let v76 : Index := Scalar.indexCast v75
  ![3, v76.toNat]
def k0_off5 (i : grid0.Coords) (c0_i32_48 : BitVec 32) : Fin 2 → Nat :=
  let c4 : Index := 4#32
  let arg0 : BitVec 32 := BitVec.ofNat 32 (i 0).val
  let c2_i32_47 : BitVec 32 := 2#32
  let v98 : BitVec 32 := Scalar.muli arg0 c2_i32_47
  let v99 : BitVec 32 := Scalar.addi v98 c0_i32_48
  let v100 : Index := Scalar.indexCast v99
  ![4, v100.toNat]
def k0_off6 (i : grid0.Coords) (c0_i32_60 : BitVec 32) : Fin 2 → Nat :=
  let c5 : Index := 5#32
  let arg0 : BitVec 32 := BitVec.ofNat 32 (i 0).val
  let c2_i32_59 : BitVec 32 := 2#32
  let v122 : BitVec 32 := Scalar.muli arg0 c2_i32_59
  let v123 : BitVec 32 := Scalar.addi v122 c0_i32_60
  let v124 : Index := Scalar.indexCast v123
  ![5, v124.toNat]
def k0_off7 (i : grid0.Coords) (c0_i32_72 : BitVec 32) : Fin 2 → Nat :=
  let c6 : Index := 6#32
  let arg0 : BitVec 32 := BitVec.ofNat 32 (i 0).val
  let c2_i32_71 : BitVec 32 := 2#32
  let v146 : BitVec 32 := Scalar.muli arg0 c2_i32_71
  let v147 : BitVec 32 := Scalar.addi v146 c0_i32_72
  let v148 : Index := Scalar.indexCast v147
  ![6, v148.toNat]
def k0_off8 (i : grid0.Coords) (c0_i32_84 : BitVec 32) : Fin 2 → Nat :=
  let c7 : Index := 7#32
  let arg0 : BitVec 32 := BitVec.ofNat 32 (i 0).val
  let c2_i32_83 : BitVec 32 := 2#32
  let v170 : BitVec 32 := Scalar.muli arg0 c2_i32_83
  let v171 : BitVec 32 := Scalar.addi v170 c0_i32_84
  let v172 : Index := Scalar.indexCast v171
  ![7, v172.toNat]
def k0_off9 (i : grid0.Coords) (c0_i32_96 : BitVec 32) : Fin 2 → Nat :=
  let c8 : Index := 8#32
  let arg0 : BitVec 32 := BitVec.ofNat 32 (i 0).val
  let c2_i32_95 : BitVec 32 := 2#32
  let v194 : BitVec 32 := Scalar.muli arg0 c2_i32_95
  let v195 : BitVec 32 := Scalar.addi v194 c0_i32_96
  let v196 : Index := Scalar.indexCast v195
  ![8, v196.toNat]
def k0_off10 (i : grid0.Coords) (c0_i32_108 : BitVec 32) : Fin 2 → Nat :=
  let c9 : Index := 9#32
  let arg0 : BitVec 32 := BitVec.ofNat 32 (i 0).val
  let c2_i32_107 : BitVec 32 := 2#32
  let v218 : BitVec 32 := Scalar.muli arg0 c2_i32_107
  let v219 : BitVec 32 := Scalar.addi v218 c0_i32_108
  let v220 : Index := Scalar.indexCast v219
  ![9, v220.toNat]
def k0_off11 (i : grid0.Coords) (c0_i32_120 : BitVec 32) : Fin 2 → Nat :=
  let c10 : Index := 10#32
  let arg0 : BitVec 32 := BitVec.ofNat 32 (i 0).val
  let c2_i32_119 : BitVec 32 := 2#32
  let v242 : BitVec 32 := Scalar.muli arg0 c2_i32_119
  let v243 : BitVec 32 := Scalar.addi v242 c0_i32_120
  let v244 : Index := Scalar.indexCast v243
  ![10, v244.toNat]
def k0_off12 (i : grid0.Coords) (c0_i32_132 : BitVec 32) : Fin 2 → Nat :=
  let c11 : Index := 11#32
  let arg0 : BitVec 32 := BitVec.ofNat 32 (i 0).val
  let c2_i32_131 : BitVec 32 := 2#32
  let v266 : BitVec 32 := Scalar.muli arg0 c2_i32_131
  let v267 : BitVec 32 := Scalar.addi v266 c0_i32_132
  let v268 : Index := Scalar.indexCast v267
  ![11, v268.toNat]
def k0_off13 (i : grid0.Coords) (c0_i32_144 : BitVec 32) : Fin 2 → Nat :=
  let c12 : Index := 12#32
  let arg0 : BitVec 32 := BitVec.ofNat 32 (i 0).val
  let c2_i32_143 : BitVec 32 := 2#32
  let v290 : BitVec 32 := Scalar.muli arg0 c2_i32_143
  let v291 : BitVec 32 := Scalar.addi v290 c0_i32_144
  let v292 : Index := Scalar.indexCast v291
  ![12, v292.toNat]
def k0_off14 (i : grid0.Coords) (c0_i32_156 : BitVec 32) : Fin 2 → Nat :=
  let c13 : Index := 13#32
  let arg0 : BitVec 32 := BitVec.ofNat 32 (i 0).val
  let c2_i32_155 : BitVec 32 := 2#32
  let v314 : BitVec 32 := Scalar.muli arg0 c2_i32_155
  let v315 : BitVec 32 := Scalar.addi v314 c0_i32_156
  let v316 : Index := Scalar.indexCast v315
  ![13, v316.toNat]
def k0_off15 (i : grid0.Coords) (c0_i32_168 : BitVec 32) : Fin 2 → Nat :=
  let c14 : Index := 14#32
  let arg0 : BitVec 32 := BitVec.ofNat 32 (i 0).val
  let c2_i32_167 : BitVec 32 := 2#32
  let v338 : BitVec 32 := Scalar.muli arg0 c2_i32_167
  let v339 : BitVec 32 := Scalar.addi v338 c0_i32_168
  let v340 : Index := Scalar.indexCast v339
  ![14, v340.toNat]
def k0_off16 (i : grid0.Coords) (c0_i32_180 : BitVec 32) : Fin 2 → Nat :=
  let c15 : Index := 15#32
  let arg0 : BitVec 32 := BitVec.ofNat 32 (i 0).val
  let c2_i32_179 : BitVec 32 := 2#32
  let v362 : BitVec 32 := Scalar.muli arg0 c2_i32_179
  let v363 : BitVec 32 := Scalar.addi v362 c0_i32_180
  let v364 : Index := Scalar.indexCast v363
  ![15, v364.toNat]
def k0_off17 (i : grid0.Coords) (c0_i32_193 : BitVec 32) : Fin 2 → Nat :=
  let arg0 : BitVec 32 := BitVec.ofNat 32 (i 0).val
  let c2_i32_192 : BitVec 32 := 2#32
  let v386 : BitVec 32 := Scalar.muli arg0 c2_i32_192
  let v387 : BitVec 32 := Scalar.addi v386 c0_i32_193
  let v388 : Index := Scalar.indexCast v387
  let c0_194 : Index := 0#32
  ![v388.toNat, 0]
def k0_off18 (i : grid0.Coords) (c0_i32_200 : BitVec 32) : Fin 2 → Nat :=
  let arg0 : BitVec 32 := BitVec.ofNat 32 (i 0).val
  let c2_i32_199 : BitVec 32 := 2#32
  let v398 : BitVec 32 := Scalar.muli arg0 c2_i32_199
  let v399 : BitVec 32 := Scalar.addi v398 c0_i32_200
  let v400 : Index := Scalar.indexCast v399
  let c1_201 : Index := 1#32
  ![v400.toNat, 1]
def k0_off19 (i : grid0.Coords) (c0_i32_207 : BitVec 32) : Fin 2 → Nat :=
  let arg0 : BitVec 32 := BitVec.ofNat 32 (i 0).val
  let c2_i32_206 : BitVec 32 := 2#32
  let v410 : BitVec 32 := Scalar.muli arg0 c2_i32_206
  let v411 : BitVec 32 := Scalar.addi v410 c0_i32_207
  let v412 : Index := Scalar.indexCast v411
  let c2_208 : Index := 2#32
  ![v412.toNat, 2]
def k0_off20 (i : grid0.Coords) (c0_i32_214 : BitVec 32) : Fin 2 → Nat :=
  let arg0 : BitVec 32 := BitVec.ofNat 32 (i 0).val
  let c2_i32_213 : BitVec 32 := 2#32
  let v422 : BitVec 32 := Scalar.muli arg0 c2_i32_213
  let v423 : BitVec 32 := Scalar.addi v422 c0_i32_214
  let v424 : Index := Scalar.indexCast v423
  let c3_215 : Index := 3#32
  ![v424.toNat, 3]
def k0_off21 (i : grid0.Coords) (c0_i32_221 : BitVec 32) : Fin 2 → Nat :=
  let arg0 : BitVec 32 := BitVec.ofNat 32 (i 0).val
  let c2_i32_220 : BitVec 32 := 2#32
  let v434 : BitVec 32 := Scalar.muli arg0 c2_i32_220
  let v435 : BitVec 32 := Scalar.addi v434 c0_i32_221
  let v436 : Index := Scalar.indexCast v435
  let c4_222 : Index := 4#32
  ![v436.toNat, 4]
def k0_off22 (i : grid0.Coords) (c0_i32_228 : BitVec 32) : Fin 2 → Nat :=
  let arg0 : BitVec 32 := BitVec.ofNat 32 (i 0).val
  let c2_i32_227 : BitVec 32 := 2#32
  let v446 : BitVec 32 := Scalar.muli arg0 c2_i32_227
  let v447 : BitVec 32 := Scalar.addi v446 c0_i32_228
  let v448 : Index := Scalar.indexCast v447
  let c5_229 : Index := 5#32
  ![v448.toNat, 5]
def k0_off23 (i : grid0.Coords) (c0_i32_235 : BitVec 32) : Fin 2 → Nat :=
  let arg0 : BitVec 32 := BitVec.ofNat 32 (i 0).val
  let c2_i32_234 : BitVec 32 := 2#32
  let v458 : BitVec 32 := Scalar.muli arg0 c2_i32_234
  let v459 : BitVec 32 := Scalar.addi v458 c0_i32_235
  let v460 : Index := Scalar.indexCast v459
  let c6_236 : Index := 6#32
  ![v460.toNat, 6]
def k0_off24 (i : grid0.Coords) (c0_i32_242 : BitVec 32) : Fin 2 → Nat :=
  let arg0 : BitVec 32 := BitVec.ofNat 32 (i 0).val
  let c2_i32_241 : BitVec 32 := 2#32
  let v470 : BitVec 32 := Scalar.muli arg0 c2_i32_241
  let v471 : BitVec 32 := Scalar.addi v470 c0_i32_242
  let v472 : Index := Scalar.indexCast v471
  let c7_243 : Index := 7#32
  ![v472.toNat, 7]
def k0_off25 (i : grid0.Coords) (c0_i32_249 : BitVec 32) : Fin 2 → Nat :=
  let arg0 : BitVec 32 := BitVec.ofNat 32 (i 0).val
  let c2_i32_248 : BitVec 32 := 2#32
  let v482 : BitVec 32 := Scalar.muli arg0 c2_i32_248
  let v483 : BitVec 32 := Scalar.addi v482 c0_i32_249
  let v484 : Index := Scalar.indexCast v483
  let c8_250 : Index := 8#32
  ![v484.toNat, 8]
def k0_off26 (i : grid0.Coords) (c0_i32_256 : BitVec 32) : Fin 2 → Nat :=
  let arg0 : BitVec 32 := BitVec.ofNat 32 (i 0).val
  let c2_i32_255 : BitVec 32 := 2#32
  let v494 : BitVec 32 := Scalar.muli arg0 c2_i32_255
  let v495 : BitVec 32 := Scalar.addi v494 c0_i32_256
  let v496 : Index := Scalar.indexCast v495
  let c9_257 : Index := 9#32
  ![v496.toNat, 9]
def k0_off27 (i : grid0.Coords) (c0_i32_263 : BitVec 32) : Fin 2 → Nat :=
  let arg0 : BitVec 32 := BitVec.ofNat 32 (i 0).val
  let c2_i32_262 : BitVec 32 := 2#32
  let v506 : BitVec 32 := Scalar.muli arg0 c2_i32_262
  let v507 : BitVec 32 := Scalar.addi v506 c0_i32_263
  let v508 : Index := Scalar.indexCast v507
  let c10_264 : Index := 10#32
  ![v508.toNat, 10]
def k0_off28 (i : grid0.Coords) (c0_i32_270 : BitVec 32) : Fin 2 → Nat :=
  let arg0 : BitVec 32 := BitVec.ofNat 32 (i 0).val
  let c2_i32_269 : BitVec 32 := 2#32
  let v518 : BitVec 32 := Scalar.muli arg0 c2_i32_269
  let v519 : BitVec 32 := Scalar.addi v518 c0_i32_270
  let v520 : Index := Scalar.indexCast v519
  let c11_271 : Index := 11#32
  ![v520.toNat, 11]
def k0_off29 (i : grid0.Coords) (c0_i32_277 : BitVec 32) : Fin 2 → Nat :=
  let arg0 : BitVec 32 := BitVec.ofNat 32 (i 0).val
  let c2_i32_276 : BitVec 32 := 2#32
  let v530 : BitVec 32 := Scalar.muli arg0 c2_i32_276
  let v531 : BitVec 32 := Scalar.addi v530 c0_i32_277
  let v532 : Index := Scalar.indexCast v531
  let c12_278 : Index := 12#32
  ![v532.toNat, 12]
def k0_off30 (i : grid0.Coords) (c0_i32_284 : BitVec 32) : Fin 2 → Nat :=
  let arg0 : BitVec 32 := BitVec.ofNat 32 (i 0).val
  let c2_i32_283 : BitVec 32 := 2#32
  let v542 : BitVec 32 := Scalar.muli arg0 c2_i32_283
  let v543 : BitVec 32 := Scalar.addi v542 c0_i32_284
  let v544 : Index := Scalar.indexCast v543
  let c13_285 : Index := 13#32
  ![v544.toNat, 13]
def k0_off31 (i : grid0.Coords) (c0_i32_291 : BitVec 32) : Fin 2 → Nat :=
  let arg0 : BitVec 32 := BitVec.ofNat 32 (i 0).val
  let c2_i32_290 : BitVec 32 := 2#32
  let v554 : BitVec 32 := Scalar.muli arg0 c2_i32_290
  let v555 : BitVec 32 := Scalar.addi v554 c0_i32_291
  let v556 : Index := Scalar.indexCast v555
  let c14_292 : Index := 14#32
  ![v556.toNat, 14]
def k0_off32 (i : grid0.Coords) (c0_i32_298 : BitVec 32) : Fin 2 → Nat :=
  let arg0 : BitVec 32 := BitVec.ofNat 32 (i 0).val
  let c2_i32_297 : BitVec 32 := 2#32
  let v566 : BitVec 32 := Scalar.muli arg0 c2_i32_297
  let v567 : BitVec 32 := Scalar.addi v566 c0_i32_298
  let v568 : Index := Scalar.indexCast v567
  let c15_299 : Index := 15#32
  ![v568.toNat, 15]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S56x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S56x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S16x56 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1536x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1536x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1536x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1536x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== DownRefIdeal.lean ====
abbrev S1536x2048 : Shape := ⟨2, ![1536, 2048]⟩
abbrev S7168x2048 : Shape := ⟨2, ![7168, 2048]⟩
abbrev S2048x7168 : Shape := ⟨2, ![2048, 7168]⟩
abbrev S56x16 : Shape := ⟨2, ![56, 16]⟩
abbrev S16x56 : Shape := ⟨2, ![16, 56]⟩
abbrev S1536x7168 : Shape := ⟨2, ![1536, 7168]⟩
abbrev S56x128x16x128 : Shape := ⟨4, ![56, 128, 16, 128]⟩
abbrev S56x1x16x1 : Shape := ⟨4, ![56, 1, 16, 1]⟩
abbrev S16x128x56x128 : Shape := ⟨4, ![16, 128, 56, 128]⟩
abbrev S16x1x56x1 : Shape := ⟨4, ![16, 1, 56, 1]⟩

abbrev nBuf : Space → Nat
  | .hbm => 11
  | .vmem => 11
  | .smem => 0
  | _ => 0

abbrev bufTy : (tb : Table) → Fin (tcTables nBuf tb) → BufTy
  | .hbm, ⟨0, _⟩ => ⟨S1536x2048, .bf16⟩
  | .hbm, ⟨1, _⟩ => ⟨S1536x2048, .bf16⟩
  | .hbm, ⟨2, _⟩ => ⟨S1536x2048, .bf16⟩
  | .hbm, ⟨3, _⟩ => ⟨S7168x2048, .fp8e4m3⟩
  | .hbm, ⟨4, _⟩ => ⟨S7168x2048, .fp8e4m3⟩
  | .hbm, ⟨5, _⟩ => ⟨S2048x7168, .fp8e4m3⟩
  | .hbm, ⟨6, _⟩ => ⟨S56x16, .f32⟩
  | .hbm, ⟨7, _⟩ => ⟨S56x16, .f32⟩
  | .hbm, ⟨8, _⟩ => ⟨S16x56, .f32⟩
  | .hbm, ⟨9, _⟩ => ⟨S1536x7168, .bf16⟩
  | .hbm, ⟨10, _⟩ => ⟨S1536x7168, .bf16⟩
  | .local _ .vmem, ⟨0, _⟩ => ⟨S1536x2048, .bf16⟩
  | .local _ .vmem, ⟨1, _⟩ => ⟨S1536x2048, .bf16⟩
  | .local _ .vmem, ⟨2, _⟩ => ⟨S1536x2048, .bf16⟩
  | .local _ .vmem, ⟨3, _⟩ => ⟨S7168x2048, .fp8e4m3⟩
  | .local _ .vmem, ⟨4, _⟩ => ⟨S7168x2048, .fp8e4m3⟩
  | .local _ .vmem, ⟨5, _⟩ => ⟨S2048x7168, .fp8e4m3⟩
  | .local _ .vmem, ⟨6, _⟩ => ⟨S56x16, .f32⟩
  | .local _ .vmem, ⟨7, _⟩ => ⟨S56x16, .f32⟩
  | .local _ .vmem, ⟨8, _⟩ => ⟨S16x56, .f32⟩
  | .local _ .vmem, ⟨9, _⟩ => ⟨S1536x7168, .bf16⟩
  | .local _ .vmem, ⟨10, _⟩ => ⟨S1536x7168, .bf16⟩
  | _, _ => ⟨S1536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S1536x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7168x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7168x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x7168 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S56x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S56x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x56 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1536x7168 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1536x7168 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Quant.lean ====
abbrev S1536x7168 : Shape := ⟨2, ![1536, 7168]⟩
abbrev S1536x56 : Shape := ⟨2, ![1536, 56]⟩
abbrev S12x1x7168 : Shape := ⟨3, ![12, 1, 7168]⟩
abbrev S128x7168 : Shape := ⟨2, ![128, 7168]⟩
abbrev S128x56 : Shape := ⟨2, ![128, 56]⟩
abbrev S1x1x7168 : Shape := ⟨3, ![1, 1, 7168]⟩
abbrev S128x128 : Shape := ⟨2, ![128, 128]⟩
abbrev S128 : Shape := ⟨1, ![128]⟩
abbrev S128x1 : Shape := ⟨2, ![128, 1]⟩
abbrev S1x128 : Shape := ⟨2, ![1, 128]⟩
abbrev S1x1x128 : Shape := ⟨3, ![1, 1, 128]⟩

abbrev nBuf : Space → Nat
  | .hbm => 12
  | .vmem => 24
  | .smem => 0
  | _ => 0

abbrev bufTy : (tb : Table) → Fin (tcTables nBuf tb) → BufTy
  | .hbm, ⟨0, _⟩ => ⟨S1536x7168, .bf16⟩
  | .hbm, ⟨1, _⟩ => ⟨S1536x7168, .bf16⟩
  | .hbm, ⟨2, _⟩ => ⟨S1536x7168, .fp8e4m3⟩
  | .hbm, ⟨3, _⟩ => ⟨S1536x56, .f32⟩
  | .hbm, ⟨4, _⟩ => ⟨S1536x7168, .fp8e4m3⟩
  | .hbm, ⟨5, _⟩ => ⟨S12x1x7168, .f32⟩
  | .hbm, ⟨6, _⟩ => ⟨S1536x7168, .bf16⟩
  | .hbm, ⟨7, _⟩ => ⟨S1536x7168, .fp8e5m2⟩
  | .hbm, ⟨8, _⟩ => ⟨S1536x56, .f32⟩
  | .hbm, ⟨9, _⟩ => ⟨S1536x7168, .fp8e5m2⟩
  | .hbm, ⟨10, _⟩ => ⟨S12x1x7168, .f32⟩
  | .hbm, ⟨11, _⟩ => ⟨S1536x7168, .bf16⟩
  | .local _ .vmem, ⟨0, _⟩ => ⟨S128x7168, .bf16⟩
  | .local _ .vmem, ⟨1, _⟩ => ⟨S128x7168, .bf16⟩
  | .local _ .vmem, ⟨2, _⟩ => ⟨S128x7168, .bf16⟩
  | .local _ .vmem, ⟨3, _⟩ => ⟨S128x7168, .bf16⟩
  | .local _ .vmem, ⟨4, _⟩ => ⟨S128x7168, .fp8e4m3⟩
  | .local _ .vmem, ⟨5, _⟩ => ⟨S128x7168, .fp8e4m3⟩
  | .local _ .vmem, ⟨6, _⟩ => ⟨S128x56, .f32⟩
  | .local _ .vmem, ⟨7, _⟩ => ⟨S128x56, .f32⟩
  | .local _ .vmem, ⟨8, _⟩ => ⟨S128x7168, .fp8e4m3⟩
  | .local _ .vmem, ⟨9, _⟩ => ⟨S128x7168, .fp8e4m3⟩
  | .local _ .vmem, ⟨10, _⟩ => ⟨S1x1x7168, .f32⟩
  | .local _ .vmem, ⟨11, _⟩ => ⟨S1x1x7168, .f32⟩
  | .local _ .vmem, ⟨12, _⟩ => ⟨S128x7168, .bf16⟩
  | .local _ .vmem, ⟨13, _⟩ => ⟨S128x7168, .bf16⟩
  | .local _ .vmem, ⟨14, _⟩ => ⟨S128x7168, .fp8e5m2⟩
  | .local _ .vmem, ⟨15, _⟩ => ⟨S128x7168, .fp8e5m2⟩
  | .local _ .vmem, ⟨16, _⟩ => ⟨S128x56, .f32⟩
  | .local _ .vmem, ⟨17, _⟩ => ⟨S128x56, .f32⟩
  | .local _ .vmem, ⟨18, _⟩ => ⟨S128x7168, .fp8e5m2⟩
  | .local _ .vmem, ⟨19, _⟩ => ⟨S128x7168, .fp8e5m2⟩
  | .local _ .vmem, ⟨20, _⟩ => ⟨S1x1x7168, .f32⟩
  | .local _ .vmem, ⟨21, _⟩ => ⟨S1x1x7168, .f32⟩
  | .local _ .vmem, ⟨22, _⟩ => ⟨S128x7168, .bf16⟩
  | .local _ .vmem, ⟨23, _⟩ => ⟨S128x7168, .bf16⟩
  | _, _ => ⟨S1536x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v0_5 : Ref sig .tc := ⟨.hbm, 7, rfl⟩
abbrev main_v0_6 : Ref sig .tc := ⟨.hbm, 8, rfl⟩
abbrev main_v0_7 : Ref sig .tc := ⟨.hbm, 9, rfl⟩
abbrev main_v0_8 : Ref sig .tc := ⟨.hbm, 10, rfl⟩
abbrev main_v0_9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x7168 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x56 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x7168 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x7168 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x7168 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x7168 .fp8e5m2 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x56 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x7168 .fp8e5m2 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x7168 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x7168 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== QuantRefIdeal.lean ====
abbrev S1536x7168 : Shape := ⟨2, ![1536, 7168]⟩
abbrev S1536x56 : Shape := ⟨2, ![1536, 56]⟩
abbrev S12x1x7168 : Shape := ⟨3, ![12, 1, 7168]⟩
abbrev S1536x56x128 : Shape := ⟨3, ![1536, 56, 128]⟩
abbrev S1536x56x1 : Shape := ⟨3, ![1536, 56, 1]⟩
abbrev S12x128x7168 : Shape := ⟨3, ![12, 128, 7168]⟩
abbrev S12x7168 : Shape := ⟨2, ![12, 7168]⟩

abbrev nBuf : Space → Nat
  | .hbm => 12
  | .vmem => 12
  | .smem => 0
  | _ => 0

abbrev bufTy : (tb : Table) → Fin (tcTables nBuf tb) → BufTy
  | .hbm, ⟨0, _⟩ => ⟨S1536x7168, .bf16⟩
  | .hbm, ⟨1, _⟩ => ⟨S1536x7168, .bf16⟩
  | .hbm, ⟨2, _⟩ => ⟨S1536x7168, .fp8e4m3⟩
  | .hbm, ⟨3, _⟩ => ⟨S1536x56, .f32⟩
  | .hbm, ⟨4, _⟩ => ⟨S1536x7168, .fp8e4m3⟩
  | .hbm, ⟨5, _⟩ => ⟨S12x1x7168, .f32⟩
  | .hbm, ⟨6, _⟩ => ⟨S1536x7168, .bf16⟩
  | .hbm, ⟨7, _⟩ => ⟨S1536x7168, .fp8e5m2⟩
  | .hbm, ⟨8, _⟩ => ⟨S1536x56, .f32⟩
  | .hbm, ⟨9, _⟩ => ⟨S1536x7168, .fp8e5m2⟩
  | .hbm, ⟨10, _⟩ => ⟨S12x1x7168, .f32⟩
  | .hbm, ⟨11, _⟩ => ⟨S1536x7168, .bf16⟩
  | .local _ .vmem, ⟨0, _⟩ => ⟨S1536x7168, .bf16⟩
  | .local _ .vmem, ⟨1, _⟩ => ⟨S1536x7168, .bf16⟩
  | .local _ .vmem, ⟨2, _⟩ => ⟨S1536x7168, .fp8e4m3⟩
  | .local _ .vmem, ⟨3, _⟩ => ⟨S1536x56, .f32⟩
  | .local _ .vmem, ⟨4, _⟩ => ⟨S1536x7168, .fp8e4m3⟩
  | .local _ .vmem, ⟨5, _⟩ => ⟨S12x1x7168, .f32⟩
  | .local _ .vmem, ⟨6, _⟩ => ⟨S1536x7168, .bf16⟩
  | .local _ .vmem, ⟨7, _⟩ => ⟨S1536x7168, .fp8e5m2⟩
  | .local _ .vmem, ⟨8, _⟩ => ⟨S1536x56, .f32⟩
  | .local _ .vmem, ⟨9, _⟩ => ⟨S1536x7168, .fp8e5m2⟩
  | .local _ .vmem, ⟨10, _⟩ => ⟨S12x1x7168, .f32⟩
  | .local _ .vmem, ⟨11, _⟩ => ⟨S1536x7168, .bf16⟩
  | _, _ => ⟨S1536x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v0_5 : Ref sig .tc := ⟨.hbm, 7, rfl⟩
abbrev main_v0_6 : Ref sig .tc := ⟨.hbm, 8, rfl⟩
abbrev main_v0_7 : Ref sig .tc := ⟨.hbm, 9, rfl⟩
abbrev main_v0_8 : Ref sig .tc := ⟨.hbm, 10, rfl⟩
abbrev main_v0_9 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S1536x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x56 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x7168 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x1x7168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x7168 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x7168 .fp8e5m2 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536x56 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1536x7168 .fp8e5m2 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S12x1x7168 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1536x7168 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Cols.lean ====
/- Codes `[1536, n]` with one scale per 128 tokens and column: the widened array read at an index, in the two spellings
   of the gradient call (twelve row tiles laid end to end) and of its reference (a reshape, a broadcast product and the
   reshape back), and the product that contracts the tokens. Nothing here names a program. -/
module

public import Idealize.ShloMosaic.Lib.ValueIdx
public import Idealize.ShloMosaic.PureOps.Ideal.Laws
public import Idealize.ShloMosaic.Lib.ValueLayout
public import Idealize.ShloMosaic.Lib.Pipeline.Value

@[expose] public section

namespace Cert.Cols

open Idealize Idealize.ShloMosaic Idealize.ShloMosaic.ValueIdx

variable {n : Nat} {φ : FTy}

/-- The widened array at token `t` and column `c`: the code there times the scale of the token's tile and the column. -/
noncomputable def wide (q : FVec Ideal ⟨2, ![1536, n]⟩ φ) (s : FVec Ideal ⟨3, ![12, 1, n]⟩ .f32) (t : Fin 1536) (c : Fin n) : EReal :=
  (q (ix2 t c) : EReal) * s (ix3 ⟨t.val / 128, by omega⟩ 0 c)

/-- One row tile as the kernel widens it: rows `128 b …` of the codes times the broadcast scale row `v`. -/
noncomputable def piece (q : FVec Ideal ⟨2, ![1536, n]⟩ φ) (v : FVec Ideal ⟨3, ![1, 1, n]⟩ .f32) (b : Nat)
    (hs : (⟨2, ![1536, n]⟩ : Shape).Slices ![b, 0] ⟨2, ![128, n]⟩)
    (hφ : φ.bits < FTy.bf16.bits) (hc : (⟨3, ![1, 1, n]⟩ : Shape).ShapeCasts ⟨2, ![1, n]⟩)
    (ht : FTy.bf16.bits < FTy.f32.bits) (hb : (⟨2, ![1, n]⟩ : Shape).Broadcasts ⟨2, ![128, n]⟩) : FVec Ideal ⟨2, ![128, n]⟩ .bf16 :=
  mulf (extf .bf16 (extractStridedSlice ⟨2, ![128, n]⟩ ![b, 0] q hs) hφ)
    (broadcastTo ⟨2, ![128, n]⟩ (truncf .bf16 (shapeCast ⟨2, ![1, n]⟩ v hc) ht) hb)

/-- A tile's entry: the code at row `b + r` times the scale row's entry. -/
theorem piece_apply (q : FVec Ideal ⟨2, ![1536, n]⟩ φ) (v : FVec Ideal ⟨3, ![1, 1, n]⟩ .f32) (b : Nat) (hs hφ hc ht hb)
    (hn : n ≠ 1) (r : Fin 128) (c : Fin n) (t : Fin 1536) (h : t.val = b + r.val) :
    piece q v b hs hφ hc ht hb (ix2 r c) = (q (ix2 t c) : EReal) * v (ix3 0 0 c) := by
  show (q _ : EReal) * broadcastTo ⟨2, ![128, n]⟩ (shapeCast ⟨2, ![1, n]⟩ v hc) hb (ix2 r c) = _
  congr 1
  · congr 1
    funext a; apply Fin.ext
    match a with
    | ⟨0, _⟩ => exact h.symm
    | ⟨1, _⟩ => exact Nat.zero_add _
  · rw [broadcastTo_apply (k := ix2 0 c)]
    · exact shapeCast_1ab_ab_apply v hc 0 c
    · intro a
      match a with
      | ⟨0, _⟩ => rfl
      | ⟨1, _⟩ => exact (if_neg hn).symm

/-- The reference's spelling at an index. -/
theorem ref_apply (q : FVec Ideal ⟨2, ![1536, n]⟩ φ) (s : FVec Ideal ⟨3, ![12, 1, n]⟩ .f32)
    (h1 : (⟨2, ![1536, n]⟩ : Shape).ShapeCasts ⟨3, ![12, 128, n]⟩) (h2 : (⟨3, ![12, 128, n]⟩ : Shape).ShapeCasts ⟨2, ![1536, n]⟩)
    (hb : (⟨3, ![12, 1, n]⟩ : Shape).Broadcasts ⟨3, ![12, 128, n]⟩) (hφ : φ.bits < FTy.bf16.bits) (ht : FTy.bf16.bits < FTy.f32.bits)
    (hn : n ≠ 1) (t : Fin 1536) (c : Fin n) :
    shapeCast ⟨2, ![1536, n]⟩ (mulf (shapeCast ⟨3, ![12, 128, n]⟩ (extf .bf16 q hφ) h1)
      (broadcastTo ⟨3, ![12, 128, n]⟩ (truncf .bf16 s ht) hb)) h2 (ix2 t c) = wide q s t c := by
  have ht' : t.val = 128 * (t.val / 128) + t.val % 128 := (Nat.div_add_mod _ _).symm
  rw [shapeCast_apply (k := ix3 ⟨t.val / 128, by omega⟩ ⟨t.val % 128, by omega⟩ c)]
  · show (shapeCast _ q h1 _ : EReal) * broadcastTo _ s hb _ = _
    rw [shapeCast_apply (k := ix2 t c), broadcastTo_apply (k := ix3 ⟨t.val / 128, by omega⟩ 0 c)]
    · rfl
    · intro a
      match a with
      | ⟨0, _⟩ => rfl
      | ⟨1, _⟩ => rfl
      | ⟨2, _⟩ => exact (if_neg hn).symm
    · rw [Shape.rowMajor_val_three, Shape.rowMajor_val_two]
      show t.val * n + c.val = (t.val / 128 * 128 + t.val % 128) * n + c.val
      rw [Nat.mul_comm (t.val / 128), ← ht']
  · rw [Shape.rowMajor_val_three, Shape.rowMajor_val_two]
    show (t.val / 128 * 128 + t.val % 128) * n + c.val = t.val * n + c.val
    rw [Nat.mul_comm (t.val / 128), ← ht']

/-- Twelve tiles of the codes laid end to end, each times its own scale row, are the widened array. -/
theorem concat_apply (q : FVec Ideal ⟨2, ![1536, n]⟩ φ) (s : FVec Ideal ⟨3, ![12, 1, n]⟩ .f32)
    (f : Fin 12 → ((⟨2, ![128, n]⟩ : Shape).Idx → EReal))
    (h : Shape.Concatenates ((List.ofFn fun b : Fin 12 => (⟨⟨2, ![128, n]⟩, f b⟩ : (s : Shape) × (s.Idx → EReal))).map (·.1))
      ⟨2, ![1536, n]⟩ 0)
    (hf : ∀ (b : Fin 12) (r : Fin 128) (c : Fin n) (t : Fin 1536), t.val = 128 * b.val + r.val →
      f b (ix2 r c) = (q (ix2 t c) : EReal) * s (ix3 b 0 c)) (t : Fin 1536) (c : Fin n) :
    concatenate ⟨2, ![1536, n]⟩ 0 (List.ofFn fun b : Fin 12 => (⟨⟨2, ![128, n]⟩, f b⟩ : (s : Shape) × (s.Idx → EReal))) h
      (ix2 t c) = wide q s t c := by
  rw [concatenate_ofFn_apply 0 f h rfl 128 rfl (ix2 t c) ⟨t.val / 128, by omega⟩ rfl (ix2 ⟨t.val % 128, by omega⟩ c) rfl
    (fun b hb => by
      match b with
      | ⟨0, _⟩ => exact absurd rfl hb
      | ⟨1, _⟩ => rfl)]
  exact hf _ _ _ t (Nat.div_add_mod _ _).symm

/-- Scale row `b` as the kernel loads it. -/
noncomputable def row (s : FVec Ideal ⟨3, ![12, 1, n]⟩ .f32) (b : Fin 12)
    (inb : ∀ a, (![b.val, 0, 0] : Fin 3 → Nat) a + (![1, 1, n] : Fin 3 → Nat) a ≤ (⟨3, ![12, 1, n]⟩ : Shape).size a) :
    FVec Ideal ⟨3, ![1, 1, n]⟩ .f32 :=
  fun j => s ((Rect.unit (s := ⟨3, ![12, 1, n]⟩) ![b.val, 0, 0] ![1, 1, n] inb).idx j)

theorem row_apply (s : FVec Ideal ⟨3, ![12, 1, n]⟩ .f32) (b : Fin 12) (inb) (c : Fin n) :
    row s b inb (ix3 0 0 c) = s (ix3 b 0 c) := by
  show s _ = s _
  congr 1
  funext a; apply Fin.ext
  match a with
  | ⟨0, _⟩ => show b.val + 1 * 0 = b.val; omega
  | ⟨1, _⟩ => rfl
  | ⟨2, _⟩ => show 0 + 1 * c.val = c.val; omega

theorem row_inb (n : Nat) (b : Fin 12) (a : Fin 3) :
    (![b.val, 0, 0] : Fin 3 → Nat) a + (![1, 1, n] : Fin 3 → Nat) a ≤ (⟨3, ![12, 1, n]⟩ : Shape).size a := by
  match a with
  | ⟨0, _⟩ => show b.val + 1 ≤ 12; omega
  | ⟨1, _⟩ => exact Nat.le_refl 1
  | ⟨2, _⟩ => show 0 + n ≤ n; omega

theorem tile_slices (n : Nat) (b : Fin 12) : (⟨2, ![1536, n]⟩ : Shape).Slices ![128 * b.val, 0] ⟨2, ![128, n]⟩ :=
  ⟨rfl, fun a => by
    match a with
    | ⟨0, _⟩ => show 128 * b.val + 128 ≤ 1536; omega
    | ⟨1, _⟩ => show 0 + n ≤ n; omega⟩

/-- The twelve tiles the kernel lays end to end. -/
noncomputable def tile (q : FVec Ideal ⟨2, ![1536, n]⟩ φ) (s : FVec Ideal ⟨3, ![12, 1, n]⟩ .f32)
    (hφ : φ.bits < FTy.bf16.bits) (hc : (⟨3, ![1, 1, n]⟩ : Shape).ShapeCasts ⟨2, ![1, n]⟩)
    (ht : FTy.bf16.bits < FTy.f32.bits) (hb : (⟨2, ![1, n]⟩ : Shape).Broadcasts ⟨2, ![128, n]⟩) (b : Fin 12) :
    FVec Ideal ⟨2, ![128, n]⟩ .bf16 :=
  piece q (row s b (row_inb n b)) (128 * b.val) (tile_slices n b) hφ hc ht hb

/-- Those twelve laid end to end are the widened array. -/
theorem tiles_apply (q : FVec Ideal ⟨2, ![1536, n]⟩ φ) (s : FVec Ideal ⟨3, ![12, 1, n]⟩ .f32) (hφ hc ht hb) (hn : n ≠ 1)
    (h : Shape.Concatenates ((List.ofFn fun b : Fin 12 => (⟨⟨2, ![128, n]⟩, tile q s hφ hc ht hb b⟩ : (s : Shape) × (s.Idx → EReal))).map (·.1))
      ⟨2, ![1536, n]⟩ 0) (t : Fin 1536) (c : Fin n) :
    concatenate ⟨2, ![1536, n]⟩ 0
      (List.ofFn fun b : Fin 12 => (⟨⟨2, ![128, n]⟩, tile q s hφ hc ht hb b⟩ : (s : Shape) × (s.Idx → EReal))) h (ix2 t c)
      = wide q s t c :=
  concat_apply q s _ h (fun b r c t ht' => by
    unfold tile
    rw [piece_apply q _ _ _ hφ hc ht hb hn r c t ht', row_apply]) t c

variable {K M N : Nat} {φ₁ φ₂ : FTy}

/-- The dimension numbers of a product that contracts the first axis of both operands. -/
abbrev dims (K M N : Nat)
    (wf : DotDims.WF ⟨2, ![K, M]⟩ ⟨2, ![K, N]⟩ ⟨2, ![M, N]⟩ [0] [0] [1] [1] [] []) : DotDims ⟨2, ![K, M]⟩ ⟨2, ![K, N]⟩ ⟨2, ![M, N]⟩ := ⟨[0], [0], [1], [1], [], [], wf⟩

/-- Such a product into zeros at an index: the sum over the contracted rows. -/
theorem matmul_apply (wf) (hr : (dims K M N wf).contr.rank = 1) (prec : Option ContractPrecision)
    (lhs : FVec Ideal ⟨2, ![K, M]⟩ φ₁) (rhs : FVec Ideal ⟨2, ![K, N]⟩ φ₂) (r : Fin M) (c : Fin N) :
    matmul (dims K M N wf) prec lhs rhs (constant ⟨2, ![M, N]⟩ .f32 0x00000000#32) (ix2 r c)
      = ∑ k : Fin K, (lhs (ix2 k r) : EReal) * rhs (ix2 k c) := by
  have hs : (dims K M N wf).contr.size ⟨0, by omega⟩ = K := rfl
  show FloatOps.matmul (dims K M N wf) prec lhs rhs _ (ix2 r c) = _
  rw [Ideal.matmul_constant_zero_apply, ← Equiv.sum_comp (contrEquiv1 _ K hr hs).symm]
  refine Finset.sum_congr rfl fun k _ => ?_
  have hk := contrEquiv1_symm_val _ K hr hs k
  have el : (dims K M N wf).lhsIdx (ix2 r c) ((contrEquiv1 _ K hr hs).symm k) = ix2 k r := by
    funext a; apply Fin.ext
    match a with
    | ⟨0, _⟩ => exact hk
    | ⟨1, _⟩ => rfl
  have er : (dims K M N wf).rhsIdx (ix2 r c) ((contrEquiv1 _ K hr hs).symm k) = ix2 k c := by
    funext a; apply Fin.ext
    match a with
    | ⟨0, _⟩ => exact hk
    | ⟨1, _⟩ => rfl
  rw [el, er]

end Cert.Cols
-- ==== Proof.GradBody.lean ====
/- The gradient call's body at the ideal values: what each case leaves in the output blocks and in the three scratch
   operands, read at an index. -/
module

public import proofs.«01_k».proof.Proof.Gen.GradIdeal.Frame
public import proofs.«01_k».proof.Proof.Cols

@[expose] public section

namespace Cert.GradIdeal.Body

open Idealize Idealize.ShloMosaic Idealize.ShloMosaic.ValueIdx
open Cert.GradIdeal Cert.GradIdeal.Gen

theorem hz : (![0, 0] : Fin 2 → Nat) = fun _ => 0 := funext fun a => by fin_cases a <;> rfl

/-- Case A fills scratch 0 with the widened array of its codes and scales. -/
theorem sc0_A (c : Dev nD) (i : grid0.Coords) (arg1 : Memref sig .tc .vmem S1536x2048 .fp8e4m3) (harg1 : arg1.IsWhole) (arg2 : Memref sig .tc .vmem S12x1x2048 .f32) (harg2 : arg2.IsWhole) (arg3 : Memref sig .tc .vmem S1536x2048 .fp8e5m2) (harg3 : arg3.IsWhole) (arg4 : Memref sig .tc .vmem S12x1x2048 .f32) (harg4 : arg4.IsWhole) (arg5 : Memref sig .tc .vmem S1536x2048 .fp8e5m2) (harg5 : arg5.IsWhole) (arg6 : Memref sig .tc .vmem S12x1x2048 .f32) (harg6 : arg6.IsWhole) (arg7 : Memref sig .tc .vmem S1536x256 .fp8e4m3) (harg7 : arg7.IsWhole) (arg8 : Memref sig .tc .vmem S12x1x256 .f32) (harg8 : arg8.IsWhole) (arg9 : Memref sig .tc .vmem S1536x256 .fp8e5m2) (harg9 : arg9.IsWhole) (arg10 : Memref sig .tc .vmem S12x1x256 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S2048x256 .f32) (harg13 : arg13.IsWhole) (arg14 : Memref sig .tc .vmem S1536x2048 .bf16) (harg14 : arg14.IsWhole) (arg15 : Memref sig .tc .vmem S1536x2048 .bf16) (harg15 : arg15.IsWhole) (arg16 : Memref sig .tc .vmem S1536x2048 .bf16) (harg16 : arg16.IsWhole) (hc0 : cond0_0 i)
    (x0 : Vec Ideal S1536x2048 .fp8e4m3) (x1 : Vec Ideal S12x1x2048 .f32) (x2 : Vec Ideal S1536x2048 .fp8e5m2) (x3 : Vec Ideal S12x1x2048 .f32) (x4 : Vec Ideal S1536x2048 .fp8e5m2) (x5 : Vec Ideal S12x1x2048 .f32) (x6 : Vec Ideal S1536x256 .fp8e4m3) (x7 : Vec Ideal S12x1x256 .f32) (x8 : Vec Ideal S1536x256 .fp8e5m2) (x9 : Vec Ideal S12x1x256 .f32) (t : Fin 1536) (f : Fin 2048) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 (ix2 t f) = Cols.wide (n := 2048) (φ := .fp8e4m3) x0 x1 t f := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg14.read_unread, harg15.read_unread, harg16.read_unread,
    View.ld_unit_zero (S := S1536x2048) hz, View.ld_unit_zero (S := S1536x256) hz, shapeCast_self]
  · unfold k0_pay17
    rw [shapeCast_self]
    exact Cols.tiles_apply (n := 2048) (φ := .fp8e4m3) x0 x1 (by decide) shapeCasts_S1x1x2048_S1x2048 (by decide)
      broadcasts_S1x2048_S128x2048 (by decide) concatenates_S128x2048_S128x2048_S128x2048_S128x2048_S128x2048_S128x2048_S128x2048_S128x2048_S128x2048_S128x2048_S128x2048_S128x2048_S1536x2048_d0 t f

/-- Case A fills scratch 1 with the widened array of its codes and scales. -/
theorem sc1_A (c : Dev nD) (i : grid0.Coords) (arg1 : Memref sig .tc .vmem S1536x2048 .fp8e4m3) (harg1 : arg1.IsWhole) (arg2 : Memref sig .tc .vmem S12x1x2048 .f32) (harg2 : arg2.IsWhole) (arg3 : Memref sig .tc .vmem S1536x2048 .fp8e5m2) (harg3 : arg3.IsWhole) (arg4 : Memref sig .tc .vmem S12x1x2048 .f32) (harg4 : arg4.IsWhole) (arg5 : Memref sig .tc .vmem S1536x2048 .fp8e5m2) (harg5 : arg5.IsWhole) (arg6 : Memref sig .tc .vmem S12x1x2048 .f32) (harg6 : arg6.IsWhole) (arg7 : Memref sig .tc .vmem S1536x256 .fp8e4m3) (harg7 : arg7.IsWhole) (arg8 : Memref sig .tc .vmem S12x1x256 .f32) (harg8 : arg8.IsWhole) (arg9 : Memref sig .tc .vmem S1536x256 .fp8e5m2) (harg9 : arg9.IsWhole) (arg10 : Memref sig .tc .vmem S12x1x256 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S2048x256 .f32) (harg13 : arg13.IsWhole) (arg14 : Memref sig .tc .vmem S1536x2048 .bf16) (harg14 : arg14.IsWhole) (arg15 : Memref sig .tc .vmem S1536x2048 .bf16) (harg15 : arg15.IsWhole) (arg16 : Memref sig .tc .vmem S1536x2048 .bf16) (harg16 : arg16.IsWhole) (hc0 : cond0_0 i)
    (x0 : Vec Ideal S1536x2048 .fp8e4m3) (x1 : Vec Ideal S12x1x2048 .f32) (x2 : Vec Ideal S1536x2048 .fp8e5m2) (x3 : Vec Ideal S12x1x2048 .f32) (x4 : Vec Ideal S1536x2048 .fp8e5m2) (x5 : Vec Ideal S12x1x2048 .f32) (x6 : Vec Ideal S1536x256 .fp8e4m3) (x7 : Vec Ideal S12x1x256 .f32) (x8 : Vec Ideal S1536x256 .fp8e5m2) (x9 : Vec Ideal S12x1x256 .f32) (t : Fin 1536) (f : Fin 2048) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 (ix2 t f) = Cols.wide (n := 2048) (φ := .fp8e5m2) x2 x3 t f := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg14.read_unread, harg15.read_unread, harg16.read_unread,
    View.ld_unit_zero (S := S1536x2048) hz, View.ld_unit_zero (S := S1536x256) hz, shapeCast_self]
  · unfold k0_pay32
    rw [shapeCast_self]
    exact Cols.tiles_apply (n := 2048) (φ := .fp8e5m2) x2 x3 (by decide) shapeCasts_S1x1x2048_S1x2048 (by decide)
      broadcasts_S1x2048_S128x2048 (by decide) concatenates_S128x2048_S128x2048_S128x2048_S128x2048_S128x2048_S128x2048_S128x2048_S128x2048_S128x2048_S128x2048_S128x2048_S128x2048_S1536x2048_d0 t f

/-- Case A fills scratch 2 with the widened array of its codes and scales. -/
theorem sc2_A (c : Dev nD) (i : grid0.Coords) (arg1 : Memref sig .tc .vmem S1536x2048 .fp8e4m3) (harg1 : arg1.IsWhole) (arg2 : Memref sig .tc .vmem S12x1x2048 .f32) (harg2 : arg2.IsWhole) (arg3 : Memref sig .tc .vmem S1536x2048 .fp8e5m2) (harg3 : arg3.IsWhole) (arg4 : Memref sig .tc .vmem S12x1x2048 .f32) (harg4 : arg4.IsWhole) (arg5 : Memref sig .tc .vmem S1536x2048 .fp8e5m2) (harg5 : arg5.IsWhole) (arg6 : Memref sig .tc .vmem S12x1x2048 .f32) (harg6 : arg6.IsWhole) (arg7 : Memref sig .tc .vmem S1536x256 .fp8e4m3) (harg7 : arg7.IsWhole) (arg8 : Memref sig .tc .vmem S12x1x256 .f32) (harg8 : arg8.IsWhole) (arg9 : Memref sig .tc .vmem S1536x256 .fp8e5m2) (harg9 : arg9.IsWhole) (arg10 : Memref sig .tc .vmem S12x1x256 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S2048x256 .f32) (harg13 : arg13.IsWhole) (arg14 : Memref sig .tc .vmem S1536x2048 .bf16) (harg14 : arg14.IsWhole) (arg15 : Memref sig .tc .vmem S1536x2048 .bf16) (harg15 : arg15.IsWhole) (arg16 : Memref sig .tc .vmem S1536x2048 .bf16) (harg16 : arg16.IsWhole) (hc0 : cond0_0 i)
    (x0 : Vec Ideal S1536x2048 .fp8e4m3) (x1 : Vec Ideal S12x1x2048 .f32) (x2 : Vec Ideal S1536x2048 .fp8e5m2) (x3 : Vec Ideal S12x1x2048 .f32) (x4 : Vec Ideal S1536x2048 .fp8e5m2) (x5 : Vec Ideal S12x1x2048 .f32) (x6 : Vec Ideal S1536x256 .fp8e4m3) (x7 : Vec Ideal S12x1x256 .f32) (x8 : Vec Ideal S1536x256 .fp8e5m2) (x9 : Vec Ideal S12x1x256 .f32) (t : Fin 1536) (f : Fin 2048) :
    sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 (ix2 t f) = Cols.wide (n := 2048) (φ := .fp8e5m2) x4 x5 t f := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg14.read_unread, harg15.read_unread, harg16.read_unread,
    View.ld_unit_zero (S := S1536x2048) hz, View.ld_unit_zero (S := S1536x256) hz, shapeCast_self]
  · unfold k0_pay46
    rw [shapeCast_self]
    exact Cols.tiles_apply (n := 2048) (φ := .fp8e5m2) x4 x5 (by decide) shapeCasts_S1x1x2048_S1x2048 (by decide)
      broadcasts_S1x2048_S128x2048 (by decide) concatenates_S128x2048_S128x2048_S128x2048_S128x2048_S128x2048_S128x2048_S128x2048_S128x2048_S128x2048_S128x2048_S128x2048_S128x2048_S1536x2048_d0 t f

/-- Case A leaves in output block 10 the product of the widened x columns with the widened gradient columns. -/
theorem o10_A (c : Dev nD) (i : grid0.Coords) (arg1 : Memref sig .tc .vmem S1536x2048 .fp8e4m3) (harg1 : arg1.IsWhole) (arg2 : Memref sig .tc .vmem S12x1x2048 .f32) (harg2 : arg2.IsWhole) (arg3 : Memref sig .tc .vmem S1536x2048 .fp8e5m2) (harg3 : arg3.IsWhole) (arg4 : Memref sig .tc .vmem S12x1x2048 .f32) (harg4 : arg4.IsWhole) (arg5 : Memref sig .tc .vmem S1536x2048 .fp8e5m2) (harg5 : arg5.IsWhole) (arg6 : Memref sig .tc .vmem S12x1x2048 .f32) (harg6 : arg6.IsWhole) (arg7 : Memref sig .tc .vmem S1536x256 .fp8e4m3) (harg7 : arg7.IsWhole) (arg8 : Memref sig .tc .vmem S12x1x256 .f32) (harg8 : arg8.IsWhole) (arg9 : Memref sig .tc .vmem S1536x256 .fp8e5m2) (harg9 : arg9.IsWhole) (arg10 : Memref sig .tc .vmem S12x1x256 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S2048x256 .f32) (harg13 : arg13.IsWhole) (arg14 : Memref sig .tc .vmem S1536x2048 .bf16) (harg14 : arg14.IsWhole) (arg15 : Memref sig .tc .vmem S1536x2048 .bf16) (harg15 : arg15.IsWhole) (arg16 : Memref sig .tc .vmem S1536x2048 .bf16) (harg16 : arg16.IsWhole) (hc0 : cond0_0 i)
    (x0 : Vec Ideal S1536x2048 .fp8e4m3) (x1 : Vec Ideal S12x1x2048 .f32) (x2 : Vec Ideal S1536x2048 .fp8e5m2) (x3 : Vec Ideal S12x1x2048 .f32) (x4 : Vec Ideal S1536x2048 .fp8e5m2) (x5 : Vec Ideal S12x1x2048 .f32) (x6 : Vec Ideal S1536x256 .fp8e4m3) (x7 : Vec Ideal S12x1x256 .f32) (x8 : Vec Ideal S1536x256 .fp8e5m2) (x9 : Vec Ideal S12x1x256 .f32) (d : Fin 256) (f : Fin 2048) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 (ix2 d f) = ∑ t : Fin 1536, Cols.wide (n := 256) (φ := .fp8e4m3) x6 x7 t d * Cols.wide (n := 2048) (φ := .fp8e5m2) x2 x3 t f := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9)]
  unfold kernelRun0_A
  dsimp only
  sl_unfold_words
  rw [View.canon_unit_zero hz]
  rw [View.readCov_unit_zero (S := S1536x2048) _ hz]
  simp only [View.readAt_eq_ld, harg1.read_unread, harg2.read_unread, harg3.read_unread, harg4.read_unread, harg5.read_unread, harg6.read_unread, harg7.read_unread, harg8.read_unread, harg9.read_unread, harg10.read_unread, harg14.read_unread, harg15.read_unread, harg16.read_unread,
    View.ld_unit_zero (S := S1536x2048) hz, View.ld_unit_zero (S := S1536x256) hz, shapeCast_self]
  unfold k0_pay59
  refine (Cols.matmul_apply (φ₁ := .bf16) (φ₂ := .bf16) _ rfl none _ _ d f).trans (Finset.sum_congr rfl fun t _ => ?_)
  refine congrArg₂ (· * ·) ?_ ?_
  · unfold k0_pay58
    exact Cols.tiles_apply (n := 256) (φ := .fp8e4m3) x6 x7 (by decide) shapeCasts_S1x1x256_S1x256 (by decide)
      broadcasts_S1x256_S128x256 (by decide) concatenates_S128x256_S128x256_S128x256_S128x256_S128x256_S128x256_S128x256_S128x256_S128x256_S128x256_S128x256_S128x256_S1536x256_d0 t d
  · unfold k0_pay32
    rw [shapeCast_self]
    exact Cols.tiles_apply (n := 2048) (φ := .fp8e5m2) x2 x3 (by decide) shapeCasts_S1x1x2048_S1x2048 (by decide)
      broadcasts_S1x2048_S128x2048 (by decide) concatenates_S128x2048_S128x2048_S128x2048_S128x2048_S128x2048_S128x2048_S128x2048_S128x2048_S128x2048_S128x2048_S128x2048_S128x2048_S1536x2048_d0 t f

/-- Case A leaves in output block 11 the product of the widened x columns with the widened gradient columns. -/
theorem o11_A (c : Dev nD) (i : grid0.Coords) (arg1 : Memref sig .tc .vmem S1536x2048 .fp8e4m3) (harg1 : arg1.IsWhole) (arg2 : Memref sig .tc .vmem S12x1x2048 .f32) (harg2 : arg2.IsWhole) (arg3 : Memref sig .tc .vmem S1536x2048 .fp8e5m2) (harg3 : arg3.IsWhole) (arg4 : Memref sig .tc .vmem S12x1x2048 .f32) (harg4 : arg4.IsWhole) (arg5 : Memref sig .tc .vmem S1536x2048 .fp8e5m2) (harg5 : arg5.IsWhole) (arg6 : Memref sig .tc .vmem S12x1x2048 .f32) (harg6 : arg6.IsWhole) (arg7 : Memref sig .tc .vmem S1536x256 .fp8e4m3) (harg7 : arg7.IsWhole) (arg8 : Memref sig .tc .vmem S12x1x256 .f32) (harg8 : arg8.IsWhole) (arg9 : Memref sig .tc .vmem S1536x256 .fp8e5m2) (harg9 : arg9.IsWhole) (arg10 : Memref sig .tc .vmem S12x1x256 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S2048x256 .f32) (harg13 : arg13.IsWhole) (arg14 : Memref sig .tc .vmem S1536x2048 .bf16) (harg14 : arg14.IsWhole) (arg15 : Memref sig .tc .vmem S1536x2048 .bf16) (harg15 : arg15.IsWhole) (arg16 : Memref sig .tc .vmem S1536x2048 .bf16) (harg16 : arg16.IsWhole) (hc0 : cond0_0 i)
    (x0 : Vec Ideal S1536x2048 .fp8e4m3) (x1 : Vec Ideal S12x1x2048 .f32) (x2 : Vec Ideal S1536x2048 .fp8e5m2) (x3 : Vec Ideal S12x1x2048 .f32) (x4 : Vec Ideal S1536x2048 .fp8e5m2) (x5 : Vec Ideal S12x1x2048 .f32) (x6 : Vec Ideal S1536x256 .fp8e4m3) (x7 : Vec Ideal S12x1x256 .f32) (x8 : Vec Ideal S1536x256 .fp8e5m2) (x9 : Vec Ideal S12x1x256 .f32) (d : Fin 256) (f : Fin 2048) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 (ix2 d f) = ∑ t : Fin 1536, Cols.wide (n := 256) (φ := .fp8e4m3) x6 x7 t d * Cols.wide (n := 2048) (φ := .fp8e5m2) x4 x5 t f := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9)]
  unfold kernelRun0_A
  dsimp only
  sl_unfold_words
  rw [View.canon_unit_zero hz]
  rw [View.readCov_unit_zero (S := S1536x2048) _ hz]
  simp only [View.readAt_eq_ld, harg1.read_unread, harg2.read_unread, harg3.read_unread, harg4.read_unread, harg5.read_unread, harg6.read_unread, harg7.read_unread, harg8.read_unread, harg9.read_unread, harg10.read_unread, harg14.read_unread, harg15.read_unread, harg16.read_unread,
    View.ld_unit_zero (S := S1536x2048) hz, View.ld_unit_zero (S := S1536x256) hz, shapeCast_self]
  unfold k0_pay60
  refine (Cols.matmul_apply (φ₁ := .bf16) (φ₂ := .bf16) _ rfl none _ _ d f).trans (Finset.sum_congr rfl fun t _ => ?_)
  refine congrArg₂ (· * ·) ?_ ?_
  · unfold k0_pay58
    exact Cols.tiles_apply (n := 256) (φ := .fp8e4m3) x6 x7 (by decide) shapeCasts_S1x1x256_S1x256 (by decide)
      broadcasts_S1x256_S128x256 (by decide) concatenates_S128x256_S128x256_S128x256_S128x256_S128x256_S128x256_S128x256_S128x256_S128x256_S128x256_S128x256_S128x256_S1536x256_d0 t d
  · unfold k0_pay46
    rw [shapeCast_self]
    exact Cols.tiles_apply (n := 2048) (φ := .fp8e5m2) x4 x5 (by decide) shapeCasts_S1x1x2048_S1x2048 (by decide)
      broadcasts_S1x2048_S128x2048 (by decide) concatenates_S128x2048_S128x2048_S128x2048_S128x2048_S128x2048_S128x2048_S128x2048_S128x2048_S128x2048_S128x2048_S128x2048_S128x2048_S1536x2048_d0 t f

/-- Case A leaves in output block 12 the product of the widened hidden columns with the widened dy columns. -/
theorem o12_A (c : Dev nD) (i : grid0.Coords) (arg1 : Memref sig .tc .vmem S1536x2048 .fp8e4m3) (harg1 : arg1.IsWhole) (arg2 : Memref sig .tc .vmem S12x1x2048 .f32) (harg2 : arg2.IsWhole) (arg3 : Memref sig .tc .vmem S1536x2048 .fp8e5m2) (harg3 : arg3.IsWhole) (arg4 : Memref sig .tc .vmem S12x1x2048 .f32) (harg4 : arg4.IsWhole) (arg5 : Memref sig .tc .vmem S1536x2048 .fp8e5m2) (harg5 : arg5.IsWhole) (arg6 : Memref sig .tc .vmem S12x1x2048 .f32) (harg6 : arg6.IsWhole) (arg7 : Memref sig .tc .vmem S1536x256 .fp8e4m3) (harg7 : arg7.IsWhole) (arg8 : Memref sig .tc .vmem S12x1x256 .f32) (harg8 : arg8.IsWhole) (arg9 : Memref sig .tc .vmem S1536x256 .fp8e5m2) (harg9 : arg9.IsWhole) (arg10 : Memref sig .tc .vmem S12x1x256 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S2048x256 .f32) (harg13 : arg13.IsWhole) (arg14 : Memref sig .tc .vmem S1536x2048 .bf16) (harg14 : arg14.IsWhole) (arg15 : Memref sig .tc .vmem S1536x2048 .bf16) (harg15 : arg15.IsWhole) (arg16 : Memref sig .tc .vmem S1536x2048 .bf16) (harg16 : arg16.IsWhole) (hc0 : cond0_0 i)
    (x0 : Vec Ideal S1536x2048 .fp8e4m3) (x1 : Vec Ideal S12x1x2048 .f32) (x2 : Vec Ideal S1536x2048 .fp8e5m2) (x3 : Vec Ideal S12x1x2048 .f32) (x4 : Vec Ideal S1536x2048 .fp8e5m2) (x5 : Vec Ideal S12x1x2048 .f32) (x6 : Vec Ideal S1536x256 .fp8e4m3) (x7 : Vec Ideal S12x1x256 .f32) (x8 : Vec Ideal S1536x256 .fp8e5m2) (x9 : Vec Ideal S12x1x256 .f32) (f : Fin 2048) (d : Fin 256) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 (ix2 f d) = ∑ t : Fin 1536, Cols.wide (n := 2048) (φ := .fp8e4m3) x0 x1 t f * Cols.wide (n := 256) (φ := .fp8e5m2) x8 x9 t d := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9)]
  unfold kernelRun0_A
  dsimp only
  sl_unfold_words
  rw [View.canon_unit_zero hz]
  rw [View.readCov_unit_zero (S := S1536x2048) _ hz]
  simp only [View.readAt_eq_ld, harg1.read_unread, harg2.read_unread, harg3.read_unread, harg4.read_unread, harg5.read_unread, harg6.read_unread, harg7.read_unread, harg8.read_unread, harg9.read_unread, harg10.read_unread, harg14.read_unread, harg15.read_unread, harg16.read_unread,
    View.ld_unit_zero (S := S1536x2048) hz, View.ld_unit_zero (S := S1536x256) hz, shapeCast_self]
  unfold k0_pay1
  refine (Cols.matmul_apply (φ₁ := .bf16) (φ₂ := .bf16) _ rfl none _ _ f d).trans (Finset.sum_congr rfl fun t _ => ?_)
  refine congrArg₂ (· * ·) ?_ ?_
  · unfold k0_pay17
    rw [shapeCast_self]
    exact Cols.tiles_apply (n := 2048) (φ := .fp8e4m3) x0 x1 (by decide) shapeCasts_S1x1x2048_S1x2048 (by decide)
      broadcasts_S1x2048_S128x2048 (by decide) concatenates_S128x2048_S128x2048_S128x2048_S128x2048_S128x2048_S128x2048_S128x2048_S128x2048_S128x2048_S128x2048_S128x2048_S128x2048_S1536x2048_d0 t f
  · exact Cols.tiles_apply (n := 256) (φ := .fp8e5m2) x8 x9 (by decide) shapeCasts_S1x1x256_S1x256 (by decide)
      broadcasts_S1x256_S128x256 (by decide) concatenates_S128x256_S128x256_S128x256_S128x256_S128x256_S128x256_S128x256_S128x256_S128x256_S128x256_S128x256_S128x256_S1536x256_d0 t d

/-- Case B leaves in output block 10 the product of the widened x columns with the widened gradient columns. -/
theorem o10_B (c : Dev nD) (i : grid0.Coords) (arg1 : Memref sig .tc .vmem S1536x2048 .fp8e4m3) (harg1 : arg1.IsWhole) (arg2 : Memref sig .tc .vmem S12x1x2048 .f32) (harg2 : arg2.IsWhole) (arg3 : Memref sig .tc .vmem S1536x2048 .fp8e5m2) (harg3 : arg3.IsWhole) (arg4 : Memref sig .tc .vmem S12x1x2048 .f32) (harg4 : arg4.IsWhole) (arg5 : Memref sig .tc .vmem S1536x2048 .fp8e5m2) (harg5 : arg5.IsWhole) (arg6 : Memref sig .tc .vmem S12x1x2048 .f32) (harg6 : arg6.IsWhole) (arg7 : Memref sig .tc .vmem S1536x256 .fp8e4m3) (harg7 : arg7.IsWhole) (arg8 : Memref sig .tc .vmem S12x1x256 .f32) (harg8 : arg8.IsWhole) (arg9 : Memref sig .tc .vmem S1536x256 .fp8e5m2) (harg9 : arg9.IsWhole) (arg10 : Memref sig .tc .vmem S12x1x256 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S2048x256 .f32) (harg13 : arg13.IsWhole) (arg14 : Memref sig .tc .vmem S1536x2048 .bf16) (harg14 : arg14.IsWhole) (arg15 : Memref sig .tc .vmem S1536x2048 .bf16) (harg15 : arg15.IsWhole) (arg16 : Memref sig .tc .vmem S1536x2048 .bf16) (harg16 : arg16.IsWhole) (hc0 : ¬cond0_0 i)
    (x0 : Vec Ideal S1536x2048 .fp8e4m3) (x1 : Vec Ideal S12x1x2048 .f32) (x2 : Vec Ideal S1536x2048 .fp8e5m2) (x3 : Vec Ideal S12x1x2048 .f32) (x4 : Vec Ideal S1536x2048 .fp8e5m2) (x5 : Vec Ideal S12x1x2048 .f32) (x6 : Vec Ideal S1536x256 .fp8e4m3) (x7 : Vec Ideal S12x1x256 .f32) (x8 : Vec Ideal S1536x256 .fp8e5m2) (x9 : Vec Ideal S12x1x256 .f32) (xs0 : Vec Ideal S1536x2048 .bf16) (xs1 : Vec Ideal S1536x2048 .bf16) (xs2 : Vec Ideal S1536x2048 .bf16) (d : Fin 256) (f : Fin 2048) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs1 xs2 (ix2 d f) = ∑ t : Fin 1536, Cols.wide (n := 256) (φ := .fp8e4m3) x6 x7 t d * (xs1 (ix2 t f) : EReal) := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs1 xs2)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg14.read_unread, harg15.read_unread, harg16.read_unread,
    View.ld_unit_zero (S := S1536x2048) hz, View.ld_unit_zero (S := S1536x256) hz, shapeCast_self]
  unfold k0_pay59
  refine (Cols.matmul_apply (φ₁ := .bf16) (φ₂ := .bf16) _ rfl none _ _ d f).trans (Finset.sum_congr rfl fun t _ => ?_)
  refine congrArg₂ (· * ·) ?_ ?_
  · unfold k0_pay58
    exact Cols.tiles_apply (n := 256) (φ := .fp8e4m3) x6 x7 (by decide) shapeCasts_S1x1x256_S1x256 (by decide)
      broadcasts_S1x256_S128x256 (by decide) concatenates_S128x256_S128x256_S128x256_S128x256_S128x256_S128x256_S128x256_S128x256_S128x256_S128x256_S128x256_S128x256_S1536x256_d0 t d
  · rfl

/-- Case B leaves in output block 11 the product of the widened x columns with the widened gradient columns. -/
theorem o11_B (c : Dev nD) (i : grid0.Coords) (arg1 : Memref sig .tc .vmem S1536x2048 .fp8e4m3) (harg1 : arg1.IsWhole) (arg2 : Memref sig .tc .vmem S12x1x2048 .f32) (harg2 : arg2.IsWhole) (arg3 : Memref sig .tc .vmem S1536x2048 .fp8e5m2) (harg3 : arg3.IsWhole) (arg4 : Memref sig .tc .vmem S12x1x2048 .f32) (harg4 : arg4.IsWhole) (arg5 : Memref sig .tc .vmem S1536x2048 .fp8e5m2) (harg5 : arg5.IsWhole) (arg6 : Memref sig .tc .vmem S12x1x2048 .f32) (harg6 : arg6.IsWhole) (arg7 : Memref sig .tc .vmem S1536x256 .fp8e4m3) (harg7 : arg7.IsWhole) (arg8 : Memref sig .tc .vmem S12x1x256 .f32) (harg8 : arg8.IsWhole) (arg9 : Memref sig .tc .vmem S1536x256 .fp8e5m2) (harg9 : arg9.IsWhole) (arg10 : Memref sig .tc .vmem S12x1x256 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S2048x256 .f32) (harg13 : arg13.IsWhole) (arg14 : Memref sig .tc .vmem S1536x2048 .bf16) (harg14 : arg14.IsWhole) (arg15 : Memref sig .tc .vmem S1536x2048 .bf16) (harg15 : arg15.IsWhole) (arg16 : Memref sig .tc .vmem S1536x2048 .bf16) (harg16 : arg16.IsWhole) (hc0 : ¬cond0_0 i)
    (x0 : Vec Ideal S1536x2048 .fp8e4m3) (x1 : Vec Ideal S12x1x2048 .f32) (x2 : Vec Ideal S1536x2048 .fp8e5m2) (x3 : Vec Ideal S12x1x2048 .f32) (x4 : Vec Ideal S1536x2048 .fp8e5m2) (x5 : Vec Ideal S12x1x2048 .f32) (x6 : Vec Ideal S1536x256 .fp8e4m3) (x7 : Vec Ideal S12x1x256 .f32) (x8 : Vec Ideal S1536x256 .fp8e5m2) (x9 : Vec Ideal S12x1x256 .f32) (xs0 : Vec Ideal S1536x2048 .bf16) (xs1 : Vec Ideal S1536x2048 .bf16) (xs2 : Vec Ideal S1536x2048 .bf16) (d : Fin 256) (f : Fin 2048) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs1 xs2 (ix2 d f) = ∑ t : Fin 1536, Cols.wide (n := 256) (φ := .fp8e4m3) x6 x7 t d * (xs2 (ix2 t f) : EReal) := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs1 xs2)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg14.read_unread, harg15.read_unread, harg16.read_unread,
    View.ld_unit_zero (S := S1536x2048) hz, View.ld_unit_zero (S := S1536x256) hz, shapeCast_self]
  unfold k0_pay60
  refine (Cols.matmul_apply (φ₁ := .bf16) (φ₂ := .bf16) _ rfl none _ _ d f).trans (Finset.sum_congr rfl fun t _ => ?_)
  refine congrArg₂ (· * ·) ?_ ?_
  · unfold k0_pay58
    exact Cols.tiles_apply (n := 256) (φ := .fp8e4m3) x6 x7 (by decide) shapeCasts_S1x1x256_S1x256 (by decide)
      broadcasts_S1x256_S128x256 (by decide) concatenates_S128x256_S128x256_S128x256_S128x256_S128x256_S128x256_S128x256_S128x256_S128x256_S128x256_S128x256_S128x256_S1536x256_d0 t d
  · rfl

/-- Case B leaves in output block 12 the product of the widened hidden columns with the widened dy columns. -/
theorem o12_B (c : Dev nD) (i : grid0.Coords) (arg1 : Memref sig .tc .vmem S1536x2048 .fp8e4m3) (harg1 : arg1.IsWhole) (arg2 : Memref sig .tc .vmem S12x1x2048 .f32) (harg2 : arg2.IsWhole) (arg3 : Memref sig .tc .vmem S1536x2048 .fp8e5m2) (harg3 : arg3.IsWhole) (arg4 : Memref sig .tc .vmem S12x1x2048 .f32) (harg4 : arg4.IsWhole) (arg5 : Memref sig .tc .vmem S1536x2048 .fp8e5m2) (harg5 : arg5.IsWhole) (arg6 : Memref sig .tc .vmem S12x1x2048 .f32) (harg6 : arg6.IsWhole) (arg7 : Memref sig .tc .vmem S1536x256 .fp8e4m3) (harg7 : arg7.IsWhole) (arg8 : Memref sig .tc .vmem S12x1x256 .f32) (harg8 : arg8.IsWhole) (arg9 : Memref sig .tc .vmem S1536x256 .fp8e5m2) (harg9 : arg9.IsWhole) (arg10 : Memref sig .tc .vmem S12x1x256 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S2048x256 .f32) (harg13 : arg13.IsWhole) (arg14 : Memref sig .tc .vmem S1536x2048 .bf16) (harg14 : arg14.IsWhole) (arg15 : Memref sig .tc .vmem S1536x2048 .bf16) (harg15 : arg15.IsWhole) (arg16 : Memref sig .tc .vmem S1536x2048 .bf16) (harg16 : arg16.IsWhole) (hc0 : ¬cond0_0 i)
    (x0 : Vec Ideal S1536x2048 .fp8e4m3) (x1 : Vec Ideal S12x1x2048 .f32) (x2 : Vec Ideal S1536x2048 .fp8e5m2) (x3 : Vec Ideal S12x1x2048 .f32) (x4 : Vec Ideal S1536x2048 .fp8e5m2) (x5 : Vec Ideal S12x1x2048 .f32) (x6 : Vec Ideal S1536x256 .fp8e4m3) (x7 : Vec Ideal S12x1x256 .f32) (x8 : Vec Ideal S1536x256 .fp8e5m2) (x9 : Vec Ideal S12x1x256 .f32) (xs0 : Vec Ideal S1536x2048 .bf16) (xs1 : Vec Ideal S1536x2048 .bf16) (xs2 : Vec Ideal S1536x2048 .bf16) (f : Fin 2048) (d : Fin 256) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs1 xs2 (ix2 f d) = ∑ t : Fin 1536, (xs0 (ix2 t f) : EReal) * Cols.wide (n := 256) (φ := .fp8e5m2) x8 x9 t d := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 xs1 xs2)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg14.read_unread, harg15.read_unread, harg16.read_unread,
    View.ld_unit_zero (S := S1536x2048) hz, View.ld_unit_zero (S := S1536x256) hz, shapeCast_self]
  unfold k0_pay1
  refine (Cols.matmul_apply (φ₁ := .bf16) (φ₂ := .bf16) _ rfl none _ _ f d).trans (Finset.sum_congr rfl fun t _ => ?_)
  refine congrArg₂ (· * ·) ?_ ?_
  · rfl
  · exact Cols.tiles_apply (n := 256) (φ := .fp8e5m2) x8 x9 (by decide) shapeCasts_S1x1x256_S1x256 (by decide)
      broadcasts_S1x256_S128x256 (by decide) concatenates_S128x256_S128x256_S128x256_S128x256_S128x256_S128x256_S128x256_S128x256_S128x256_S128x256_S128x256_S128x256_S1536x256_d0 t d

end Cert.GradIdeal.Body
-- ==== Proof.GradKernel.lean ====
/- The gradient call's results at the ideal values, as sums over the 1536 tokens of the whole argument arrays: the
   scratch operands hold the widened arrays from the first point on, and each point's column block is a block of the
   whole product. -/
module

public import proofs.«01_k».proof.Proof.Gen.GradIdeal.Value
public import proofs.«01_k».proof.Proof.GradBody

@[expose] public section

namespace Cert.GradIdeal.Kernel

open Idealize Idealize.ShloMosaic Idealize.ShloMosaic.ValueIdx
open Idealize.ShloMosaic.TcCoe
open Cert.GradIdeal Cert.GradIdeal.Gen Cert.GradIdeal.Body

noncomputable section

variable (m : (ℓ : Loc nD τ sig) → Buf (Elt Ideal) ℓ)

/-- Argument 0, the whole array. -/
abbrev arr0 (c : Dev nD) : Vec Ideal S1536x2048 .fp8e4m3 := m ((c : Thread nD τ).loc main_arg0)

/-- Argument 1, the whole array. -/
abbrev arr1 (c : Dev nD) : Vec Ideal S12x1x2048 .f32 := m ((c : Thread nD τ).loc main_arg1)

/-- Argument 2, the whole array. -/
abbrev arr2 (c : Dev nD) : Vec Ideal S1536x2048 .fp8e5m2 := m ((c : Thread nD τ).loc main_arg2)

/-- Argument 3, the whole array. -/
abbrev arr3 (c : Dev nD) : Vec Ideal S12x1x2048 .f32 := m ((c : Thread nD τ).loc main_arg3)

/-- Argument 4, the whole array. -/
abbrev arr4 (c : Dev nD) : Vec Ideal S1536x2048 .fp8e5m2 := m ((c : Thread nD τ).loc main_arg4)

/-- Argument 5, the whole array. -/
abbrev arr5 (c : Dev nD) : Vec Ideal S12x1x2048 .f32 := m ((c : Thread nD τ).loc main_arg5)

/-- Argument 6, the whole array. -/
abbrev arr6 (c : Dev nD) : Vec Ideal S1536x7168 .fp8e4m3 := m ((c : Thread nD τ).loc main_arg6)

/-- Argument 7, the whole array. -/
abbrev arr7 (c : Dev nD) : Vec Ideal S12x1x7168 .f32 := m ((c : Thread nD τ).loc main_arg7)

/-- Argument 8, the whole array. -/
abbrev arr8 (c : Dev nD) : Vec Ideal S1536x7168 .fp8e5m2 := m ((c : Thread nD τ).loc main_arg8)

/-- Argument 9, the whole array. -/
abbrev arr9 (c : Dev nD) : Vec Ideal S12x1x7168 .f32 := m ((c : Thread nD τ).loc main_arg9)

theorem idx0 : ∀ t : Fin cfg0.N, win0_0.index t 0 = 0 ∧ win0_0.index t 1 = 0 := by decide

/-- Window 0 is the whole array at every point. -/
theorem blk0 (c : Dev nD) (t : Fin cfg0.N) : iblk m c 0 t = arr0 m c := by
  have hi := idx0 t
  funext j
  unfold iblk
  rw [View.read_apply]
  show V m c main_arg0 _ = m (c.tc.loc main_arg0) _
  unfold V
  congr 1
  funext a
  apply Fin.ext
  match a with
    | ⟨0, _⟩ => show win0_0.index t 0 * 1536 + 1 * (j 0).val = (j 0).val; rw [hi.1]; omega
    | ⟨1, _⟩ => show win0_0.index t 1 * 2048 + 1 * (j 1).val = (j 1).val; rw [hi.2]; omega

theorem idx1 : ∀ t : Fin cfg0.N, win0_1.index t 0 = 0 ∧ win0_1.index t 1 = 0 ∧ win0_1.index t 2 = 0 := by decide

/-- Window 1 is the whole array at every point. -/
theorem blk1 (c : Dev nD) (t : Fin cfg0.N) : iblk m c 1 t = arr1 m c := by
  have hi := idx1 t
  funext j
  unfold iblk
  rw [View.read_apply]
  show V m c main_arg1 _ = m (c.tc.loc main_arg1) _
  unfold V
  congr 1
  funext a
  apply Fin.ext
  match a with
    | ⟨0, _⟩ => show win0_1.index t 0 * 12 + 1 * (j 0).val = (j 0).val; rw [hi.1]; omega
    | ⟨1, _⟩ => show win0_1.index t 1 * 1 + 1 * (j 1).val = (j 1).val; rw [hi.2.1]; omega
    | ⟨2, _⟩ => show win0_1.index t 2 * 2048 + 1 * (j 2).val = (j 2).val; rw [hi.2.2]; omega

theorem idx2 : ∀ t : Fin cfg0.N, win0_2.index t 0 = 0 ∧ win0_2.index t 1 = 0 := by decide

/-- Window 2 is the whole array at every point. -/
theorem blk2 (c : Dev nD) (t : Fin cfg0.N) : iblk m c 2 t = arr2 m c := by
  have hi := idx2 t
  funext j
  unfold iblk
  rw [View.read_apply]
  show V m c main_arg2 _ = m (c.tc.loc main_arg2) _
  unfold V
  congr 1
  funext a
  apply Fin.ext
  match a with
    | ⟨0, _⟩ => show win0_2.index t 0 * 1536 + 1 * (j 0).val = (j 0).val; rw [hi.1]; omega
    | ⟨1, _⟩ => show win0_2.index t 1 * 2048 + 1 * (j 1).val = (j 1).val; rw [hi.2]; omega

theorem idx3 : ∀ t : Fin cfg0.N, win0_3.index t 0 = 0 ∧ win0_3.index t 1 = 0 ∧ win0_3.index t 2 = 0 := by decide

/-- Window 3 is the whole array at every point. -/
theorem blk3 (c : Dev nD) (t : Fin cfg0.N) : iblk m c 3 t = arr3 m c := by
  have hi := idx3 t
  funext j
  unfold iblk
  rw [View.read_apply]
  show V m c main_arg3 _ = m (c.tc.loc main_arg3) _
  unfold V
  congr 1
  funext a
  apply Fin.ext
  match a with
    | ⟨0, _⟩ => show win0_3.index t 0 * 12 + 1 * (j 0).val = (j 0).val; rw [hi.1]; omega
    | ⟨1, _⟩ => show win0_3.index t 1 * 1 + 1 * (j 1).val = (j 1).val; rw [hi.2.1]; omega
    | ⟨2, _⟩ => show win0_3.index t 2 * 2048 + 1 * (j 2).val = (j 2).val; rw [hi.2.2]; omega

theorem idx4 : ∀ t : Fin cfg0.N, win0_4.index t 0 = 0 ∧ win0_4.index t 1 = 0 := by decide

/-- Window 4 is the whole array at every point. -/
theorem blk4 (c : Dev nD) (t : Fin cfg0.N) : iblk m c 4 t = arr4 m c := by
  have hi := idx4 t
  funext j
  unfold iblk
  rw [View.read_apply]
  show V m c main_arg4 _ = m (c.tc.loc main_arg4) _
  unfold V
  congr 1
  funext a
  apply Fin.ext
  match a with
    | ⟨0, _⟩ => show win0_4.index t 0 * 1536 + 1 * (j 0).val = (j 0).val; rw [hi.1]; omega
    | ⟨1, _⟩ => show win0_4.index t 1 * 2048 + 1 * (j 1).val = (j 1).val; rw [hi.2]; omega

theorem idx5 : ∀ t : Fin cfg0.N, win0_5.index t 0 = 0 ∧ win0_5.index t 1 = 0 ∧ win0_5.index t 2 = 0 := by decide

/-- Window 5 is the whole array at every point. -/
theorem blk5 (c : Dev nD) (t : Fin cfg0.N) : iblk m c 5 t = arr5 m c := by
  have hi := idx5 t
  funext j
  unfold iblk
  rw [View.read_apply]
  show V m c main_arg5 _ = m (c.tc.loc main_arg5) _
  unfold V
  congr 1
  funext a
  apply Fin.ext
  match a with
    | ⟨0, _⟩ => show win0_5.index t 0 * 12 + 1 * (j 0).val = (j 0).val; rw [hi.1]; omega
    | ⟨1, _⟩ => show win0_5.index t 1 * 1 + 1 * (j 1).val = (j 1).val; rw [hi.2.1]; omega
    | ⟨2, _⟩ => show win0_5.index t 2 * 2048 + 1 * (j 2).val = (j 2).val; rw [hi.2.2]; omega

theorem idx6 : ∀ t : Fin cfg0.N, win0_6.index t 0 = 0 ∧ win0_6.index t 1 = t.val := by decide

/-- Window 6 at point `t` is column block `t` of the array. -/
theorem blk6 (c : Dev nD) (t : Fin cfg0.N) (r : Fin 1536) (d : Fin 256) (e : Fin 7168) (he : e.val = t.val * 256 + d.val) :
    (iblk m c 6 t : Vec Ideal S1536x256 .fp8e4m3) (ix2 r d) = arr6 m c (ix2 r e) := by
  have hi := idx6 t
  unfold iblk
  rw [View.read_apply]
  show V m c main_arg6 _ = m (c.tc.loc main_arg6) _
  unfold V
  congr 1
  funext a
  apply Fin.ext
  match a with
  | ⟨0, _⟩ => show win0_6.index t 0 * 1536 + 1 * r.val = r.val; rw [hi.1]; omega
  | ⟨1, _⟩ => show win0_6.index t 1 * 256 + 1 * d.val = e.val; rw [hi.2]; omega

theorem idx7 : ∀ t : Fin cfg0.N, win0_7.index t 0 = 0 ∧ win0_7.index t 1 = 0 ∧ win0_7.index t 2 = t.val := by decide

/-- Window 7 at point `t` is column block `t` of the array. -/
theorem blk7 (c : Dev nD) (t : Fin cfg0.N) (r : Fin 12) (d : Fin 256) (e : Fin 7168) (he : e.val = t.val * 256 + d.val) :
    (iblk m c 7 t : Vec Ideal S12x1x256 .f32) (ix3 r 0 d) = arr7 m c (ix3 r 0 e) := by
  have hi := idx7 t
  unfold iblk
  rw [View.read_apply]
  show V m c main_arg7 _ = m (c.tc.loc main_arg7) _
  unfold V
  congr 1
  funext a
  apply Fin.ext
  match a with
  | ⟨0, _⟩ => show win0_7.index t 0 * 12 + 1 * r.val = r.val; rw [hi.1]; omega
  | ⟨1, _⟩ => show win0_7.index t 1 * 1 + 1 * 0 = 0; rw [hi.2.1]
  | ⟨2, _⟩ => show win0_7.index t 2 * 256 + 1 * d.val = e.val; rw [hi.2.2]; omega

theorem idx8 : ∀ t : Fin cfg0.N, win0_8.index t 0 = 0 ∧ win0_8.index t 1 = t.val := by decide

/-- Window 8 at point `t` is column block `t` of the array. -/
theorem blk8 (c : Dev nD) (t : Fin cfg0.N) (r : Fin 1536) (d : Fin 256) (e : Fin 7168) (he : e.val = t.val * 256 + d.val) :
    (iblk m c 8 t : Vec Ideal S1536x256 .fp8e5m2) (ix2 r d) = arr8 m c (ix2 r e) := by
  have hi := idx8 t
  unfold iblk
  rw [View.read_apply]
  show V m c main_arg8 _ = m (c.tc.loc main_arg8) _
  unfold V
  congr 1
  funext a
  apply Fin.ext
  match a with
  | ⟨0, _⟩ => show win0_8.index t 0 * 1536 + 1 * r.val = r.val; rw [hi.1]; omega
  | ⟨1, _⟩ => show win0_8.index t 1 * 256 + 1 * d.val = e.val; rw [hi.2]; omega

theorem idx9 : ∀ t : Fin cfg0.N, win0_9.index t 0 = 0 ∧ win0_9.index t 1 = 0 ∧ win0_9.index t 2 = t.val := by decide

/-- Window 9 at point `t` is column block `t` of the array. -/
theorem blk9 (c : Dev nD) (t : Fin cfg0.N) (r : Fin 12) (d : Fin 256) (e : Fin 7168) (he : e.val = t.val * 256 + d.val) :
    (iblk m c 9 t : Vec Ideal S12x1x256 .f32) (ix3 r 0 d) = arr9 m c (ix3 r 0 e) := by
  have hi := idx9 t
  unfold iblk
  rw [View.read_apply]
  show V m c main_arg9 _ = m (c.tc.loc main_arg9) _
  unfold V
  congr 1
  funext a
  apply Fin.ext
  match a with
  | ⟨0, _⟩ => show win0_9.index t 0 * 12 + 1 * r.val = r.val; rw [hi.1]; omega
  | ⟨1, _⟩ => show win0_9.index t 1 * 1 + 1 * 0 = 0; rw [hi.2.1]
  | ⟨2, _⟩ => show win0_9.index t 2 * 256 + 1 * d.val = e.val; rw [hi.2.2]; omega

/-- The widened column block of point `t` is a block of the widened whole array. -/
theorem wide_x (c : Dev nD) (t : Fin cfg0.N) (r : Fin 1536) (d : Fin 256) (e : Fin 7168) (he : e.val = t.val * 256 + d.val) :
    Cols.wide (n := 256) (φ := .fp8e4m3) (iblk m c 6 t) (iblk m c 7 t) r d = Cols.wide (n := 7168) (φ := .fp8e4m3) (arr6 m c) (arr7 m c) r e := by
  unfold Cols.wide
  exact congrArg₂ (· * ·) (blk6 m c t r d e he) (blk7 m c t _ d e he)

/-- The widened column block of point `t` is a block of the widened whole array. -/
theorem wide_dy (c : Dev nD) (t : Fin cfg0.N) (r : Fin 1536) (d : Fin 256) (e : Fin 7168) (he : e.val = t.val * 256 + d.val) :
    Cols.wide (n := 256) (φ := .fp8e5m2) (iblk m c 8 t) (iblk m c 9 t) r d = Cols.wide (n := 7168) (φ := .fp8e5m2) (arr8 m c) (arr9 m c) r e := by
  unfold Cols.wide
  exact congrArg₂ (· * ·) (blk8 m c t r d e he) (blk9 m c t _ d e he)

/-- What scratch 0 holds from the first point on. -/
def sc0 (c : Dev nD) : Vec Ideal S1536x2048 .bf16 := fun j => Cols.wide (n := 2048) (φ := .fp8e4m3) (arr0 m c) (arr1 m c) (j 0) (j 1)

/-- What scratch 1 holds from the first point on. -/
def sc1 (c : Dev nD) : Vec Ideal S1536x2048 .bf16 := fun j => Cols.wide (n := 2048) (φ := .fp8e5m2) (arr2 m c) (arr3 m c) (j 0) (j 1)

/-- What scratch 2 holds from the first point on. -/
def sc2 (c : Dev nD) : Vec Ideal S1536x2048 .bf16 := fun j => Cols.wide (n := 2048) (φ := .fp8e5m2) (arr4 m c) (arr5 m c) (j 0) (j 1)

/-- After every point the three scratch operands hold the widened arrays: the first point fills them, the others keep
    them. -/
theorem scr (c : Dev nD) : ∀ (n : ℕ) (hn : n < cfg0.N), (outsAt0 m c n hn).2.2.2 = (sc0 m c, sc1 m c, sc2 m c)
  | 0, hn => by
    rw [show outsAt0 m c 0 hn = _ from outsAt0_A m c ⟨0, hn⟩ rfl]
    refine Prod.ext ?_ (Prod.ext ?_ ?_)
    · funext j
      rw [eq_ix2 (n0 := 1536) (n1 := 2048) j]
      dsimp only
      refine (sc0_A ..).trans ?_
      rw [blk0, blk1]
      rfl
    · funext j
      rw [eq_ix2 (n0 := 1536) (n1 := 2048) j]
      dsimp only
      refine (sc1_A ..).trans ?_
      rw [blk2, blk3]
      rfl
    · funext j
      rw [eq_ix2 (n0 := 1536) (n1 := 2048) j]
      dsimp only
      refine (sc2_A ..).trans ?_
      rw [blk4, blk5]
      rfl
  | n + 1, hn => by
    have hN : cfg0.N = 28 := N_0
    have hB : ¬(⟨n + 1, hn⟩ : Fin cfg0.N).val % 28 = 0 := by dsimp only; omega
    rw [show outsAt0 m c (n + 1) hn = _ from outsAt0_B m c ⟨n + 1, hn⟩ hB]
    exact scr c n (Nat.lt_of_succ_lt hn)

/-- Point `t`'s block of output 10 is a block of the whole product. -/
theorem out10 (c : Dev nD) (t : Fin cfg0.N) (d : Fin 256) (f : Fin 2048) (e : Fin 7168) (he : e.val = t.val * 256 + d.val) :
    (outsAt0 m c t.val t.isLt).1 (ix2 d f) = ∑ r : Fin 1536, Cols.wide (n := 7168) (φ := .fp8e4m3) (arr6 m c) (arr7 m c) r e * sc1 m c (ix2 r f) := by
  by_cases h0 : t.val % 28 = 0
  · rw [outsAt0_A m c t h0]
    dsimp only
    refine (o10_A ..).trans (Finset.sum_congr rfl fun r _ => ?_)
    refine congrArg₂ (· * ·) (wide_x m c t r d e he) ?_
    rw [blk2, blk3]; rfl
  · rw [outsAt0_B m c t h0]
    dsimp only
    refine (o10_B ..).trans (Finset.sum_congr rfl fun r _ => ?_)
    refine congrArg₂ (· * ·) (wide_x m c t r d e he) ?_
    rw [scr]

/-- Point `t`'s block of output 11 is a block of the whole product. -/
theorem out11 (c : Dev nD) (t : Fin cfg0.N) (d : Fin 256) (f : Fin 2048) (e : Fin 7168) (he : e.val = t.val * 256 + d.val) :
    (outsAt0 m c t.val t.isLt).2.1 (ix2 d f) = ∑ r : Fin 1536, Cols.wide (n := 7168) (φ := .fp8e4m3) (arr6 m c) (arr7 m c) r e * sc2 m c (ix2 r f) := by
  by_cases h0 : t.val % 28 = 0
  · rw [outsAt0_A m c t h0]
    dsimp only
    refine (o11_A ..).trans (Finset.sum_congr rfl fun r _ => ?_)
    refine congrArg₂ (· * ·) (wide_x m c t r d e he) ?_
    rw [blk4, blk5]; rfl
  · rw [outsAt0_B m c t h0]
    dsimp only
    refine (o11_B ..).trans (Finset.sum_congr rfl fun r _ => ?_)
    refine congrArg₂ (· * ·) (wide_x m c t r d e he) ?_
    rw [scr]

/-- Point `t`'s block of output 12 is a block of the whole product. -/
theorem out12 (c : Dev nD) (t : Fin cfg0.N) (f : Fin 2048) (d : Fin 256) (e : Fin 7168) (he : e.val = t.val * 256 + d.val) :
    (outsAt0 m c t.val t.isLt).2.2.1 (ix2 f d) = ∑ r : Fin 1536, sc0 m c (ix2 r f) * Cols.wide (n := 7168) (φ := .fp8e5m2) (arr8 m c) (arr9 m c) r e := by
  by_cases h0 : t.val % 28 = 0
  · rw [outsAt0_A m c t h0]
    dsimp only
    refine (o12_A ..).trans (Finset.sum_congr rfl fun r _ => ?_)
    refine congrArg₂ (· * ·) ?_ (wide_dy m c t r d e he)
    rw [blk0, blk1]; rfl
  · rw [outsAt0_B m c t h0]
    dsimp only
    refine (o12_B ..).trans (Finset.sum_congr rfl fun r _ => ?_)
    refine congrArg₂ (· * ·) ?_ (wide_dy m c t r d e he)
    rw [scr]

/-- Result 1 of the call at an index. -/
theorem result10 (c : Dev nD) (e : Fin 7168) (f : Fin 2048) : (Value.G10 m c : Vec Ideal S7168x2048 .f32) (ix2 e f) =
    ∑ r : Fin 1536, Cols.wide (n := 7168) (φ := .fp8e4m3) (arr6 m c) (arr7 m c) r e * sc1 m c (ix2 r f) := by
  have hN : cfg0.N = 28 := N_0
  have he := e.isLt
  have hp : Value.pt10Of (ix2 e f) = e.val / 256 := by
    show 1 * (e.val / 256 - 0) + 1 * (f.val / 2048 - 0) = e.val / 256; have := f.isLt; omega
  have hlt : e.val / 256 < cfg0.N := by omega
  have hl : Value.loc10Of (ix2 e f) = ix2 (n0 := 256) (n1 := 2048) ⟨e.val % 256, Nat.mod_lt _ (by decide)⟩ f := by
    funext a; apply Fin.ext
    match a with
    | ⟨0, _⟩ => rfl
    | ⟨1, _⟩ => exact Nat.mod_eq_of_lt f.isLt
  unfold Value.G10
  rw [dif_pos (by rw [hp]; exact hlt), hl, Value.fold0_congr m c _ _ (e.val / 256) (by omega) hp, ← Value.outsAt0_sweep m c _ hlt]
  exact out10 m c ⟨e.val / 256, hlt⟩ ⟨e.val % 256, Nat.mod_lt _ (by decide)⟩ f e (Nat.div_add_mod' _ _).symm

/-- Result 2 of the call at an index. -/
theorem result11 (c : Dev nD) (e : Fin 7168) (f : Fin 2048) : (Value.G11 m c : Vec Ideal S7168x2048 .f32) (ix2 e f) =
    ∑ r : Fin 1536, Cols.wide (n := 7168) (φ := .fp8e4m3) (arr6 m c) (arr7 m c) r e * sc2 m c (ix2 r f) := by
  have hN : cfg0.N = 28 := N_0
  have he := e.isLt
  have hp : Value.pt11Of (ix2 e f) = e.val / 256 := by
    show 1 * (e.val / 256 - 0) + 1 * (f.val / 2048 - 0) = e.val / 256; have := f.isLt; omega
  have hlt : e.val / 256 < cfg0.N := by omega
  have hl : Value.loc11Of (ix2 e f) = ix2 (n0 := 256) (n1 := 2048) ⟨e.val % 256, Nat.mod_lt _ (by decide)⟩ f := by
    funext a; apply Fin.ext
    match a with
    | ⟨0, _⟩ => rfl
    | ⟨1, _⟩ => exact Nat.mod_eq_of_lt f.isLt
  unfold Value.G11
  rw [dif_pos (by rw [hp]; exact hlt), hl, Value.fold0_congr m c _ _ (e.val / 256) (by omega) hp, ← Value.outsAt0_sweep m c _ hlt]
  exact out11 m c ⟨e.val / 256, hlt⟩ ⟨e.val % 256, Nat.mod_lt _ (by decide)⟩ f e (Nat.div_add_mod' _ _).symm

/-- Result 3 of the call at an index. -/
theorem result12 (c : Dev nD) (f : Fin 2048) (e : Fin 7168) : (Value.G12 m c : Vec Ideal S2048x7168 .f32) (ix2 f e) =
    ∑ r : Fin 1536, sc0 m c (ix2 r f) * Cols.wide (n := 7168) (φ := .fp8e5m2) (arr8 m c) (arr9 m c) r e := by
  have hN : cfg0.N = 28 := N_0
  have he := e.isLt
  have hp : Value.pt12Of (ix2 f e) = e.val / 256 := by
    show 28 * (f.val / 2048 - 0) + 1 * (e.val / 256 - 0) = e.val / 256; have := f.isLt; omega
  have hlt : e.val / 256 < cfg0.N := by omega
  have hl : Value.loc12Of (ix2 f e) = ix2 (n0 := 2048) (n1 := 256) f ⟨e.val % 256, Nat.mod_lt _ (by decide)⟩ := by
    funext a; apply Fin.ext
    match a with
    | ⟨0, _⟩ => exact Nat.mod_eq_of_lt f.isLt
    | ⟨1, _⟩ => rfl
  unfold Value.G12
  rw [dif_pos (by rw [hp]; exact hlt), hl, Value.fold0_congr m c _ _ (e.val / 256) (by omega) hp, ← Value.outsAt0_sweep m c _ hlt]
  exact out12 m c ⟨e.val / 256, hlt⟩ f ⟨e.val % 256, Nat.mod_lt _ (by decide)⟩ e (Nat.div_add_mod' _ _).symm

end

end Cert.GradIdeal.Kernel
-- ==== Proof.Grad.lean ====
/- The gradient call and its reference agree on the ideal values: both results are the same sums over the tokens. -/
module

public import proofs.«01_k».proof.Defs
public import proofs.«01_k».proof.Proof.Gen.GradRefIdeal.Value
public import proofs.«01_k».proof.Proof.GradKernel

@[expose] public section

namespace Cert.GradIdeal.Agree

open Idealize Idealize.ShloMosaic Idealize.ShloMosaic.ValueIdx
open Idealize.ShloMosaic.TcCoe

noncomputable section

/-- Two matrices with the same entries are the same. -/
theorem ext2 {n0 n1 : ℕ} {α : Type} {x y : Shape.Idx ⟨2, ![n0, n1]⟩ → α} (h : ∀ i j, x (ix2 i j) = y (ix2 i j)) : x = y := by
  funext k; rw [eq_ix2 k]; exact h _ _

section Reference

open Cert.GradRefIdeal Cert.GradRefIdeal.Gen

variable (a0 : Vec Ideal S1536x2048 .fp8e4m3) (a1 : Vec Ideal S12x1x2048 .f32) (a2 : Vec Ideal S1536x2048 .fp8e5m2)
  (a3 : Vec Ideal S12x1x2048 .f32) (a4 : Vec Ideal S1536x2048 .fp8e5m2) (a5 : Vec Ideal S12x1x2048 .f32)
  (a6 : Vec Ideal S1536x7168 .fp8e4m3) (a7 : Vec Ideal S12x1x7168 .f32) (a8 : Vec Ideal S1536x7168 .fp8e5m2)
  (a9 : Vec Ideal S12x1x7168 .f32)

/-- The reference's result 1 at an index. -/
theorem ref10 (e : Fin 7168) (f : Fin 2048) : Cert.GradRefIdeal.Value.G10 a0 a1 a2 a3 a4 a5 a6 a7 a8 a9 (ix2 e f) =
    ∑ r : Fin 1536, Cols.wide (n := 7168) (φ := .fp8e4m3) a6 a7 r e * Cols.wide (n := 2048) (φ := .fp8e5m2) a2 a3 r f := by
  unfold Cert.GradRefIdeal.Value.G10 k0_pay3
  refine (Cols.matmul_apply (φ₁ := .bf16) (φ₂ := .bf16) _ rfl none _ _ e f).trans (Finset.sum_congr rfl fun r _ => ?_)
  refine congrArg₂ (· * ·) ?_ ?_
  · unfold k0_pay2
    exact Cols.ref_apply (n := 7168) (φ := .fp8e4m3) a6 a7 _ _ _ _ _ (by decide) r e
  · exact Cols.ref_apply (n := 2048) (φ := .fp8e5m2) a2 a3 _ _ _ _ _ (by decide) r f

/-- The reference's result 2 at an index. -/
theorem ref11 (e : Fin 7168) (f : Fin 2048) : Cert.GradRefIdeal.Value.G11 a0 a1 a2 a3 a4 a5 a6 a7 a8 a9 (ix2 e f) =
    ∑ r : Fin 1536, Cols.wide (n := 7168) (φ := .fp8e4m3) a6 a7 r e * Cols.wide (n := 2048) (φ := .fp8e5m2) a4 a5 r f := by
  unfold Cert.GradRefIdeal.Value.G11 k0_pay4
  refine (Cols.matmul_apply (φ₁ := .bf16) (φ₂ := .bf16) _ rfl none _ _ e f).trans (Finset.sum_congr rfl fun r _ => ?_)
  refine congrArg₂ (· * ·) ?_ ?_
  · unfold k0_pay2
    exact Cols.ref_apply (n := 7168) (φ := .fp8e4m3) a6 a7 _ _ _ _ _ (by decide) r e
  · exact Cols.ref_apply (n := 2048) (φ := .fp8e5m2) a4 a5 _ _ _ _ _ (by decide) r f

/-- The reference's result 3 at an index. -/
theorem ref12 (f : Fin 2048) (e : Fin 7168) : Cert.GradRefIdeal.Value.G12 a0 a1 a2 a3 a4 a5 a6 a7 a8 a9 (ix2 f e) =
    ∑ r : Fin 1536, Cols.wide (n := 2048) (φ := .fp8e4m3) a0 a1 r f * Cols.wide (n := 7168) (φ := .fp8e5m2) a8 a9 r e := by
  unfold Cert.GradRefIdeal.Value.G12 k0_pay1
  refine (Cols.matmul_apply (φ₁ := .bf16) (φ₂ := .bf16) _ rfl none _ _ f e).trans (Finset.sum_congr rfl fun r _ => ?_)
  refine congrArg₂ (· * ·) ?_ ?_
  · unfold k0_pay5
    exact Cols.ref_apply (n := 2048) (φ := .fp8e4m3) a0 a1 _ _ _ _ _ (by decide) r f
  · exact Cols.ref_apply (n := 7168) (φ := .fp8e5m2) a8 a9 _ _ _ _ _ (by decide) r e

end Reference

/-- Result 1 of the call is the reference's result 1 of the same arguments. -/
theorem same10 (m : (ℓ : Loc Cert.GradIdeal.nD Cert.GradIdeal.τ Cert.GradIdeal.sig) → Buf (Elt Ideal) ℓ) (c : Dev Cert.GradIdeal.nD) :
    (Cert.GradRefIdeal.Value.G10 (Kernel.arr0 m c) (Kernel.arr1 m c) (Kernel.arr2 m c) (Kernel.arr3 m c) (Kernel.arr4 m c) (Kernel.arr5 m c) (Kernel.arr6 m c) (Kernel.arr7 m c) (Kernel.arr8 m c) (Kernel.arr9 m c) : Vec Ideal Cert.GradIdeal.S7168x2048 .f32) = Cert.GradIdeal.Value.G10 m c :=
  ext2 fun e f => (ref10 (Kernel.arr0 m c) (Kernel.arr1 m c) (Kernel.arr2 m c) (Kernel.arr3 m c) (Kernel.arr4 m c) (Kernel.arr5 m c) (Kernel.arr6 m c) (Kernel.arr7 m c) (Kernel.arr8 m c) (Kernel.arr9 m c) e f).trans (Kernel.result10 m c e f).symm

/-- Result 2 of the call is the reference's result 2 of the same arguments. -/
theorem same11 (m : (ℓ : Loc Cert.GradIdeal.nD Cert.GradIdeal.τ Cert.GradIdeal.sig) → Buf (Elt Ideal) ℓ) (c : Dev Cert.GradIdeal.nD) :
    (Cert.GradRefIdeal.Value.G11 (Kernel.arr0 m c) (Kernel.arr1 m c) (Kernel.arr2 m c) (Kernel.arr3 m c) (Kernel.arr4 m c) (Kernel.arr5 m c) (Kernel.arr6 m c) (Kernel.arr7 m c) (Kernel.arr8 m c) (Kernel.arr9 m c) : Vec Ideal Cert.GradIdeal.S7168x2048 .f32) = Cert.GradIdeal.Value.G11 m c :=
  ext2 fun e f => (ref11 (Kernel.arr0 m c) (Kernel.arr1 m c) (Kernel.arr2 m c) (Kernel.arr3 m c) (Kernel.arr4 m c) (Kernel.arr5 m c) (Kernel.arr6 m c) (Kernel.arr7 m c) (Kernel.arr8 m c) (Kernel.arr9 m c) e f).trans (Kernel.result11 m c e f).symm

/-- Result 3 of the call is the reference's result 3 of the same arguments. -/
theorem same12 (m : (ℓ : Loc Cert.GradIdeal.nD Cert.GradIdeal.τ Cert.GradIdeal.sig) → Buf (Elt Ideal) ℓ) (c : Dev Cert.GradIdeal.nD) :
    (Cert.GradRefIdeal.Value.G12 (Kernel.arr0 m c) (Kernel.arr1 m c) (Kernel.arr2 m c) (Kernel.arr3 m c) (Kernel.arr4 m c) (Kernel.arr5 m c) (Kernel.arr6 m c) (Kernel.arr7 m c) (Kernel.arr8 m c) (Kernel.arr9 m c) : Vec Ideal Cert.GradIdeal.S2048x7168 .f32) = Cert.GradIdeal.Value.G12 m c :=
  ext2 fun f e => (ref12 (Kernel.arr0 m c) (Kernel.arr1 m c) (Kernel.arr2 m c) (Kernel.arr3 m c) (Kernel.arr4 m c) (Kernel.arr5 m c) (Kernel.arr6 m c) (Kernel.arr7 m c) (Kernel.arr8 m c) (Kernel.arr9 m c) f e).trans (Kernel.result12 m c f e).symm

/-- THE CLAIM of the gradient call: it and its reference end with the same results, arguments kept. -/
theorem agree [hGradIdeal : Cert.GradIdeal.Facts] [hGradRefIdeal : Cert.GradRefIdeal.Facts] : Cert.algebraic_GradIdeal_GradRefIdeal := by
  intro m g m' g' _ hargs
  refine ⟨fun c => Cert.GradIdeal.Value.G10 m c, fun c => Cert.GradIdeal.Value.G11 m c, fun c => Cert.GradIdeal.Value.G12 m c,
    Cert.GradIdeal.Value.run m g, ?_⟩
  refine (θ_run Cert.GradRefIdeal.defs _ _).mono (fun r H c => ?_) (Cert.GradRefIdeal.Value.run m' g')
  obtain ⟨h0, h1, h2, h3, h4, h5, h6, h7, h8, h9⟩ := hargs c
  have Hc := H c
  obtain ⟨H0, H1, H2, Hrest⟩ := Hc
  refine ⟨H0.trans ?_, H1.trans ?_, H2.trans ?_, Hrest⟩
  · refine Eq.trans ?_ (same10 m c)
    rw [show m' ((c : Thread Cert.GradRefIdeal.nD Cert.GradRefIdeal.τ).loc Cert.GradRefIdeal.main_arg0) = Kernel.arr0 m c from h0, show m' ((c : Thread Cert.GradRefIdeal.nD Cert.GradRefIdeal.τ).loc Cert.GradRefIdeal.main_arg1) = Kernel.arr1 m c from h1, show m' ((c : Thread Cert.GradRefIdeal.nD Cert.GradRefIdeal.τ).loc Cert.GradRefIdeal.main_arg2) = Kernel.arr2 m c from h2, show m' ((c : Thread Cert.GradRefIdeal.nD Cert.GradRefIdeal.τ).loc Cert.GradRefIdeal.main_arg3) = Kernel.arr3 m c from h3, show m' ((c : Thread Cert.GradRefIdeal.nD Cert.GradRefIdeal.τ).loc Cert.GradRefIdeal.main_arg4) = Kernel.arr4 m c from h4, show m' ((c : Thread Cert.GradRefIdeal.nD Cert.GradRefIdeal.τ).loc Cert.GradRefIdeal.main_arg5) = Kernel.arr5 m c from h5, show m' ((c : Thread Cert.GradRefIdeal.nD Cert.GradRefIdeal.τ).loc Cert.GradRefIdeal.main_arg6) = Kernel.arr6 m c from h6, show m' ((c : Thread Cert.GradRefIdeal.nD Cert.GradRefIdeal.τ).loc Cert.GradRefIdeal.main_arg7) = Kernel.arr7 m c from h7, show m' ((c : Thread Cert.GradRefIdeal.nD Cert.GradRefIdeal.τ).loc Cert.GradRefIdeal.main_arg8) = Kernel.arr8 m c from h8, show m' ((c : Thread Cert.GradRefIdeal.nD Cert.GradRefIdeal.τ).loc Cert.GradRefIdeal.main_arg9) = Kernel.arr9 m c from h9]
  · refine Eq.trans ?_ (same11 m c)
    rw [show m' ((c : Thread Cert.GradRefIdeal.nD Cert.GradRefIdeal.τ).loc Cert.GradRefIdeal.main_arg0) = Kernel.arr0 m c from h0, show m' ((c : Thread Cert.GradRefIdeal.nD Cert.GradRefIdeal.τ).loc Cert.GradRefIdeal.main_arg1) = Kernel.arr1 m c from h1, show m' ((c : Thread Cert.GradRefIdeal.nD Cert.GradRefIdeal.τ).loc Cert.GradRefIdeal.main_arg2) = Kernel.arr2 m c from h2, show m' ((c : Thread Cert.GradRefIdeal.nD Cert.GradRefIdeal.τ).loc Cert.GradRefIdeal.main_arg3) = Kernel.arr3 m c from h3, show m' ((c : Thread Cert.GradRefIdeal.nD Cert.GradRefIdeal.τ).loc Cert.GradRefIdeal.main_arg4) = Kernel.arr4 m c from h4, show m' ((c : Thread Cert.GradRefIdeal.nD Cert.GradRefIdeal.τ).loc Cert.GradRefIdeal.main_arg5) = Kernel.arr5 m c from h5, show m' ((c : Thread Cert.GradRefIdeal.nD Cert.GradRefIdeal.τ).loc Cert.GradRefIdeal.main_arg6) = Kernel.arr6 m c from h6, show m' ((c : Thread Cert.GradRefIdeal.nD Cert.GradRefIdeal.τ).loc Cert.GradRefIdeal.main_arg7) = Kernel.arr7 m c from h7, show m' ((c : Thread Cert.GradRefIdeal.nD Cert.GradRefIdeal.τ).loc Cert.GradRefIdeal.main_arg8) = Kernel.arr8 m c from h8, show m' ((c : Thread Cert.GradRefIdeal.nD Cert.GradRefIdeal.τ).loc Cert.GradRefIdeal.main_arg9) = Kernel.arr9 m c from h9]
  · refine Eq.trans ?_ (same12 m c)
    rw [show m' ((c : Thread Cert.GradRefIdeal.nD Cert.GradRefIdeal.τ).loc Cert.GradRefIdeal.main_arg0) = Kernel.arr0 m c from h0, show m' ((c : Thread Cert.GradRefIdeal.nD Cert.GradRefIdeal.τ).loc Cert.GradRefIdeal.main_arg1) = Kernel.arr1 m c from h1, show m' ((c : Thread Cert.GradRefIdeal.nD Cert.GradRefIdeal.τ).loc Cert.GradRefIdeal.main_arg2) = Kernel.arr2 m c from h2, show m' ((c : Thread Cert.GradRefIdeal.nD Cert.GradRefIdeal.τ).loc Cert.GradRefIdeal.main_arg3) = Kernel.arr3 m c from h3, show m' ((c : Thread Cert.GradRefIdeal.nD Cert.GradRefIdeal.τ).loc Cert.GradRefIdeal.main_arg4) = Kernel.arr4 m c from h4, show m' ((c : Thread Cert.GradRefIdeal.nD Cert.GradRefIdeal.τ).loc Cert.GradRefIdeal.main_arg5) = Kernel.arr5 m c from h5, show m' ((c : Thread Cert.GradRefIdeal.nD Cert.GradRefIdeal.τ).loc Cert.GradRefIdeal.main_arg6) = Kernel.arr6 m c from h6, show m' ((c : Thread Cert.GradRefIdeal.nD Cert.GradRefIdeal.τ).loc Cert.GradRefIdeal.main_arg7) = Kernel.arr7 m c from h7, show m' ((c : Thread Cert.GradRefIdeal.nD Cert.GradRefIdeal.τ).loc Cert.GradRefIdeal.main_arg8) = Kernel.arr8 m c from h8, show m' ((c : Thread Cert.GradRefIdeal.nD Cert.GradRefIdeal.τ).loc Cert.GradRefIdeal.main_arg9) = Kernel.arr9 m c from h9]

end

end Cert.GradIdeal.Agree
-- ==== Proof.Blocks.lean ====
/- Codes with one scale per 128 by 128 block: the widened array read at an index, in the two spellings of the down call
   (one 128 by 128 tile at a time, its scale a word read from a table) and of its reference (a reshape, a broadcast
   product and the reshape back), and the two products that take it. Nothing here names a program. -/
module

public import Idealize.ShloMosaic.Lib.ValueIdx
public import Idealize.ShloMosaic.PureOps.Ideal.Laws
public import Idealize.ShloMosaic.Lib.ValueLayout
public import Idealize.ShloMosaic.Lib.Pipeline.Value
public import Idealize.ShloMosaic.Lib.Pipeline.ValueKit.Tiles

@[expose] public section

namespace Cert.Blocks

open Idealize Idealize.ShloMosaic Idealize.ShloMosaic.ValueIdx

variable {m n p r : Nat}

/-- The widened array at row `i` and column `j`: the code there times the scale of its block, where block row `a` and block
    column `b` have the scale at row `e0 a` and column `e1 b` of the table. -/
noncomputable def wide [NeZero p] [NeZero r] (q : FVec Ideal ⟨2, ![m, n]⟩ .fp8e4m3) (s : FVec Ideal ⟨2, ![p, r]⟩ .f32) (e0 e1 : Nat → Nat)
    (i : Fin m) (j : Fin n) : EReal :=
  (q (ix2 i j) : EReal) * s (ix2 (Fin.ofNat p (e0 (i.val / 128))) (Fin.ofNat r (e1 (j.val / 128))))

/-- One 128 by 128 tile as the kernel widens it, at an index: the widened array's entry there. -/
theorem piece [NeZero p] [NeZero r] {sig : RefSig} {κ κ' : Kind} {sp sp' : Space}
    (M : Memref sig κ sp ⟨2, ![m, n]⟩ .fp8e4m3) (hM : M.IsWhole) (q : FVec Ideal ⟨2, ![m, n]⟩ .fp8e4m3)
    (N : Memref sig κ' sp' ⟨2, ![p, r]⟩ .f32) (hN : N.IsWhole) (s : FVec Ideal ⟨2, ![p, r]⟩ .f32)
    (off off' : Fin 2 → Nat) (inb : ∀ a, off a + (![128, 128] : Fin 2 → Nat) a ≤ (⟨2, ![m, n]⟩ : Shape).size a)
    (inb' : ∀ a, off' a + (![1, 1] : Fin 2 → Nat) a ≤ (⟨2, ![p, r]⟩ : Shape).size a)
    (hφ : FTy.fp8e4m3.bits < FTy.bf16.bits) (ht : FTy.bf16.bits < FTy.f32.bits)
    (hc : (⟨2, ![128, 128]⟩ : Shape).ShapeCasts ⟨2, ![128, 128]⟩)
    (y : ((Rect.unit (s := ⟨2, ![p, r]⟩) off' ![1, 1] inb').toLoadRect).shape.Idx) (e0 e1 : Nat → Nat)
    (d0 : off 0 % 128 = 0) (d1 : off 1 % 128 = 0) (h0 : off' 0 = e0 (off 0 / 128)) (h1 : off' 1 = e1 (off 1 / 128))
    (x : (⟨2, ![128, 128]⟩ : Shape).Idx) :
    (shapeCast ⟨2, ![128, 128]⟩ (mulf (F := Ideal) (φ := .bf16) (extf .bf16 (View.readAt (Elt Ideal) M.view (Rect.unit (s := ⟨2, ![m, n]⟩) off ![128, 128] inb).toLoadRect (hM.unread q) : FVec Ideal ⟨2, ![128, 128]⟩ .fp8e4m3) hφ)
      (broadcast ⟨2, ![128, 128]⟩ (Scalar.truncf .bf16 ht (View.readAt (Elt Ideal) N.view (Rect.unit (s := ⟨2, ![p, r]⟩) off' ![1, 1] inb').toLoadRect (hN.unread s) y : Ideal .f32)))) hc : FVec Ideal ⟨2, ![128, 128]⟩ .bf16) x
      = (fun k : (⟨2, ![m, n]⟩ : Shape).Idx => wide q s e0 e1 (k 0) (k 1)) ((Rect.unit (s := ⟨2, ![m, n]⟩) off ![128, 128] inb).emb x) := by
  have hA : ∀ z, View.readAt (Elt Ideal) M.view (Rect.unit (s := ⟨2, ![m, n]⟩) off ![128, 128] inb).toLoadRect (hM.unread q) z
      = q ((Rect.unit (s := ⟨2, ![m, n]⟩) off ![128, 128] inb).idx z) := fun z => by
    rw [View.readAt_eq_ld, hM.read_unread]
  have hB : View.readAt (Elt Ideal) N.view (Rect.unit (s := ⟨2, ![p, r]⟩) off' ![1, 1] inb').toLoadRect (hN.unread s) y
      = s ((Rect.unit (s := ⟨2, ![p, r]⟩) off' ![1, 1] inb').idx y) := by
    rw [View.readAt_eq_ld, hN.read_unread]
  have hx0 : (x 0).val < 128 := (x 0).isLt
  have hx1 : (x 1).val < 128 := (x 1).isLt
  have hy0 : (y 0).val < 1 := (y 0).isLt
  have hy1 : (y 1).val < 1 := (y 1).isLt
  have b0 : off' 0 + 1 ≤ p := inb' 0
  have b1 : off' 1 + 1 ≤ r := inb' 1
  refine (congrFun (shapeCast_self _ _) x).trans ?_
  refine congrArg₂ (fun a b : EReal => a * b) ?_ ?_
  · refine (hA x).trans (congrArg q (funext fun a => Fin.ext ?_))
    match a with
    | ⟨0, _⟩ => rfl
    | ⟨1, _⟩ => rfl
  · refine hB.trans (congrArg s (funext fun a => Fin.ext ?_))
    match a with
    | ⟨0, _⟩ =>
      show off' 0 + 1 * (y 0).val = e0 ((off 0 + 1 * (x 0).val) / 128) % p
      rw [show (off 0 + 1 * (x 0).val) / 128 = off 0 / 128 by omega, ← h0, Nat.mod_eq_of_lt (by omega)]; omega
    | ⟨1, _⟩ =>
      show off' 1 + 1 * (y 1).val = e1 ((off 1 + 1 * (x 1).val) / 128) % r
      rw [show (off 1 + 1 * (x 1).val) / 128 = off 1 / 128 by omega, ← h1, Nat.mod_eq_of_lt (by omega)]; omega

/-- The reference's spelling at an index. -/
theorem ref_apply [NeZero p] [NeZero r] (hm : m = p * 128) (hn : n = r * 128) (hp : p ≠ 1) (hr : r ≠ 1)
    (q : FVec Ideal ⟨2, ![m, n]⟩ .fp8e4m3) (s : FVec Ideal ⟨2, ![p, r]⟩ .f32)
    (h1 : (⟨2, ![m, n]⟩ : Shape).ShapeCasts ⟨4, ![p, 128, r, 128]⟩) (h2 : (⟨4, ![p, 128, r, 128]⟩ : Shape).ShapeCasts ⟨2, ![m, n]⟩)
    (h3 : (⟨2, ![p, r]⟩ : Shape).ShapeCasts ⟨4, ![p, 1, r, 1]⟩)
    (hb : (⟨4, ![p, 1, r, 1]⟩ : Shape).Broadcasts ⟨4, ![p, 128, r, 128]⟩) (hφ : FTy.fp8e4m3.bits < FTy.bf16.bits) (ht : FTy.bf16.bits < FTy.f32.bits)
    (i : Fin m) (j : Fin n) :
    shapeCast ⟨2, ![m, n]⟩ (mulf (shapeCast ⟨4, ![p, 128, r, 128]⟩ (extf .bf16 q hφ) h1)
      (broadcastTo ⟨4, ![p, 128, r, 128]⟩ (shapeCast ⟨4, ![p, 1, r, 1]⟩ (truncf .bf16 s ht) h3) hb)) h2 (ix2 i j)
      = wide q s id id i j := by
  have hi := i.isLt
  have hj := j.isLt
  let ia : Fin p := ⟨i.val / 128, by omega⟩
  let ib : Fin 128 := ⟨i.val % 128, by omega⟩
  let ja : Fin r := ⟨j.val / 128, by omega⟩
  let jb : Fin 128 := ⟨j.val % 128, by omega⟩
  let k4 : (⟨4, ![p, 128, r, 128]⟩ : Shape).Idx := fun a => match a with
    | ⟨0, _⟩ => ia
    | ⟨1, _⟩ => ib
    | ⟨2, _⟩ => ja
    | ⟨3, _⟩ => jb
  let k1 : (⟨4, ![p, 1, r, 1]⟩ : Shape).Idx := fun a => match a with
    | ⟨0, _⟩ => ia
    | ⟨1, _⟩ => (0 : Fin 1)
    | ⟨2, _⟩ => ja
    | ⟨3, _⟩ => (0 : Fin 1)
  have e : ((i.val / 128 * 128 + i.val % 128) * r + j.val / 128) * 128 + j.val % 128 = i.val * n + j.val := by
    have hi' : i.val / 128 * 128 + i.val % 128 = i.val := Nat.div_add_mod' _ _
    have hj' : j.val / 128 * 128 + j.val % 128 = j.val := Nat.div_add_mod' _ _
    have hn' : i.val * n = i.val * (r * 128) := congrArg _ hn
    rw [hi', hn', Nat.add_mul, Nat.mul_assoc, Nat.add_assoc, hj']
  rw [shapeCast_apply (k := k4)]
  · show (shapeCast _ q h1 _ : EReal) * broadcastTo _ (shapeCast _ s h3) hb _ = _
    rw [shapeCast_apply (k := ix2 i j), broadcastTo_apply (k := k1), shapeCast_apply (k := ix2 ia ja)]
    · unfold wide
      refine congrArg₂ (fun a b : EReal => a * b) rfl (congrArg s (funext fun a => Fin.ext ?_))
      match a with
      | ⟨0, _⟩ => exact (Nat.mod_eq_of_lt ia.isLt).symm
      | ⟨1, _⟩ => exact (Nat.mod_eq_of_lt ja.isLt).symm
    · rw [Shape.rowMajor_val_four, Shape.rowMajor_val_two]
      show i.val / 128 * r + j.val / 128 = ((i.val / 128 * 1 + 0) * r + j.val / 128) * 1 + 0
      simp only [Nat.mul_one, Nat.add_zero]
    · intro a
      match a with
      | ⟨0, _⟩ => exact (if_neg hp).symm
      | ⟨1, _⟩ => rfl
      | ⟨2, _⟩ => exact (if_neg hr).symm
      | ⟨3, _⟩ => rfl
    · rw [Shape.rowMajor_val_four, Shape.rowMajor_val_two]
      exact e.symm
  · rw [Shape.rowMajor_val_four, Shape.rowMajor_val_two]
    exact e

variable {K M N : Nat} {φ₁ φ₂ : FTy}

/-- The product that contracts the left array's columns with the right array's rows. -/
abbrev dimsNN (K M N : Nat)
    (wf : DotDims.WF ⟨2, ![M, K]⟩ ⟨2, ![K, N]⟩ ⟨2, ![M, N]⟩ [1] [0] [0] [1] [] []) : DotDims ⟨2, ![M, K]⟩ ⟨2, ![K, N]⟩ ⟨2, ![M, N]⟩ := ⟨[1], [0], [0], [1], [], [], wf⟩

/-- Such a product into zeros at an index. -/
theorem matmulNN_apply (wf) (hr : (dimsNN K M N wf).contr.rank = 1) (prec : Option ContractPrecision)
    (lhs : FVec Ideal ⟨2, ![M, K]⟩ φ₁) (rhs : FVec Ideal ⟨2, ![K, N]⟩ φ₂) (r : Fin M) (c : Fin N) :
    matmul (dimsNN K M N wf) prec lhs rhs (constant ⟨2, ![M, N]⟩ .f32 0x00000000#32) (ix2 r c)
      = ∑ k : Fin K, (lhs (ix2 r k) : EReal) * rhs (ix2 k c) := by
  have hs : (dimsNN K M N wf).contr.size ⟨0, by omega⟩ = K := rfl
  show FloatOps.matmul (dimsNN K M N wf) prec lhs rhs _ (ix2 r c) = _
  rw [Ideal.matmul_constant_zero_apply, ← Equiv.sum_comp (contrEquiv1 _ K hr hs).symm]
  refine Finset.sum_congr rfl fun k _ => ?_
  have hk := contrEquiv1_symm_val _ K hr hs k
  have el : (dimsNN K M N wf).lhsIdx (ix2 r c) ((contrEquiv1 _ K hr hs).symm k) = ix2 r k := by
    funext a; apply Fin.ext
    match a with
    | ⟨0, _⟩ => rfl
    | ⟨1, _⟩ => exact hk
  have er : (dimsNN K M N wf).rhsIdx (ix2 r c) ((contrEquiv1 _ K hr hs).symm k) = ix2 k c := by
    funext a; apply Fin.ext
    match a with
    | ⟨0, _⟩ => exact hk
    | ⟨1, _⟩ => rfl
  rw [el, er]

/-- The product that contracts the columns of both arrays. -/
abbrev dimsNT (K M N : Nat)
    (wf : DotDims.WF ⟨2, ![M, K]⟩ ⟨2, ![N, K]⟩ ⟨2, ![M, N]⟩ [1] [1] [0] [0] [] []) : DotDims ⟨2, ![M, K]⟩ ⟨2, ![N, K]⟩ ⟨2, ![M, N]⟩ := ⟨[1], [1], [0], [0], [], [], wf⟩

/-- Such a product into zeros at an index. -/
theorem matmulNT_apply (wf) (hr : (dimsNT K M N wf).contr.rank = 1) (prec : Option ContractPrecision)
    (lhs : FVec Ideal ⟨2, ![M, K]⟩ φ₁) (rhs : FVec Ideal ⟨2, ![N, K]⟩ φ₂) (r : Fin M) (c : Fin N) :
    matmul (dimsNT K M N wf) prec lhs rhs (constant ⟨2, ![M, N]⟩ .f32 0x00000000#32) (ix2 r c)
      = ∑ k : Fin K, (lhs (ix2 r k) : EReal) * rhs (ix2 c k) := by
  have hs : (dimsNT K M N wf).contr.size ⟨0, by omega⟩ = K := rfl
  show FloatOps.matmul (dimsNT K M N wf) prec lhs rhs _ (ix2 r c) = _
  rw [Ideal.matmul_constant_zero_apply, ← Equiv.sum_comp (contrEquiv1 _ K hr hs).symm]
  refine Finset.sum_congr rfl fun k _ => ?_
  have hk := contrEquiv1_symm_val _ K hr hs k
  have el : (dimsNT K M N wf).lhsIdx (ix2 r c) ((contrEquiv1 _ K hr hs).symm k) = ix2 r k := by
    funext a; apply Fin.ext
    match a with
    | ⟨0, _⟩ => rfl
    | ⟨1, _⟩ => exact hk
  have er : (dimsNT K M N wf).rhsIdx (ix2 r c) ((contrEquiv1 _ K hr hs).symm k) = ix2 c k := by
    funext a; apply Fin.ext
    match a with
    | ⟨0, _⟩ => rfl
    | ⟨1, _⟩ => exact hk
  rw [el, er]

end Cert.Blocks
-- ==== Proof.DownBody.lean ====
/- The down call's body at the ideal values: the three scratch operands hold the widened weight tiles, and the two output
   blocks are products with them, read at an index. -/
module

public import proofs.«01_k».proof.Proof.Gen.DownIdeal.Frame
public import proofs.«01_k».proof.Proof.Blocks
public import Idealize.ShloMosaic.Lib.Pipeline.ReadBack

@[expose] public section

set_option maxRecDepth 16384

namespace Cert.DownIdeal.Body

open Idealize Idealize.ShloMosaic Idealize.ShloMosaic.ValueIdx Idealize.ShloMosaic.Tactic
open Cert.DownIdeal Cert.DownIdeal.Gen

theorem hz : (![0, 0] : Fin 2 → Nat) = fun _ => 0 := funext fun a => by fin_cases a <;> rfl

/-- The table word the kernel computes for the first tile of a point's pair. -/
theorem word0 : ∀ k : Fin 28, (Scalar.indexCast (Scalar.addi (Scalar.muli (BitVec.ofNat 32 k.val) 2#32) 0#32) : Index).toNat = k.val * 2 + 0 := by
  decide +kernel

/-- The table word the kernel computes for the second tile of a point's pair. -/
theorem word1 : ∀ k : Fin 28, (Scalar.indexCast (Scalar.addi (Scalar.muli (BitVec.ofNat 32 k.val) 2#32) 1#32) : Index).toNat = k.val * 2 + 1 := by
  decide +kernel

/-- The first scratch operand holds the point's widened tile of its weight. -/
theorem sc0 (c : Dev nD) (i : grid0.Coords) (arg1 : Memref sig .tc .smem S56x16 .f32) (harg1 : arg1.IsWhole) (arg7 : Memref sig .tc .vmem S256x2048 .fp8e4m3) (harg7 : arg7.IsWhole)
    (x0 : Vec Ideal S56x16 .f32) (x6 : Vec Ideal S256x2048 .fp8e4m3) (y : S256x2048.Idx) :
    View.canon (kernelRun0_A.sl.HS0_32 c i arg1 harg1 arg7 harg7 x0 x6) y = Blocks.wide x6 x0 (fun a => (i 0).val * 2 + a) id (y 0) (y 1) := by
  have hcov : ∀ y, ∃ p ∈ kernelRun0_A.sl.HS0_32 c i arg1 harg1 arg7 harg7 x0 x6, y ∈ p.1.set :=
    View.cover_of_tiledL _ ![128, 128] (by sl_kernel_rfl)
  have hc := hcov y
  revert hc
  unfold kernelRun0_A.sl.HS0_32
  sl_unfold_words
  intro hc
  refine View.canon_append_of_piecesOf (fun y => Blocks.wide x6 x0 (fun a => (i 0).val * 2 + a) id (y 0) (y 1)) [] [_, _, _, _, _, _, _, _, _, _, _, _, _, _, _, _, _, _, _, _, _, _, _, _, _, _, _, _, _, _, _, _] ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩ y hc
  all_goals
    intro x
    refine Blocks.piece arg7 harg7 x6 arg1 harg1 x0 _ _ _ _ _ _ _ _ (fun a => (i 0).val * 2 + a) id rfl rfl ?_ ?_ x
  all_goals first | rfl | exact word0 _ | exact word1 _

/-- The second scratch operand holds the point's widened tile of its weight. -/
theorem sc1 (c : Dev nD) (i : grid0.Coords) (arg2 : Memref sig .tc .smem S56x16 .f32) (harg2 : arg2.IsWhole) (arg8 : Memref sig .tc .vmem S256x2048 .fp8e4m3) (harg8 : arg8.IsWhole)
    (x1 : Vec Ideal S56x16 .f32) (x7 : Vec Ideal S256x2048 .fp8e4m3) (y : S256x2048.Idx) :
    View.canon (kernelRun0_A.sl.HS1_32 c i arg2 harg2 arg8 harg8 x1 x7) y = Blocks.wide x7 x1 (fun a => (i 0).val * 2 + a) id (y 0) (y 1) := by
  have hcov : ∀ y, ∃ p ∈ kernelRun0_A.sl.HS1_32 c i arg2 harg2 arg8 harg8 x1 x7, y ∈ p.1.set :=
    View.cover_of_tiledL _ ![128, 128] (by sl_kernel_rfl)
  have hc := hcov y
  revert hc
  unfold kernelRun0_A.sl.HS1_32
  sl_unfold_words
  intro hc
  refine View.canon_append_of_piecesOf (fun y => Blocks.wide x7 x1 (fun a => (i 0).val * 2 + a) id (y 0) (y 1)) [] [_, _, _, _, _, _, _, _, _, _, _, _, _, _, _, _, _, _, _, _, _, _, _, _, _, _, _, _, _, _, _, _] ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩ y hc
  all_goals
    intro x
    refine Blocks.piece arg8 harg8 x7 arg2 harg2 x1 _ _ _ _ _ _ _ _ (fun a => (i 0).val * 2 + a) id rfl rfl ?_ ?_ x
  all_goals first | rfl | exact word0 _ | exact word1 _

/-- The third scratch operand holds the point's widened tile of its weight. -/
theorem sc2 (c : Dev nD) (i : grid0.Coords) (arg3 : Memref sig .tc .smem S16x56 .f32) (harg3 : arg3.IsWhole) (arg9 : Memref sig .tc .vmem S2048x256 .fp8e4m3) (harg9 : arg9.IsWhole)
    (x2 : Vec Ideal S16x56 .f32) (x8 : Vec Ideal S2048x256 .fp8e4m3) (y : S2048x256.Idx) :
    View.canon (kernelRun0_A.sl.HS2_32 c i arg3 harg3 arg9 harg9 x2 x8) y = Blocks.wide x8 x2 id (fun b => (i 0).val * 2 + b) (y 0) (y 1) := by
  have hcov : ∀ y, ∃ p ∈ kernelRun0_A.sl.HS2_32 c i arg3 harg3 arg9 harg9 x2 x8, y ∈ p.1.set :=
    View.cover_of_tiledL _ ![128, 128] (by sl_kernel_rfl)
  have hc := hcov y
  revert hc
  unfold kernelRun0_A.sl.HS2_32
  sl_unfold_words
  intro hc
  refine View.canon_append_of_piecesOf (fun y => Blocks.wide x8 x2 id (fun b => (i 0).val * 2 + b) (y 0) (y 1)) [] [_, _, _, _, _, _, _, _, _, _, _, _, _, _, _, _, _, _, _, _, _, _, _, _, _, _, _, _, _, _, _, _] ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩ y hc
  all_goals
    intro x
    refine Blocks.piece arg9 harg9 x8 arg3 harg3 x2 _ _ _ _ _ _ _ _ id (fun b => (i 0).val * 2 + b) rfl rfl ?_ ?_ x
  all_goals first | rfl | exact word0 _ | exact word1 _

/-- The body leaves in output block 9 the product of the hidden rows with the point's columns of the widened w2. -/
theorem o9 (c : Dev nD) (i : grid0.Coords) (arg1 : Memref sig .tc .smem S56x16 .f32) (harg1 : arg1.IsWhole) (arg2 : Memref sig .tc .smem S56x16 .f32) (harg2 : arg2.IsWhole) (arg3 : Memref sig .tc .smem S16x56 .f32) (harg3 : arg3.IsWhole) (arg4 : Memref sig .tc .vmem S1536x2048 .bf16) (harg4 : arg4.IsWhole) (arg5 : Memref sig .tc .vmem S1536x2048 .bf16) (harg5 : arg5.IsWhole) (arg6 : Memref sig .tc .vmem S1536x2048 .bf16) (harg6 : arg6.IsWhole) (arg7 : Memref sig .tc .vmem S256x2048 .fp8e4m3) (harg7 : arg7.IsWhole) (arg8 : Memref sig .tc .vmem S256x2048 .fp8e4m3) (harg8 : arg8.IsWhole) (arg9 : Memref sig .tc .vmem S2048x256 .fp8e4m3) (harg9 : arg9.IsWhole) (arg10 : Memref sig .tc .vmem S1536x256 .bf16) (harg10 : arg10.IsWhole) (arg11 : Memref sig .tc .vmem S1536x256 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S2048x256 .bf16) (harg14 : arg14.IsWhole)
    (x0 : Vec Ideal S56x16 .f32) (x1 : Vec Ideal S56x16 .f32) (x2 : Vec Ideal S16x56 .f32) (x3 : Vec Ideal S1536x2048 .bf16) (x4 : Vec Ideal S1536x2048 .bf16) (x5 : Vec Ideal S1536x2048 .bf16) (x6 : Vec Ideal S256x2048 .fp8e4m3) (x7 : Vec Ideal S256x2048 .fp8e4m3) (x8 : Vec Ideal S2048x256 .fp8e4m3) (t : Fin 1536) (d : Fin 256) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 (ix2 t d) = ∑ k : Fin 2048, (x3 (ix2 t k) : EReal) * Blocks.wide x8 x2 id (fun b => (i 0).val * 2 + b) k d := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8)]
  unfold kernelRun0_A
  dsimp only
  rw [View.canon_unit_zero hz]
  unfold kernelRun0_A.sl.v1153
  rw [View.readCov_eq_canon', View.readAt_eq_ld, harg4.read_unread, View.ld_unit_zero (S := S1536x2048) hz]
  unfold k0_pay98
  refine (Blocks.matmulNN_apply (φ₁ := .bf16) (φ₂ := .bf16) _ rfl none _ _ t d).trans (Finset.sum_congr rfl fun k _ => ?_)
  refine congrArg₂ (fun a b : EReal => a * b) rfl ?_
  refine (sc2 c i arg3 harg3 arg9 harg9 x2 x8 _).trans ?_
  refine congrArg₂ (Blocks.wide x8 x2 id (fun b => (i 0).val * 2 + b)) (Fin.ext ?_) (Fin.ext ?_)
  · show 0 + 1 * k.val = k.val; omega
  · show 0 + 1 * d.val = d.val; omega

/-- The body leaves in output block 10 the sum of the two products with the point's rows of the widened w1 and w3. -/
theorem o10 (c : Dev nD) (i : grid0.Coords) (arg1 : Memref sig .tc .smem S56x16 .f32) (harg1 : arg1.IsWhole) (arg2 : Memref sig .tc .smem S56x16 .f32) (harg2 : arg2.IsWhole) (arg3 : Memref sig .tc .smem S16x56 .f32) (harg3 : arg3.IsWhole) (arg4 : Memref sig .tc .vmem S1536x2048 .bf16) (harg4 : arg4.IsWhole) (arg5 : Memref sig .tc .vmem S1536x2048 .bf16) (harg5 : arg5.IsWhole) (arg6 : Memref sig .tc .vmem S1536x2048 .bf16) (harg6 : arg6.IsWhole) (arg7 : Memref sig .tc .vmem S256x2048 .fp8e4m3) (harg7 : arg7.IsWhole) (arg8 : Memref sig .tc .vmem S256x2048 .fp8e4m3) (harg8 : arg8.IsWhole) (arg9 : Memref sig .tc .vmem S2048x256 .fp8e4m3) (harg9 : arg9.IsWhole) (arg10 : Memref sig .tc .vmem S1536x256 .bf16) (harg10 : arg10.IsWhole) (arg11 : Memref sig .tc .vmem S1536x256 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S2048x256 .bf16) (harg14 : arg14.IsWhole)
    (x0 : Vec Ideal S56x16 .f32) (x1 : Vec Ideal S56x16 .f32) (x2 : Vec Ideal S16x56 .f32) (x3 : Vec Ideal S1536x2048 .bf16) (x4 : Vec Ideal S1536x2048 .bf16) (x5 : Vec Ideal S1536x2048 .bf16) (x6 : Vec Ideal S256x2048 .fp8e4m3) (x7 : Vec Ideal S256x2048 .fp8e4m3) (x8 : Vec Ideal S2048x256 .fp8e4m3) (t : Fin 1536) (d : Fin 256) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 (ix2 t d) = (∑ k : Fin 2048, (x4 (ix2 t k) : EReal) * Blocks.wide x6 x0 (fun a => (i 0).val * 2 + a) id d k)
      + ∑ k : Fin 2048, (x5 (ix2 t k) : EReal) * Blocks.wide x7 x1 (fun a => (i 0).val * 2 + a) id d k := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8)]
  unfold kernelRun0_A
  dsimp only
  rw [View.canon_unit_zero hz]
  unfold kernelRun0_A.sl.r_128 kernelRun0_A.sl.r_129 kernelRun0_A.sl.v1161
  try unfold kernelRun0_A.sl.v1158
  unfold k0_pay1 k0_pay99
  refine congrArg₂ (fun a b : EReal => a + b) ?_ ?_
  · refine (Blocks.matmulNT_apply (φ₁ := .bf16) (φ₂ := .bf16) _ rfl none _ _ t d).trans (Finset.sum_congr rfl fun k _ => ?_)
    rw [View.readCov_eq_canon', View.readAt_eq_ld, harg5.read_unread, View.ld_unit_zero (S := S1536x2048) hz]
    refine congrArg₂ (fun a b : EReal => a * b) rfl ?_
    refine (sc0 c i arg1 harg1 arg7 harg7 x0 x6 _).trans ?_
    refine congrArg₂ (Blocks.wide x6 x0 (fun a => (i 0).val * 2 + a) id) (Fin.ext ?_) (Fin.ext ?_)
    · show 0 + 1 * d.val = d.val; omega
    · show 0 + 1 * k.val = k.val; omega
  · refine (Blocks.matmulNT_apply (φ₁ := .bf16) (φ₂ := .bf16) _ rfl none _ _ t d).trans (Finset.sum_congr rfl fun k _ => ?_)
    rw [View.readCov_eq_canon', View.readAt_eq_ld, harg6.read_unread, View.ld_unit_zero (S := S1536x2048) hz]
    refine congrArg₂ (fun a b : EReal => a * b) rfl ?_
    refine (sc1 c i arg2 harg2 arg8 harg8 x1 x7 _).trans ?_
    refine congrArg₂ (Blocks.wide x7 x1 (fun a => (i 0).val * 2 + a) id) (Fin.ext ?_) (Fin.ext ?_)
    · show 0 + 1 * d.val = d.val; omega
    · show 0 + 1 * k.val = k.val; omega

end Cert.DownIdeal.Body
-- ==== Proof.DownKernel.lean ====
/- The down call's results at the ideal values, as sums over the 2048 hidden features of the whole argument arrays: each
   point's column block is a block of the whole products. -/
module

public import proofs.«01_k».proof.Proof.Gen.DownIdeal.Value
public import proofs.«01_k».proof.Proof.DownBody

@[expose] public section

namespace Cert.DownIdeal.Kernel

open Idealize Idealize.ShloMosaic Idealize.ShloMosaic.ValueIdx
open Idealize.ShloMosaic.TcCoe
open Cert.DownIdeal Cert.DownIdeal.Gen Cert.DownIdeal.Body

noncomputable section

variable (m : (ℓ : Loc nD τ sig) → Buf (Elt Ideal) ℓ)

/-- Argument 0, the whole array. -/
abbrev arr0 (c : Dev nD) : Vec Ideal S1536x2048 .bf16 := m ((c : Thread nD τ).loc main_arg0)

/-- Argument 1, the whole array. -/
abbrev arr1 (c : Dev nD) : Vec Ideal S1536x2048 .bf16 := m ((c : Thread nD τ).loc main_arg1)

/-- Argument 2, the whole array. -/
abbrev arr2 (c : Dev nD) : Vec Ideal S1536x2048 .bf16 := m ((c : Thread nD τ).loc main_arg2)

/-- Argument 3, the whole array. -/
abbrev arr3 (c : Dev nD) : Vec Ideal S7168x2048 .fp8e4m3 := m ((c : Thread nD τ).loc main_arg3)

/-- Argument 4, the whole array. -/
abbrev arr4 (c : Dev nD) : Vec Ideal S7168x2048 .fp8e4m3 := m ((c : Thread nD τ).loc main_arg4)

/-- Argument 5, the whole array. -/
abbrev arr5 (c : Dev nD) : Vec Ideal S2048x7168 .fp8e4m3 := m ((c : Thread nD τ).loc main_arg5)

/-- Argument 6, the whole array. -/
abbrev arr6 (c : Dev nD) : Vec Ideal S56x16 .f32 := m ((c : Thread nD τ).loc main_arg6)

/-- Argument 7, the whole array. -/
abbrev arr7 (c : Dev nD) : Vec Ideal S56x16 .f32 := m ((c : Thread nD τ).loc main_arg7)

/-- Argument 8, the whole array. -/
abbrev arr8 (c : Dev nD) : Vec Ideal S16x56 .f32 := m ((c : Thread nD τ).loc main_arg8)

/-- The grid coordinate of a point is its number. -/
theorem coord : ∀ t : Fin cfg0.N, ((grid0.coords t) 0).val = t.val := by decide

theorem idx0 : ∀ t : Fin cfg0.N, win0_0.index t 0 = 0 ∧ win0_0.index t 1 = 0 := by decide

/-- Window 0 is the whole array at every point. -/
theorem blk0 (c : Dev nD) (t : Fin cfg0.N) : iblk m c 0 t = arr6 m c := by
  have hi := idx0 t
  funext j
  unfold iblk
  rw [View.read_apply]
  show V m c main_arg6 _ = m (c.tc.loc main_arg6) _
  unfold V
  congr 1
  funext a
  apply Fin.ext
  match a with
  | ⟨0, _⟩ => show win0_0.index t 0 * 56 + 1 * (j 0).val = (j 0).val; rw [hi.1]; omega
  | ⟨1, _⟩ => show win0_0.index t 1 * 16 + 1 * (j 1).val = (j 1).val; rw [hi.2]; omega

theorem idx1 : ∀ t : Fin cfg0.N, win0_1.index t 0 = 0 ∧ win0_1.index t 1 = 0 := by decide

/-- Window 1 is the whole array at every point. -/
theorem blk1 (c : Dev nD) (t : Fin cfg0.N) : iblk m c 1 t = arr7 m c := by
  have hi := idx1 t
  funext j
  unfold iblk
  rw [View.read_apply]
  show V m c main_arg7 _ = m (c.tc.loc main_arg7) _
  unfold V
  congr 1
  funext a
  apply Fin.ext
  match a with
  | ⟨0, _⟩ => show win0_1.index t 0 * 56 + 1 * (j 0).val = (j 0).val; rw [hi.1]; omega
  | ⟨1, _⟩ => show win0_1.index t 1 * 16 + 1 * (j 1).val = (j 1).val; rw [hi.2]; omega

theorem idx2 : ∀ t : Fin cfg0.N, win0_2.index t 0 = 0 ∧ win0_2.index t 1 = 0 := by decide

/-- Window 2 is the whole array at every point. -/
theorem blk2 (c : Dev nD) (t : Fin cfg0.N) : iblk m c 2 t = arr8 m c := by
  have hi := idx2 t
  funext j
  unfold iblk
  rw [View.read_apply]
  show V m c main_arg8 _ = m (c.tc.loc main_arg8) _
  unfold V
  congr 1
  funext a
  apply Fin.ext
  match a with
  | ⟨0, _⟩ => show win0_2.index t 0 * 16 + 1 * (j 0).val = (j 0).val; rw [hi.1]; omega
  | ⟨1, _⟩ => show win0_2.index t 1 * 56 + 1 * (j 1).val = (j 1).val; rw [hi.2]; omega

theorem idx3 : ∀ t : Fin cfg0.N, win0_3.index t 0 = 0 ∧ win0_3.index t 1 = 0 := by decide

/-- Window 3 is the whole array at every point. -/
theorem blk3 (c : Dev nD) (t : Fin cfg0.N) : iblk m c 3 t = arr0 m c := by
  have hi := idx3 t
  funext j
  unfold iblk
  rw [View.read_apply]
  show V m c main_arg0 _ = m (c.tc.loc main_arg0) _
  unfold V
  congr 1
  funext a
  apply Fin.ext
  match a with
  | ⟨0, _⟩ => show win0_3.index t 0 * 1536 + 1 * (j 0).val = (j 0).val; rw [hi.1]; omega
  | ⟨1, _⟩ => show win0_3.index t 1 * 2048 + 1 * (j 1).val = (j 1).val; rw [hi.2]; omega

theorem idx4 : ∀ t : Fin cfg0.N, win0_4.index t 0 = 0 ∧ win0_4.index t 1 = 0 := by decide

/-- Window 4 is the whole array at every point. -/
theorem blk4 (c : Dev nD) (t : Fin cfg0.N) : iblk m c 4 t = arr1 m c := by
  have hi := idx4 t
  funext j
  unfold iblk
  rw [View.read_apply]
  show V m c main_arg1 _ = m (c.tc.loc main_arg1) _
  unfold V
  congr 1
  funext a
  apply Fin.ext
  match a with
  | ⟨0, _⟩ => show win0_4.index t 0 * 1536 + 1 * (j 0).val = (j 0).val; rw [hi.1]; omega
  | ⟨1, _⟩ => show win0_4.index t 1 * 2048 + 1 * (j 1).val = (j 1).val; rw [hi.2]; omega

theorem idx5 : ∀ t : Fin cfg0.N, win0_5.index t 0 = 0 ∧ win0_5.index t 1 = 0 := by decide

/-- Window 5 is the whole array at every point. -/
theorem blk5 (c : Dev nD) (t : Fin cfg0.N) : iblk m c 5 t = arr2 m c := by
  have hi := idx5 t
  funext j
  unfold iblk
  rw [View.read_apply]
  show V m c main_arg2 _ = m (c.tc.loc main_arg2) _
  unfold V
  congr 1
  funext a
  apply Fin.ext
  match a with
  | ⟨0, _⟩ => show win0_5.index t 0 * 1536 + 1 * (j 0).val = (j 0).val; rw [hi.1]; omega
  | ⟨1, _⟩ => show win0_5.index t 1 * 2048 + 1 * (j 1).val = (j 1).val; rw [hi.2]; omega

theorem idx6 : ∀ t : Fin cfg0.N, win0_6.index t 0 = t.val ∧ win0_6.index t 1 = 0 := by decide

/-- Window 6 at point `t` is the point's block of the array. -/
theorem blk6 (c : Dev nD) (t : Fin cfg0.N) (k : Fin 2048) (d : Fin 256) (e : Fin 7168) (he : e.val = t.val * 256 + d.val) :
    (iblk m c 6 t : Vec Ideal S256x2048 .fp8e4m3) (ix2 d k) = arr3 m c (ix2 e k) := by
  have hi := idx6 t
  unfold iblk
  rw [View.read_apply]
  show V m c main_arg3 _ = m (c.tc.loc main_arg3) _
  unfold V
  congr 1
  funext a
  apply Fin.ext
  match a with
  | ⟨0, _⟩ => show win0_6.index t 0 * 256 + 1 * d.val = e.val; rw [hi.1, he]; omega
  | ⟨1, _⟩ => show win0_6.index t 1 * 2048 + 1 * k.val = k.val; rw [hi.2]; omega

theorem idx7 : ∀ t : Fin cfg0.N, win0_7.index t 0 = t.val ∧ win0_7.index t 1 = 0 := by decide

/-- Window 7 at point `t` is the point's block of the array. -/
theorem blk7 (c : Dev nD) (t : Fin cfg0.N) (k : Fin 2048) (d : Fin 256) (e : Fin 7168) (he : e.val = t.val * 256 + d.val) :
    (iblk m c 7 t : Vec Ideal S256x2048 .fp8e4m3) (ix2 d k) = arr4 m c (ix2 e k) := by
  have hi := idx7 t
  unfold iblk
  rw [View.read_apply]
  show V m c main_arg4 _ = m (c.tc.loc main_arg4) _
  unfold V
  congr 1
  funext a
  apply Fin.ext
  match a with
  | ⟨0, _⟩ => show win0_7.index t 0 * 256 + 1 * d.val = e.val; rw [hi.1, he]; omega
  | ⟨1, _⟩ => show win0_7.index t 1 * 2048 + 1 * k.val = k.val; rw [hi.2]; omega

theorem idx8 : ∀ t : Fin cfg0.N, win0_8.index t 0 = 0 ∧ win0_8.index t 1 = t.val := by decide

/-- Window 8 at point `t` is the point's block of the array. -/
theorem blk8 (c : Dev nD) (t : Fin cfg0.N) (k : Fin 2048) (d : Fin 256) (e : Fin 7168) (he : e.val = t.val * 256 + d.val) :
    (iblk m c 8 t : Vec Ideal S2048x256 .fp8e4m3) (ix2 k d) = arr5 m c (ix2 k e) := by
  have hi := idx8 t
  unfold iblk
  rw [View.read_apply]
  show V m c main_arg5 _ = m (c.tc.loc main_arg5) _
  unfold V
  congr 1
  funext a
  apply Fin.ext
  match a with
  | ⟨0, _⟩ => show win0_8.index t 0 * 2048 + 1 * k.val = k.val; rw [hi.1]; omega
  | ⟨1, _⟩ => show win0_8.index t 1 * 256 + 1 * d.val = e.val; rw [hi.2, he]; omega

/-- The point's widened tile of w1 is a tile of the widened whole array. -/
theorem wide_w1 (c : Dev nD) (t : Fin cfg0.N) (k : Fin 2048) (d : Fin 256) (e : Fin 7168) (he : e.val = t.val * 256 + d.val) :
    Blocks.wide (m := 256) (n := 2048) (p := 56) (r := 16) (iblk m c 6 t) (iblk m c 0 t) (fun a => ((grid0.coords t) 0).val * 2 + a) id d k
      = Blocks.wide (m := 7168) (n := 2048) (p := 56) (r := 16) (arr3 m c) (arr6 m c) id id e k := by
  unfold Blocks.wide
  rw [coord t, blk0]
  dsimp only
  rw [show t.val * 2 + d.val / 128 = e.val / 128 by omega]
  exact congrArg (fun a : EReal => a * _) (blk6 m c t k d e he)

/-- The point's widened tile of w3 is a tile of the widened whole array. -/
theorem wide_w3 (c : Dev nD) (t : Fin cfg0.N) (k : Fin 2048) (d : Fin 256) (e : Fin 7168) (he : e.val = t.val * 256 + d.val) :
    Blocks.wide (m := 256) (n := 2048) (p := 56) (r := 16) (iblk m c 7 t) (iblk m c 1 t) (fun a => ((grid0.coords t) 0).val * 2 + a) id d k
      = Blocks.wide (m := 7168) (n := 2048) (p := 56) (r := 16) (arr4 m c) (arr7 m c) id id e k := by
  unfold Blocks.wide
  rw [coord t, blk1]
  dsimp only
  rw [show t.val * 2 + d.val / 128 = e.val / 128 by omega]
  exact congrArg (fun a : EReal => a * _) (blk7 m c t k d e he)

/-- The point's widened tile of w2 is a tile of the widened whole array. -/
theorem wide_w2 (c : Dev nD) (t : Fin cfg0.N) (k : Fin 2048) (d : Fin 256) (e : Fin 7168) (he : e.val = t.val * 256 + d.val) :
    Blocks.wide (m := 2048) (n := 256) (p := 16) (r := 56) (iblk m c 8 t) (iblk m c 2 t) id (fun a => ((grid0.coords t) 0).val * 2 + a) k d
      = Blocks.wide (m := 2048) (n := 7168) (p := 16) (r := 56) (arr5 m c) (arr8 m c) id id k e := by
  unfold Blocks.wide
  rw [coord t, blk2]
  dsimp only
  rw [show t.val * 2 + d.val / 128 = e.val / 128 by omega]
  exact congrArg (fun a : EReal => a * _) (blk8 m c t k d e he)

/-- Result 1 of the call, as a function of its arguments. -/
def y (c : Dev nD) (r : Fin 1536) (e : Fin 7168) : EReal :=
  ∑ k : Fin 2048, (arr0 m c (ix2 r k) : EReal) * Blocks.wide (m := 2048) (n := 7168) (p := 16) (r := 56) (arr5 m c) (arr8 m c) id id k e

/-- Result 2 of the call, as a function of its arguments. -/
def dx (c : Dev nD) (r : Fin 1536) (e : Fin 7168) : EReal :=
  (∑ k : Fin 2048, (arr1 m c (ix2 r k) : EReal) * Blocks.wide (m := 7168) (n := 2048) (p := 56) (r := 16) (arr3 m c) (arr6 m c) id id e k)
      + ∑ k : Fin 2048, (arr2 m c (ix2 r k) : EReal) * Blocks.wide (m := 7168) (n := 2048) (p := 56) (r := 16) (arr4 m c) (arr7 m c) id id e k

/-- Point `t`'s block of output 9 is a block of the whole product. -/
theorem out9 (c : Dev nD) (t : Fin cfg0.N) (r : Fin 1536) (d : Fin 256) (e : Fin 7168) (he : e.val = t.val * 256 + d.val) :
    (outsAt0 m c t).1 (ix2 r d) = y m c r e := by
  unfold outsAt0
  dsimp only
  refine (o9 ..).trans (Finset.sum_congr rfl fun k _ => ?_)
  refine congrArg₂ (fun a b : EReal => a * b) ?_ (wide_w2 m c t k d e he)
  rw [blk3]

/-- Point `t`'s block of output 10 is a block of the sum of the whole products. -/
theorem out10 (c : Dev nD) (t : Fin cfg0.N) (r : Fin 1536) (d : Fin 256) (e : Fin 7168) (he : e.val = t.val * 256 + d.val) :
    (outsAt0 m c t).2 (ix2 r d) = dx m c r e := by
  unfold outsAt0
  dsimp only
  refine (o10 ..).trans (congrArg₂ (fun a b : EReal => a + b) (Finset.sum_congr rfl fun k _ => ?_) (Finset.sum_congr rfl fun k _ => ?_))
  · refine congrArg₂ (fun a b : EReal => a * b) ?_ (wide_w1 m c t k d e he)
    rw [blk4]
  · refine congrArg₂ (fun a b : EReal => a * b) ?_ (wide_w3 m c t k d e he)
    rw [blk5]

theorem idx9 : ∀ t : Fin cfg0.N, (cfg0.win 9).flush t = true ∧ win0_9.index t 0 = 0 ∧ win0_9.index t 1 = t.val := by decide

/-- Result 1 of the call at an index. -/
theorem result9 (c : Dev nD) (r : Fin 1536) (e : Fin 7168) :
    ((dats m 0 c).arrAt 9 cfg0.N : Vec Ideal S1536x7168 .bf16) (ix2 r e) = y m c r e := by
  have hN : cfg0.N = 28 := N_0
  have he := e.isLt
  let t : Fin cfg0.N := ⟨e.val / 256, by omega⟩
  let d : Fin 256 := ⟨e.val % 256, Nat.mod_lt _ (by decide)⟩
  have hi := idx9 t
  have h := congrFun (Value.blocks9 m c t hi.1) (ix2 (n0 := 1536) (n1 := 256) r d)
  rw [Value.flushed9, View.read_apply] at h
  refine Eq.trans (congrArg ((dats m 0 c).arrAt 9 cfg0.N : Vec Ideal S1536x7168 .bf16) ?_) (h.trans (out9 m c t r d e (Nat.div_add_mod' _ _).symm))
  funext a
  apply Fin.ext
  match a with
  | ⟨0, _⟩ => show r.val = win0_9.index t 0 * 1536 + 1 * r.val; rw [hi.2.1]; omega
  | ⟨1, _⟩ => show e.val = win0_9.index t 1 * 256 + 1 * (e.val % 256); rw [hi.2.2]; show e.val = e.val / 256 * 256 + 1 * (e.val % 256); omega

theorem idx10 : ∀ t : Fin cfg0.N, (cfg0.win 10).flush t = true ∧ win0_10.index t 0 = 0 ∧ win0_10.index t 1 = t.val := by decide

/-- Result 2 of the call at an index. -/
theorem result10 (c : Dev nD) (r : Fin 1536) (e : Fin 7168) :
    ((dats m 0 c).arrAt 10 cfg0.N : Vec Ideal S1536x7168 .bf16) (ix2 r e) = dx m c r e := by
  have hN : cfg0.N = 28 := N_0
  have he := e.isLt
  let t : Fin cfg0.N := ⟨e.val / 256, by omega⟩
  let d : Fin 256 := ⟨e.val % 256, Nat.mod_lt _ (by decide)⟩
  have hi := idx10 t
  have h := congrFun (Value.blocks10 m c t hi.1) (ix2 (n0 := 1536) (n1 := 256) r d)
  rw [Value.flushed10, View.read_apply] at h
  refine Eq.trans (congrArg ((dats m 0 c).arrAt 10 cfg0.N : Vec Ideal S1536x7168 .bf16) ?_) (h.trans (out10 m c t r d e (Nat.div_add_mod' _ _).symm))
  funext a
  apply Fin.ext
  match a with
  | ⟨0, _⟩ => show r.val = win0_10.index t 0 * 1536 + 1 * r.val; rw [hi.2.1]; omega
  | ⟨1, _⟩ => show e.val = win0_10.index t 1 * 256 + 1 * (e.val % 256); rw [hi.2.2]; show e.val = e.val / 256 * 256 + 1 * (e.val % 256); omega

end

end Cert.DownIdeal.Kernel
-- ==== Proof.Down.lean ====
/- The down call and its reference agree on the ideal values: both results are the same sums over the hidden features. -/
module

public import proofs.«01_k».proof.Defs
public import proofs.«01_k».proof.Proof.Gen.DownRefIdeal.Value
public import proofs.«01_k».proof.Proof.DownKernel

@[expose] public section

namespace Cert.DownIdeal.Agree

open Idealize Idealize.ShloMosaic Idealize.ShloMosaic.ValueIdx
open Idealize.ShloMosaic.TcCoe

noncomputable section

/-- Two matrices with the same entries are the same. -/
theorem ext2 {n0 n1 : ℕ} {α : Type} {x y : Shape.Idx ⟨2, ![n0, n1]⟩ → α} (h : ∀ i j, x (ix2 i j) = y (ix2 i j)) : x = y := by
  funext k; rw [eq_ix2 k]; exact h _ _

section Reference

open Cert.DownRefIdeal Cert.DownRefIdeal.Gen

variable (a0 a1 a2 : Vec Ideal S1536x2048 .bf16) (a3 a4 : Vec Ideal S7168x2048 .fp8e4m3) (a5 : Vec Ideal S2048x7168 .fp8e4m3)
  (a6 a7 : Vec Ideal S56x16 .f32) (a8 : Vec Ideal S16x56 .f32)

/-- The reference's result 1 at an index. -/
theorem ref9 (r : Fin 1536) (e : Fin 7168) : Cert.DownRefIdeal.Value.G9 a0 a1 a2 a3 a4 a5 a6 a7 a8 (ix2 r e) =
    ∑ k : Fin 2048, (a0 (ix2 r k) : EReal) * Blocks.wide (m := 2048) (n := 7168) (p := 16) (r := 56) a5 a8 id id k e := by
  unfold Cert.DownRefIdeal.Value.G9 k0_pay2
  refine (Blocks.matmulNN_apply (φ₁ := .bf16) (φ₂ := .bf16) _ rfl none _ _ r e).trans (Finset.sum_congr rfl fun k _ => ?_)
  refine congrArg (fun b : EReal => _ * b) ?_
  exact Blocks.ref_apply (m := 2048) (n := 7168) (p := 16) (r := 56) rfl rfl (by decide) (by decide) a5 a8 _ _ _ _ _ _ k e

/-- The reference's result 2 at an index. -/
theorem ref10 (r : Fin 1536) (e : Fin 7168) : Cert.DownRefIdeal.Value.G10 a0 a1 a2 a3 a4 a5 a6 a7 a8 (ix2 r e) =
    (∑ k : Fin 2048, (a1 (ix2 r k) : EReal) * Blocks.wide (m := 7168) (n := 2048) (p := 56) (r := 16) a3 a6 id id e k)
      + ∑ k : Fin 2048, (a2 (ix2 r k) : EReal) * Blocks.wide (m := 7168) (n := 2048) (p := 56) (r := 16) a4 a7 id id e k := by
  unfold Cert.DownRefIdeal.Value.G10 k0_pay1 k0_pay3
  refine congrArg₂ (fun a b : EReal => a + b) ?_ ?_
  · refine (Blocks.matmulNT_apply (φ₁ := .bf16) (φ₂ := .bf16) _ rfl none _ _ r e).trans (Finset.sum_congr rfl fun k _ => ?_)
    refine congrArg (fun b : EReal => _ * b) ?_
    exact Blocks.ref_apply (m := 7168) (n := 2048) (p := 56) (r := 16) rfl rfl (by decide) (by decide) a3 a6 _ _ _ _ _ _ e k
  · refine (Blocks.matmulNT_apply (φ₁ := .bf16) (φ₂ := .bf16) _ rfl none _ _ r e).trans (Finset.sum_congr rfl fun k _ => ?_)
    refine congrArg (fun b : EReal => _ * b) ?_
    exact Blocks.ref_apply (m := 7168) (n := 2048) (p := 56) (r := 16) rfl rfl (by decide) (by decide) a4 a7 _ _ _ _ _ _ e k

end Reference

/-- Result 1 of the call is the reference's result 1 of the same arguments. -/
theorem same9 (m : (ℓ : Loc Cert.DownIdeal.nD Cert.DownIdeal.τ Cert.DownIdeal.sig) → Buf (Elt Ideal) ℓ) (c : Dev Cert.DownIdeal.nD) :
    (Cert.DownRefIdeal.Value.G9 (Kernel.arr0 m c) (Kernel.arr1 m c) (Kernel.arr2 m c) (Kernel.arr3 m c) (Kernel.arr4 m c) (Kernel.arr5 m c) (Kernel.arr6 m c) (Kernel.arr7 m c) (Kernel.arr8 m c) : Vec Ideal Cert.DownIdeal.S1536x7168 .bf16) = (Cert.DownIdeal.Gen.dats m 0 c).arrAt 9 Cert.DownIdeal.cfg0.N :=
  ext2 fun r e => (ref9 (Kernel.arr0 m c) (Kernel.arr1 m c) (Kernel.arr2 m c) (Kernel.arr3 m c) (Kernel.arr4 m c) (Kernel.arr5 m c) (Kernel.arr6 m c) (Kernel.arr7 m c) (Kernel.arr8 m c) r e).trans (Kernel.result9 m c r e).symm

/-- Result 2 of the call is the reference's result 2 of the same arguments. -/
theorem same10 (m : (ℓ : Loc Cert.DownIdeal.nD Cert.DownIdeal.τ Cert.DownIdeal.sig) → Buf (Elt Ideal) ℓ) (c : Dev Cert.DownIdeal.nD) :
    (Cert.DownRefIdeal.Value.G10 (Kernel.arr0 m c) (Kernel.arr1 m c) (Kernel.arr2 m c) (Kernel.arr3 m c) (Kernel.arr4 m c) (Kernel.arr5 m c) (Kernel.arr6 m c) (Kernel.arr7 m c) (Kernel.arr8 m c) : Vec Ideal Cert.DownIdeal.S1536x7168 .bf16) = (Cert.DownIdeal.Gen.dats m 0 c).arrAt 10 Cert.DownIdeal.cfg0.N :=
  ext2 fun r e => (ref10 (Kernel.arr0 m c) (Kernel.arr1 m c) (Kernel.arr2 m c) (Kernel.arr3 m c) (Kernel.arr4 m c) (Kernel.arr5 m c) (Kernel.arr6 m c) (Kernel.arr7 m c) (Kernel.arr8 m c) r e).trans (Kernel.result10 m c r e).symm

/-- THE CLAIM of the down call: it and its reference end with the same results, arguments kept. -/
theorem agree [hDownIdeal : Cert.DownIdeal.Facts] [hDownRefIdeal : Cert.DownRefIdeal.Facts] : Cert.algebraic_DownIdeal_DownRefIdeal := by
  intro m g m' g' _ hargs
  refine ⟨fun c => (Cert.DownIdeal.Gen.dats m 0 c).arrAt 9 Cert.DownIdeal.cfg0.N, fun c => (Cert.DownIdeal.Gen.dats m 0 c).arrAt 10 Cert.DownIdeal.cfg0.N,
    Cert.DownIdeal.Value.run_blocks m g, ?_⟩
  refine (θ_run Cert.DownRefIdeal.defs _ _).mono (fun r H c => ?_) (Cert.DownRefIdeal.Value.run m' g')
  obtain ⟨h0, h1, h2, h3, h4, h5, h6, h7, h8⟩ := hargs c
  have Hc := H c
  obtain ⟨H0, H1, Hrest⟩ := Hc
  refine ⟨H0.trans ?_, H1.trans ?_, Hrest⟩
  · refine Eq.trans ?_ (same9 m c)
    rw [show m' ((c : Thread Cert.DownRefIdeal.nD Cert.DownRefIdeal.τ).loc Cert.DownRefIdeal.main_arg0) = Kernel.arr0 m c from h0, show m' ((c : Thread Cert.DownRefIdeal.nD Cert.DownRefIdeal.τ).loc Cert.DownRefIdeal.main_arg1) = Kernel.arr1 m c from h1, show m' ((c : Thread Cert.DownRefIdeal.nD Cert.DownRefIdeal.τ).loc Cert.DownRefIdeal.main_arg2) = Kernel.arr2 m c from h2, show m' ((c : Thread Cert.DownRefIdeal.nD Cert.DownRefIdeal.τ).loc Cert.DownRefIdeal.main_arg3) = Kernel.arr3 m c from h3, show m' ((c : Thread Cert.DownRefIdeal.nD Cert.DownRefIdeal.τ).loc Cert.DownRefIdeal.main_arg4) = Kernel.arr4 m c from h4, show m' ((c : Thread Cert.DownRefIdeal.nD Cert.DownRefIdeal.τ).loc Cert.DownRefIdeal.main_arg5) = Kernel.arr5 m c from h5, show m' ((c : Thread Cert.DownRefIdeal.nD Cert.DownRefIdeal.τ).loc Cert.DownRefIdeal.main_arg6) = Kernel.arr6 m c from h6, show m' ((c : Thread Cert.DownRefIdeal.nD Cert.DownRefIdeal.τ).loc Cert.DownRefIdeal.main_arg7) = Kernel.arr7 m c from h7, show m' ((c : Thread Cert.DownRefIdeal.nD Cert.DownRefIdeal.τ).loc Cert.DownRefIdeal.main_arg8) = Kernel.arr8 m c from h8]
  · refine Eq.trans ?_ (same10 m c)
    rw [show m' ((c : Thread Cert.DownRefIdeal.nD Cert.DownRefIdeal.τ).loc Cert.DownRefIdeal.main_arg0) = Kernel.arr0 m c from h0, show m' ((c : Thread Cert.DownRefIdeal.nD Cert.DownRefIdeal.τ).loc Cert.DownRefIdeal.main_arg1) = Kernel.arr1 m c from h1, show m' ((c : Thread Cert.DownRefIdeal.nD Cert.DownRefIdeal.τ).loc Cert.DownRefIdeal.main_arg2) = Kernel.arr2 m c from h2, show m' ((c : Thread Cert.DownRefIdeal.nD Cert.DownRefIdeal.τ).loc Cert.DownRefIdeal.main_arg3) = Kernel.arr3 m c from h3, show m' ((c : Thread Cert.DownRefIdeal.nD Cert.DownRefIdeal.τ).loc Cert.DownRefIdeal.main_arg4) = Kernel.arr4 m c from h4, show m' ((c : Thread Cert.DownRefIdeal.nD Cert.DownRefIdeal.τ).loc Cert.DownRefIdeal.main_arg5) = Kernel.arr5 m c from h5, show m' ((c : Thread Cert.DownRefIdeal.nD Cert.DownRefIdeal.τ).loc Cert.DownRefIdeal.main_arg6) = Kernel.arr6 m c from h6, show m' ((c : Thread Cert.DownRefIdeal.nD Cert.DownRefIdeal.τ).loc Cert.DownRefIdeal.main_arg7) = Kernel.arr7 m c from h7, show m' ((c : Thread Cert.DownRefIdeal.nD Cert.DownRefIdeal.τ).loc Cert.DownRefIdeal.main_arg8) = Kernel.arr8 m c from h8]

end

end Cert.DownIdeal.Agree
-- ==== Proof.Quantiser.lean ====
/- The quantiser at the ideal values: a group of 128 entries with the greatest absolute value `a` gets the exponent
   `1 + ⌊log₂ (a / fmax)⌋` (0 for `a = 0`), the scale 2 to that power, and the codes `clip (v · 2^-e)`. Stated at an index,
   for groups along a row and groups down a column, with the kernel's spelling of both. -/
module

public import Idealize.ShloMosaic.Lib.ValueIdx
public import Idealize.ShloMosaic.PureOps.Ideal.Laws
public import Idealize.ShloMosaic.Lib.ValueLayout
public import Idealize.ShloMosaic.Lib.Pipeline.Value
public import Idealize.ShloMosaic.Lib.Pipeline.ValueKit.Tiles

@[expose] public section

namespace Cert.Quantiser

open Idealize Idealize.ShloMosaic Idealize.ShloMosaic.ValueIdx

noncomputable section

/-- A format of codes: the pattern of `1 / fmax`, of `-fmax` and of `fmax`. -/
structure Fmt where
  k : BitVec 32
  lo : BitVec 32
  hi : BitVec 32

/-- The format with the greatest value 448. -/
def e4 : Fmt := ⟨0x3B124925#32, 0xC3E00000#32, 0x43E00000#32⟩

/-- The format with the greatest value 57344. -/
def e5 : Fmt := ⟨0x37924925#32, 0xC7600000#32, 0x47600000#32⟩

variable (p : Fmt)

/-- The value of a pattern. -/
abbrev bits (b : BitVec 32) : EReal := (FloatOps.ofBits (F := Ideal) .f32 b : EReal)

/-- `1 + ⌊log₂ t⌋`. -/
def raw (t : EReal) : EReal :=
  (FloatOps.addf (F := Ideal) (φ := .f32) (FloatOps.floor (FloatOps.divf (FloatOps.log (F := Ideal) (φ := .f32) t) (FloatOps.log (F := Ideal) (φ := .f32) (bits 0x40000000#32)))) (bits 0x3F800000#32) : EReal)

open Classical in
/-- The exponent of a group with the greatest absolute value `a`. -/
def expo (a : EReal) : EReal := if a = 0 then bits 0x00000000#32 else raw (a * bits p.k)

/-- The greatest absolute value of a group. -/
def amax (f : Fin 128 → EReal) : EReal :=
  (Finset.univ : Finset (Fin 128)).fold max (bits 0xFF800000#32) fun k => max (f k) (-(f k))

/-- The scale at an exponent. -/
def scale (e : EReal) : EReal := (FloatOps.exp2 (F := Ideal) (φ := .f32) e : EReal)

/-- The code of an entry at an exponent. -/
def code (v e : EReal) : EReal :=
  (FloatOps.minimumf (F := Ideal) (φ := .f32) (bits p.hi) (FloatOps.maximumf (F := Ideal) (φ := .f32) (bits p.lo) (v * scale (bits 0x00000000#32 - e))) : EReal)

section Spec

variable {R C : Nat} [NeZero R] [NeZero C] (x : Fin R → Fin C → EReal)

/-- The exponent of group `g` of row `r`. -/
def rowE (r : Fin R) (g : Nat) : EReal := expo p (amax fun k : Fin 128 => x r (Fin.ofNat C (g * 128 + k.val)))

/-- The exponent of group `g` of column `j`. -/
def colE (g : Nat) (j : Fin C) : EReal := expo p (amax fun k : Fin 128 => x (Fin.ofNat R (g * 128 + k.val)) j)

/-- The row scales. -/
def rowS (r : Fin R) (g : Nat) : EReal := scale (rowE p x r g)

/-- The column scales. -/
def colS (g : Nat) (j : Fin C) : EReal := scale (colE p x g j)

/-- The row codes. -/
def rowQ (r : Fin R) (j : Fin C) : EReal := code p (x r j) (rowE p x r (j.val / 128))

/-- The column codes. -/
def colQ (r : Fin R) (j : Fin C) : EReal := code p (x r j) (colE p x (r.val / 128) j)

/-- The row codes times their scales. -/
def rowW (r : Fin R) (j : Fin C) : EReal := rowQ p x r j * rowS p x r (j.val / 128)

end Spec

/-- Comparing with the zero pattern decides being zero. -/
theorem select_oeq (t a b : EReal) [Decidable (t = 0)] : Scalar.select (FloatOps.cmpf (F := Ideal) (φ := .f32) .oeq t (bits 0x00000000#32)) a b = if t = 0 then a else b := by
  have h0 : bits 0x00000000#32 = 0 := by simp [bits, Ideal.ofBits, Ideal.ieee]
  rw [h0]
  show Scalar.select (Ideal.cmp .oeq t 0) a b = _
  by_cases h : t = 0 <;> simp [h, Scalar.select, Ideal.cmp]

theorem k4_ne : bits e4.k ≠ 0 := by
  show Ideal.ofBits .f32 0x3B124925#32 ≠ 0
  simp [Ideal.ofBits, Ideal.ieee, -EReal.coe_mul, -EReal.coe_neg]
  try norm_num

theorem k5_ne : bits e5.k ≠ 0 := by
  show Ideal.ofBits .f32 0x37924925#32 ≠ 0
  simp [Ideal.ofBits, Ideal.ieee, -EReal.coe_mul, -EReal.coe_neg]
  try norm_num

/-- The exponent when the comparison is made of `a / fmax`. -/
theorem expo_of_scaled (hk : bits p.k ≠ 0) (a : EReal) :
    Scalar.select (FloatOps.cmpf (F := Ideal) (φ := .f32) .oeq (a * bits p.k) (bits 0x00000000#32)) (bits 0x00000000#32) (raw (a * bits p.k)) = expo p a := by
  classical
  rw [select_oeq]
  unfold expo
  by_cases h : a = 0
  · simp [h]
  · rw [if_neg h, if_neg (mul_ne_zero h hk)]

/-- The exponent when the comparison is made of `a`. -/
theorem expo_of_amax (a : EReal) :
    Scalar.select (FloatOps.cmpf (F := Ideal) (φ := .f32) .oeq a (bits 0x00000000#32)) (bits 0x00000000#32) (raw (a * bits p.k)) = expo p a := by
  classical
  rw [select_oeq]
  unfold expo
  by_cases h : a = 0 <;> simp [h]

end

end Cert.Quantiser
-- ==== Proof.QuantTile.lean ====
/- One 128 by 128 tile as the kernels quantise it, in vector operations, read at an index: rows and columns, codes, scales
   and the codes widened again. -/
module

public import proofs.«01_k».proof.Proof.Quantiser

@[expose] public section

namespace Cert.Quantiser

open Idealize Idealize.ShloMosaic Idealize.ShloMosaic.ValueIdx

noncomputable section

/-- The tile, a row's column, a column's row, a list of 128, and a column's row under one more axis. -/
abbrev T2 : Shape := ⟨2, ![128, 128]⟩
abbrev TR : Shape := ⟨2, ![128, 1]⟩
abbrev TC : Shape := ⟨2, ![1, 128]⟩
abbrev T1 : Shape := ⟨1, ![128]⟩
abbrev TC3 : Shape := ⟨3, ![1, 1, 128]⟩

variable (p : Fmt)

/-- The exponents from the greatest absolute values, at any shape. -/
def expoV (s : Shape) (a : FVec Ideal s .f32) : FVec Ideal s .f32 :=
  select (cmpf .oeq (mulf a (broadcast s (Scalar.ofBits (F := Ideal) .f32 p.k))) (broadcast s (Scalar.ofBits (F := Ideal) .f32 0x00000000#32)))
    (broadcast s (Scalar.ofBits (F := Ideal) .f32 0x00000000#32))
    (addf (floor (divf (log (mulf a (broadcast s (Scalar.ofBits (F := Ideal) .f32 p.k)))) (log (broadcast s (Scalar.ofBits (F := Ideal) .f32 0x40000000#32)))))
      (broadcast s (Scalar.ofBits (F := Ideal) .f32 0x3F800000#32)))

theorem expoV_apply (hk : bits p.k ≠ 0) (s : Shape) (a : FVec Ideal s .f32) (i : s.Idx) : expoV p s a i = expo p (a i) :=
  expo_of_scaled p hk (a i)

/-- The greatest absolute value of each row. -/
def amaxR (v : FVec Ideal T2 .f32) (h1 : Shape.Reduces T2 [1] T1) (h2 : T1.ShapeCasts TR) : FVec Ideal TR .f32 :=
  shapeCast TR (multiReduction .maximumf [1] T1 (absf v) 0xFF800000#32 h1 (.inl rfl) rfl) h2

/-- The greatest absolute value of each column. -/
def amaxC (v : FVec Ideal T2 .f32) (h1 : Shape.Reduces T2 [0] T1) (h2 : T1.ShapeCasts TC) : FVec Ideal TC .f32 :=
  shapeCast TC (multiReduction .maximumf [0] T1 (absf v) 0xFF800000#32 h1 (.inl rfl) rfl) h2

theorem amaxR_apply (v : FVec Ideal T2 .f32) (h1 h2) (i : Fin 128) (j : Fin 1) : amaxR v h1 h2 (ix2 i j) = amax fun k => v (ix2 i k) := by
  have hj := j.isLt
  unfold amaxR
  rw [shapeCast_apply (k := ix1 i)]
  · refine (Ideal.multiReduction_maximumf_single _ _ h1 _ _ _).trans ?_
    unfold amax
    refine congrArg (Finset.fold max _ · _) (funext fun k => ?_)
    have e : h1.lift (ix1 i) k = (ix2 i k : T2.Idx) := by
      funext a; apply Fin.ext
      match a with
      | ⟨0, _⟩ => rfl
      | ⟨1, _⟩ => rfl
    show max (v (h1.lift (ix1 i) k)) (-(v (h1.lift (ix1 i) k))) = _
    rw [e]
  · rw [Shape.rowMajor_val_one, Shape.rowMajor_val_two]
    show i.val = i.val * 1 + j.val
    omega

theorem amaxC_apply (v : FVec Ideal T2 .f32) (h1 h2) (i : Fin 1) (j : Fin 128) : amaxC v h1 h2 (ix2 i j) = amax fun k => v (ix2 k j) := by
  have hi := i.isLt
  unfold amaxC
  rw [shapeCast_apply (k := ix1 j)]
  · refine (Ideal.multiReduction_maximumf_single _ _ h1 _ _ _).trans ?_
    unfold amax
    refine congrArg (Finset.fold max _ · _) (funext fun k => ?_)
    have e : h1.lift (ix1 j) k = (ix2 k j : T2.Idx) := by
      funext a; apply Fin.ext
      match a with
      | ⟨0, _⟩ => rfl
      | ⟨1, _⟩ => rfl
    show max (v (h1.lift (ix1 j) k)) (-(v (h1.lift (ix1 j) k))) = _
    rw [e]
  · rw [Shape.rowMajor_val_one, Shape.rowMajor_val_two]
    show j.val = i.val * 128 + j.val
    omega

/-- The codes of a tile by exponents of either shape. -/
def codesV (φ : FTy) (s : Shape) (v : FVec Ideal T2 .f32) (e : FVec Ideal s .f32) (hb : s.Broadcasts T2) (ht : φ.bits < FTy.f32.bits) : FVec Ideal T2 φ :=
  truncf φ (minimumf (broadcast T2 (Scalar.ofBits (F := Ideal) .f32 p.hi)) (maximumf (broadcast T2 (Scalar.ofBits (F := Ideal) .f32 p.lo))
    (mulf v (broadcastTo T2 (exp2 (subf (broadcast s (Scalar.ofBits (F := Ideal) .f32 0x00000000#32)) e)) hb)))) ht

theorem castR (e : FVec Ideal TR .f32) (hb : TR.Broadcasts T2) (i j : Fin 128) : broadcastTo T2 e hb (ix2 i j) = e (ix2 i 0) := by
  rw [broadcastTo_apply (k := (ix2 i 0 : TR.Idx))]
  intro a
  match a with
  | ⟨0, _⟩ => rfl
  | ⟨1, _⟩ => rfl

theorem castC (e : FVec Ideal TC .f32) (hb : TC.Broadcasts T2) (i j : Fin 128) : broadcastTo T2 e hb (ix2 i j) = e (ix2 0 j) := by
  rw [broadcastTo_apply (k := (ix2 0 j : TC.Idx))]
  intro a
  match a with
  | ⟨0, _⟩ => rfl
  | ⟨1, _⟩ => rfl

/-- The codes, scales and widened codes of a tile's rows and columns. -/
def codesR (φ : FTy) (v : FVec Ideal T2 .f32) (h1 : Shape.Reduces T2 [1] T1) (h2 : T1.ShapeCasts TR) (hb : TR.Broadcasts T2) (ht : φ.bits < FTy.f32.bits) : FVec Ideal T2 φ :=
  codesV p φ TR v (expoV p TR (amaxR v h1 h2)) hb ht
def codesC (φ : FTy) (v : FVec Ideal T2 .f32) (h1 : Shape.Reduces T2 [0] T1) (h2 : T1.ShapeCasts TC) (hb : TC.Broadcasts T2) (ht : φ.bits < FTy.f32.bits) : FVec Ideal T2 φ :=
  codesV p φ TC v (expoV p TC (amaxC v h1 h2)) hb ht
def scalesR (v : FVec Ideal T2 .f32) (h1 : Shape.Reduces T2 [1] T1) (h2 : T1.ShapeCasts TR) : FVec Ideal TR .f32 := exp2 (expoV p TR (amaxR v h1 h2))
def scalesC (v : FVec Ideal T2 .f32) (h1 : Shape.Reduces T2 [0] T1) (h2 : T1.ShapeCasts TC) (h3 : TC.ShapeCasts TC3) : FVec Ideal TC3 .f32 := shapeCast TC3 (exp2 (expoV p TC (amaxC v h1 h2))) h3
def widened (φ : FTy) (v : FVec Ideal T2 .f32) (h1 : Shape.Reduces T2 [1] T1) (h2 : T1.ShapeCasts TR) (hb : TR.Broadcasts T2) (ht hx : φ.bits < FTy.f32.bits) : FVec Ideal T2 .f32 :=
  mulf (extf .f32 (codesR p φ v h1 h2 hb ht) hx) (broadcastTo T2 (scalesR p v h1 h2) hb)

section Apply

variable (hk : bits p.k ≠ 0) (φ : FTy) (v : FVec Ideal T2 .f32)
include hk

theorem scalesR_apply (h1 h2) (i : Fin 128) (j : Fin 1) :
    (scalesR p v h1 h2 (ix2 i j) : EReal) = scale (expo p (amax fun k => v (ix2 i k))) := by
  show scale (expoV p TR (amaxR v h1 h2) (ix2 i j)) = _
  rw [expoV_apply p hk, amaxR_apply]

theorem scalesC_apply (h1 h2 h3) (i i' : Fin 1) (j : Fin 128) :
    (scalesC p v h1 h2 h3 (ix3 i i' j) : EReal) = scale (expo p (amax fun k => v (ix2 k j))) := by
  have hi := i.isLt
  have hi' := i'.isLt
  unfold scalesC
  rw [shapeCast_apply (k := (ix2 0 j : TC.Idx))]
  · show scale (expoV p TC (amaxC v h1 h2) (ix2 0 j)) = _
    rw [expoV_apply p hk, amaxC_apply]
  · rw [Shape.rowMajor_val_three, Shape.rowMajor_val_two]
    show 0 * 128 + j.val = (i.val * 1 + i'.val) * 128 + j.val
    omega

theorem codesR_apply (h1 h2 hb ht) (i j : Fin 128) :
    (codesR p φ v h1 h2 hb ht (ix2 i j) : EReal) = code p (v (ix2 i j)) (expo p (amax fun k => v (ix2 i k))) := by
  unfold codesR codesV
  show (FloatOps.minimumf (F := Ideal) (φ := .f32) (bits p.hi) (FloatOps.maximumf (F := Ideal) (φ := .f32) (bits p.lo) (v (ix2 i j) * broadcastTo T2 _ hb (ix2 i j))) : EReal) = _
  rw [castR]
  show code p (v (ix2 i j)) (expoV p TR (amaxR v h1 h2) (ix2 i 0)) = _
  rw [expoV_apply p hk, amaxR_apply]

theorem codesC_apply (h1 h2 hb ht) (i j : Fin 128) :
    (codesC p φ v h1 h2 hb ht (ix2 i j) : EReal) = code p (v (ix2 i j)) (expo p (amax fun k => v (ix2 k j))) := by
  unfold codesC codesV
  show (FloatOps.minimumf (F := Ideal) (φ := .f32) (bits p.hi) (FloatOps.maximumf (F := Ideal) (φ := .f32) (bits p.lo) (v (ix2 i j) * broadcastTo T2 _ hb (ix2 i j))) : EReal) = _
  rw [castC]
  show code p (v (ix2 i j)) (expoV p TC (amaxC v h1 h2) (ix2 0 j)) = _
  rw [expoV_apply p hk, amaxC_apply]

theorem widened_apply (h1 h2 hb ht hx) (i j : Fin 128) :
    (widened p φ v h1 h2 hb ht hx (ix2 i j) : EReal)
      = code p (v (ix2 i j)) (expo p (amax fun k => v (ix2 i k))) * scale (expo p (amax fun k => v (ix2 i k))) := by
  unfold widened
  show (codesR p φ v h1 h2 hb ht (ix2 i j) : EReal) * broadcastTo T2 _ hb (ix2 i j) = _
  rw [castR, codesR_apply p hk, scalesR_apply p hk]

end Apply

section Tiles

variable {R C : Nat} [NeZero R] [NeZero C]

/-- `v` is the tile of `x` in tile row `a` and tile column `b`. -/
def IsTile (x : Fin R → Fin C → EReal) (a b : Nat) (v : T2.Idx → EReal) : Prop :=
  ∀ i k : Fin 128, v (ix2 i k) = x (Fin.ofNat R (a * 128 + i.val)) (Fin.ofNat C (b * 128 + k.val))

variable {p} (hk : bits p.k ≠ 0) {φ : FTy} {x : Fin R → Fin C → EReal} {a b : Nat} (ha : a * 128 + 128 ≤ R) (hb : b * 128 + 128 ≤ C)

omit [NeZero R] [NeZero C] in
theorem ofNat_div {N : Nat} [NeZero N] {a : Nat} (ha : a * 128 + 128 ≤ N) (i : Fin 128) : (Fin.ofNat N (a * 128 + i.val)).val / 128 = a := by
  have hi := i.isLt
  show (a * 128 + i.val) % N / 128 = a
  rw [Nat.mod_eq_of_lt (by omega)]
  omega

/-- A tile read through its rectangle is a block of the whole. -/
theorem piece {G : Fin R → Fin C → EReal} {v : T2.Idx → EReal} (hv : IsTile G a b v) (ha : a * 128 + 128 ≤ R) (hb : b * 128 + 128 ≤ C)
    (off : Fin 2 → Nat) (inb : ∀ c, off c + (![128, 128] : Fin 2 → Nat) c ≤ (⟨2, ![R, C]⟩ : Shape).size c)
    (h0 : off 0 = a * 128) (h1 : off 1 = b * 128) (y : T2.Idx) :
    v y = (fun z : (⟨2, ![R, C]⟩ : Shape).Idx => G (z 0) (z 1)) ((Rect.unit (s := ⟨2, ![R, C]⟩) off ![128, 128] inb).emb y) := by
  have hy0 : (y 0).val < 128 := (y 0).isLt
  have hy1 : (y 1).val < 128 := (y 1).isLt
  refine (congrArg v (eq_ix2 y)).trans ((hv (y 0) (y 1)).trans ?_)
  refine congrArg₂ G (Fin.ext ?_) (Fin.ext ?_)
  · show (a * 128 + (y 0).val) % R = off 0 + 1 * (y 0).val
    rw [Nat.mod_eq_of_lt (by omega)]; omega
  · show (b * 128 + (y 1).val) % C = off 1 + 1 * (y 1).val
    rw [Nat.mod_eq_of_lt (by omega)]; omega

/-- A rectangle read of the whole is a tile. -/
theorem tile_ld (X : Vec Ideal ⟨2, ![R, C]⟩ .bf16) (ha : a * 128 + 128 ≤ R) (hb : b * 128 + 128 ≤ C)
    (off : Fin 2 → Nat) (inb : ∀ c, off c + (![128, 128] : Fin 2 → Nat) c ≤ (⟨2, ![R, C]⟩ : Shape).size c)
    (h0 : off 0 = a * 128) (h1 : off 1 = b * 128) :
    IsTile (fun r c => X (ix2 r c)) a b (fun y => (View.ld X (Rect.unit (s := ⟨2, ![R, C]⟩) off ![128, 128] inb) y : EReal)) := by
  intro i k
  have hi := i.isLt
  have hk := k.isLt
  refine congrArg X (funext fun c => Fin.ext ?_)
  match c with
  | ⟨0, _⟩ => show off 0 + 1 * i.val = (a * 128 + i.val) % R; rw [Nat.mod_eq_of_lt (by omega)]; omega
  | ⟨1, _⟩ => show off 1 + 1 * k.val = (b * 128 + k.val) % C; rw [Nat.mod_eq_of_lt (by omega)]; omega

theorem rowE_tile {v : FVec Ideal T2 .f32} (hv : IsTile x a b v) (i : Fin 128) :
    expo p (amax fun k => v (ix2 i k)) = rowE p x (Fin.ofNat R (a * 128 + i.val)) b := by
  unfold rowE
  exact congrArg (fun f => expo p (amax f)) (funext fun k => hv i k)

theorem colE_tile {v : FVec Ideal T2 .f32} (hv : IsTile x a b v) (j : Fin 128) :
    expo p (amax fun k => v (ix2 k j)) = colE p x a (Fin.ofNat C (b * 128 + j.val)) := by
  unfold colE
  exact congrArg (fun f => expo p (amax f)) (funext fun k => hv k j)

include hk

theorem scalesR_tile {v : FVec Ideal T2 .f32} (hv : IsTile x a b v) (h1 h2) (i : Fin 128) (j : Fin 1) :
    (scalesR p v h1 h2 (ix2 i j) : EReal) = rowS p x (Fin.ofNat R (a * 128 + i.val)) b := by
  rw [scalesR_apply p hk, rowE_tile hv]; rfl

theorem scalesC_tile {v : FVec Ideal T2 .f32} (hv : IsTile x a b v) (h1 h2 h3) (i i' : Fin 1) (j : Fin 128) :
    (scalesC p v h1 h2 h3 (ix3 i i' j) : EReal) = colS p x a (Fin.ofNat C (b * 128 + j.val)) := by
  rw [scalesC_apply p hk, colE_tile hv]; rfl

theorem codesR_tile (hb : b * 128 + 128 ≤ C) {v : FVec Ideal T2 .f32} (hv : IsTile x a b v) (h1 h2 hc ht) : IsTile (rowQ p x) a b (codesR p φ v h1 h2 hc ht) := by
  intro i k
  rw [codesR_apply p hk, rowE_tile hv, hv i k]
  unfold rowQ
  rw [ofNat_div hb]

theorem codesC_tile (ha : a * 128 + 128 ≤ R) {v : FVec Ideal T2 .f32} (hv : IsTile x a b v) (h1 h2 hc ht) : IsTile (colQ p x) a b (codesC p φ v h1 h2 hc ht) := by
  intro i k
  rw [codesC_apply p hk, colE_tile hv, hv i k]
  unfold colQ
  rw [ofNat_div ha]

theorem widened_tile (hb : b * 128 + 128 ≤ C) {v : FVec Ideal T2 .f32} (hv : IsTile x a b v) (h1 h2 hc ht hx) : IsTile (rowW p x) a b (widened p φ v h1 h2 hc ht hx) := by
  intro i k
  rw [widened_apply p hk, rowE_tile hv, hv i k]
  unfold rowW rowQ rowS
  rw [ofNat_div hb]

end Tiles

end

end Cert.Quantiser
-- ==== Proof.QuantVec.lean ====
/- A matrix quantised with its groups of 128 as an axis of their own, in vector operations, read at an index. -/
module

public import proofs.«01_k».proof.Proof.QuantTile

@[expose] public section

set_option maxRecDepth 65536

namespace Cert.Quantiser

open Idealize Idealize.ShloMosaic Idealize.ShloMosaic.ValueIdx

noncomputable section

/-- The matrix; its row groups as an axis, their table and that table under one more axis; the same for its columns. -/
abbrev M2 : Shape := ⟨2, ![1536, 7168]⟩
abbrev R3 : Shape := ⟨3, ![1536, 56, 128]⟩
abbrev R2 : Shape := ⟨2, ![1536, 56]⟩
abbrev R1 : Shape := ⟨3, ![1536, 56, 1]⟩
abbrev C3 : Shape := ⟨3, ![12, 128, 7168]⟩
abbrev C2 : Shape := ⟨2, ![12, 7168]⟩
abbrev C1 : Shape := ⟨3, ![12, 1, 7168]⟩

variable {α : Type}

/-- The row groups of the matrix. -/
theorem split_r (v : M2.Idx → α) (h : M2.ShapeCasts R3) (r : Fin 1536) (g : Fin 56) (k : Fin 128) :
    shapeCast R3 v h (ix3 r g k) = v (ix2 r (Fin.ofNat 7168 (g.val * 128 + k.val))) := by
  have hg := g.isLt
  have hk := k.isLt
  refine shapeCast_apply v h (ix3 r g k : R3.Idx) (ix2 r (Fin.ofNat 7168 (g.val * 128 + k.val)) : M2.Idx) ?_
  rw [Shape.rowMajor_val_two, Shape.rowMajor_val_three]
  show r.val * 7168 + (g.val * 128 + k.val) % 7168 = (r.val * 56 + g.val) * 128 + k.val
  rw [Nat.mod_eq_of_lt (by omega)]
  omega

/-- The matrix of row groups. -/
theorem join_r (v : R3.Idx → α) (h : R3.ShapeCasts M2) (r : Fin 1536) (j : Fin 7168) :
    shapeCast M2 v h (ix2 r j) = v (ix3 r ⟨j.val / 128, by have := j.isLt; omega⟩ ⟨j.val % 128, by omega⟩) := by
  have hj := j.isLt
  refine shapeCast_apply v h (ix2 r j : M2.Idx) (ix3 r ⟨j.val / 128, by omega⟩ ⟨j.val % 128, by omega⟩ : R3.Idx) ?_
  rw [Shape.rowMajor_val_two, Shape.rowMajor_val_three]
  show (r.val * 56 + j.val / 128) * 128 + j.val % 128 = r.val * 7168 + j.val
  omega

/-- The column groups of the matrix. -/
theorem split_c (v : M2.Idx → α) (h : M2.ShapeCasts C3) (t : Fin 12) (k : Fin 128) (j : Fin 7168) :
    shapeCast C3 v h (ix3 t k j) = v (ix2 (Fin.ofNat 1536 (t.val * 128 + k.val)) j) := by
  have ht := t.isLt
  have hk := k.isLt
  refine shapeCast_apply v h (ix3 t k j : C3.Idx) (ix2 (Fin.ofNat 1536 (t.val * 128 + k.val)) j : M2.Idx) ?_
  rw [Shape.rowMajor_val_two, Shape.rowMajor_val_three]
  show (t.val * 128 + k.val) % 1536 * 7168 + j.val = (t.val * 128 + k.val) * 7168 + j.val
  rw [Nat.mod_eq_of_lt (by omega)]

/-- The matrix of column groups. -/
theorem join_c (v : C3.Idx → α) (h : C3.ShapeCasts M2) (r : Fin 1536) (j : Fin 7168) :
    shapeCast M2 v h (ix2 r j) = v (ix3 ⟨r.val / 128, by have := r.isLt; omega⟩ ⟨r.val % 128, by omega⟩ j) := by
  have hr := r.isLt
  refine shapeCast_apply v h (ix2 r j : M2.Idx) (ix3 ⟨r.val / 128, by omega⟩ ⟨r.val % 128, by omega⟩ j : C3.Idx) ?_
  rw [Shape.rowMajor_val_two, Shape.rowMajor_val_three]
  show (r.val / 128 * 128 + r.val % 128) * 7168 + j.val = r.val * 7168 + j.val
  omega

/-- A row group's entry, for each of its 128. -/
theorem lift_r (e : R2.Idx → α) (h : R2.ShapeCasts R1) (hb : R1.Broadcasts R3) (r : Fin 1536) (g : Fin 56) (k : Fin 128) :
    broadcastTo R3 (shapeCast R1 e h) hb (ix3 r g k) = e (ix2 r g) := by
  rw [broadcastTo_apply (k := (ix3 r g 0 : R1.Idx))]
  · refine shapeCast_apply e h (ix3 r g 0 : R1.Idx) (ix2 r g : R2.Idx) ?_
    rw [Shape.rowMajor_val_two, Shape.rowMajor_val_three]
    show r.val * 56 + g.val = (r.val * 56 + g.val) * 1 + 0
    omega
  · intro a
    match a with
    | ⟨0, _⟩ => rfl
    | ⟨1, _⟩ => rfl
    | ⟨2, _⟩ => rfl

/-- The column groups' table under one more axis. -/
theorem cast_c (e : C2.Idx → α) (h : C2.ShapeCasts C1) (t : Fin 12) (u : Fin 1) (j : Fin 7168) :
    shapeCast C1 e h (ix3 t u j) = e (ix2 t j) := by
  have hu := u.isLt
  refine shapeCast_apply e h (ix3 t u j : C1.Idx) (ix2 t j : C2.Idx) ?_
  rw [Shape.rowMajor_val_two, Shape.rowMajor_val_three]
  show t.val * 7168 + j.val = (t.val * 1 + u.val) * 7168 + j.val
  omega

/-- A column group's entry, for each of its 128. -/
theorem lift_c (e : C2.Idx → α) (h : C2.ShapeCasts C1) (hb : C1.Broadcasts C3) (t : Fin 12) (k : Fin 128) (j : Fin 7168) :
    broadcastTo C3 (shapeCast C1 e h) hb (ix3 t k j) = e (ix2 t j) := by
  rw [broadcastTo_apply (k := (ix3 t 0 j : C1.Idx))]
  · exact cast_c e h t 0 j
  · intro a
    match a with
    | ⟨0, _⟩ => rfl
    | ⟨1, _⟩ => rfl
    | ⟨2, _⟩ => rfl

/-- The greatest absolute value of a row group. -/
theorem amax_r (v : FVec Ideal R3 .f32) (h : Shape.Reduces R3 [2] R2) (r : Fin 1536) (g : Fin 56) :
    multiReduction .maximumf [2] R2 (absf v) 0xFF800000#32 h (.inl rfl) rfl (ix2 r g) = amax fun k => v (ix3 r g k) := by
  refine (Ideal.multiReduction_maximumf_single _ _ h _ _ _).trans ?_
  unfold amax
  refine congrArg (Finset.fold max _ · _) (funext fun k => ?_)
  have e : h.lift (ix2 r g) k = (ix3 r g k : R3.Idx) := by
    funext a; apply Fin.ext
    match a with
    | ⟨0, _⟩ => rfl
    | ⟨1, _⟩ => rfl
    | ⟨2, _⟩ => rfl
  show max (v (h.lift (ix2 r g) k)) (-(v (h.lift (ix2 r g) k))) = _
  rw [e]

/-- The greatest absolute value of a column group. -/
theorem amax_c (v : FVec Ideal C3 .f32) (h : Shape.Reduces C3 [1] C2) (t : Fin 12) (j : Fin 7168) :
    multiReduction .maximumf [1] C2 (absf v) 0xFF800000#32 h (.inl rfl) rfl (ix2 t j) = amax fun k => v (ix3 t k j) := by
  refine (Ideal.multiReduction_maximumf_single _ _ h _ _ _).trans ?_
  unfold amax
  refine congrArg (Finset.fold max _ · _) (funext fun k => ?_)
  have e : h.lift (ix2 t j) k = (ix3 t k j : C3.Idx) := by
    funext a; apply Fin.ext
    match a with
    | ⟨0, _⟩ => rfl
    | ⟨1, _⟩ => rfl
    | ⟨2, _⟩ => rfl
  show max (v (h.lift (ix2 t j) k)) (-(v (h.lift (ix2 t j) k))) = _
  rw [e]

section Vector

variable (p : Fmt) (φ : FTy)

/-- The exponents from the greatest absolute values, at any shape, with the comparison made of those. -/
def expoA (s : Shape) (a : FVec Ideal s .f32) : FVec Ideal s .f32 :=
  select (cmpf .oeq a (broadcast s (Scalar.ofBits (F := Ideal) .f32 0x00000000#32)))
    (broadcast s (Scalar.ofBits (F := Ideal) .f32 0x00000000#32))
    (addf (floor (divf (log (mulf a (broadcast s (Scalar.ofBits (F := Ideal) .f32 p.k)))) (broadcast s (Scalar.log (Scalar.ofBits (F := Ideal) .f32 0x40000000#32)))))
      (broadcast s (Scalar.ofBits (F := Ideal) .f32 0x3F800000#32)))

theorem expoA_apply (s : Shape) (a : FVec Ideal s .f32) (i : s.Idx) : expoA p s a i = expo p (a i) :=
  expo_of_amax p (a i)

/-- Powers of two and changes of format at an index. -/
theorem exp2_at (s : Shape) (e : FVec Ideal s φ) (i : s.Idx) : (exp2 e i : EReal) = scale (e i) := rfl
theorem extf_at (s : Shape) (ψ : FTy) (v : FVec Ideal s φ) (h : φ.bits < ψ.bits) (i : s.Idx) : (extf ψ v h i : EReal) = v i := rfl
theorem truncf_at (s : Shape) (ψ : FTy) (v : FVec Ideal s φ) (h : ψ.bits < φ.bits) (i : s.Idx) : (truncf ψ v h i : EReal) = v i := rfl

/-- The greatest absolute values of the row groups, and of the column groups. -/
def maxR (v : FVec Ideal R3 .f32) (h : Shape.Reduces R3 [2] R2) : FVec Ideal R2 .f32 :=
  multiReduction .maximumf [2] R2 (absf v) 0xFF800000#32 h (.inl rfl) rfl
def maxC (v : FVec Ideal C3 .f32) (h : Shape.Reduces C3 [1] C2) : FVec Ideal C2 .f32 :=
  multiReduction .maximumf [1] C2 (absf v) 0xFF800000#32 h (.inl rfl) rfl

/-- The codes of the row groups by their exponents, as a matrix. -/
def codesRows (x : FVec Ideal R3 .f32) (e : FVec Ideal R2 .f32) (h1 : R2.ShapeCasts R1) (hb : R1.Broadcasts R3) (ht : φ.bits < FTy.f32.bits) (h2 : R3.ShapeCasts M2) : FVec Ideal M2 φ :=
  shapeCast M2 (truncf φ (minimumf (broadcast R3 (Scalar.ofBits (F := Ideal) .f32 p.hi)) (maximumf (broadcast R3 (Scalar.ofBits (F := Ideal) .f32 p.lo))
    (mulf x (broadcastTo R3 (shapeCast R1 (exp2 (subf (broadcast R2 (Scalar.ofBits (F := Ideal) .f32 0x00000000#32)) e)) h1) hb)))) ht) h2

/-- The codes of the column groups by their exponents, as a matrix. -/
def codesCols (x : FVec Ideal C3 .f32) (e : FVec Ideal C2 .f32) (h1 : C2.ShapeCasts C1) (hb : C1.Broadcasts C3) (ht : φ.bits < FTy.f32.bits) (h2 : C3.ShapeCasts M2) : FVec Ideal M2 φ :=
  shapeCast M2 (truncf φ (minimumf (broadcast C3 (Scalar.ofBits (F := Ideal) .f32 p.hi)) (maximumf (broadcast C3 (Scalar.ofBits (F := Ideal) .f32 p.lo))
    (mulf x (broadcastTo C3 (shapeCast C1 (exp2 (subf (broadcast C2 (Scalar.ofBits (F := Ideal) .f32 0x00000000#32)) e)) h1) hb)))) ht) h2

/-- A matrix of codes times its row groups' scales. -/
def widenRows (q : FVec Ideal M2 φ) (s : FVec Ideal R2 φ) (h0 : M2.ShapeCasts R3) (h1 : R2.ShapeCasts R1) (hb : R1.Broadcasts R3) (h2 : R3.ShapeCasts M2) : FVec Ideal M2 φ :=
  shapeCast M2 (mulf (shapeCast R3 q h0) (broadcastTo R3 (shapeCast R1 s h1) hb)) h2

/-- A row's or a column's group, and the place in it. -/
abbrev gr (j : Fin 7168) : Fin 56 := ⟨j.val / 128, by have := j.isLt; omega⟩
abbrev gc (r : Fin 1536) : Fin 12 := ⟨r.val / 128, by have := r.isLt; omega⟩
abbrev pl {n : Nat} (j : Fin n) : Fin 128 := ⟨j.val % 128, by omega⟩

theorem codesRows_apply (x e h1 hb ht h2) (r : Fin 1536) (j : Fin 7168) :
    (codesRows p φ x e h1 hb ht h2 (ix2 r j) : EReal) = code p (x (ix3 r (gr j) (pl j))) (e (ix2 r (gr j))) := by
  unfold codesRows
  rw [join_r]
  show (FloatOps.minimumf (F := Ideal) (φ := .f32) (bits p.hi) (FloatOps.maximumf (F := Ideal) (φ := .f32) (bits p.lo) (x (ix3 r (gr j) (pl j)) * broadcastTo R3 _ hb (ix3 r (gr j) (pl j)))) : EReal) = _
  rw [lift_r]
  rfl

theorem codesCols_apply (x e h1 hb ht h2) (r : Fin 1536) (j : Fin 7168) :
    (codesCols p φ x e h1 hb ht h2 (ix2 r j) : EReal) = code p (x (ix3 (gc r) (pl r) j)) (e (ix2 (gc r) j)) := by
  unfold codesCols
  rw [join_c]
  show (FloatOps.minimumf (F := Ideal) (φ := .f32) (bits p.hi) (FloatOps.maximumf (F := Ideal) (φ := .f32) (bits p.lo) (x (ix3 (gc r) (pl r) j) * broadcastTo C3 _ hb (ix3 (gc r) (pl r) j))) : EReal) = _
  rw [lift_c]
  rfl

/-- A matrix's entries. -/
abbrev mat (a : Vec Ideal M2 .bf16) : Fin 1536 → Fin 7168 → EReal := fun r j => a (ix2 r j)

/-- Two ways of writing the same entry of a row group. -/
theorem back_r (j : Fin 7168) : Fin.ofNat 7168 (j.val / 128 * 128 + j.val % 128) = j := by
  apply Fin.ext
  have hj := j.isLt
  show (j.val / 128 * 128 + j.val % 128) % 7168 = j.val
  omega

/-- Two ways of writing the same entry of a column group. -/
theorem back_c (r : Fin 1536) : Fin.ofNat 1536 (r.val / 128 * 128 + r.val % 128) = r := by
  apply Fin.ext
  have hr := r.isLt
  show (r.val / 128 * 128 + r.val % 128) % 1536 = r.val
  omega

theorem widenRows_apply (q s h0 h1 hb h2) (r : Fin 1536) (j : Fin 7168) :
    (widenRows φ q s h0 h1 hb h2 (ix2 r j) : EReal) = (q (ix2 r j) : EReal) * s (ix2 r (gr j)) := by
  unfold widenRows
  rw [join_r]
  show (shapeCast R3 q h0 (ix3 r (gr j) (pl j)) : EReal) * broadcastTo R3 _ hb (ix3 r (gr j) (pl j)) = _
  rw [lift_r, split_r]
  exact congrArg (fun i => (q (ix2 r i) : EReal) * s (ix2 r (gr j))) (back_r j)

section Groups

variable {x : Fin 1536 → Fin 7168 → EReal}

/-- The row groups' exponents. -/
theorem rowE_groups {v : FVec Ideal R3 .f32} (hv : ∀ r g k, v (ix3 r g k) = x r (Fin.ofNat 7168 (g.val * 128 + k.val))) (h) (r : Fin 1536) (g : Fin 56) :
    (expoA p R2 (maxR v h) (ix2 r g) : EReal) = rowE p x r g.val := by
  rw [expoA_apply]
  unfold rowE maxR
  rw [amax_r]
  exact congrArg (fun f => expo p (amax f)) (funext fun k => hv r g k)

/-- The column groups' exponents. -/
theorem colE_groups {v : FVec Ideal C3 .f32} (hv : ∀ t k j, v (ix3 t k j) = x (Fin.ofNat 1536 (t.val * 128 + k.val)) j) (h) (t : Fin 12) (j : Fin 7168) :
    (expoA p C2 (maxC v h) (ix2 t j) : EReal) = colE p x t.val j := by
  rw [expoA_apply]
  unfold colE maxC
  rw [amax_c]
  exact congrArg (fun f => expo p (amax f)) (funext fun k => hv t k j)

/-- The row codes. -/
theorem rowQ_groups {v : FVec Ideal R3 .f32} (hv : ∀ r g k, v (ix3 r g k) = x r (Fin.ofNat 7168 (g.val * 128 + k.val)))
    {e : FVec Ideal R2 .f32} (he : ∀ r g, (e (ix2 r g) : EReal) = rowE p x r g.val) (h1 hb ht h2) (r : Fin 1536) (j : Fin 7168) :
    (codesRows p φ v e h1 hb ht h2 (ix2 r j) : EReal) = rowQ p x r j := by
  rw [codesRows_apply, he, hv]
  unfold rowQ
  exact congrArg (fun i => code p (x r i) (rowE p x r (j.val / 128))) (back_r j)

/-- The column codes. -/
theorem colQ_groups {v : FVec Ideal C3 .f32} (hv : ∀ t k j, v (ix3 t k j) = x (Fin.ofNat 1536 (t.val * 128 + k.val)) j)
    {e : FVec Ideal C2 .f32} (he : ∀ t j, (e (ix2 t j) : EReal) = colE p x t.val j) (h1 hb ht h2) (r : Fin 1536) (j : Fin 7168) :
    (codesCols p φ v e h1 hb ht h2 (ix2 r j) : EReal) = colQ p x r j := by
  rw [codesCols_apply, he, hv]
  unfold colQ
  exact congrArg (fun i => code p (x i j) (colE p x (r.val / 128) j)) (back_c r)

end Groups

end Vector

end

end Cert.Quantiser
-- ==== Proof.QuantRef.lean ====
/- The quantiser's reference at an index: what its vector operations leave there. -/
module

public import proofs.«01_k».proof.Proof.Gen.QuantRefIdeal.Value
public import proofs.«01_k».proof.Proof.QuantVec

@[expose] public section

set_option maxRecDepth 65536

namespace Cert.Quantiser

open Idealize Idealize.ShloMosaic Idealize.ShloMosaic.ValueIdx

noncomputable section

section Reference

open Cert.QuantRefIdeal Cert.QuantRefIdeal.Gen

variable (a : Vec Ideal S1536x7168 .bf16)

/-- The row groups that the e4 half starts from. -/
theorem e4_rows (r : Fin 1536) (g : Fin 56) (k : Fin 128) : (k0_pay5 (F := Ideal) a (ix3 r g k) : EReal) = mat a r (Fin.ofNat 7168 (g.val * 128 + k.val)) :=
  split_r (extf (F := Ideal) .f32 a bitsLt_bf16_f32) _ r g k

theorem e4_eqE : k0_pay6 (F := Ideal) a = expoA e4 R2 (maxR (k0_pay5 (F := Ideal) a) reduces_S1536x56x128_S1536x56) := by
  unfold k0_pay6 expoA maxR
  rfl

theorem e4_eqQ : k0_pay8 (F := Ideal) a = codesRows e4 .fp8e4m3 (k0_pay5 (F := Ideal) a) (k0_pay6 (F := Ideal) a) shapeCasts_S1536x56_S1536x56x1 broadcasts_S1536x56x1_S1536x56x128 bitsLt_fp8e4m3_f32 shapeCasts_S1536x56x128_S1536x7168 := by
  unfold k0_pay8 codesRows
  rfl

theorem e4_eqW : k0_pay9 (F := Ideal) a = widenRows .bf16 (extf .bf16 (k0_pay8 (F := Ideal) a) bitsLt_fp8e4m3_bf16) (truncf .bf16 (k0_pay7 (F := Ideal) a) bitsLt_bf16_f32) shapeCasts_S1536x7168_S1536x56x128 shapeCasts_S1536x56_S1536x56x1 broadcasts_S1536x56x1_S1536x56x128 shapeCasts_S1536x56x128_S1536x7168 := by
  unfold k0_pay9 widenRows
  rfl

/-- The reference's e4 row exponents. -/
theorem e4_rowE (r : Fin 1536) (g : Fin 56) : (k0_pay6 (F := Ideal) a (ix2 r g) : EReal) = rowE e4 (mat a) r g.val := by
  rw [e4_eqE]
  exact rowE_groups e4 (e4_rows a) _ r g

theorem e4_eqS : k0_pay7 (F := Ideal) a = exp2 (k0_pay6 (F := Ideal) a) := by
  unfold k0_pay7
  rfl

/-- The reference's e4 row scales. -/
theorem e4_rowS (r : Fin 1536) (g : Fin 56) : (k0_pay7 (F := Ideal) a (ix2 r g) : EReal) = rowS e4 (mat a) r g.val := by
  rw [e4_eqS, exp2_at, e4_rowE]
  unfold rowS
  rfl

/-- The reference's e4 row codes. -/
theorem e4_rowQ (r : Fin 1536) (j : Fin 7168) : (k0_pay8 (F := Ideal) a (ix2 r j) : EReal) = rowQ e4 (mat a) r j := by
  rw [e4_eqQ]
  exact rowQ_groups e4 .fp8e4m3 (e4_rows a) (e4_rowE a) _ _ _ _ r j

/-- The reference's widened e4 row codes. -/
theorem e4_rowW (r : Fin 1536) (j : Fin 7168) : (k0_pay9 (F := Ideal) a (ix2 r j) : EReal) = rowW e4 (mat a) r j := by
  rw [e4_eqW, widenRows_apply, extf_at, truncf_at, e4_rowQ, e4_rowS]
  unfold rowW
  rfl

theorem e4_eqC : k0_pay10 (F := Ideal) (k0_pay7 a) (k0_pay8 a) = shapeCast C3 (widenRows .f32 (extf .f32 (k0_pay8 (F := Ideal) a) bitsLt_fp8e4m3_f32) (k0_pay7 (F := Ideal) a) shapeCasts_S1536x7168_S1536x56x128 shapeCasts_S1536x56_S1536x56x1 broadcasts_S1536x56x1_S1536x56x128 shapeCasts_S1536x56x128_S1536x7168) shapeCasts_S1536x7168_S12x128x7168 := by
  unfold k0_pay10 widenRows
  rfl

/-- The column groups that the e4 half starts from. -/
theorem e4_cols (t : Fin 12) (k : Fin 128) (j : Fin 7168) : (k0_pay10 (F := Ideal) (k0_pay7 a) (k0_pay8 a) (ix3 t k j) : EReal) = rowW e4 (mat a) (Fin.ofNat 1536 (t.val * 128 + k.val)) j := by
  rw [e4_eqC, split_c]
  refine (widenRows_apply .f32 _ _ _ _ _ _ _ j).trans ?_
  exact congrArg₂ (fun u w : EReal => u * w) (e4_rowQ a _ j) (e4_rowS a _ (gr j))

theorem e4_eqCE : k0_pay11 (F := Ideal) (k0_pay7 a) (k0_pay8 a) = expoA e4 C2 (maxC (k0_pay10 (F := Ideal) (k0_pay7 a) (k0_pay8 a)) reduces_S12x128x7168_S12x7168) := by
  unfold k0_pay11 expoA maxC
  rfl

theorem e4_eqCQ : k0_pay12 (F := Ideal) (k0_pay7 a) (k0_pay8 a) = codesCols e4 .fp8e4m3 (k0_pay10 (F := Ideal) (k0_pay7 a) (k0_pay8 a)) (k0_pay11 (F := Ideal) (k0_pay7 a) (k0_pay8 a)) shapeCasts_S12x7168_S12x1x7168 broadcasts_S12x1x7168_S12x128x7168 bitsLt_fp8e4m3_f32 shapeCasts_S12x128x7168_S1536x7168 := by
  unfold k0_pay12 codesCols
  rfl

theorem e4_eqCS : k0_pay13 (F := Ideal) (k0_pay7 a) (k0_pay8 a) = shapeCast C1 (exp2 (k0_pay11 (F := Ideal) (k0_pay7 a) (k0_pay8 a))) shapeCasts_S12x7168_S12x1x7168 := by
  unfold k0_pay13
  rfl

/-- The reference's e4 column exponents. -/
theorem e4_colE (t : Fin 12) (j : Fin 7168) : (k0_pay11 (F := Ideal) (k0_pay7 a) (k0_pay8 a) (ix2 t j) : EReal) = colE e4 (rowW e4 (mat a)) t.val j := by
  rw [e4_eqCE]
  exact colE_groups e4 (e4_cols a) _ t j

/-- The reference's e4 column scales. -/
theorem e4_colS (t : Fin 12) (u : Fin 1) (j : Fin 7168) : (k0_pay13 (F := Ideal) (k0_pay7 a) (k0_pay8 a) (ix3 t u j) : EReal) = colS e4 (rowW e4 (mat a)) t.val j := by
  rw [e4_eqCS, cast_c, exp2_at, e4_colE]
  unfold colS
  rfl

/-- The reference's e4 column codes. -/
theorem e4_colQ (r : Fin 1536) (j : Fin 7168) : (k0_pay12 (F := Ideal) (k0_pay7 a) (k0_pay8 a) (ix2 r j) : EReal) = colQ e4 (rowW e4 (mat a)) r j := by
  rw [e4_eqCQ]
  exact colQ_groups e4 .fp8e4m3 (e4_cols a) (e4_colE a) _ _ _ _ r j

/-- The row groups that the e5 half starts from. -/
theorem e5_rows (r : Fin 1536) (g : Fin 56) (k : Fin 128) : (k0_pay14 (F := Ideal) a (ix3 r g k) : EReal) = mat a r (Fin.ofNat 7168 (g.val * 128 + k.val)) :=
  split_r (extf (F := Ideal) .f32 a bitsLt_bf16_f32) _ r g k

theorem e5_eqE : k0_pay15 (F := Ideal) (k0_pay14 a) = expoA e5 R2 (maxR (k0_pay14 (F := Ideal) a) reduces_S1536x56x128_S1536x56) := by
  unfold k0_pay15 expoA maxR
  rfl

theorem e5_eqQ : k0_pay17 (F := Ideal) (k0_pay14 a) = codesRows e5 .fp8e5m2 (k0_pay14 (F := Ideal) a) (k0_pay15 (F := Ideal) (k0_pay14 a)) shapeCasts_S1536x56_S1536x56x1 broadcasts_S1536x56x1_S1536x56x128 bitsLt_fp8e5m2_f32 shapeCasts_S1536x56x128_S1536x7168 := by
  unfold k0_pay17 codesRows
  rfl

theorem e5_eqW : k0_pay18 (F := Ideal) (k0_pay14 a) = widenRows .bf16 (extf .bf16 (k0_pay17 (F := Ideal) (k0_pay14 a)) bitsLt_fp8e5m2_bf16) (truncf .bf16 (k0_pay16 (F := Ideal) (k0_pay14 a)) bitsLt_bf16_f32) shapeCasts_S1536x7168_S1536x56x128 shapeCasts_S1536x56_S1536x56x1 broadcasts_S1536x56x1_S1536x56x128 shapeCasts_S1536x56x128_S1536x7168 := by
  unfold k0_pay18 widenRows
  rfl

/-- The reference's e5 row exponents. -/
theorem e5_rowE (r : Fin 1536) (g : Fin 56) : (k0_pay15 (F := Ideal) (k0_pay14 a) (ix2 r g) : EReal) = rowE e5 (mat a) r g.val := by
  rw [e5_eqE]
  exact rowE_groups e5 (e5_rows a) _ r g

theorem e5_eqS : k0_pay16 (F := Ideal) (k0_pay14 a) = exp2 (k0_pay15 (F := Ideal) (k0_pay14 a)) := by
  unfold k0_pay16
  rfl

/-- The reference's e5 row scales. -/
theorem e5_rowS (r : Fin 1536) (g : Fin 56) : (k0_pay16 (F := Ideal) (k0_pay14 a) (ix2 r g) : EReal) = rowS e5 (mat a) r g.val := by
  rw [e5_eqS, exp2_at, e5_rowE]
  unfold rowS
  rfl

/-- The reference's e5 row codes. -/
theorem e5_rowQ (r : Fin 1536) (j : Fin 7168) : (k0_pay17 (F := Ideal) (k0_pay14 a) (ix2 r j) : EReal) = rowQ e5 (mat a) r j := by
  rw [e5_eqQ]
  exact rowQ_groups e5 .fp8e5m2 (e5_rows a) (e5_rowE a) _ _ _ _ r j

/-- The reference's widened e5 row codes. -/
theorem e5_rowW (r : Fin 1536) (j : Fin 7168) : (k0_pay18 (F := Ideal) (k0_pay14 a) (ix2 r j) : EReal) = rowW e5 (mat a) r j := by
  rw [e5_eqW, widenRows_apply, extf_at, truncf_at, e5_rowQ, e5_rowS]
  unfold rowW
  rfl

/-- The column groups that the e5 half starts from. -/
theorem e5_cols (t : Fin 12) (k : Fin 128) (j : Fin 7168) : (k0_pay1 (F := Ideal) (k0_pay19 a) (ix3 t k j) : EReal) = mat a (Fin.ofNat 1536 (t.val * 128 + k.val)) j :=
  split_c (extf (F := Ideal) .f32 a bitsLt_bf16_f32) _ t k j

theorem e5_eqCE : k0_pay2 (F := Ideal) (k0_pay19 a) = expoA e5 C2 (maxC (k0_pay1 (F := Ideal) (k0_pay19 a)) reduces_S12x128x7168_S12x7168) := by
  unfold k0_pay2 expoA maxC
  rfl

theorem e5_eqCQ : k0_pay3 (F := Ideal) (k0_pay19 a) = codesCols e5 .fp8e5m2 (k0_pay1 (F := Ideal) (k0_pay19 a)) (k0_pay2 (F := Ideal) (k0_pay19 a)) shapeCasts_S12x7168_S12x1x7168 broadcasts_S12x1x7168_S12x128x7168 bitsLt_fp8e5m2_f32 shapeCasts_S12x128x7168_S1536x7168 := by
  unfold k0_pay3 codesCols
  rfl

theorem e5_eqCS : k0_pay4 (F := Ideal) (k0_pay19 a) = shapeCast C1 (exp2 (k0_pay2 (F := Ideal) (k0_pay19 a))) shapeCasts_S12x7168_S12x1x7168 := by
  unfold k0_pay4
  rfl

/-- The reference's e5 column exponents. -/
theorem e5_colE (t : Fin 12) (j : Fin 7168) : (k0_pay2 (F := Ideal) (k0_pay19 a) (ix2 t j) : EReal) = colE e5 (mat a) t.val j := by
  rw [e5_eqCE]
  exact colE_groups e5 (e5_cols a) _ t j

/-- The reference's e5 column scales. -/
theorem e5_colS (t : Fin 12) (u : Fin 1) (j : Fin 7168) : (k0_pay4 (F := Ideal) (k0_pay19 a) (ix3 t u j) : EReal) = colS e5 (mat a) t.val j := by
  rw [e5_eqCS, cast_c, exp2_at, e5_colE]
  unfold colS
  rfl

/-- The reference's e5 column codes. -/
theorem e5_colQ (r : Fin 1536) (j : Fin 7168) : (k0_pay3 (F := Ideal) (k0_pay19 a) (ix2 r j) : EReal) = colQ e5 (mat a) r j := by
  rw [e5_eqCQ]
  exact colQ_groups e5 .fp8e5m2 (e5_cols a) (e5_colE a) _ _ _ _ r j

end Reference

end

end Cert.Quantiser
-- ==== Proof.QuantBody.lean ====
/- What the quantiser call's body leaves in each output block, at the ideal values: the row and column codes, scales and
   widened codes of the point's 128 rows. -/
module

public import Idealize.ShloMosaic.Lib.Pipeline.ReadBack
public import proofs.«01_k».proof.Proof.Gen.QuantIdeal.Value
public import proofs.«01_k».proof.Proof.QuantTile

@[expose] public section

set_option maxRecDepth 65536
set_option maxHeartbeats 4000000

namespace Cert.QuantIdeal.Body

open Idealize Idealize.ShloMosaic Idealize.ShloMosaic.ValueIdx
open Cert.QuantIdeal Cert.QuantIdeal.Gen Cert.Quantiser

noncomputable section

/-- A block's entries. -/
abbrev ent {R : Nat} (x : Vec Ideal ⟨2, ![R, 7168]⟩ .bf16) : Fin R → Fin 7168 → EReal := fun r c => x (ix2 r c)

/-- Group `g`'s load is a tile of the block. -/
theorem tile (x : Vec Ideal S128x7168 .bf16) (g : Nat) (hg : g < 56) (off : Fin 2 → Nat)
    (inb : ∀ c, off c + (![128, 128] : Fin 2 → Nat) c ≤ S128x7168.size c) (h0 : off 0 = 0) (h1 : off 1 = g * 128) (hx : FTy.bf16.bits < FTy.f32.bits) :
    IsTile (ent x) 0 g (extf (F := Ideal) .f32 (View.ld x (Rect.unit (s := S128x7168) off ![128, 128] inb) : FVec Ideal S128x128 .bf16) hx) :=
  tile_ld x (by omega) (by omega) off inb (h0.trans (by omega)) h1

/-- A column of scales is a column of the table. -/
theorem pieceS {G : Fin 128 → Nat → EReal} {v : (⟨2, ![128, 1]⟩ : Shape).Idx → EReal} {g : Nat} (hv : ∀ (i : Fin 128) (j : Fin 1), v (ix2 i j) = G (Fin.ofNat 128 (0 * 128 + i.val)) g)
    (off : Fin 2 → Nat) (inb : ∀ c, off c + (![128, 1] : Fin 2 → Nat) c ≤ S128x56.size c) (h0 : off 0 = 0) (h1 : off 1 = g)
    (y : (⟨2, ![128, 1]⟩ : Shape).Idx) :
    v y = (fun z : S128x56.Idx => G (z 0) (z 1).val) ((Rect.unit (s := S128x56) off ![128, 1] inb).emb y) := by
  have hy0 : (y 0).val < 128 := (y 0).isLt
  have hy1 : (y 1).val < 1 := (y 1).isLt
  refine (congrArg v (eq_ix2 y)).trans ((hv (y 0) (y 1)).trans (congrArg₂ G (Fin.ext ?_) ?_))
  · show (0 * 128 + (y 0).val) % 128 = off 0 + 1 * (y 0).val
    rw [Nat.mod_eq_of_lt (by omega)]; omega
  · show g = off 1 + 1 * (y 1).val
    omega

/-- A row of scales is a part of the row of scales. -/
theorem pieceT {G : Nat → Fin 7168 → EReal} {v : (⟨3, ![1, 1, 128]⟩ : Shape).Idx → EReal} {g : Nat} (hg : g < 56) (hv : ∀ (i i' : Fin 1) (j : Fin 128), v (ix3 i i' j) = G 0 (Fin.ofNat 7168 (g * 128 + j.val)))
    (off : Fin 3 → Nat) (inb : ∀ c, off c + (![1, 1, 128] : Fin 3 → Nat) c ≤ S1x1x7168.size c) (h2 : off 2 = g * 128)
    (y : (⟨3, ![1, 1, 128]⟩ : Shape).Idx) :
    v y = (fun z : S1x1x7168.Idx => G 0 (z 2)) ((Rect.unit (s := S1x1x7168) off ![1, 1, 128] inb).emb y) := by
  have hy : (y 2).val < 128 := (y 2).isLt
  refine (congrArg v (eq_ix3 y)).trans ((hv (y 0) (y 1) (y 2)).trans (congrArg (G 0) (Fin.ext ?_)))
  show (g * 128 + (y 2).val) % 7168 = off 2 + 1 * (y 2).val
  rw [Nat.mod_eq_of_lt (by omega)]; omega

/-- Output 2: the row codes. -/
theorem o2 (x0 x1 : Vec Ideal S128x7168 .bf16) (y : S128x7168.Idx) : out0_2 x0 x1 y = (fun z => rowQ e4 (ent x0) (z 0) (z 1) : S128x7168.Idx → EReal) y := by
  unfold out0_2
  refine View.canon_append_of_piecesOf (Val := Elt Ideal) (fun z => rowQ e4 (ent x0) (z 0) (z 1)) [] [_, _, _, _, _, _, _, _, _, _, _, _, _, _, _, _, _, _, _, _, _, _, _, _, _, _, _, _, _, _, _, _, _, _, _, _, _, _, _, _, _, _, _, _, _, _, _, _, _, _, _, _, _, _, _, _] ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩ y (cover0_2 _ _ _ _ _ _ _ _ _ _ _ _ _ _ _ _ _ _ _ _ _ _ _ _ _ _ _ _ _ _ _ _ _ _ _ _ _ _ _ _ _ _ _ _ _ _ _ _ _ _ _ _ _ _ _ _ y)
  · intro y; exact piece (codesR_tile (φ := .fp8e4m3) k4_ne (by decide) (tile x0 55 (by decide) ![0, 7040] inb_S128x7168_S128x128_0_7040 rfl rfl bitsLt_bf16_f32) _ _ broadcasts_S128x1_S128x128 _) (by decide) (by decide) ![0, 7040] inb_S128x7168_S128x128_0_7040 rfl rfl y
  · intro y; exact piece (codesR_tile (φ := .fp8e4m3) k4_ne (by decide) (tile x0 54 (by decide) ![0, 6912] inb_S128x7168_S128x128_0_6912 rfl rfl bitsLt_bf16_f32) _ _ broadcasts_S128x1_S128x128 _) (by decide) (by decide) ![0, 6912] inb_S128x7168_S128x128_0_6912 rfl rfl y
  · intro y; exact piece (codesR_tile (φ := .fp8e4m3) k4_ne (by decide) (tile x0 53 (by decide) ![0, 6784] inb_S128x7168_S128x128_0_6784 rfl rfl bitsLt_bf16_f32) _ _ broadcasts_S128x1_S128x128 _) (by decide) (by decide) ![0, 6784] inb_S128x7168_S128x128_0_6784 rfl rfl y
  · intro y; exact piece (codesR_tile (φ := .fp8e4m3) k4_ne (by decide) (tile x0 52 (by decide) ![0, 6656] inb_S128x7168_S128x128_0_6656 rfl rfl bitsLt_bf16_f32) _ _ broadcasts_S128x1_S128x128 _) (by decide) (by decide) ![0, 6656] inb_S128x7168_S128x128_0_6656 rfl rfl y
  · intro y; exact piece (codesR_tile (φ := .fp8e4m3) k4_ne (by decide) (tile x0 51 (by decide) ![0, 6528] inb_S128x7168_S128x128_0_6528 rfl rfl bitsLt_bf16_f32) _ _ broadcasts_S128x1_S128x128 _) (by decide) (by decide) ![0, 6528] inb_S128x7168_S128x128_0_6528 rfl rfl y
  · intro y; exact piece (codesR_tile (φ := .fp8e4m3) k4_ne (by decide) (tile x0 50 (by decide) ![0, 6400] inb_S128x7168_S128x128_0_6400 rfl rfl bitsLt_bf16_f32) _ _ broadcasts_S128x1_S128x128 _) (by decide) (by decide) ![0, 6400] inb_S128x7168_S128x128_0_6400 rfl rfl y
  · intro y; exact piece (codesR_tile (φ := .fp8e4m3) k4_ne (by decide) (tile x0 49 (by decide) ![0, 6272] inb_S128x7168_S128x128_0_6272 rfl rfl bitsLt_bf16_f32) _ _ broadcasts_S128x1_S128x128 _) (by decide) (by decide) ![0, 6272] inb_S128x7168_S128x128_0_6272 rfl rfl y
  · intro y; exact piece (codesR_tile (φ := .fp8e4m3) k4_ne (by decide) (tile x0 48 (by decide) ![0, 6144] inb_S128x7168_S128x128_0_6144 rfl rfl bitsLt_bf16_f32) _ _ broadcasts_S128x1_S128x128 _) (by decide) (by decide) ![0, 6144] inb_S128x7168_S128x128_0_6144 rfl rfl y
  · intro y; exact piece (codesR_tile (φ := .fp8e4m3) k4_ne (by decide) (tile x0 47 (by decide) ![0, 6016] inb_S128x7168_S128x128_0_6016 rfl rfl bitsLt_bf16_f32) _ _ broadcasts_S128x1_S128x128 _) (by decide) (by decide) ![0, 6016] inb_S128x7168_S128x128_0_6016 rfl rfl y
  · intro y; exact piece (codesR_tile (φ := .fp8e4m3) k4_ne (by decide) (tile x0 46 (by decide) ![0, 5888] inb_S128x7168_S128x128_0_5888 rfl rfl bitsLt_bf16_f32) _ _ broadcasts_S128x1_S128x128 _) (by decide) (by decide) ![0, 5888] inb_S128x7168_S128x128_0_5888 rfl rfl y
  · intro y; exact piece (codesR_tile (φ := .fp8e4m3) k4_ne (by decide) (tile x0 45 (by decide) ![0, 5760] inb_S128x7168_S128x128_0_5760 rfl rfl bitsLt_bf16_f32) _ _ broadcasts_S128x1_S128x128 _) (by decide) (by decide) ![0, 5760] inb_S128x7168_S128x128_0_5760 rfl rfl y
  · intro y; exact piece (codesR_tile (φ := .fp8e4m3) k4_ne (by decide) (tile x0 44 (by decide) ![0, 5632] inb_S128x7168_S128x128_0_5632 rfl rfl bitsLt_bf16_f32) _ _ broadcasts_S128x1_S128x128 _) (by decide) (by decide) ![0, 5632] inb_S128x7168_S128x128_0_5632 rfl rfl y
  · intro y; exact piece (codesR_tile (φ := .fp8e4m3) k4_ne (by decide) (tile x0 43 (by decide) ![0, 5504] inb_S128x7168_S128x128_0_5504 rfl rfl bitsLt_bf16_f32) _ _ broadcasts_S128x1_S128x128 _) (by decide) (by decide) ![0, 5504] inb_S128x7168_S128x128_0_5504 rfl rfl y
  · intro y; exact piece (codesR_tile (φ := .fp8e4m3) k4_ne (by decide) (tile x0 42 (by decide) ![0, 5376] inb_S128x7168_S128x128_0_5376 rfl rfl bitsLt_bf16_f32) _ _ broadcasts_S128x1_S128x128 _) (by decide) (by decide) ![0, 5376] inb_S128x7168_S128x128_0_5376 rfl rfl y
  · intro y; exact piece (codesR_tile (φ := .fp8e4m3) k4_ne (by decide) (tile x0 41 (by decide) ![0, 5248] inb_S128x7168_S128x128_0_5248 rfl rfl bitsLt_bf16_f32) _ _ broadcasts_S128x1_S128x128 _) (by decide) (by decide) ![0, 5248] inb_S128x7168_S128x128_0_5248 rfl rfl y
  · intro y; exact piece (codesR_tile (φ := .fp8e4m3) k4_ne (by decide) (tile x0 40 (by decide) ![0, 5120] inb_S128x7168_S128x128_0_5120 rfl rfl bitsLt_bf16_f32) _ _ broadcasts_S128x1_S128x128 _) (by decide) (by decide) ![0, 5120] inb_S128x7168_S128x128_0_5120 rfl rfl y
  · intro y; exact piece (codesR_tile (φ := .fp8e4m3) k4_ne (by decide) (tile x0 39 (by decide) ![0, 4992] inb_S128x7168_S128x128_0_4992 rfl rfl bitsLt_bf16_f32) _ _ broadcasts_S128x1_S128x128 _) (by decide) (by decide) ![0, 4992] inb_S128x7168_S128x128_0_4992 rfl rfl y
  · intro y; exact piece (codesR_tile (φ := .fp8e4m3) k4_ne (by decide) (tile x0 38 (by decide) ![0, 4864] inb_S128x7168_S128x128_0_4864 rfl rfl bitsLt_bf16_f32) _ _ broadcasts_S128x1_S128x128 _) (by decide) (by decide) ![0, 4864] inb_S128x7168_S128x128_0_4864 rfl rfl y
  · intro y; exact piece (codesR_tile (φ := .fp8e4m3) k4_ne (by decide) (tile x0 37 (by decide) ![0, 4736] inb_S128x7168_S128x128_0_4736 rfl rfl bitsLt_bf16_f32) _ _ broadcasts_S128x1_S128x128 _) (by decide) (by decide) ![0, 4736] inb_S128x7168_S128x128_0_4736 rfl rfl y
  · intro y; exact piece (codesR_tile (φ := .fp8e4m3) k4_ne (by decide) (tile x0 36 (by decide) ![0, 4608] inb_S128x7168_S128x128_0_4608 rfl rfl bitsLt_bf16_f32) _ _ broadcasts_S128x1_S128x128 _) (by decide) (by decide) ![0, 4608] inb_S128x7168_S128x128_0_4608 rfl rfl y
  · intro y; exact piece (codesR_tile (φ := .fp8e4m3) k4_ne (by decide) (tile x0 35 (by decide) ![0, 4480] inb_S128x7168_S128x128_0_4480 rfl rfl bitsLt_bf16_f32) _ _ broadcasts_S128x1_S128x128 _) (by decide) (by decide) ![0, 4480] inb_S128x7168_S128x128_0_4480 rfl rfl y
  · intro y; exact piece (codesR_tile (φ := .fp8e4m3) k4_ne (by decide) (tile x0 34 (by decide) ![0, 4352] inb_S128x7168_S128x128_0_4352 rfl rfl bitsLt_bf16_f32) _ _ broadcasts_S128x1_S128x128 _) (by decide) (by decide) ![0, 4352] inb_S128x7168_S128x128_0_4352 rfl rfl y
  · intro y; exact piece (codesR_tile (φ := .fp8e4m3) k4_ne (by decide) (tile x0 33 (by decide) ![0, 4224] inb_S128x7168_S128x128_0_4224 rfl rfl bitsLt_bf16_f32) _ _ broadcasts_S128x1_S128x128 _) (by decide) (by decide) ![0, 4224] inb_S128x7168_S128x128_0_4224 rfl rfl y
  · intro y; exact piece (codesR_tile (φ := .fp8e4m3) k4_ne (by decide) (tile x0 32 (by decide) ![0, 4096] inb_S128x7168_S128x128_0_4096 rfl rfl bitsLt_bf16_f32) _ _ broadcasts_S128x1_S128x128 _) (by decide) (by decide) ![0, 4096] inb_S128x7168_S128x128_0_4096 rfl rfl y
  · intro y; exact piece (codesR_tile (φ := .fp8e4m3) k4_ne (by decide) (tile x0 31 (by decide) ![0, 3968] inb_S128x7168_S128x128_0_3968 rfl rfl bitsLt_bf16_f32) _ _ broadcasts_S128x1_S128x128 _) (by decide) (by decide) ![0, 3968] inb_S128x7168_S128x128_0_3968 rfl rfl y
  · intro y; exact piece (codesR_tile (φ := .fp8e4m3) k4_ne (by decide) (tile x0 30 (by decide) ![0, 3840] inb_S128x7168_S128x128_0_3840 rfl rfl bitsLt_bf16_f32) _ _ broadcasts_S128x1_S128x128 _) (by decide) (by decide) ![0, 3840] inb_S128x7168_S128x128_0_3840 rfl rfl y
  · intro y; exact piece (codesR_tile (φ := .fp8e4m3) k4_ne (by decide) (tile x0 29 (by decide) ![0, 3712] inb_S128x7168_S128x128_0_3712 rfl rfl bitsLt_bf16_f32) _ _ broadcasts_S128x1_S128x128 _) (by decide) (by decide) ![0, 3712] inb_S128x7168_S128x128_0_3712 rfl rfl y
  · intro y; exact piece (codesR_tile (φ := .fp8e4m3) k4_ne (by decide) (tile x0 28 (by decide) ![0, 3584] inb_S128x7168_S128x128_0_3584 rfl rfl bitsLt_bf16_f32) _ _ broadcasts_S128x1_S128x128 _) (by decide) (by decide) ![0, 3584] inb_S128x7168_S128x128_0_3584 rfl rfl y
  · intro y; exact piece (codesR_tile (φ := .fp8e4m3) k4_ne (by decide) (tile x0 27 (by decide) ![0, 3456] inb_S128x7168_S128x128_0_3456 rfl rfl bitsLt_bf16_f32) _ _ broadcasts_S128x1_S128x128 _) (by decide) (by decide) ![0, 3456] inb_S128x7168_S128x128_0_3456 rfl rfl y
  · intro y; exact piece (codesR_tile (φ := .fp8e4m3) k4_ne (by decide) (tile x0 26 (by decide) ![0, 3328] inb_S128x7168_S128x128_0_3328 rfl rfl bitsLt_bf16_f32) _ _ broadcasts_S128x1_S128x128 _) (by decide) (by decide) ![0, 3328] inb_S128x7168_S128x128_0_3328 rfl rfl y
  · intro y; exact piece (codesR_tile (φ := .fp8e4m3) k4_ne (by decide) (tile x0 25 (by decide) ![0, 3200] inb_S128x7168_S128x128_0_3200 rfl rfl bitsLt_bf16_f32) _ _ broadcasts_S128x1_S128x128 _) (by decide) (by decide) ![0, 3200] inb_S128x7168_S128x128_0_3200 rfl rfl y
  · intro y; exact piece (codesR_tile (φ := .fp8e4m3) k4_ne (by decide) (tile x0 24 (by decide) ![0, 3072] inb_S128x7168_S128x128_0_3072 rfl rfl bitsLt_bf16_f32) _ _ broadcasts_S128x1_S128x128 _) (by decide) (by decide) ![0, 3072] inb_S128x7168_S128x128_0_3072 rfl rfl y
  · intro y; exact piece (codesR_tile (φ := .fp8e4m3) k4_ne (by decide) (tile x0 23 (by decide) ![0, 2944] inb_S128x7168_S128x128_0_2944 rfl rfl bitsLt_bf16_f32) _ _ broadcasts_S128x1_S128x128 _) (by decide) (by decide) ![0, 2944] inb_S128x7168_S128x128_0_2944 rfl rfl y
  · intro y; exact piece (codesR_tile (φ := .fp8e4m3) k4_ne (by decide) (tile x0 22 (by decide) ![0, 2816] inb_S128x7168_S128x128_0_2816 rfl rfl bitsLt_bf16_f32) _ _ broadcasts_S128x1_S128x128 _) (by decide) (by decide) ![0, 2816] inb_S128x7168_S128x128_0_2816 rfl rfl y
  · intro y; exact piece (codesR_tile (φ := .fp8e4m3) k4_ne (by decide) (tile x0 21 (by decide) ![0, 2688] inb_S128x7168_S128x128_0_2688 rfl rfl bitsLt_bf16_f32) _ _ broadcasts_S128x1_S128x128 _) (by decide) (by decide) ![0, 2688] inb_S128x7168_S128x128_0_2688 rfl rfl y
  · intro y; exact piece (codesR_tile (φ := .fp8e4m3) k4_ne (by decide) (tile x0 20 (by decide) ![0, 2560] inb_S128x7168_S128x128_0_2560 rfl rfl bitsLt_bf16_f32) _ _ broadcasts_S128x1_S128x128 _) (by decide) (by decide) ![0, 2560] inb_S128x7168_S128x128_0_2560 rfl rfl y
  · intro y; exact piece (codesR_tile (φ := .fp8e4m3) k4_ne (by decide) (tile x0 19 (by decide) ![0, 2432] inb_S128x7168_S128x128_0_2432 rfl rfl bitsLt_bf16_f32) _ _ broadcasts_S128x1_S128x128 _) (by decide) (by decide) ![0, 2432] inb_S128x7168_S128x128_0_2432 rfl rfl y
  · intro y; exact piece (codesR_tile (φ := .fp8e4m3) k4_ne (by decide) (tile x0 18 (by decide) ![0, 2304] inb_S128x7168_S128x128_0_2304 rfl rfl bitsLt_bf16_f32) _ _ broadcasts_S128x1_S128x128 _) (by decide) (by decide) ![0, 2304] inb_S128x7168_S128x128_0_2304 rfl rfl y
  · intro y; exact piece (codesR_tile (φ := .fp8e4m3) k4_ne (by decide) (tile x0 17 (by decide) ![0, 2176] inb_S128x7168_S128x128_0_2176 rfl rfl bitsLt_bf16_f32) _ _ broadcasts_S128x1_S128x128 _) (by decide) (by decide) ![0, 2176] inb_S128x7168_S128x128_0_2176 rfl rfl y
  · intro y; exact piece (codesR_tile (φ := .fp8e4m3) k4_ne (by decide) (tile x0 16 (by decide) ![0, 2048] inb_S128x7168_S128x128_0_2048 rfl rfl bitsLt_bf16_f32) _ _ broadcasts_S128x1_S128x128 _) (by decide) (by decide) ![0, 2048] inb_S128x7168_S128x128_0_2048 rfl rfl y
  · intro y; exact piece (codesR_tile (φ := .fp8e4m3) k4_ne (by decide) (tile x0 15 (by decide) ![0, 1920] inb_S128x7168_S128x128_0_1920 rfl rfl bitsLt_bf16_f32) _ _ broadcasts_S128x1_S128x128 _) (by decide) (by decide) ![0, 1920] inb_S128x7168_S128x128_0_1920 rfl rfl y
  · intro y; exact piece (codesR_tile (φ := .fp8e4m3) k4_ne (by decide) (tile x0 14 (by decide) ![0, 1792] inb_S128x7168_S128x128_0_1792 rfl rfl bitsLt_bf16_f32) _ _ broadcasts_S128x1_S128x128 _) (by decide) (by decide) ![0, 1792] inb_S128x7168_S128x128_0_1792 rfl rfl y
  · intro y; exact piece (codesR_tile (φ := .fp8e4m3) k4_ne (by decide) (tile x0 13 (by decide) ![0, 1664] inb_S128x7168_S128x128_0_1664 rfl rfl bitsLt_bf16_f32) _ _ broadcasts_S128x1_S128x128 _) (by decide) (by decide) ![0, 1664] inb_S128x7168_S128x128_0_1664 rfl rfl y
  · intro y; exact piece (codesR_tile (φ := .fp8e4m3) k4_ne (by decide) (tile x0 12 (by decide) ![0, 1536] inb_S128x7168_S128x128_0_1536 rfl rfl bitsLt_bf16_f32) _ _ broadcasts_S128x1_S128x128 _) (by decide) (by decide) ![0, 1536] inb_S128x7168_S128x128_0_1536 rfl rfl y
  · intro y; exact piece (codesR_tile (φ := .fp8e4m3) k4_ne (by decide) (tile x0 11 (by decide) ![0, 1408] inb_S128x7168_S128x128_0_1408 rfl rfl bitsLt_bf16_f32) _ _ broadcasts_S128x1_S128x128 _) (by decide) (by decide) ![0, 1408] inb_S128x7168_S128x128_0_1408 rfl rfl y
  · intro y; exact piece (codesR_tile (φ := .fp8e4m3) k4_ne (by decide) (tile x0 10 (by decide) ![0, 1280] inb_S128x7168_S128x128_0_1280 rfl rfl bitsLt_bf16_f32) _ _ broadcasts_S128x1_S128x128 _) (by decide) (by decide) ![0, 1280] inb_S128x7168_S128x128_0_1280 rfl rfl y
  · intro y; exact piece (codesR_tile (φ := .fp8e4m3) k4_ne (by decide) (tile x0 9 (by decide) ![0, 1152] inb_S128x7168_S128x128_0_1152 rfl rfl bitsLt_bf16_f32) _ _ broadcasts_S128x1_S128x128 _) (by decide) (by decide) ![0, 1152] inb_S128x7168_S128x128_0_1152 rfl rfl y
  · intro y; exact piece (codesR_tile (φ := .fp8e4m3) k4_ne (by decide) (tile x0 8 (by decide) ![0, 1024] inb_S128x7168_S128x128_0_1024 rfl rfl bitsLt_bf16_f32) _ _ broadcasts_S128x1_S128x128 _) (by decide) (by decide) ![0, 1024] inb_S128x7168_S128x128_0_1024 rfl rfl y
  · intro y; exact piece (codesR_tile (φ := .fp8e4m3) k4_ne (by decide) (tile x0 7 (by decide) ![0, 896] inb_S128x7168_S128x128_0_896 rfl rfl bitsLt_bf16_f32) _ _ broadcasts_S128x1_S128x128 _) (by decide) (by decide) ![0, 896] inb_S128x7168_S128x128_0_896 rfl rfl y
  · intro y; exact piece (codesR_tile (φ := .fp8e4m3) k4_ne (by decide) (tile x0 6 (by decide) ![0, 768] inb_S128x7168_S128x128_0_768 rfl rfl bitsLt_bf16_f32) _ _ broadcasts_S128x1_S128x128 _) (by decide) (by decide) ![0, 768] inb_S128x7168_S128x128_0_768 rfl rfl y
  · intro y; exact piece (codesR_tile (φ := .fp8e4m3) k4_ne (by decide) (tile x0 5 (by decide) ![0, 640] inb_S128x7168_S128x128_0_640 rfl rfl bitsLt_bf16_f32) _ _ broadcasts_S128x1_S128x128 _) (by decide) (by decide) ![0, 640] inb_S128x7168_S128x128_0_640 rfl rfl y
  · intro y; exact piece (codesR_tile (φ := .fp8e4m3) k4_ne (by decide) (tile x0 4 (by decide) ![0, 512] inb_S128x7168_S128x128_0_512 rfl rfl bitsLt_bf16_f32) _ _ broadcasts_S128x1_S128x128 _) (by decide) (by decide) ![0, 512] inb_S128x7168_S128x128_0_512 rfl rfl y
  · intro y; exact piece (codesR_tile (φ := .fp8e4m3) k4_ne (by decide) (tile x0 3 (by decide) ![0, 384] inb_S128x7168_S128x128_0_384 rfl rfl bitsLt_bf16_f32) _ _ broadcasts_S128x1_S128x128 _) (by decide) (by decide) ![0, 384] inb_S128x7168_S128x128_0_384 rfl rfl y
  · intro y; exact piece (codesR_tile (φ := .fp8e4m3) k4_ne (by decide) (tile x0 2 (by decide) ![0, 256] inb_S128x7168_S128x128_0_256 rfl rfl bitsLt_bf16_f32) _ _ broadcasts_S128x1_S128x128 _) (by decide) (by decide) ![0, 256] inb_S128x7168_S128x128_0_256 rfl rfl y
  · intro y; exact piece (codesR_tile (φ := .fp8e4m3) k4_ne (by decide) (tile x0 1 (by decide) ![0, 128] inb_S128x7168_S128x128_0_128 rfl rfl bitsLt_bf16_f32) _ _ broadcasts_S128x1_S128x128 _) (by decide) (by decide) ![0, 128] inb_S128x7168_S128x128_0_128 rfl rfl y
  · intro y; exact piece (codesR_tile (φ := .fp8e4m3) k4_ne (by decide) (tile x0 0 (by decide) ![0, 0] inb_S128x7168_S128x128_0_0 rfl rfl bitsLt_bf16_f32) _ _ broadcasts_S128x1_S128x128 _) (by decide) (by decide) ![0, 0] inb_S128x7168_S128x128_0_0 rfl rfl y

/-- Output 3: the row scales. -/
theorem o3 (x0 x1 : Vec Ideal S128x7168 .bf16) (y : S128x56.Idx) : out0_3 x0 x1 y = (fun z => rowS e4 (ent x0) (z 0) (z 1).val : S128x56.Idx → EReal) y := by
  unfold out0_3
  refine View.canon_append_of_piecesOf (Val := Elt Ideal) (fun z => rowS e4 (ent x0) (z 0) (z 1).val) [] [_, _, _, _, _, _, _, _, _, _, _, _, _, _, _, _, _, _, _, _, _, _, _, _, _, _, _, _, _, _, _, _, _, _, _, _, _, _, _, _, _, _, _, _, _, _, _, _, _, _, _, _, _, _, _, _] ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩ y (cover0_3 _ _ _ _ _ _ _ _ _ _ _ _ _ _ _ _ _ _ _ _ _ _ _ _ _ _ _ _ _ _ _ _ _ _ _ _ _ _ _ _ _ _ _ _ _ _ _ _ _ _ _ _ _ _ _ _ y)
  · intro y; exact pieceS (G := rowS e4 (ent x0)) (g := 55) (scalesR_tile k4_ne (tile x0 55 (by decide) ![0, 7040] inb_S128x7168_S128x128_0_7040 rfl rfl bitsLt_bf16_f32) _ _) ![0, 55] inb_S128x56_S128x1_0_55 rfl rfl y
  · intro y; exact pieceS (G := rowS e4 (ent x0)) (g := 54) (scalesR_tile k4_ne (tile x0 54 (by decide) ![0, 6912] inb_S128x7168_S128x128_0_6912 rfl rfl bitsLt_bf16_f32) _ _) ![0, 54] inb_S128x56_S128x1_0_54 rfl rfl y
  · intro y; exact pieceS (G := rowS e4 (ent x0)) (g := 53) (scalesR_tile k4_ne (tile x0 53 (by decide) ![0, 6784] inb_S128x7168_S128x128_0_6784 rfl rfl bitsLt_bf16_f32) _ _) ![0, 53] inb_S128x56_S128x1_0_53 rfl rfl y
  · intro y; exact pieceS (G := rowS e4 (ent x0)) (g := 52) (scalesR_tile k4_ne (tile x0 52 (by decide) ![0, 6656] inb_S128x7168_S128x128_0_6656 rfl rfl bitsLt_bf16_f32) _ _) ![0, 52] inb_S128x56_S128x1_0_52 rfl rfl y
  · intro y; exact pieceS (G := rowS e4 (ent x0)) (g := 51) (scalesR_tile k4_ne (tile x0 51 (by decide) ![0, 6528] inb_S128x7168_S128x128_0_6528 rfl rfl bitsLt_bf16_f32) _ _) ![0, 51] inb_S128x56_S128x1_0_51 rfl rfl y
  · intro y; exact pieceS (G := rowS e4 (ent x0)) (g := 50) (scalesR_tile k4_ne (tile x0 50 (by decide) ![0, 6400] inb_S128x7168_S128x128_0_6400 rfl rfl bitsLt_bf16_f32) _ _) ![0, 50] inb_S128x56_S128x1_0_50 rfl rfl y
  · intro y; exact pieceS (G := rowS e4 (ent x0)) (g := 49) (scalesR_tile k4_ne (tile x0 49 (by decide) ![0, 6272] inb_S128x7168_S128x128_0_6272 rfl rfl bitsLt_bf16_f32) _ _) ![0, 49] inb_S128x56_S128x1_0_49 rfl rfl y
  · intro y; exact pieceS (G := rowS e4 (ent x0)) (g := 48) (scalesR_tile k4_ne (tile x0 48 (by decide) ![0, 6144] inb_S128x7168_S128x128_0_6144 rfl rfl bitsLt_bf16_f32) _ _) ![0, 48] inb_S128x56_S128x1_0_48 rfl rfl y
  · intro y; exact pieceS (G := rowS e4 (ent x0)) (g := 47) (scalesR_tile k4_ne (tile x0 47 (by decide) ![0, 6016] inb_S128x7168_S128x128_0_6016 rfl rfl bitsLt_bf16_f32) _ _) ![0, 47] inb_S128x56_S128x1_0_47 rfl rfl y
  · intro y; exact pieceS (G := rowS e4 (ent x0)) (g := 46) (scalesR_tile k4_ne (tile x0 46 (by decide) ![0, 5888] inb_S128x7168_S128x128_0_5888 rfl rfl bitsLt_bf16_f32) _ _) ![0, 46] inb_S128x56_S128x1_0_46 rfl rfl y
  · intro y; exact pieceS (G := rowS e4 (ent x0)) (g := 45) (scalesR_tile k4_ne (tile x0 45 (by decide) ![0, 5760] inb_S128x7168_S128x128_0_5760 rfl rfl bitsLt_bf16_f32) _ _) ![0, 45] inb_S128x56_S128x1_0_45 rfl rfl y
  · intro y; exact pieceS (G := rowS e4 (ent x0)) (g := 44) (scalesR_tile k4_ne (tile x0 44 (by decide) ![0, 5632] inb_S128x7168_S128x128_0_5632 rfl rfl bitsLt_bf16_f32) _ _) ![0, 44] inb_S128x56_S128x1_0_44 rfl rfl y
  · intro y; exact pieceS (G := rowS e4 (ent x0)) (g := 43) (scalesR_tile k4_ne (tile x0 43 (by decide) ![0, 5504] inb_S128x7168_S128x128_0_5504 rfl rfl bitsLt_bf16_f32) _ _) ![0, 43] inb_S128x56_S128x1_0_43 rfl rfl y
  · intro y; exact pieceS (G := rowS e4 (ent x0)) (g := 42) (scalesR_tile k4_ne (tile x0 42 (by decide) ![0, 5376] inb_S128x7168_S128x128_0_5376 rfl rfl bitsLt_bf16_f32) _ _) ![0, 42] inb_S128x56_S128x1_0_42 rfl rfl y
  · intro y; exact pieceS (G := rowS e4 (ent x0)) (g := 41) (scalesR_tile k4_ne (tile x0 41 (by decide) ![0, 5248] inb_S128x7168_S128x128_0_5248 rfl rfl bitsLt_bf16_f32) _ _) ![0, 41] inb_S128x56_S128x1_0_41 rfl rfl y
  · intro y; exact pieceS (G := rowS e4 (ent x0)) (g := 40) (scalesR_tile k4_ne (tile x0 40 (by decide) ![0, 5120] inb_S128x7168_S128x128_0_5120 rfl rfl bitsLt_bf16_f32) _ _) ![0, 40] inb_S128x56_S128x1_0_40 rfl rfl y
  · intro y; exact pieceS (G := rowS e4 (ent x0)) (g := 39) (scalesR_tile k4_ne (tile x0 39 (by decide) ![0, 4992] inb_S128x7168_S128x128_0_4992 rfl rfl bitsLt_bf16_f32) _ _) ![0, 39] inb_S128x56_S128x1_0_39 rfl rfl y
  · intro y; exact pieceS (G := rowS e4 (ent x0)) (g := 38) (scalesR_tile k4_ne (tile x0 38 (by decide) ![0, 4864] inb_S128x7168_S128x128_0_4864 rfl rfl bitsLt_bf16_f32) _ _) ![0, 38] inb_S128x56_S128x1_0_38 rfl rfl y
  · intro y; exact pieceS (G := rowS e4 (ent x0)) (g := 37) (scalesR_tile k4_ne (tile x0 37 (by decide) ![0, 4736] inb_S128x7168_S128x128_0_4736 rfl rfl bitsLt_bf16_f32) _ _) ![0, 37] inb_S128x56_S128x1_0_37 rfl rfl y
  · intro y; exact pieceS (G := rowS e4 (ent x0)) (g := 36) (scalesR_tile k4_ne (tile x0 36 (by decide) ![0, 4608] inb_S128x7168_S128x128_0_4608 rfl rfl bitsLt_bf16_f32) _ _) ![0, 36] inb_S128x56_S128x1_0_36 rfl rfl y
  · intro y; exact pieceS (G := rowS e4 (ent x0)) (g := 35) (scalesR_tile k4_ne (tile x0 35 (by decide) ![0, 4480] inb_S128x7168_S128x128_0_4480 rfl rfl bitsLt_bf16_f32) _ _) ![0, 35] inb_S128x56_S128x1_0_35 rfl rfl y
  · intro y; exact pieceS (G := rowS e4 (ent x0)) (g := 34) (scalesR_tile k4_ne (tile x0 34 (by decide) ![0, 4352] inb_S128x7168_S128x128_0_4352 rfl rfl bitsLt_bf16_f32) _ _) ![0, 34] inb_S128x56_S128x1_0_34 rfl rfl y
  · intro y; exact pieceS (G := rowS e4 (ent x0)) (g := 33) (scalesR_tile k4_ne (tile x0 33 (by decide) ![0, 4224] inb_S128x7168_S128x128_0_4224 rfl rfl bitsLt_bf16_f32) _ _) ![0, 33] inb_S128x56_S128x1_0_33 rfl rfl y
  · intro y; exact pieceS (G := rowS e4 (ent x0)) (g := 32) (scalesR_tile k4_ne (tile x0 32 (by decide) ![0, 4096] inb_S128x7168_S128x128_0_4096 rfl rfl bitsLt_bf16_f32) _ _) ![0, 32] inb_S128x56_S128x1_0_32 rfl rfl y
  · intro y; exact pieceS (G := rowS e4 (ent x0)) (g := 31) (scalesR_tile k4_ne (tile x0 31 (by decide) ![0, 3968] inb_S128x7168_S128x128_0_3968 rfl rfl bitsLt_bf16_f32) _ _) ![0, 31] inb_S128x56_S128x1_0_31 rfl rfl y
  · intro y; exact pieceS (G := rowS e4 (ent x0)) (g := 30) (scalesR_tile k4_ne (tile x0 30 (by decide) ![0, 3840] inb_S128x7168_S128x128_0_3840 rfl rfl bitsLt_bf16_f32) _ _) ![0, 30] inb_S128x56_S128x1_0_30 rfl rfl y
  · intro y; exact pieceS (G := rowS e4 (ent x0)) (g := 29) (scalesR_tile k4_ne (tile x0 29 (by decide) ![0, 3712] inb_S128x7168_S128x128_0_3712 rfl rfl bitsLt_bf16_f32) _ _) ![0, 29] inb_S128x56_S128x1_0_29 rfl rfl y
  · intro y; exact pieceS (G := rowS e4 (ent x0)) (g := 28) (scalesR_tile k4_ne (tile x0 28 (by decide) ![0, 3584] inb_S128x7168_S128x128_0_3584 rfl rfl bitsLt_bf16_f32) _ _) ![0, 28] inb_S128x56_S128x1_0_28 rfl rfl y
  · intro y; exact pieceS (G := rowS e4 (ent x0)) (g := 27) (scalesR_tile k4_ne (tile x0 27 (by decide) ![0, 3456] inb_S128x7168_S128x128_0_3456 rfl rfl bitsLt_bf16_f32) _ _) ![0, 27] inb_S128x56_S128x1_0_27 rfl rfl y
  · intro y; exact pieceS (G := rowS e4 (ent x0)) (g := 26) (scalesR_tile k4_ne (tile x0 26 (by decide) ![0, 3328] inb_S128x7168_S128x128_0_3328 rfl rfl bitsLt_bf16_f32) _ _) ![0, 26] inb_S128x56_S128x1_0_26 rfl rfl y
  · intro y; exact pieceS (G := rowS e4 (ent x0)) (g := 25) (scalesR_tile k4_ne (tile x0 25 (by decide) ![0, 3200] inb_S128x7168_S128x128_0_3200 rfl rfl bitsLt_bf16_f32) _ _) ![0, 25] inb_S128x56_S128x1_0_25 rfl rfl y
  · intro y; exact pieceS (G := rowS e4 (ent x0)) (g := 24) (scalesR_tile k4_ne (tile x0 24 (by decide) ![0, 3072] inb_S128x7168_S128x128_0_3072 rfl rfl bitsLt_bf16_f32) _ _) ![0, 24] inb_S128x56_S128x1_0_24 rfl rfl y
  · intro y; exact pieceS (G := rowS e4 (ent x0)) (g := 23) (scalesR_tile k4_ne (tile x0 23 (by decide) ![0, 2944] inb_S128x7168_S128x128_0_2944 rfl rfl bitsLt_bf16_f32) _ _) ![0, 23] inb_S128x56_S128x1_0_23 rfl rfl y
  · intro y; exact pieceS (G := rowS e4 (ent x0)) (g := 22) (scalesR_tile k4_ne (tile x0 22 (by decide) ![0, 2816] inb_S128x7168_S128x128_0_2816 rfl rfl bitsLt_bf16_f32) _ _) ![0, 22] inb_S128x56_S128x1_0_22 rfl rfl y
  · intro y; exact pieceS (G := rowS e4 (ent x0)) (g := 21) (scalesR_tile k4_ne (tile x0 21 (by decide) ![0, 2688] inb_S128x7168_S128x128_0_2688 rfl rfl bitsLt_bf16_f32) _ _) ![0, 21] inb_S128x56_S128x1_0_21 rfl rfl y
  · intro y; exact pieceS (G := rowS e4 (ent x0)) (g := 20) (scalesR_tile k4_ne (tile x0 20 (by decide) ![0, 2560] inb_S128x7168_S128x128_0_2560 rfl rfl bitsLt_bf16_f32) _ _) ![0, 20] inb_S128x56_S128x1_0_20 rfl rfl y
  · intro y; exact pieceS (G := rowS e4 (ent x0)) (g := 19) (scalesR_tile k4_ne (tile x0 19 (by decide) ![0, 2432] inb_S128x7168_S128x128_0_2432 rfl rfl bitsLt_bf16_f32) _ _) ![0, 19] inb_S128x56_S128x1_0_19 rfl rfl y
  · intro y; exact pieceS (G := rowS e4 (ent x0)) (g := 18) (scalesR_tile k4_ne (tile x0 18 (by decide) ![0, 2304] inb_S128x7168_S128x128_0_2304 rfl rfl bitsLt_bf16_f32) _ _) ![0, 18] inb_S128x56_S128x1_0_18 rfl rfl y
  · intro y; exact pieceS (G := rowS e4 (ent x0)) (g := 17) (scalesR_tile k4_ne (tile x0 17 (by decide) ![0, 2176] inb_S128x7168_S128x128_0_2176 rfl rfl bitsLt_bf16_f32) _ _) ![0, 17] inb_S128x56_S128x1_0_17 rfl rfl y
  · intro y; exact pieceS (G := rowS e4 (ent x0)) (g := 16) (scalesR_tile k4_ne (tile x0 16 (by decide) ![0, 2048] inb_S128x7168_S128x128_0_2048 rfl rfl bitsLt_bf16_f32) _ _) ![0, 16] inb_S128x56_S128x1_0_16 rfl rfl y
  · intro y; exact pieceS (G := rowS e4 (ent x0)) (g := 15) (scalesR_tile k4_ne (tile x0 15 (by decide) ![0, 1920] inb_S128x7168_S128x128_0_1920 rfl rfl bitsLt_bf16_f32) _ _) ![0, 15] inb_S128x56_S128x1_0_15 rfl rfl y
  · intro y; exact pieceS (G := rowS e4 (ent x0)) (g := 14) (scalesR_tile k4_ne (tile x0 14 (by decide) ![0, 1792] inb_S128x7168_S128x128_0_1792 rfl rfl bitsLt_bf16_f32) _ _) ![0, 14] inb_S128x56_S128x1_0_14 rfl rfl y
  · intro y; exact pieceS (G := rowS e4 (ent x0)) (g := 13) (scalesR_tile k4_ne (tile x0 13 (by decide) ![0, 1664] inb_S128x7168_S128x128_0_1664 rfl rfl bitsLt_bf16_f32) _ _) ![0, 13] inb_S128x56_S128x1_0_13 rfl rfl y
  · intro y; exact pieceS (G := rowS e4 (ent x0)) (g := 12) (scalesR_tile k4_ne (tile x0 12 (by decide) ![0, 1536] inb_S128x7168_S128x128_0_1536 rfl rfl bitsLt_bf16_f32) _ _) ![0, 12] inb_S128x56_S128x1_0_12 rfl rfl y
  · intro y; exact pieceS (G := rowS e4 (ent x0)) (g := 11) (scalesR_tile k4_ne (tile x0 11 (by decide) ![0, 1408] inb_S128x7168_S128x128_0_1408 rfl rfl bitsLt_bf16_f32) _ _) ![0, 11] inb_S128x56_S128x1_0_11 rfl rfl y
  · intro y; exact pieceS (G := rowS e4 (ent x0)) (g := 10) (scalesR_tile k4_ne (tile x0 10 (by decide) ![0, 1280] inb_S128x7168_S128x128_0_1280 rfl rfl bitsLt_bf16_f32) _ _) ![0, 10] inb_S128x56_S128x1_0_10 rfl rfl y
  · intro y; exact pieceS (G := rowS e4 (ent x0)) (g := 9) (scalesR_tile k4_ne (tile x0 9 (by decide) ![0, 1152] inb_S128x7168_S128x128_0_1152 rfl rfl bitsLt_bf16_f32) _ _) ![0, 9] inb_S128x56_S128x1_0_9 rfl rfl y
  · intro y; exact pieceS (G := rowS e4 (ent x0)) (g := 8) (scalesR_tile k4_ne (tile x0 8 (by decide) ![0, 1024] inb_S128x7168_S128x128_0_1024 rfl rfl bitsLt_bf16_f32) _ _) ![0, 8] inb_S128x56_S128x1_0_8 rfl rfl y
  · intro y; exact pieceS (G := rowS e4 (ent x0)) (g := 7) (scalesR_tile k4_ne (tile x0 7 (by decide) ![0, 896] inb_S128x7168_S128x128_0_896 rfl rfl bitsLt_bf16_f32) _ _) ![0, 7] inb_S128x56_S128x1_0_7 rfl rfl y
  · intro y; exact pieceS (G := rowS e4 (ent x0)) (g := 6) (scalesR_tile k4_ne (tile x0 6 (by decide) ![0, 768] inb_S128x7168_S128x128_0_768 rfl rfl bitsLt_bf16_f32) _ _) ![0, 6] inb_S128x56_S128x1_0_6 rfl rfl y
  · intro y; exact pieceS (G := rowS e4 (ent x0)) (g := 5) (scalesR_tile k4_ne (tile x0 5 (by decide) ![0, 640] inb_S128x7168_S128x128_0_640 rfl rfl bitsLt_bf16_f32) _ _) ![0, 5] inb_S128x56_S128x1_0_5 rfl rfl y
  · intro y; exact pieceS (G := rowS e4 (ent x0)) (g := 4) (scalesR_tile k4_ne (tile x0 4 (by decide) ![0, 512] inb_S128x7168_S128x128_0_512 rfl rfl bitsLt_bf16_f32) _ _) ![0, 4] inb_S128x56_S128x1_0_4 rfl rfl y
  · intro y; exact pieceS (G := rowS e4 (ent x0)) (g := 3) (scalesR_tile k4_ne (tile x0 3 (by decide) ![0, 384] inb_S128x7168_S128x128_0_384 rfl rfl bitsLt_bf16_f32) _ _) ![0, 3] inb_S128x56_S128x1_0_3 rfl rfl y
  · intro y; exact pieceS (G := rowS e4 (ent x0)) (g := 2) (scalesR_tile k4_ne (tile x0 2 (by decide) ![0, 256] inb_S128x7168_S128x128_0_256 rfl rfl bitsLt_bf16_f32) _ _) ![0, 2] inb_S128x56_S128x1_0_2 rfl rfl y
  · intro y; exact pieceS (G := rowS e4 (ent x0)) (g := 1) (scalesR_tile k4_ne (tile x0 1 (by decide) ![0, 128] inb_S128x7168_S128x128_0_128 rfl rfl bitsLt_bf16_f32) _ _) ![0, 1] inb_S128x56_S128x1_0_1 rfl rfl y
  · intro y; exact pieceS (G := rowS e4 (ent x0)) (g := 0) (scalesR_tile k4_ne (tile x0 0 (by decide) ![0, 0] inb_S128x7168_S128x128_0_0 rfl rfl bitsLt_bf16_f32) _ _) ![0, 0] inb_S128x56_S128x1_0_0 rfl rfl y

/-- Output 4: the column codes. -/
theorem o4 (x0 x1 : Vec Ideal S128x7168 .bf16) (y : S128x7168.Idx) : out0_4 x0 x1 y = (fun z => colQ e4 (rowW e4 (ent x0)) (z 0) (z 1) : S128x7168.Idx → EReal) y := by
  unfold out0_4
  refine View.canon_append_of_piecesOf (Val := Elt Ideal) (fun z => colQ e4 (rowW e4 (ent x0)) (z 0) (z 1)) [] [_, _, _, _, _, _, _, _, _, _, _, _, _, _, _, _, _, _, _, _, _, _, _, _, _, _, _, _, _, _, _, _, _, _, _, _, _, _, _, _, _, _, _, _, _, _, _, _, _, _, _, _, _, _, _, _] ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩ y (cover0_4 _ _ _ _ _ _ _ _ _ _ _ _ _ _ _ _ _ _ _ _ _ _ _ _ _ _ _ _ _ _ _ _ _ _ _ _ _ _ _ _ _ _ _ _ _ _ _ _ _ _ _ _ _ _ _ _ y)
  · intro y; exact piece (codesC_tile (φ := .fp8e4m3) k4_ne (by decide) (widened_tile (φ := .fp8e4m3) k4_ne (by decide) (tile x0 55 (by decide) ![0, 7040] inb_S128x7168_S128x128_0_7040 rfl rfl bitsLt_bf16_f32) _ _ broadcasts_S128x1_S128x128 _ _) _ _ broadcasts_S1x128_S128x128 _) (by decide) (by decide) ![0, 7040] inb_S128x7168_S128x128_0_7040 rfl rfl y
  · intro y; exact piece (codesC_tile (φ := .fp8e4m3) k4_ne (by decide) (widened_tile (φ := .fp8e4m3) k4_ne (by decide) (tile x0 54 (by decide) ![0, 6912] inb_S128x7168_S128x128_0_6912 rfl rfl bitsLt_bf16_f32) _ _ broadcasts_S128x1_S128x128 _ _) _ _ broadcasts_S1x128_S128x128 _) (by decide) (by decide) ![0, 6912] inb_S128x7168_S128x128_0_6912 rfl rfl y
  · intro y; exact piece (codesC_tile (φ := .fp8e4m3) k4_ne (by decide) (widened_tile (φ := .fp8e4m3) k4_ne (by decide) (tile x0 53 (by decide) ![0, 6784] inb_S128x7168_S128x128_0_6784 rfl rfl bitsLt_bf16_f32) _ _ broadcasts_S128x1_S128x128 _ _) _ _ broadcasts_S1x128_S128x128 _) (by decide) (by decide) ![0, 6784] inb_S128x7168_S128x128_0_6784 rfl rfl y
  · intro y; exact piece (codesC_tile (φ := .fp8e4m3) k4_ne (by decide) (widened_tile (φ := .fp8e4m3) k4_ne (by decide) (tile x0 52 (by decide) ![0, 6656] inb_S128x7168_S128x128_0_6656 rfl rfl bitsLt_bf16_f32) _ _ broadcasts_S128x1_S128x128 _ _) _ _ broadcasts_S1x128_S128x128 _) (by decide) (by decide) ![0, 6656] inb_S128x7168_S128x128_0_6656 rfl rfl y
  · intro y; exact piece (codesC_tile (φ := .fp8e4m3) k4_ne (by decide) (widened_tile (φ := .fp8e4m3) k4_ne (by decide) (tile x0 51 (by decide) ![0, 6528] inb_S128x7168_S128x128_0_6528 rfl rfl bitsLt_bf16_f32) _ _ broadcasts_S128x1_S128x128 _ _) _ _ broadcasts_S1x128_S128x128 _) (by decide) (by decide) ![0, 6528] inb_S128x7168_S128x128_0_6528 rfl rfl y
  · intro y; exact piece (codesC_tile (φ := .fp8e4m3) k4_ne (by decide) (widened_tile (φ := .fp8e4m3) k4_ne (by decide) (tile x0 50 (by decide) ![0, 6400] inb_S128x7168_S128x128_0_6400 rfl rfl bitsLt_bf16_f32) _ _ broadcasts_S128x1_S128x128 _ _) _ _ broadcasts_S1x128_S128x128 _) (by decide) (by decide) ![0, 6400] inb_S128x7168_S128x128_0_6400 rfl rfl y
  · intro y; exact piece (codesC_tile (φ := .fp8e4m3) k4_ne (by decide) (widened_tile (φ := .fp8e4m3) k4_ne (by decide) (tile x0 49 (by decide) ![0, 6272] inb_S128x7168_S128x128_0_6272 rfl rfl bitsLt_bf16_f32) _ _ broadcasts_S128x1_S128x128 _ _) _ _ broadcasts_S1x128_S128x128 _) (by decide) (by decide) ![0, 6272] inb_S128x7168_S128x128_0_6272 rfl rfl y
  · intro y; exact piece (codesC_tile (φ := .fp8e4m3) k4_ne (by decide) (widened_tile (φ := .fp8e4m3) k4_ne (by decide) (tile x0 48 (by decide) ![0, 6144] inb_S128x7168_S128x128_0_6144 rfl rfl bitsLt_bf16_f32) _ _ broadcasts_S128x1_S128x128 _ _) _ _ broadcasts_S1x128_S128x128 _) (by decide) (by decide) ![0, 6144] inb_S128x7168_S128x128_0_6144 rfl rfl y
  · intro y; exact piece (codesC_tile (φ := .fp8e4m3) k4_ne (by decide) (widened_tile (φ := .fp8e4m3) k4_ne (by decide) (tile x0 47 (by decide) ![0, 6016] inb_S128x7168_S128x128_0_6016 rfl rfl bitsLt_bf16_f32) _ _ broadcasts_S128x1_S128x128 _ _) _ _ broadcasts_S1x128_S128x128 _) (by decide) (by decide) ![0, 6016] inb_S128x7168_S128x128_0_6016 rfl rfl y
  · intro y; exact piece (codesC_tile (φ := .fp8e4m3) k4_ne (by decide) (widened_tile (φ := .fp8e4m3) k4_ne (by decide) (tile x0 46 (by decide) ![0, 5888] inb_S128x7168_S128x128_0_5888 rfl rfl bitsLt_bf16_f32) _ _ broadcasts_S128x1_S128x128 _ _) _ _ broadcasts_S1x128_S128x128 _) (by decide) (by decide) ![0, 5888] inb_S128x7168_S128x128_0_5888 rfl rfl y
  · intro y; exact piece (codesC_tile (φ := .fp8e4m3) k4_ne (by decide) (widened_tile (φ := .fp8e4m3) k4_ne (by decide) (tile x0 45 (by decide) ![0, 5760] inb_S128x7168_S128x128_0_5760 rfl rfl bitsLt_bf16_f32) _ _ broadcasts_S128x1_S128x128 _ _) _ _ broadcasts_S1x128_S128x128 _) (by decide) (by decide) ![0, 5760] inb_S128x7168_S128x128_0_5760 rfl rfl y
  · intro y; exact piece (codesC_tile (φ := .fp8e4m3) k4_ne (by decide) (widened_tile (φ := .fp8e4m3) k4_ne (by decide) (tile x0 44 (by decide) ![0, 5632] inb_S128x7168_S128x128_0_5632 rfl rfl bitsLt_bf16_f32) _ _ broadcasts_S128x1_S128x128 _ _) _ _ broadcasts_S1x128_S128x128 _) (by decide) (by decide) ![0, 5632] inb_S128x7168_S128x128_0_5632 rfl rfl y
  · intro y; exact piece (codesC_tile (φ := .fp8e4m3) k4_ne (by decide) (widened_tile (φ := .fp8e4m3) k4_ne (by decide) (tile x0 43 (by decide) ![0, 5504] inb_S128x7168_S128x128_0_5504 rfl rfl bitsLt_bf16_f32) _ _ broadcasts_S128x1_S128x128 _ _) _ _ broadcasts_S1x128_S128x128 _) (by decide) (by decide) ![0, 5504] inb_S128x7168_S128x128_0_5504 rfl rfl y
  · intro y; exact piece (codesC_tile (φ := .fp8e4m3) k4_ne (by decide) (widened_tile (φ := .fp8e4m3) k4_ne (by decide) (tile x0 42 (by decide) ![0, 5376] inb_S128x7168_S128x128_0_5376 rfl rfl bitsLt_bf16_f32) _ _ broadcasts_S128x1_S128x128 _ _) _ _ broadcasts_S1x128_S128x128 _) (by decide) (by decide) ![0, 5376] inb_S128x7168_S128x128_0_5376 rfl rfl y
  · intro y; exact piece (codesC_tile (φ := .fp8e4m3) k4_ne (by decide) (widened_tile (φ := .fp8e4m3) k4_ne (by decide) (tile x0 41 (by decide) ![0, 5248] inb_S128x7168_S128x128_0_5248 rfl rfl bitsLt_bf16_f32) _ _ broadcasts_S128x1_S128x128 _ _) _ _ broadcasts_S1x128_S128x128 _) (by decide) (by decide) ![0, 5248] inb_S128x7168_S128x128_0_5248 rfl rfl y
  · intro y; exact piece (codesC_tile (φ := .fp8e4m3) k4_ne (by decide) (widened_tile (φ := .fp8e4m3) k4_ne (by decide) (tile x0 40 (by decide) ![0, 5120] inb_S128x7168_S128x128_0_5120 rfl rfl bitsLt_bf16_f32) _ _ broadcasts_S128x1_S128x128 _ _) _ _ broadcasts_S1x128_S128x128 _) (by decide) (by decide) ![0, 5120] inb_S128x7168_S128x128_0_5120 rfl rfl y
  · intro y; exact piece (codesC_tile (φ := .fp8e4m3) k4_ne (by decide) (widened_tile (φ := .fp8e4m3) k4_ne (by decide) (tile x0 39 (by decide) ![0, 4992] inb_S128x7168_S128x128_0_4992 rfl rfl bitsLt_bf16_f32) _ _ broadcasts_S128x1_S128x128 _ _) _ _ broadcasts_S1x128_S128x128 _) (by decide) (by decide) ![0, 4992] inb_S128x7168_S128x128_0_4992 rfl rfl y
  · intro y; exact piece (codesC_tile (φ := .fp8e4m3) k4_ne (by decide) (widened_tile (φ := .fp8e4m3) k4_ne (by decide) (tile x0 38 (by decide) ![0, 4864] inb_S128x7168_S128x128_0_4864 rfl rfl bitsLt_bf16_f32) _ _ broadcasts_S128x1_S128x128 _ _) _ _ broadcasts_S1x128_S128x128 _) (by decide) (by decide) ![0, 4864] inb_S128x7168_S128x128_0_4864 rfl rfl y
  · intro y; exact piece (codesC_tile (φ := .fp8e4m3) k4_ne (by decide) (widened_tile (φ := .fp8e4m3) k4_ne (by decide) (tile x0 37 (by decide) ![0, 4736] inb_S128x7168_S128x128_0_4736 rfl rfl bitsLt_bf16_f32) _ _ broadcasts_S128x1_S128x128 _ _) _ _ broadcasts_S1x128_S128x128 _) (by decide) (by decide) ![0, 4736] inb_S128x7168_S128x128_0_4736 rfl rfl y
  · intro y; exact piece (codesC_tile (φ := .fp8e4m3) k4_ne (by decide) (widened_tile (φ := .fp8e4m3) k4_ne (by decide) (tile x0 36 (by decide) ![0, 4608] inb_S128x7168_S128x128_0_4608 rfl rfl bitsLt_bf16_f32) _ _ broadcasts_S128x1_S128x128 _ _) _ _ broadcasts_S1x128_S128x128 _) (by decide) (by decide) ![0, 4608] inb_S128x7168_S128x128_0_4608 rfl rfl y
  · intro y; exact piece (codesC_tile (φ := .fp8e4m3) k4_ne (by decide) (widened_tile (φ := .fp8e4m3) k4_ne (by decide) (tile x0 35 (by decide) ![0, 4480] inb_S128x7168_S128x128_0_4480 rfl rfl bitsLt_bf16_f32) _ _ broadcasts_S128x1_S128x128 _ _) _ _ broadcasts_S1x128_S128x128 _) (by decide) (by decide) ![0, 4480] inb_S128x7168_S128x128_0_4480 rfl rfl y
  · intro y; exact piece (codesC_tile (φ := .fp8e4m3) k4_ne (by decide) (widened_tile (φ := .fp8e4m3) k4_ne (by decide) (tile x0 34 (by decide) ![0, 4352] inb_S128x7168_S128x128_0_4352 rfl rfl bitsLt_bf16_f32) _ _ broadcasts_S128x1_S128x128 _ _) _ _ broadcasts_S1x128_S128x128 _) (by decide) (by decide) ![0, 4352] inb_S128x7168_S128x128_0_4352 rfl rfl y
  · intro y; exact piece (codesC_tile (φ := .fp8e4m3) k4_ne (by decide) (widened_tile (φ := .fp8e4m3) k4_ne (by decide) (tile x0 33 (by decide) ![0, 4224] inb_S128x7168_S128x128_0_4224 rfl rfl bitsLt_bf16_f32) _ _ broadcasts_S128x1_S128x128 _ _) _ _ broadcasts_S1x128_S128x128 _) (by decide) (by decide) ![0, 4224] inb_S128x7168_S128x128_0_4224 rfl rfl y
  · intro y; exact piece (codesC_tile (φ := .fp8e4m3) k4_ne (by decide) (widened_tile (φ := .fp8e4m3) k4_ne (by decide) (tile x0 32 (by decide) ![0, 4096] inb_S128x7168_S128x128_0_4096 rfl rfl bitsLt_bf16_f32) _ _ broadcasts_S128x1_S128x128 _ _) _ _ broadcasts_S1x128_S128x128 _) (by decide) (by decide) ![0, 4096] inb_S128x7168_S128x128_0_4096 rfl rfl y
  · intro y; exact piece (codesC_tile (φ := .fp8e4m3) k4_ne (by decide) (widened_tile (φ := .fp8e4m3) k4_ne (by decide) (tile x0 31 (by decide) ![0, 3968] inb_S128x7168_S128x128_0_3968 rfl rfl bitsLt_bf16_f32) _ _ broadcasts_S128x1_S128x128 _ _) _ _ broadcasts_S1x128_S128x128 _) (by decide) (by decide) ![0, 3968] inb_S128x7168_S128x128_0_3968 rfl rfl y
  · intro y; exact piece (codesC_tile (φ := .fp8e4m3) k4_ne (by decide) (widened_tile (φ := .fp8e4m3) k4_ne (by decide) (tile x0 30 (by decide) ![0, 3840] inb_S128x7168_S128x128_0_3840 rfl rfl bitsLt_bf16_f32) _ _ broadcasts_S128x1_S128x128 _ _) _ _ broadcasts_S1x128_S128x128 _) (by decide) (by decide) ![0, 3840] inb_S128x7168_S128x128_0_3840 rfl rfl y
  · intro y; exact piece (codesC_tile (φ := .fp8e4m3) k4_ne (by decide) (widened_tile (φ := .fp8e4m3) k4_ne (by decide) (tile x0 29 (by decide) ![0, 3712] inb_S128x7168_S128x128_0_3712 rfl rfl bitsLt_bf16_f32) _ _ broadcasts_S128x1_S128x128 _ _) _ _ broadcasts_S1x128_S128x128 _) (by decide) (by decide) ![0, 3712] inb_S128x7168_S128x128_0_3712 rfl rfl y
  · intro y; exact piece (codesC_tile (φ := .fp8e4m3) k4_ne (by decide) (widened_tile (φ := .fp8e4m3) k4_ne (by decide) (tile x0 28 (by decide) ![0, 3584] inb_S128x7168_S128x128_0_3584 rfl rfl bitsLt_bf16_f32) _ _ broadcasts_S128x1_S128x128 _ _) _ _ broadcasts_S1x128_S128x128 _) (by decide) (by decide) ![0, 3584] inb_S128x7168_S128x128_0_3584 rfl rfl y
  · intro y; exact piece (codesC_tile (φ := .fp8e4m3) k4_ne (by decide) (widened_tile (φ := .fp8e4m3) k4_ne (by decide) (tile x0 27 (by decide) ![0, 3456] inb_S128x7168_S128x128_0_3456 rfl rfl bitsLt_bf16_f32) _ _ broadcasts_S128x1_S128x128 _ _) _ _ broadcasts_S1x128_S128x128 _) (by decide) (by decide) ![0, 3456] inb_S128x7168_S128x128_0_3456 rfl rfl y
  · intro y; exact piece (codesC_tile (φ := .fp8e4m3) k4_ne (by decide) (widened_tile (φ := .fp8e4m3) k4_ne (by decide) (tile x0 26 (by decide) ![0, 3328] inb_S128x7168_S128x128_0_3328 rfl rfl bitsLt_bf16_f32) _ _ broadcasts_S128x1_S128x128 _ _) _ _ broadcasts_S1x128_S128x128 _) (by decide) (by decide) ![0, 3328] inb_S128x7168_S128x128_0_3328 rfl rfl y
  · intro y; exact piece (codesC_tile (φ := .fp8e4m3) k4_ne (by decide) (widened_tile (φ := .fp8e4m3) k4_ne (by decide) (tile x0 25 (by decide) ![0, 3200] inb_S128x7168_S128x128_0_3200 rfl rfl bitsLt_bf16_f32) _ _ broadcasts_S128x1_S128x128 _ _) _ _ broadcasts_S1x128_S128x128 _) (by decide) (by decide) ![0, 3200] inb_S128x7168_S128x128_0_3200 rfl rfl y
  · intro y; exact piece (codesC_tile (φ := .fp8e4m3) k4_ne (by decide) (widened_tile (φ := .fp8e4m3) k4_ne (by decide) (tile x0 24 (by decide) ![0, 3072] inb_S128x7168_S128x128_0_3072 rfl rfl bitsLt_bf16_f32) _ _ broadcasts_S128x1_S128x128 _ _) _ _ broadcasts_S1x128_S128x128 _) (by decide) (by decide) ![0, 3072] inb_S128x7168_S128x128_0_3072 rfl rfl y
  · intro y; exact piece (codesC_tile (φ := .fp8e4m3) k4_ne (by decide) (widened_tile (φ := .fp8e4m3) k4_ne (by decide) (tile x0 23 (by decide) ![0, 2944] inb_S128x7168_S128x128_0_2944 rfl rfl bitsLt_bf16_f32) _ _ broadcasts_S128x1_S128x128 _ _) _ _ broadcasts_S1x128_S128x128 _) (by decide) (by decide) ![0, 2944] inb_S128x7168_S128x128_0_2944 rfl rfl y
  · intro y; exact piece (codesC_tile (φ := .fp8e4m3) k4_ne (by decide) (widened_tile (φ := .fp8e4m3) k4_ne (by decide) (tile x0 22 (by decide) ![0, 2816] inb_S128x7168_S128x128_0_2816 rfl rfl bitsLt_bf16_f32) _ _ broadcasts_S128x1_S128x128 _ _) _ _ broadcasts_S1x128_S128x128 _) (by decide) (by decide) ![0, 2816] inb_S128x7168_S128x128_0_2816 rfl rfl y
  · intro y; exact piece (codesC_tile (φ := .fp8e4m3) k4_ne (by decide) (widened_tile (φ := .fp8e4m3) k4_ne (by decide) (tile x0 21 (by decide) ![0, 2688] inb_S128x7168_S128x128_0_2688 rfl rfl bitsLt_bf16_f32) _ _ broadcasts_S128x1_S128x128 _ _) _ _ broadcasts_S1x128_S128x128 _) (by decide) (by decide) ![0, 2688] inb_S128x7168_S128x128_0_2688 rfl rfl y
  · intro y; exact piece (codesC_tile (φ := .fp8e4m3) k4_ne (by decide) (widened_tile (φ := .fp8e4m3) k4_ne (by decide) (tile x0 20 (by decide) ![0, 2560] inb_S128x7168_S128x128_0_2560 rfl rfl bitsLt_bf16_f32) _ _ broadcasts_S128x1_S128x128 _ _) _ _ broadcasts_S1x128_S128x128 _) (by decide) (by decide) ![0, 2560] inb_S128x7168_S128x128_0_2560 rfl rfl y
  · intro y; exact piece (codesC_tile (φ := .fp8e4m3) k4_ne (by decide) (widened_tile (φ := .fp8e4m3) k4_ne (by decide) (tile x0 19 (by decide) ![0, 2432] inb_S128x7168_S128x128_0_2432 rfl rfl bitsLt_bf16_f32) _ _ broadcasts_S128x1_S128x128 _ _) _ _ broadcasts_S1x128_S128x128 _) (by decide) (by decide) ![0, 2432] inb_S128x7168_S128x128_0_2432 rfl rfl y
  · intro y; exact piece (codesC_tile (φ := .fp8e4m3) k4_ne (by decide) (widened_tile (φ := .fp8e4m3) k4_ne (by decide) (tile x0 18 (by decide) ![0, 2304] inb_S128x7168_S128x128_0_2304 rfl rfl bitsLt_bf16_f32) _ _ broadcasts_S128x1_S128x128 _ _) _ _ broadcasts_S1x128_S128x128 _) (by decide) (by decide) ![0, 2304] inb_S128x7168_S128x128_0_2304 rfl rfl y
  · intro y; exact piece (codesC_tile (φ := .fp8e4m3) k4_ne (by decide) (widened_tile (φ := .fp8e4m3) k4_ne (by decide) (tile x0 17 (by decide) ![0, 2176] inb_S128x7168_S128x128_0_2176 rfl rfl bitsLt_bf16_f32) _ _ broadcasts_S128x1_S128x128 _ _) _ _ broadcasts_S1x128_S128x128 _) (by decide) (by decide) ![0, 2176] inb_S128x7168_S128x128_0_2176 rfl rfl y
  · intro y; exact piece (codesC_tile (φ := .fp8e4m3) k4_ne (by decide) (widened_tile (φ := .fp8e4m3) k4_ne (by decide) (tile x0 16 (by decide) ![0, 2048] inb_S128x7168_S128x128_0_2048 rfl rfl bitsLt_bf16_f32) _ _ broadcasts_S128x1_S128x128 _ _) _ _ broadcasts_S1x128_S128x128 _) (by decide) (by decide) ![0, 2048] inb_S128x7168_S128x128_0_2048 rfl rfl y
  · intro y; exact piece (codesC_tile (φ := .fp8e4m3) k4_ne (by decide) (widened_tile (φ := .fp8e4m3) k4_ne (by decide) (tile x0 15 (by decide) ![0, 1920] inb_S128x7168_S128x128_0_1920 rfl rfl bitsLt_bf16_f32) _ _ broadcasts_S128x1_S128x128 _ _) _ _ broadcasts_S1x128_S128x128 _) (by decide) (by decide) ![0, 1920] inb_S128x7168_S128x128_0_1920 rfl rfl y
  · intro y; exact piece (codesC_tile (φ := .fp8e4m3) k4_ne (by decide) (widened_tile (φ := .fp8e4m3) k4_ne (by decide) (tile x0 14 (by decide) ![0, 1792] inb_S128x7168_S128x128_0_1792 rfl rfl bitsLt_bf16_f32) _ _ broadcasts_S128x1_S128x128 _ _) _ _ broadcasts_S1x128_S128x128 _) (by decide) (by decide) ![0, 1792] inb_S128x7168_S128x128_0_1792 rfl rfl y
  · intro y; exact piece (codesC_tile (φ := .fp8e4m3) k4_ne (by decide) (widened_tile (φ := .fp8e4m3) k4_ne (by decide) (tile x0 13 (by decide) ![0, 1664] inb_S128x7168_S128x128_0_1664 rfl rfl bitsLt_bf16_f32) _ _ broadcasts_S128x1_S128x128 _ _) _ _ broadcasts_S1x128_S128x128 _) (by decide) (by decide) ![0, 1664] inb_S128x7168_S128x128_0_1664 rfl rfl y
  · intro y; exact piece (codesC_tile (φ := .fp8e4m3) k4_ne (by decide) (widened_tile (φ := .fp8e4m3) k4_ne (by decide) (tile x0 12 (by decide) ![0, 1536] inb_S128x7168_S128x128_0_1536 rfl rfl bitsLt_bf16_f32) _ _ broadcasts_S128x1_S128x128 _ _) _ _ broadcasts_S1x128_S128x128 _) (by decide) (by decide) ![0, 1536] inb_S128x7168_S128x128_0_1536 rfl rfl y
  · intro y; exact piece (codesC_tile (φ := .fp8e4m3) k4_ne (by decide) (widened_tile (φ := .fp8e4m3) k4_ne (by decide) (tile x0 11 (by decide) ![0, 1408] inb_S128x7168_S128x128_0_1408 rfl rfl bitsLt_bf16_f32) _ _ broadcasts_S128x1_S128x128 _ _) _ _ broadcasts_S1x128_S128x128 _) (by decide) (by decide) ![0, 1408] inb_S128x7168_S128x128_0_1408 rfl rfl y
  · intro y; exact piece (codesC_tile (φ := .fp8e4m3) k4_ne (by decide) (widened_tile (φ := .fp8e4m3) k4_ne (by decide) (tile x0 10 (by decide) ![0, 1280] inb_S128x7168_S128x128_0_1280 rfl rfl bitsLt_bf16_f32) _ _ broadcasts_S128x1_S128x128 _ _) _ _ broadcasts_S1x128_S128x128 _) (by decide) (by decide) ![0, 1280] inb_S128x7168_S128x128_0_1280 rfl rfl y
  · intro y; exact piece (codesC_tile (φ := .fp8e4m3) k4_ne (by decide) (widened_tile (φ := .fp8e4m3) k4_ne (by decide) (tile x0 9 (by decide) ![0, 1152] inb_S128x7168_S128x128_0_1152 rfl rfl bitsLt_bf16_f32) _ _ broadcasts_S128x1_S128x128 _ _) _ _ broadcasts_S1x128_S128x128 _) (by decide) (by decide) ![0, 1152] inb_S128x7168_S128x128_0_1152 rfl rfl y
  · intro y; exact piece (codesC_tile (φ := .fp8e4m3) k4_ne (by decide) (widened_tile (φ := .fp8e4m3) k4_ne (by decide) (tile x0 8 (by decide) ![0, 1024] inb_S128x7168_S128x128_0_1024 rfl rfl bitsLt_bf16_f32) _ _ broadcasts_S128x1_S128x128 _ _) _ _ broadcasts_S1x128_S128x128 _) (by decide) (by decide) ![0, 1024] inb_S128x7168_S128x128_0_1024 rfl rfl y
  · intro y; exact piece (codesC_tile (φ := .fp8e4m3) k4_ne (by decide) (widened_tile (φ := .fp8e4m3) k4_ne (by decide) (tile x0 7 (by decide) ![0, 896] inb_S128x7168_S128x128_0_896 rfl rfl bitsLt_bf16_f32) _ _ broadcasts_S128x1_S128x128 _ _) _ _ broadcasts_S1x128_S128x128 _) (by decide) (by decide) ![0, 896] inb_S128x7168_S128x128_0_896 rfl rfl y
  · intro y; exact piece (codesC_tile (φ := .fp8e4m3) k4_ne (by decide) (widened_tile (φ := .fp8e4m3) k4_ne (by decide) (tile x0 6 (by decide) ![0, 768] inb_S128x7168_S128x128_0_768 rfl rfl bitsLt_bf16_f32) _ _ broadcasts_S128x1_S128x128 _ _) _ _ broadcasts_S1x128_S128x128 _) (by decide) (by decide) ![0, 768] inb_S128x7168_S128x128_0_768 rfl rfl y
  · intro y; exact piece (codesC_tile (φ := .fp8e4m3) k4_ne (by decide) (widened_tile (φ := .fp8e4m3) k4_ne (by decide) (tile x0 5 (by decide) ![0, 640] inb_S128x7168_S128x128_0_640 rfl rfl bitsLt_bf16_f32) _ _ broadcasts_S128x1_S128x128 _ _) _ _ broadcasts_S1x128_S128x128 _) (by decide) (by decide) ![0, 640] inb_S128x7168_S128x128_0_640 rfl rfl y
  · intro y; exact piece (codesC_tile (φ := .fp8e4m3) k4_ne (by decide) (widened_tile (φ := .fp8e4m3) k4_ne (by decide) (tile x0 4 (by decide) ![0, 512] inb_S128x7168_S128x128_0_512 rfl rfl bitsLt_bf16_f32) _ _ broadcasts_S128x1_S128x128 _ _) _ _ broadcasts_S1x128_S128x128 _) (by decide) (by decide) ![0, 512] inb_S128x7168_S128x128_0_512 rfl rfl y
  · intro y; exact piece (codesC_tile (φ := .fp8e4m3) k4_ne (by decide) (widened_tile (φ := .fp8e4m3) k4_ne (by decide) (tile x0 3 (by decide) ![0, 384] inb_S128x7168_S128x128_0_384 rfl rfl bitsLt_bf16_f32) _ _ broadcasts_S128x1_S128x128 _ _) _ _ broadcasts_S1x128_S128x128 _) (by decide) (by decide) ![0, 384] inb_S128x7168_S128x128_0_384 rfl rfl y
  · intro y; exact piece (codesC_tile (φ := .fp8e4m3) k4_ne (by decide) (widened_tile (φ := .fp8e4m3) k4_ne (by decide) (tile x0 2 (by decide) ![0, 256] inb_S128x7168_S128x128_0_256 rfl rfl bitsLt_bf16_f32) _ _ broadcasts_S128x1_S128x128 _ _) _ _ broadcasts_S1x128_S128x128 _) (by decide) (by decide) ![0, 256] inb_S128x7168_S128x128_0_256 rfl rfl y
  · intro y; exact piece (codesC_tile (φ := .fp8e4m3) k4_ne (by decide) (widened_tile (φ := .fp8e4m3) k4_ne (by decide) (tile x0 1 (by decide) ![0, 128] inb_S128x7168_S128x128_0_128 rfl rfl bitsLt_bf16_f32) _ _ broadcasts_S128x1_S128x128 _ _) _ _ broadcasts_S1x128_S128x128 _) (by decide) (by decide) ![0, 128] inb_S128x7168_S128x128_0_128 rfl rfl y
  · intro y; exact piece (codesC_tile (φ := .fp8e4m3) k4_ne (by decide) (widened_tile (φ := .fp8e4m3) k4_ne (by decide) (tile x0 0 (by decide) ![0, 0] inb_S128x7168_S128x128_0_0 rfl rfl bitsLt_bf16_f32) _ _ broadcasts_S128x1_S128x128 _ _) _ _ broadcasts_S1x128_S128x128 _) (by decide) (by decide) ![0, 0] inb_S128x7168_S128x128_0_0 rfl rfl y

/-- Output 5: the column scales. -/
theorem o5 (x0 x1 : Vec Ideal S128x7168 .bf16) (y : S1x1x7168.Idx) : out0_5 x0 x1 y = (fun z => colS e4 (rowW e4 (ent x0)) 0 (z 2) : S1x1x7168.Idx → EReal) y := by
  unfold out0_5
  refine View.canon_append_of_piecesOf (Val := Elt Ideal) (fun z => colS e4 (rowW e4 (ent x0)) 0 (z 2)) [] [_, _, _, _, _, _, _, _, _, _, _, _, _, _, _, _, _, _, _, _, _, _, _, _, _, _, _, _, _, _, _, _, _, _, _, _, _, _, _, _, _, _, _, _, _, _, _, _, _, _, _, _, _, _, _, _] ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩ y (cover0_5 _ _ _ _ _ _ _ _ _ _ _ _ _ _ _ _ _ _ _ _ _ _ _ _ _ _ _ _ _ _ _ _ _ _ _ _ _ _ _ _ _ _ _ _ _ _ _ _ _ _ _ _ _ _ _ _ y)
  · intro y; exact pieceT (G := colS e4 (rowW e4 (ent x0))) (g := 55) (by decide) (scalesC_tile k4_ne (widened_tile (φ := .fp8e4m3) k4_ne (by decide) (tile x0 55 (by decide) ![0, 7040] inb_S128x7168_S128x128_0_7040 rfl rfl bitsLt_bf16_f32) _ _ broadcasts_S128x1_S128x128 _ _) _ _ _) ![0, 0, 7040] inb_S1x1x7168_S1x1x128_0_0_7040 rfl y
  · intro y; exact pieceT (G := colS e4 (rowW e4 (ent x0))) (g := 54) (by decide) (scalesC_tile k4_ne (widened_tile (φ := .fp8e4m3) k4_ne (by decide) (tile x0 54 (by decide) ![0, 6912] inb_S128x7168_S128x128_0_6912 rfl rfl bitsLt_bf16_f32) _ _ broadcasts_S128x1_S128x128 _ _) _ _ _) ![0, 0, 6912] inb_S1x1x7168_S1x1x128_0_0_6912 rfl y
  · intro y; exact pieceT (G := colS e4 (rowW e4 (ent x0))) (g := 53) (by decide) (scalesC_tile k4_ne (widened_tile (φ := .fp8e4m3) k4_ne (by decide) (tile x0 53 (by decide) ![0, 6784] inb_S128x7168_S128x128_0_6784 rfl rfl bitsLt_bf16_f32) _ _ broadcasts_S128x1_S128x128 _ _) _ _ _) ![0, 0, 6784] inb_S1x1x7168_S1x1x128_0_0_6784 rfl y
  · intro y; exact pieceT (G := colS e4 (rowW e4 (ent x0))) (g := 52) (by decide) (scalesC_tile k4_ne (widened_tile (φ := .fp8e4m3) k4_ne (by decide) (tile x0 52 (by decide) ![0, 6656] inb_S128x7168_S128x128_0_6656 rfl rfl bitsLt_bf16_f32) _ _ broadcasts_S128x1_S128x128 _ _) _ _ _) ![0, 0, 6656] inb_S1x1x7168_S1x1x128_0_0_6656 rfl y
  · intro y; exact pieceT (G := colS e4 (rowW e4 (ent x0))) (g := 51) (by decide) (scalesC_tile k4_ne (widened_tile (φ := .fp8e4m3) k4_ne (by decide) (tile x0 51 (by decide) ![0, 6528] inb_S128x7168_S128x128_0_6528 rfl rfl bitsLt_bf16_f32) _ _ broadcasts_S128x1_S128x128 _ _) _ _ _) ![0, 0, 6528] inb_S1x1x7168_S1x1x128_0_0_6528 rfl y
  · intro y; exact pieceT (G := colS e4 (rowW e4 (ent x0))) (g := 50) (by decide) (scalesC_tile k4_ne (widened_tile (φ := .fp8e4m3) k4_ne (by decide) (tile x0 50 (by decide) ![0, 6400] inb_S128x7168_S128x128_0_6400 rfl rfl bitsLt_bf16_f32) _ _ broadcasts_S128x1_S128x128 _ _) _ _ _) ![0, 0, 6400] inb_S1x1x7168_S1x1x128_0_0_6400 rfl y
  · intro y; exact pieceT (G := colS e4 (rowW e4 (ent x0))) (g := 49) (by decide) (scalesC_tile k4_ne (widened_tile (φ := .fp8e4m3) k4_ne (by decide) (tile x0 49 (by decide) ![0, 6272] inb_S128x7168_S128x128_0_6272 rfl rfl bitsLt_bf16_f32) _ _ broadcasts_S128x1_S128x128 _ _) _ _ _) ![0, 0, 6272] inb_S1x1x7168_S1x1x128_0_0_6272 rfl y
  · intro y; exact pieceT (G := colS e4 (rowW e4 (ent x0))) (g := 48) (by decide) (scalesC_tile k4_ne (widened_tile (φ := .fp8e4m3) k4_ne (by decide) (tile x0 48 (by decide) ![0, 6144] inb_S128x7168_S128x128_0_6144 rfl rfl bitsLt_bf16_f32) _ _ broadcasts_S128x1_S128x128 _ _) _ _ _) ![0, 0, 6144] inb_S1x1x7168_S1x1x128_0_0_6144 rfl y
  · intro y; exact pieceT (G := colS e4 (rowW e4 (ent x0))) (g := 47) (by decide) (scalesC_tile k4_ne (widened_tile (φ := .fp8e4m3) k4_ne (by decide) (tile x0 47 (by decide) ![0, 6016] inb_S128x7168_S128x128_0_6016 rfl rfl bitsLt_bf16_f32) _ _ broadcasts_S128x1_S128x128 _ _) _ _ _) ![0, 0, 6016] inb_S1x1x7168_S1x1x128_0_0_6016 rfl y
  · intro y; exact pieceT (G := colS e4 (rowW e4 (ent x0))) (g := 46) (by decide) (scalesC_tile k4_ne (widened_tile (φ := .fp8e4m3) k4_ne (by decide) (tile x0 46 (by decide) ![0, 5888] inb_S128x7168_S128x128_0_5888 rfl rfl bitsLt_bf16_f32) _ _ broadcasts_S128x1_S128x128 _ _) _ _ _) ![0, 0, 5888] inb_S1x1x7168_S1x1x128_0_0_5888 rfl y
  · intro y; exact pieceT (G := colS e4 (rowW e4 (ent x0))) (g := 45) (by decide) (scalesC_tile k4_ne (widened_tile (φ := .fp8e4m3) k4_ne (by decide) (tile x0 45 (by decide) ![0, 5760] inb_S128x7168_S128x128_0_5760 rfl rfl bitsLt_bf16_f32) _ _ broadcasts_S128x1_S128x128 _ _) _ _ _) ![0, 0, 5760] inb_S1x1x7168_S1x1x128_0_0_5760 rfl y
  · intro y; exact pieceT (G := colS e4 (rowW e4 (ent x0))) (g := 44) (by decide) (scalesC_tile k4_ne (widened_tile (φ := .fp8e4m3) k4_ne (by decide) (tile x0 44 (by decide) ![0, 5632] inb_S128x7168_S128x128_0_5632 rfl rfl bitsLt_bf16_f32) _ _ broadcasts_S128x1_S128x128 _ _) _ _ _) ![0, 0, 5632] inb_S1x1x7168_S1x1x128_0_0_5632 rfl y
  · intro y; exact pieceT (G := colS e4 (rowW e4 (ent x0))) (g := 43) (by decide) (scalesC_tile k4_ne (widened_tile (φ := .fp8e4m3) k4_ne (by decide) (tile x0 43 (by decide) ![0, 5504] inb_S128x7168_S128x128_0_5504 rfl rfl bitsLt_bf16_f32) _ _ broadcasts_S128x1_S128x128 _ _) _ _ _) ![0, 0, 5504] inb_S1x1x7168_S1x1x128_0_0_5504 rfl y
  · intro y; exact pieceT (G := colS e4 (rowW e4 (ent x0))) (g := 42) (by decide) (scalesC_tile k4_ne (widened_tile (φ := .fp8e4m3) k4_ne (by decide) (tile x0 42 (by decide) ![0, 5376] inb_S128x7168_S128x128_0_5376 rfl rfl bitsLt_bf16_f32) _ _ broadcasts_S128x1_S128x128 _ _) _ _ _) ![0, 0, 5376] inb_S1x1x7168_S1x1x128_0_0_5376 rfl y
  · intro y; exact pieceT (G := colS e4 (rowW e4 (ent x0))) (g := 41) (by decide) (scalesC_tile k4_ne (widened_tile (φ := .fp8e4m3) k4_ne (by decide) (tile x0 41 (by decide) ![0, 5248] inb_S128x7168_S128x128_0_5248 rfl rfl bitsLt_bf16_f32) _ _ broadcasts_S128x1_S128x128 _ _) _ _ _) ![0, 0, 5248] inb_S1x1x7168_S1x1x128_0_0_5248 rfl y
  · intro y; exact pieceT (G := colS e4 (rowW e4 (ent x0))) (g := 40) (by decide) (scalesC_tile k4_ne (widened_tile (φ := .fp8e4m3) k4_ne (by decide) (tile x0 40 (by decide) ![0, 5120] inb_S128x7168_S128x128_0_5120 rfl rfl bitsLt_bf16_f32) _ _ broadcasts_S128x1_S128x128 _ _) _ _ _) ![0, 0, 5120] inb_S1x1x7168_S1x1x128_0_0_5120 rfl y
  · intro y; exact pieceT (G := colS e4 (rowW e4 (ent x0))) (g := 39) (by decide) (scalesC_tile k4_ne (widened_tile (φ := .fp8e4m3) k4_ne (by decide) (tile x0 39 (by decide) ![0, 4992] inb_S128x7168_S128x128_0_4992 rfl rfl bitsLt_bf16_f32) _ _ broadcasts_S128x1_S128x128 _ _) _ _ _) ![0, 0, 4992] inb_S1x1x7168_S1x1x128_0_0_4992 rfl y
  · intro y; exact pieceT (G := colS e4 (rowW e4 (ent x0))) (g := 38) (by decide) (scalesC_tile k4_ne (widened_tile (φ := .fp8e4m3) k4_ne (by decide) (tile x0 38 (by decide) ![0, 4864] inb_S128x7168_S128x128_0_4864 rfl rfl bitsLt_bf16_f32) _ _ broadcasts_S128x1_S128x128 _ _) _ _ _) ![0, 0, 4864] inb_S1x1x7168_S1x1x128_0_0_4864 rfl y
  · intro y; exact pieceT (G := colS e4 (rowW e4 (ent x0))) (g := 37) (by decide) (scalesC_tile k4_ne (widened_tile (φ := .fp8e4m3) k4_ne (by decide) (tile x0 37 (by decide) ![0, 4736] inb_S128x7168_S128x128_0_4736 rfl rfl bitsLt_bf16_f32) _ _ broadcasts_S128x1_S128x128 _ _) _ _ _) ![0, 0, 4736] inb_S1x1x7168_S1x1x128_0_0_4736 rfl y
  · intro y; exact pieceT (G := colS e4 (rowW e4 (ent x0))) (g := 36) (by decide) (scalesC_tile k4_ne (widened_tile (φ := .fp8e4m3) k4_ne (by decide) (tile x0 36 (by decide) ![0, 4608] inb_S128x7168_S128x128_0_4608 rfl rfl bitsLt_bf16_f32) _ _ broadcasts_S128x1_S128x128 _ _) _ _ _) ![0, 0, 4608] inb_S1x1x7168_S1x1x128_0_0_4608 rfl y
  · intro y; exact pieceT (G := colS e4 (rowW e4 (ent x0))) (g := 35) (by decide) (scalesC_tile k4_ne (widened_tile (φ := .fp8e4m3) k4_ne (by decide) (tile x0 35 (by decide) ![0, 4480] inb_S128x7168_S128x128_0_4480 rfl rfl bitsLt_bf16_f32) _ _ broadcasts_S128x1_S128x128 _ _) _ _ _) ![0, 0, 4480] inb_S1x1x7168_S1x1x128_0_0_4480 rfl y
  · intro y; exact pieceT (G := colS e4 (rowW e4 (ent x0))) (g := 34) (by decide) (scalesC_tile k4_ne (widened_tile (φ := .fp8e4m3) k4_ne (by decide) (tile x0 34 (by decide) ![0, 4352] inb_S128x7168_S128x128_0_4352 rfl rfl bitsLt_bf16_f32) _ _ broadcasts_S128x1_S128x128 _ _) _ _ _) ![0, 0, 4352] inb_S1x1x7168_S1x1x128_0_0_4352 rfl y
  · intro y; exact pieceT (G := colS e4 (rowW e4 (ent x0))) (g := 33) (by decide) (scalesC_tile k4_ne (widened_tile (φ := .fp8e4m3) k4_ne (by decide) (tile x0 33 (by decide) ![0, 4224] inb_S128x7168_S128x128_0_4224 rfl rfl bitsLt_bf16_f32) _ _ broadcasts_S128x1_S128x128 _ _) _ _ _) ![0, 0, 4224] inb_S1x1x7168_S1x1x128_0_0_4224 rfl y
  · intro y; exact pieceT (G := colS e4 (rowW e4 (ent x0))) (g := 32) (by decide) (scalesC_tile k4_ne (widened_tile (φ := .fp8e4m3) k4_ne (by decide) (tile x0 32 (by decide) ![0, 4096] inb_S128x7168_S128x128_0_4096 rfl rfl bitsLt_bf16_f32) _ _ broadcasts_S128x1_S128x128 _ _) _ _ _) ![0, 0, 4096] inb_S1x1x7168_S1x1x128_0_0_4096 rfl y
  · intro y; exact pieceT (G := colS e4 (rowW e4 (ent x0))) (g := 31) (by decide) (scalesC_tile k4_ne (widened_tile (φ := .fp8e4m3) k4_ne (by decide) (tile x0 31 (by decide) ![0, 3968] inb_S128x7168_S128x128_0_3968 rfl rfl bitsLt_bf16_f32) _ _ broadcasts_S128x1_S128x128 _ _) _ _ _) ![0, 0, 3968] inb_S1x1x7168_S1x1x128_0_0_3968 rfl y
  · intro y; exact pieceT (G := colS e4 (rowW e4 (ent x0))) (g := 30) (by decide) (scalesC_tile k4_ne (widened_tile (φ := .fp8e4m3) k4_ne (by decide) (tile x0 30 (by decide) ![0, 3840] inb_S128x7168_S128x128_0_3840 rfl rfl bitsLt_bf16_f32) _ _ broadcasts_S128x1_S128x128 _ _) _ _ _) ![0, 0, 3840] inb_S1x1x7168_S1x1x128_0_0_3840 rfl y
  · intro y; exact pieceT (G := colS e4 (rowW e4 (ent x0))) (g := 29) (by decide) (scalesC_tile k4_ne (widened_tile (φ := .fp8e4m3) k4_ne (by decide) (tile x0 29 (by decide) ![0, 3712] inb_S128x7168_S128x128_0_3712 rfl rfl bitsLt_bf16_f32) _ _ broadcasts_S128x1_S128x128 _ _) _ _ _) ![0, 0, 3712] inb_S1x1x7168_S1x1x128_0_0_3712 rfl y
  · intro y; exact pieceT (G := colS e4 (rowW e4 (ent x0))) (g := 28) (by decide) (scalesC_tile k4_ne (widened_tile (φ := .fp8e4m3) k4_ne (by decide) (tile x0 28 (by decide) ![0, 3584] inb_S128x7168_S128x128_0_3584 rfl rfl bitsLt_bf16_f32) _ _ broadcasts_S128x1_S128x128 _ _) _ _ _) ![0, 0, 3584] inb_S1x1x7168_S1x1x128_0_0_3584 rfl y
  · intro y; exact pieceT (G := colS e4 (rowW e4 (ent x0))) (g := 27) (by decide) (scalesC_tile k4_ne (widened_tile (φ := .fp8e4m3) k4_ne (by decide) (tile x0 27 (by decide) ![0, 3456] inb_S128x7168_S128x128_0_3456 rfl rfl bitsLt_bf16_f32) _ _ broadcasts_S128x1_S128x128 _ _) _ _ _) ![0, 0, 3456] inb_S1x1x7168_S1x1x128_0_0_3456 rfl y
  · intro y; exact pieceT (G := colS e4 (rowW e4 (ent x0))) (g := 26) (by decide) (scalesC_tile k4_ne (widened_tile (φ := .fp8e4m3) k4_ne (by decide) (tile x0 26 (by decide) ![0, 3328] inb_S128x7168_S128x128_0_3328 rfl rfl bitsLt_bf16_f32) _ _ broadcasts_S128x1_S128x128 _ _) _ _ _) ![0, 0, 3328] inb_S1x1x7168_S1x1x128_0_0_3328 rfl y
  · intro y; exact pieceT (G := colS e4 (rowW e4 (ent x0))) (g := 25) (by decide) (scalesC_tile k4_ne (widened_tile (φ := .fp8e4m3) k4_ne (by decide) (tile x0 25 (by decide) ![0, 3200] inb_S128x7168_S128x128_0_3200 rfl rfl bitsLt_bf16_f32) _ _ broadcasts_S128x1_S128x128 _ _) _ _ _) ![0, 0, 3200] inb_S1x1x7168_S1x1x128_0_0_3200 rfl y
  · intro y; exact pieceT (G := colS e4 (rowW e4 (ent x0))) (g := 24) (by decide) (scalesC_tile k4_ne (widened_tile (φ := .fp8e4m3) k4_ne (by decide) (tile x0 24 (by decide) ![0, 3072] inb_S128x7168_S128x128_0_3072 rfl rfl bitsLt_bf16_f32) _ _ broadcasts_S128x1_S128x128 _ _) _ _ _) ![0, 0, 3072] inb_S1x1x7168_S1x1x128_0_0_3072 rfl y
  · intro y; exact pieceT (G := colS e4 (rowW e4 (ent x0))) (g := 23) (by decide) (scalesC_tile k4_ne (widened_tile (φ := .fp8e4m3) k4_ne (by decide) (tile x0 23 (by decide) ![0, 2944] inb_S128x7168_S128x128_0_2944 rfl rfl bitsLt_bf16_f32) _ _ broadcasts_S128x1_S128x128 _ _) _ _ _) ![0, 0, 2944] inb_S1x1x7168_S1x1x128_0_0_2944 rfl y
  · intro y; exact pieceT (G := colS e4 (rowW e4 (ent x0))) (g := 22) (by decide) (scalesC_tile k4_ne (widened_tile (φ := .fp8e4m3) k4_ne (by decide) (tile x0 22 (by decide) ![0, 2816] inb_S128x7168_S128x128_0_2816 rfl rfl bitsLt_bf16_f32) _ _ broadcasts_S128x1_S128x128 _ _) _ _ _) ![0, 0, 2816] inb_S1x1x7168_S1x1x128_0_0_2816 rfl y
  · intro y; exact pieceT (G := colS e4 (rowW e4 (ent x0))) (g := 21) (by decide) (scalesC_tile k4_ne (widened_tile (φ := .fp8e4m3) k4_ne (by decide) (tile x0 21 (by decide) ![0, 2688] inb_S128x7168_S128x128_0_2688 rfl rfl bitsLt_bf16_f32) _ _ broadcasts_S128x1_S128x128 _ _) _ _ _) ![0, 0, 2688] inb_S1x1x7168_S1x1x128_0_0_2688 rfl y
  · intro y; exact pieceT (G := colS e4 (rowW e4 (ent x0))) (g := 20) (by decide) (scalesC_tile k4_ne (widened_tile (φ := .fp8e4m3) k4_ne (by decide) (tile x0 20 (by decide) ![0, 2560] inb_S128x7168_S128x128_0_2560 rfl rfl bitsLt_bf16_f32) _ _ broadcasts_S128x1_S128x128 _ _) _ _ _) ![0, 0, 2560] inb_S1x1x7168_S1x1x128_0_0_2560 rfl y
  · intro y; exact pieceT (G := colS e4 (rowW e4 (ent x0))) (g := 19) (by decide) (scalesC_tile k4_ne (widened_tile (φ := .fp8e4m3) k4_ne (by decide) (tile x0 19 (by decide) ![0, 2432] inb_S128x7168_S128x128_0_2432 rfl rfl bitsLt_bf16_f32) _ _ broadcasts_S128x1_S128x128 _ _) _ _ _) ![0, 0, 2432] inb_S1x1x7168_S1x1x128_0_0_2432 rfl y
  · intro y; exact pieceT (G := colS e4 (rowW e4 (ent x0))) (g := 18) (by decide) (scalesC_tile k4_ne (widened_tile (φ := .fp8e4m3) k4_ne (by decide) (tile x0 18 (by decide) ![0, 2304] inb_S128x7168_S128x128_0_2304 rfl rfl bitsLt_bf16_f32) _ _ broadcasts_S128x1_S128x128 _ _) _ _ _) ![0, 0, 2304] inb_S1x1x7168_S1x1x128_0_0_2304 rfl y
  · intro y; exact pieceT (G := colS e4 (rowW e4 (ent x0))) (g := 17) (by decide) (scalesC_tile k4_ne (widened_tile (φ := .fp8e4m3) k4_ne (by decide) (tile x0 17 (by decide) ![0, 2176] inb_S128x7168_S128x128_0_2176 rfl rfl bitsLt_bf16_f32) _ _ broadcasts_S128x1_S128x128 _ _) _ _ _) ![0, 0, 2176] inb_S1x1x7168_S1x1x128_0_0_2176 rfl y
  · intro y; exact pieceT (G := colS e4 (rowW e4 (ent x0))) (g := 16) (by decide) (scalesC_tile k4_ne (widened_tile (φ := .fp8e4m3) k4_ne (by decide) (tile x0 16 (by decide) ![0, 2048] inb_S128x7168_S128x128_0_2048 rfl rfl bitsLt_bf16_f32) _ _ broadcasts_S128x1_S128x128 _ _) _ _ _) ![0, 0, 2048] inb_S1x1x7168_S1x1x128_0_0_2048 rfl y
  · intro y; exact pieceT (G := colS e4 (rowW e4 (ent x0))) (g := 15) (by decide) (scalesC_tile k4_ne (widened_tile (φ := .fp8e4m3) k4_ne (by decide) (tile x0 15 (by decide) ![0, 1920] inb_S128x7168_S128x128_0_1920 rfl rfl bitsLt_bf16_f32) _ _ broadcasts_S128x1_S128x128 _ _) _ _ _) ![0, 0, 1920] inb_S1x1x7168_S1x1x128_0_0_1920 rfl y
  · intro y; exact pieceT (G := colS e4 (rowW e4 (ent x0))) (g := 14) (by decide) (scalesC_tile k4_ne (widened_tile (φ := .fp8e4m3) k4_ne (by decide) (tile x0 14 (by decide) ![0, 1792] inb_S128x7168_S128x128_0_1792 rfl rfl bitsLt_bf16_f32) _ _ broadcasts_S128x1_S128x128 _ _) _ _ _) ![0, 0, 1792] inb_S1x1x7168_S1x1x128_0_0_1792 rfl y
  · intro y; exact pieceT (G := colS e4 (rowW e4 (ent x0))) (g := 13) (by decide) (scalesC_tile k4_ne (widened_tile (φ := .fp8e4m3) k4_ne (by decide) (tile x0 13 (by decide) ![0, 1664] inb_S128x7168_S128x128_0_1664 rfl rfl bitsLt_bf16_f32) _ _ broadcasts_S128x1_S128x128 _ _) _ _ _) ![0, 0, 1664] inb_S1x1x7168_S1x1x128_0_0_1664 rfl y
  · intro y; exact pieceT (G := colS e4 (rowW e4 (ent x0))) (g := 12) (by decide) (scalesC_tile k4_ne (widened_tile (φ := .fp8e4m3) k4_ne (by decide) (tile x0 12 (by decide) ![0, 1536] inb_S128x7168_S128x128_0_1536 rfl rfl bitsLt_bf16_f32) _ _ broadcasts_S128x1_S128x128 _ _) _ _ _) ![0, 0, 1536] inb_S1x1x7168_S1x1x128_0_0_1536 rfl y
  · intro y; exact pieceT (G := colS e4 (rowW e4 (ent x0))) (g := 11) (by decide) (scalesC_tile k4_ne (widened_tile (φ := .fp8e4m3) k4_ne (by decide) (tile x0 11 (by decide) ![0, 1408] inb_S128x7168_S128x128_0_1408 rfl rfl bitsLt_bf16_f32) _ _ broadcasts_S128x1_S128x128 _ _) _ _ _) ![0, 0, 1408] inb_S1x1x7168_S1x1x128_0_0_1408 rfl y
  · intro y; exact pieceT (G := colS e4 (rowW e4 (ent x0))) (g := 10) (by decide) (scalesC_tile k4_ne (widened_tile (φ := .fp8e4m3) k4_ne (by decide) (tile x0 10 (by decide) ![0, 1280] inb_S128x7168_S128x128_0_1280 rfl rfl bitsLt_bf16_f32) _ _ broadcasts_S128x1_S128x128 _ _) _ _ _) ![0, 0, 1280] inb_S1x1x7168_S1x1x128_0_0_1280 rfl y
  · intro y; exact pieceT (G := colS e4 (rowW e4 (ent x0))) (g := 9) (by decide) (scalesC_tile k4_ne (widened_tile (φ := .fp8e4m3) k4_ne (by decide) (tile x0 9 (by decide) ![0, 1152] inb_S128x7168_S128x128_0_1152 rfl rfl bitsLt_bf16_f32) _ _ broadcasts_S128x1_S128x128 _ _) _ _ _) ![0, 0, 1152] inb_S1x1x7168_S1x1x128_0_0_1152 rfl y
  · intro y; exact pieceT (G := colS e4 (rowW e4 (ent x0))) (g := 8) (by decide) (scalesC_tile k4_ne (widened_tile (φ := .fp8e4m3) k4_ne (by decide) (tile x0 8 (by decide) ![0, 1024] inb_S128x7168_S128x128_0_1024 rfl rfl bitsLt_bf16_f32) _ _ broadcasts_S128x1_S128x128 _ _) _ _ _) ![0, 0, 1024] inb_S1x1x7168_S1x1x128_0_0_1024 rfl y
  · intro y; exact pieceT (G := colS e4 (rowW e4 (ent x0))) (g := 7) (by decide) (scalesC_tile k4_ne (widened_tile (φ := .fp8e4m3) k4_ne (by decide) (tile x0 7 (by decide) ![0, 896] inb_S128x7168_S128x128_0_896 rfl rfl bitsLt_bf16_f32) _ _ broadcasts_S128x1_S128x128 _ _) _ _ _) ![0, 0, 896] inb_S1x1x7168_S1x1x128_0_0_896 rfl y
  · intro y; exact pieceT (G := colS e4 (rowW e4 (ent x0))) (g := 6) (by decide) (scalesC_tile k4_ne (widened_tile (φ := .fp8e4m3) k4_ne (by decide) (tile x0 6 (by decide) ![0, 768] inb_S128x7168_S128x128_0_768 rfl rfl bitsLt_bf16_f32) _ _ broadcasts_S128x1_S128x128 _ _) _ _ _) ![0, 0, 768] inb_S1x1x7168_S1x1x128_0_0_768 rfl y
  · intro y; exact pieceT (G := colS e4 (rowW e4 (ent x0))) (g := 5) (by decide) (scalesC_tile k4_ne (widened_tile (φ := .fp8e4m3) k4_ne (by decide) (tile x0 5 (by decide) ![0, 640] inb_S128x7168_S128x128_0_640 rfl rfl bitsLt_bf16_f32) _ _ broadcasts_S128x1_S128x128 _ _) _ _ _) ![0, 0, 640] inb_S1x1x7168_S1x1x128_0_0_640 rfl y
  · intro y; exact pieceT (G := colS e4 (rowW e4 (ent x0))) (g := 4) (by decide) (scalesC_tile k4_ne (widened_tile (φ := .fp8e4m3) k4_ne (by decide) (tile x0 4 (by decide) ![0, 512] inb_S128x7168_S128x128_0_512 rfl rfl bitsLt_bf16_f32) _ _ broadcasts_S128x1_S128x128 _ _) _ _ _) ![0, 0, 512] inb_S1x1x7168_S1x1x128_0_0_512 rfl y
  · intro y; exact pieceT (G := colS e4 (rowW e4 (ent x0))) (g := 3) (by decide) (scalesC_tile k4_ne (widened_tile (φ := .fp8e4m3) k4_ne (by decide) (tile x0 3 (by decide) ![0, 384] inb_S128x7168_S128x128_0_384 rfl rfl bitsLt_bf16_f32) _ _ broadcasts_S128x1_S128x128 _ _) _ _ _) ![0, 0, 384] inb_S1x1x7168_S1x1x128_0_0_384 rfl y
  · intro y; exact pieceT (G := colS e4 (rowW e4 (ent x0))) (g := 2) (by decide) (scalesC_tile k4_ne (widened_tile (φ := .fp8e4m3) k4_ne (by decide) (tile x0 2 (by decide) ![0, 256] inb_S128x7168_S128x128_0_256 rfl rfl bitsLt_bf16_f32) _ _ broadcasts_S128x1_S128x128 _ _) _ _ _) ![0, 0, 256] inb_S1x1x7168_S1x1x128_0_0_256 rfl y
  · intro y; exact pieceT (G := colS e4 (rowW e4 (ent x0))) (g := 1) (by decide) (scalesC_tile k4_ne (widened_tile (φ := .fp8e4m3) k4_ne (by decide) (tile x0 1 (by decide) ![0, 128] inb_S128x7168_S128x128_0_128 rfl rfl bitsLt_bf16_f32) _ _ broadcasts_S128x1_S128x128 _ _) _ _ _) ![0, 0, 128] inb_S1x1x7168_S1x1x128_0_0_128 rfl y
  · intro y; exact pieceT (G := colS e4 (rowW e4 (ent x0))) (g := 0) (by decide) (scalesC_tile k4_ne (widened_tile (φ := .fp8e4m3) k4_ne (by decide) (tile x0 0 (by decide) ![0, 0] inb_S128x7168_S128x128_0_0 rfl rfl bitsLt_bf16_f32) _ _ broadcasts_S128x1_S128x128 _ _) _ _ _) ![0, 0, 0] inb_S1x1x7168_S1x1x128_0_0_0 rfl y

/-- Output 6: the widened row codes. -/
theorem o6 (x0 x1 : Vec Ideal S128x7168 .bf16) (y : S128x7168.Idx) : out0_6 x0 x1 y = (fun z => rowW e4 (ent x0) (z 0) (z 1) : S128x7168.Idx → EReal) y := by
  unfold out0_6
  refine View.canon_append_of_piecesOf (Val := Elt Ideal) (fun z => rowW e4 (ent x0) (z 0) (z 1)) [] [_, _, _, _, _, _, _, _, _, _, _, _, _, _, _, _, _, _, _, _, _, _, _, _, _, _, _, _, _, _, _, _, _, _, _, _, _, _, _, _, _, _, _, _, _, _, _, _, _, _, _, _, _, _, _, _] ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩ y (cover0_6 _ _ _ _ _ _ _ _ _ _ _ _ _ _ _ _ _ _ _ _ _ _ _ _ _ _ _ _ _ _ _ _ _ _ _ _ _ _ _ _ _ _ _ _ _ _ _ _ _ _ _ _ _ _ _ _ y)
  · intro y; exact piece (widened_tile (φ := .fp8e4m3) k4_ne (by decide) (tile x0 55 (by decide) ![0, 7040] inb_S128x7168_S128x128_0_7040 rfl rfl bitsLt_bf16_f32) _ _ broadcasts_S128x1_S128x128 _ _) (by decide) (by decide) ![0, 7040] inb_S128x7168_S128x128_0_7040 rfl rfl y
  · intro y; exact piece (widened_tile (φ := .fp8e4m3) k4_ne (by decide) (tile x0 54 (by decide) ![0, 6912] inb_S128x7168_S128x128_0_6912 rfl rfl bitsLt_bf16_f32) _ _ broadcasts_S128x1_S128x128 _ _) (by decide) (by decide) ![0, 6912] inb_S128x7168_S128x128_0_6912 rfl rfl y
  · intro y; exact piece (widened_tile (φ := .fp8e4m3) k4_ne (by decide) (tile x0 53 (by decide) ![0, 6784] inb_S128x7168_S128x128_0_6784 rfl rfl bitsLt_bf16_f32) _ _ broadcasts_S128x1_S128x128 _ _) (by decide) (by decide) ![0, 6784] inb_S128x7168_S128x128_0_6784 rfl rfl y
  · intro y; exact piece (widened_tile (φ := .fp8e4m3) k4_ne (by decide) (tile x0 52 (by decide) ![0, 6656] inb_S128x7168_S128x128_0_6656 rfl rfl bitsLt_bf16_f32) _ _ broadcasts_S128x1_S128x128 _ _) (by decide) (by decide) ![0, 6656] inb_S128x7168_S128x128_0_6656 rfl rfl y
  · intro y; exact piece (widened_tile (φ := .fp8e4m3) k4_ne (by decide) (tile x0 51 (by decide) ![0, 6528] inb_S128x7168_S128x128_0_6528 rfl rfl bitsLt_bf16_f32) _ _ broadcasts_S128x1_S128x128 _ _) (by decide) (by decide) ![0, 6528] inb_S128x7168_S128x128_0_6528 rfl rfl y
  · intro y; exact piece (widened_tile (φ := .fp8e4m3) k4_ne (by decide) (tile x0 50 (by decide) ![0, 6400] inb_S128x7168_S128x128_0_6400 rfl rfl bitsLt_bf16_f32) _ _ broadcasts_S128x1_S128x128 _ _) (by decide) (by decide) ![0, 6400] inb_S128x7168_S128x128_0_6400 rfl rfl y
  · intro y; exact piece (widened_tile (φ := .fp8e4m3) k4_ne (by decide) (tile x0 49 (by decide) ![0, 6272] inb_S128x7168_S128x128_0_6272 rfl rfl bitsLt_bf16_f32) _ _ broadcasts_S128x1_S128x128 _ _) (by decide) (by decide) ![0, 6272] inb_S128x7168_S128x128_0_6272 rfl rfl y
  · intro y; exact piece (widened_tile (φ := .fp8e4m3) k4_ne (by decide) (tile x0 48 (by decide) ![0, 6144] inb_S128x7168_S128x128_0_6144 rfl rfl bitsLt_bf16_f32) _ _ broadcasts_S128x1_S128x128 _ _) (by decide) (by decide) ![0, 6144] inb_S128x7168_S128x128_0_6144 rfl rfl y
  · intro y; exact piece (widened_tile (φ := .fp8e4m3) k4_ne (by decide) (tile x0 47 (by decide) ![0, 6016] inb_S128x7168_S128x128_0_6016 rfl rfl bitsLt_bf16_f32) _ _ broadcasts_S128x1_S128x128 _ _) (by decide) (by decide) ![0, 6016] inb_S128x7168_S128x128_0_6016 rfl rfl y
  · intro y; exact piece (widened_tile (φ := .fp8e4m3) k4_ne (by decide) (tile x0 46 (by decide) ![0, 5888] inb_S128x7168_S128x128_0_5888 rfl rfl bitsLt_bf16_f32) _ _ broadcasts_S128x1_S128x128 _ _) (by decide) (by decide) ![0, 5888] inb_S128x7168_S128x128_0_5888 rfl rfl y
  · intro y; exact piece (widened_tile (φ := .fp8e4m3) k4_ne (by decide) (tile x0 45 (by decide) ![0, 5760] inb_S128x7168_S128x128_0_5760 rfl rfl bitsLt_bf16_f32) _ _ broadcasts_S128x1_S128x128 _ _) (by decide) (by decide) ![0, 5760] inb_S128x7168_S128x128_0_5760 rfl rfl y
  · intro y; exact piece (widened_tile (φ := .fp8e4m3) k4_ne (by decide) (tile x0 44 (by decide) ![0, 5632] inb_S128x7168_S128x128_0_5632 rfl rfl bitsLt_bf16_f32) _ _ broadcasts_S128x1_S128x128 _ _) (by decide) (by decide) ![0, 5632] inb_S128x7168_S128x128_0_5632 rfl rfl y
  · intro y; exact piece (widened_tile (φ := .fp8e4m3) k4_ne (by decide) (tile x0 43 (by decide) ![0, 5504] inb_S128x7168_S128x128_0_5504 rfl rfl bitsLt_bf16_f32) _ _ broadcasts_S128x1_S128x128 _ _) (by decide) (by decide) ![0, 5504] inb_S128x7168_S128x128_0_5504 rfl rfl y
  · intro y; exact piece (widened_tile (φ := .fp8e4m3) k4_ne (by decide) (tile x0 42 (by decide) ![0, 5376] inb_S128x7168_S128x128_0_5376 rfl rfl bitsLt_bf16_f32) _ _ broadcasts_S128x1_S128x128 _ _) (by decide) (by decide) ![0, 5376] inb_S128x7168_S128x128_0_5376 rfl rfl y
  · intro y; exact piece (widened_tile (φ := .fp8e4m3) k4_ne (by decide) (tile x0 41 (by decide) ![0, 5248] inb_S128x7168_S128x128_0_5248 rfl rfl bitsLt_bf16_f32) _ _ broadcasts_S128x1_S128x128 _ _) (by decide) (by decide) ![0, 5248] inb_S128x7168_S128x128_0_5248 rfl rfl y
  · intro y; exact piece (widened_tile (φ := .fp8e4m3) k4_ne (by decide) (tile x0 40 (by decide) ![0, 5120] inb_S128x7168_S128x128_0_5120 rfl rfl bitsLt_bf16_f32) _ _ broadcasts_S128x1_S128x128 _ _) (by decide) (by decide) ![0, 5120] inb_S128x7168_S128x128_0_5120 rfl rfl y
  · intro y; exact piece (widened_tile (φ := .fp8e4m3) k4_ne (by decide) (tile x0 39 (by decide) ![0, 4992] inb_S128x7168_S128x128_0_4992 rfl rfl bitsLt_bf16_f32) _ _ broadcasts_S128x1_S128x128 _ _) (by decide) (by decide) ![0, 4992] inb_S128x7168_S128x128_0_4992 rfl rfl y
  · intro y; exact piece (widened_tile (φ := .fp8e4m3) k4_ne (by decide) (tile x0 38 (by decide) ![0, 4864] inb_S128x7168_S128x128_0_4864 rfl rfl bitsLt_bf16_f32) _ _ broadcasts_S128x1_S128x128 _ _) (by decide) (by decide) ![0, 4864] inb_S128x7168_S128x128_0_4864 rfl rfl y
  · intro y; exact piece (widened_tile (φ := .fp8e4m3) k4_ne (by decide) (tile x0 37 (by decide) ![0, 4736] inb_S128x7168_S128x128_0_4736 rfl rfl bitsLt_bf16_f32) _ _ broadcasts_S128x1_S128x128 _ _) (by decide) (by decide) ![0, 4736] inb_S128x7168_S128x128_0_4736 rfl rfl y
  · intro y; exact piece (widened_tile (φ := .fp8e4m3) k4_ne (by decide) (tile x0 36 (by decide) ![0, 4608] inb_S128x7168_S128x128_0_4608 rfl rfl bitsLt_bf16_f32) _ _ broadcasts_S128x1_S128x128 _ _) (by decide) (by decide) ![0, 4608] inb_S128x7168_S128x128_0_4608 rfl rfl y
  · intro y; exact piece (widened_tile (φ := .fp8e4m3) k4_ne (by decide) (tile x0 35 (by decide) ![0, 4480] inb_S128x7168_S128x128_0_4480 rfl rfl bitsLt_bf16_f32) _ _ broadcasts_S128x1_S128x128 _ _) (by decide) (by decide) ![0, 4480] inb_S128x7168_S128x128_0_4480 rfl rfl y
  · intro y; exact piece (widened_tile (φ := .fp8e4m3) k4_ne (by decide) (tile x0 34 (by decide) ![0, 4352] inb_S128x7168_S128x128_0_4352 rfl rfl bitsLt_bf16_f32) _ _ broadcasts_S128x1_S128x128 _ _) (by decide) (by decide) ![0, 4352] inb_S128x7168_S128x128_0_4352 rfl rfl y
  · intro y; exact piece (widened_tile (φ := .fp8e4m3) k4_ne (by decide) (tile x0 33 (by decide) ![0, 4224] inb_S128x7168_S128x128_0_4224 rfl rfl bitsLt_bf16_f32) _ _ broadcasts_S128x1_S128x128 _ _) (by decide) (by decide) ![0, 4224] inb_S128x7168_S128x128_0_4224 rfl rfl y
  · intro y; exact piece (widened_tile (φ := .fp8e4m3) k4_ne (by decide) (tile x0 32 (by decide) ![0, 4096] inb_S128x7168_S128x128_0_4096 rfl rfl bitsLt_bf16_f32) _ _ broadcasts_S128x1_S128x128 _ _) (by decide) (by decide) ![0, 4096] inb_S128x7168_S128x128_0_4096 rfl rfl y
  · intro y; exact piece (widened_tile (φ := .fp8e4m3) k4_ne (by decide) (tile x0 31 (by decide) ![0, 3968] inb_S128x7168_S128x128_0_3968 rfl rfl bitsLt_bf16_f32) _ _ broadcasts_S128x1_S128x128 _ _) (by decide) (by decide) ![0, 3968] inb_S128x7168_S128x128_0_3968 rfl rfl y
  · intro y; exact piece (widened_tile (φ := .fp8e4m3) k4_ne (by decide) (tile x0 30 (by decide) ![0, 3840] inb_S128x7168_S128x128_0_3840 rfl rfl bitsLt_bf16_f32) _ _ broadcasts_S128x1_S128x128 _ _) (by decide) (by decide) ![0, 3840] inb_S128x7168_S128x128_0_3840 rfl rfl y
  · intro y; exact piece (widened_tile (φ := .fp8e4m3) k4_ne (by decide) (tile x0 29 (by decide) ![0, 3712] inb_S128x7168_S128x128_0_3712 rfl rfl bitsLt_bf16_f32) _ _ broadcasts_S128x1_S128x128 _ _) (by decide) (by decide) ![0, 3712] inb_S128x7168_S128x128_0_3712 rfl rfl y
  · intro y; exact piece (widened_tile (φ := .fp8e4m3) k4_ne (by decide) (tile x0 28 (by decide) ![0, 3584] inb_S128x7168_S128x128_0_3584 rfl rfl bitsLt_bf16_f32) _ _ broadcasts_S128x1_S128x128 _ _) (by decide) (by decide) ![0, 3584] inb_S128x7168_S128x128_0_3584 rfl rfl y
  · intro y; exact piece (widened_tile (φ := .fp8e4m3) k4_ne (by decide) (tile x0 27 (by decide) ![0, 3456] inb_S128x7168_S128x128_0_3456 rfl rfl bitsLt_bf16_f32) _ _ broadcasts_S128x1_S128x128 _ _) (by decide) (by decide) ![0, 3456] inb_S128x7168_S128x128_0_3456 rfl rfl y
  · intro y; exact piece (widened_tile (φ := .fp8e4m3) k4_ne (by decide) (tile x0 26 (by decide) ![0, 3328] inb_S128x7168_S128x128_0_3328 rfl rfl bitsLt_bf16_f32) _ _ broadcasts_S128x1_S128x128 _ _) (by decide) (by decide) ![0, 3328] inb_S128x7168_S128x128_0_3328 rfl rfl y
  · intro y; exact piece (widened_tile (φ := .fp8e4m3) k4_ne (by decide) (tile x0 25 (by decide) ![0, 3200] inb_S128x7168_S128x128_0_3200 rfl rfl bitsLt_bf16_f32) _ _ broadcasts_S128x1_S128x128 _ _) (by decide) (by decide) ![0, 3200] inb_S128x7168_S128x128_0_3200 rfl rfl y
  · intro y; exact piece (widened_tile (φ := .fp8e4m3) k4_ne (by decide) (tile x0 24 (by decide) ![0, 3072] inb_S128x7168_S128x128_0_3072 rfl rfl bitsLt_bf16_f32) _ _ broadcasts_S128x1_S128x128 _ _) (by decide) (by decide) ![0, 3072] inb_S128x7168_S128x128_0_3072 rfl rfl y
  · intro y; exact piece (widened_tile (φ := .fp8e4m3) k4_ne (by decide) (tile x0 23 (by decide) ![0, 2944] inb_S128x7168_S128x128_0_2944 rfl rfl bitsLt_bf16_f32) _ _ broadcasts_S128x1_S128x128 _ _) (by decide) (by decide) ![0, 2944] inb_S128x7168_S128x128_0_2944 rfl rfl y
  · intro y; exact piece (widened_tile (φ := .fp8e4m3) k4_ne (by decide) (tile x0 22 (by decide) ![0, 2816] inb_S128x7168_S128x128_0_2816 rfl rfl bitsLt_bf16_f32) _ _ broadcasts_S128x1_S128x128 _ _) (by decide) (by decide) ![0, 2816] inb_S128x7168_S128x128_0_2816 rfl rfl y
  · intro y; exact piece (widened_tile (φ := .fp8e4m3) k4_ne (by decide) (tile x0 21 (by decide) ![0, 2688] inb_S128x7168_S128x128_0_2688 rfl rfl bitsLt_bf16_f32) _ _ broadcasts_S128x1_S128x128 _ _) (by decide) (by decide) ![0, 2688] inb_S128x7168_S128x128_0_2688 rfl rfl y
  · intro y; exact piece (widened_tile (φ := .fp8e4m3) k4_ne (by decide) (tile x0 20 (by decide) ![0, 2560] inb_S128x7168_S128x128_0_2560 rfl rfl bitsLt_bf16_f32) _ _ broadcasts_S128x1_S128x128 _ _) (by decide) (by decide) ![0, 2560] inb_S128x7168_S128x128_0_2560 rfl rfl y
  · intro y; exact piece (widened_tile (φ := .fp8e4m3) k4_ne (by decide) (tile x0 19 (by decide) ![0, 2432] inb_S128x7168_S128x128_0_2432 rfl rfl bitsLt_bf16_f32) _ _ broadcasts_S128x1_S128x128 _ _) (by decide) (by decide) ![0, 2432] inb_S128x7168_S128x128_0_2432 rfl rfl y
  · intro y; exact piece (widened_tile (φ := .fp8e4m3) k4_ne (by decide) (tile x0 18 (by decide) ![0, 2304] inb_S128x7168_S128x128_0_2304 rfl rfl bitsLt_bf16_f32) _ _ broadcasts_S128x1_S128x128 _ _) (by decide) (by decide) ![0, 2304] inb_S128x7168_S128x128_0_2304 rfl rfl y
  · intro y; exact piece (widened_tile (φ := .fp8e4m3) k4_ne (by decide) (tile x0 17 (by decide) ![0, 2176] inb_S128x7168_S128x128_0_2176 rfl rfl bitsLt_bf16_f32) _ _ broadcasts_S128x1_S128x128 _ _) (by decide) (by decide) ![0, 2176] inb_S128x7168_S128x128_0_2176 rfl rfl y
  · intro y; exact piece (widened_tile (φ := .fp8e4m3) k4_ne (by decide) (tile x0 16 (by decide) ![0, 2048] inb_S128x7168_S128x128_0_2048 rfl rfl bitsLt_bf16_f32) _ _ broadcasts_S128x1_S128x128 _ _) (by decide) (by decide) ![0, 2048] inb_S128x7168_S128x128_0_2048 rfl rfl y
  · intro y; exact piece (widened_tile (φ := .fp8e4m3) k4_ne (by decide) (tile x0 15 (by decide) ![0, 1920] inb_S128x7168_S128x128_0_1920 rfl rfl bitsLt_bf16_f32) _ _ broadcasts_S128x1_S128x128 _ _) (by decide) (by decide) ![0, 1920] inb_S128x7168_S128x128_0_1920 rfl rfl y
  · intro y; exact piece (widened_tile (φ := .fp8e4m3) k4_ne (by decide) (tile x0 14 (by decide) ![0, 1792] inb_S128x7168_S128x128_0_1792 rfl rfl bitsLt_bf16_f32) _ _ broadcasts_S128x1_S128x128 _ _) (by decide) (by decide) ![0, 1792] inb_S128x7168_S128x128_0_1792 rfl rfl y
  · intro y; exact piece (widened_tile (φ := .fp8e4m3) k4_ne (by decide) (tile x0 13 (by decide) ![0, 1664] inb_S128x7168_S128x128_0_1664 rfl rfl bitsLt_bf16_f32) _ _ broadcasts_S128x1_S128x128 _ _) (by decide) (by decide) ![0, 1664] inb_S128x7168_S128x128_0_1664 rfl rfl y
  · intro y; exact piece (widened_tile (φ := .fp8e4m3) k4_ne (by decide) (tile x0 12 (by decide) ![0, 1536] inb_S128x7168_S128x128_0_1536 rfl rfl bitsLt_bf16_f32) _ _ broadcasts_S128x1_S128x128 _ _) (by decide) (by decide) ![0, 1536] inb_S128x7168_S128x128_0_1536 rfl rfl y
  · intro y; exact piece (widened_tile (φ := .fp8e4m3) k4_ne (by decide) (tile x0 11 (by decide) ![0, 1408] inb_S128x7168_S128x128_0_1408 rfl rfl bitsLt_bf16_f32) _ _ broadcasts_S128x1_S128x128 _ _) (by decide) (by decide) ![0, 1408] inb_S128x7168_S128x128_0_1408 rfl rfl y
  · intro y; exact piece (widened_tile (φ := .fp8e4m3) k4_ne (by decide) (tile x0 10 (by decide) ![0, 1280] inb_S128x7168_S128x128_0_1280 rfl rfl bitsLt_bf16_f32) _ _ broadcasts_S128x1_S128x128 _ _) (by decide) (by decide) ![0, 1280] inb_S128x7168_S128x128_0_1280 rfl rfl y
  · intro y; exact piece (widened_tile (φ := .fp8e4m3) k4_ne (by decide) (tile x0 9 (by decide) ![0, 1152] inb_S128x7168_S128x128_0_1152 rfl rfl bitsLt_bf16_f32) _ _ broadcasts_S128x1_S128x128 _ _) (by decide) (by decide) ![0, 1152] inb_S128x7168_S128x128_0_1152 rfl rfl y
  · intro y; exact piece (widened_tile (φ := .fp8e4m3) k4_ne (by decide) (tile x0 8 (by decide) ![0, 1024] inb_S128x7168_S128x128_0_1024 rfl rfl bitsLt_bf16_f32) _ _ broadcasts_S128x1_S128x128 _ _) (by decide) (by decide) ![0, 1024] inb_S128x7168_S128x128_0_1024 rfl rfl y
  · intro y; exact piece (widened_tile (φ := .fp8e4m3) k4_ne (by decide) (tile x0 7 (by decide) ![0, 896] inb_S128x7168_S128x128_0_896 rfl rfl bitsLt_bf16_f32) _ _ broadcasts_S128x1_S128x128 _ _) (by decide) (by decide) ![0, 896] inb_S128x7168_S128x128_0_896 rfl rfl y
  · intro y; exact piece (widened_tile (φ := .fp8e4m3) k4_ne (by decide) (tile x0 6 (by decide) ![0, 768] inb_S128x7168_S128x128_0_768 rfl rfl bitsLt_bf16_f32) _ _ broadcasts_S128x1_S128x128 _ _) (by decide) (by decide) ![0, 768] inb_S128x7168_S128x128_0_768 rfl rfl y
  · intro y; exact piece (widened_tile (φ := .fp8e4m3) k4_ne (by decide) (tile x0 5 (by decide) ![0, 640] inb_S128x7168_S128x128_0_640 rfl rfl bitsLt_bf16_f32) _ _ broadcasts_S128x1_S128x128 _ _) (by decide) (by decide) ![0, 640] inb_S128x7168_S128x128_0_640 rfl rfl y
  · intro y; exact piece (widened_tile (φ := .fp8e4m3) k4_ne (by decide) (tile x0 4 (by decide) ![0, 512] inb_S128x7168_S128x128_0_512 rfl rfl bitsLt_bf16_f32) _ _ broadcasts_S128x1_S128x128 _ _) (by decide) (by decide) ![0, 512] inb_S128x7168_S128x128_0_512 rfl rfl y
  · intro y; exact piece (widened_tile (φ := .fp8e4m3) k4_ne (by decide) (tile x0 3 (by decide) ![0, 384] inb_S128x7168_S128x128_0_384 rfl rfl bitsLt_bf16_f32) _ _ broadcasts_S128x1_S128x128 _ _) (by decide) (by decide) ![0, 384] inb_S128x7168_S128x128_0_384 rfl rfl y
  · intro y; exact piece (widened_tile (φ := .fp8e4m3) k4_ne (by decide) (tile x0 2 (by decide) ![0, 256] inb_S128x7168_S128x128_0_256 rfl rfl bitsLt_bf16_f32) _ _ broadcasts_S128x1_S128x128 _ _) (by decide) (by decide) ![0, 256] inb_S128x7168_S128x128_0_256 rfl rfl y
  · intro y; exact piece (widened_tile (φ := .fp8e4m3) k4_ne (by decide) (tile x0 1 (by decide) ![0, 128] inb_S128x7168_S128x128_0_128 rfl rfl bitsLt_bf16_f32) _ _ broadcasts_S128x1_S128x128 _ _) (by decide) (by decide) ![0, 128] inb_S128x7168_S128x128_0_128 rfl rfl y
  · intro y; exact piece (widened_tile (φ := .fp8e4m3) k4_ne (by decide) (tile x0 0 (by decide) ![0, 0] inb_S128x7168_S128x128_0_0 rfl rfl bitsLt_bf16_f32) _ _ broadcasts_S128x1_S128x128 _ _) (by decide) (by decide) ![0, 0] inb_S128x7168_S128x128_0_0 rfl rfl y

end

end Cert.QuantIdeal.Body
-- ==== Proof.QuantBodyB.lean ====
/- What the quantiser call's body leaves in the output blocks of its second argument, at the ideal values: the row and column codes, scales and
   widened codes of the point's 128 rows. -/
module

public import proofs.«01_k».proof.Proof.QuantBody

@[expose] public section

set_option maxRecDepth 65536
set_option maxHeartbeats 4000000

namespace Cert.QuantIdeal.Body

open Idealize Idealize.ShloMosaic Idealize.ShloMosaic.ValueIdx
open Cert.QuantIdeal Cert.QuantIdeal.Gen Cert.Quantiser

noncomputable section

/-- Output 7: the row codes. -/
theorem o7 (x0 x1 : Vec Ideal S128x7168 .bf16) (y : S128x7168.Idx) : out0_7 x0 x1 y = (fun z => rowQ e5 (ent x1) (z 0) (z 1) : S128x7168.Idx → EReal) y := by
  unfold out0_7
  refine View.canon_append_of_piecesOf (Val := Elt Ideal) (fun z => rowQ e5 (ent x1) (z 0) (z 1)) [] [_, _, _, _, _, _, _, _, _, _, _, _, _, _, _, _, _, _, _, _, _, _, _, _, _, _, _, _, _, _, _, _, _, _, _, _, _, _, _, _, _, _, _, _, _, _, _, _, _, _, _, _, _, _, _, _] ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩ y (cover0_7 _ _ _ _ _ _ _ _ _ _ _ _ _ _ _ _ _ _ _ _ _ _ _ _ _ _ _ _ _ _ _ _ _ _ _ _ _ _ _ _ _ _ _ _ _ _ _ _ _ _ _ _ _ _ _ _ y)
  · intro y; exact piece (codesR_tile (φ := .fp8e5m2) k5_ne (by decide) (tile x1 55 (by decide) ![0, 7040] inb_S128x7168_S128x128_0_7040 rfl rfl bitsLt_bf16_f32) _ _ broadcasts_S128x1_S128x128 _) (by decide) (by decide) ![0, 7040] inb_S128x7168_S128x128_0_7040 rfl rfl y
  · intro y; exact piece (codesR_tile (φ := .fp8e5m2) k5_ne (by decide) (tile x1 54 (by decide) ![0, 6912] inb_S128x7168_S128x128_0_6912 rfl rfl bitsLt_bf16_f32) _ _ broadcasts_S128x1_S128x128 _) (by decide) (by decide) ![0, 6912] inb_S128x7168_S128x128_0_6912 rfl rfl y
  · intro y; exact piece (codesR_tile (φ := .fp8e5m2) k5_ne (by decide) (tile x1 53 (by decide) ![0, 6784] inb_S128x7168_S128x128_0_6784 rfl rfl bitsLt_bf16_f32) _ _ broadcasts_S128x1_S128x128 _) (by decide) (by decide) ![0, 6784] inb_S128x7168_S128x128_0_6784 rfl rfl y
  · intro y; exact piece (codesR_tile (φ := .fp8e5m2) k5_ne (by decide) (tile x1 52 (by decide) ![0, 6656] inb_S128x7168_S128x128_0_6656 rfl rfl bitsLt_bf16_f32) _ _ broadcasts_S128x1_S128x128 _) (by decide) (by decide) ![0, 6656] inb_S128x7168_S128x128_0_6656 rfl rfl y
  · intro y; exact piece (codesR_tile (φ := .fp8e5m2) k5_ne (by decide) (tile x1 51 (by decide) ![0, 6528] inb_S128x7168_S128x128_0_6528 rfl rfl bitsLt_bf16_f32) _ _ broadcasts_S128x1_S128x128 _) (by decide) (by decide) ![0, 6528] inb_S128x7168_S128x128_0_6528 rfl rfl y
  · intro y; exact piece (codesR_tile (φ := .fp8e5m2) k5_ne (by decide) (tile x1 50 (by decide) ![0, 6400] inb_S128x7168_S128x128_0_6400 rfl rfl bitsLt_bf16_f32) _ _ broadcasts_S128x1_S128x128 _) (by decide) (by decide) ![0, 6400] inb_S128x7168_S128x128_0_6400 rfl rfl y
  · intro y; exact piece (codesR_tile (φ := .fp8e5m2) k5_ne (by decide) (tile x1 49 (by decide) ![0, 6272] inb_S128x7168_S128x128_0_6272 rfl rfl bitsLt_bf16_f32) _ _ broadcasts_S128x1_S128x128 _) (by decide) (by decide) ![0, 6272] inb_S128x7168_S128x128_0_6272 rfl rfl y
  · intro y; exact piece (codesR_tile (φ := .fp8e5m2) k5_ne (by decide) (tile x1 48 (by decide) ![0, 6144] inb_S128x7168_S128x128_0_6144 rfl rfl bitsLt_bf16_f32) _ _ broadcasts_S128x1_S128x128 _) (by decide) (by decide) ![0, 6144] inb_S128x7168_S128x128_0_6144 rfl rfl y
  · intro y; exact piece (codesR_tile (φ := .fp8e5m2) k5_ne (by decide) (tile x1 47 (by decide) ![0, 6016] inb_S128x7168_S128x128_0_6016 rfl rfl bitsLt_bf16_f32) _ _ broadcasts_S128x1_S128x128 _) (by decide) (by decide) ![0, 6016] inb_S128x7168_S128x128_0_6016 rfl rfl y
  · intro y; exact piece (codesR_tile (φ := .fp8e5m2) k5_ne (by decide) (tile x1 46 (by decide) ![0, 5888] inb_S128x7168_S128x128_0_5888 rfl rfl bitsLt_bf16_f32) _ _ broadcasts_S128x1_S128x128 _) (by decide) (by decide) ![0, 5888] inb_S128x7168_S128x128_0_5888 rfl rfl y
  · intro y; exact piece (codesR_tile (φ := .fp8e5m2) k5_ne (by decide) (tile x1 45 (by decide) ![0, 5760] inb_S128x7168_S128x128_0_5760 rfl rfl bitsLt_bf16_f32) _ _ broadcasts_S128x1_S128x128 _) (by decide) (by decide) ![0, 5760] inb_S128x7168_S128x128_0_5760 rfl rfl y
  · intro y; exact piece (codesR_tile (φ := .fp8e5m2) k5_ne (by decide) (tile x1 44 (by decide) ![0, 5632] inb_S128x7168_S128x128_0_5632 rfl rfl bitsLt_bf16_f32) _ _ broadcasts_S128x1_S128x128 _) (by decide) (by decide) ![0, 5632] inb_S128x7168_S128x128_0_5632 rfl rfl y
  · intro y; exact piece (codesR_tile (φ := .fp8e5m2) k5_ne (by decide) (tile x1 43 (by decide) ![0, 5504] inb_S128x7168_S128x128_0_5504 rfl rfl bitsLt_bf16_f32) _ _ broadcasts_S128x1_S128x128 _) (by decide) (by decide) ![0, 5504] inb_S128x7168_S128x128_0_5504 rfl rfl y
  · intro y; exact piece (codesR_tile (φ := .fp8e5m2) k5_ne (by decide) (tile x1 42 (by decide) ![0, 5376] inb_S128x7168_S128x128_0_5376 rfl rfl bitsLt_bf16_f32) _ _ broadcasts_S128x1_S128x128 _) (by decide) (by decide) ![0, 5376] inb_S128x7168_S128x128_0_5376 rfl rfl y
  · intro y; exact piece (codesR_tile (φ := .fp8e5m2) k5_ne (by decide) (tile x1 41 (by decide) ![0, 5248] inb_S128x7168_S128x128_0_5248 rfl rfl bitsLt_bf16_f32) _ _ broadcasts_S128x1_S128x128 _) (by decide) (by decide) ![0, 5248] inb_S128x7168_S128x128_0_5248 rfl rfl y
  · intro y; exact piece (codesR_tile (φ := .fp8e5m2) k5_ne (by decide) (tile x1 40 (by decide) ![0, 5120] inb_S128x7168_S128x128_0_5120 rfl rfl bitsLt_bf16_f32) _ _ broadcasts_S128x1_S128x128 _) (by decide) (by decide) ![0, 5120] inb_S128x7168_S128x128_0_5120 rfl rfl y
  · intro y; exact piece (codesR_tile (φ := .fp8e5m2) k5_ne (by decide) (tile x1 39 (by decide) ![0, 4992] inb_S128x7168_S128x128_0_4992 rfl rfl bitsLt_bf16_f32) _ _ broadcasts_S128x1_S128x128 _) (by decide) (by decide) ![0, 4992] inb_S128x7168_S128x128_0_4992 rfl rfl y
  · intro y; exact piece (codesR_tile (φ := .fp8e5m2) k5_ne (by decide) (tile x1 38 (by decide) ![0, 4864] inb_S128x7168_S128x128_0_4864 rfl rfl bitsLt_bf16_f32) _ _ broadcasts_S128x1_S128x128 _) (by decide) (by decide) ![0, 4864] inb_S128x7168_S128x128_0_4864 rfl rfl y
  · intro y; exact piece (codesR_tile (φ := .fp8e5m2) k5_ne (by decide) (tile x1 37 (by decide) ![0, 4736] inb_S128x7168_S128x128_0_4736 rfl rfl bitsLt_bf16_f32) _ _ broadcasts_S128x1_S128x128 _) (by decide) (by decide) ![0, 4736] inb_S128x7168_S128x128_0_4736 rfl rfl y
  · intro y; exact piece (codesR_tile (φ := .fp8e5m2) k5_ne (by decide) (tile x1 36 (by decide) ![0, 4608] inb_S128x7168_S128x128_0_4608 rfl rfl bitsLt_bf16_f32) _ _ broadcasts_S128x1_S128x128 _) (by decide) (by decide) ![0, 4608] inb_S128x7168_S128x128_0_4608 rfl rfl y
  · intro y; exact piece (codesR_tile (φ := .fp8e5m2) k5_ne (by decide) (tile x1 35 (by decide) ![0, 4480] inb_S128x7168_S128x128_0_4480 rfl rfl bitsLt_bf16_f32) _ _ broadcasts_S128x1_S128x128 _) (by decide) (by decide) ![0, 4480] inb_S128x7168_S128x128_0_4480 rfl rfl y
  · intro y; exact piece (codesR_tile (φ := .fp8e5m2) k5_ne (by decide) (tile x1 34 (by decide) ![0, 4352] inb_S128x7168_S128x128_0_4352 rfl rfl bitsLt_bf16_f32) _ _ broadcasts_S128x1_S128x128 _) (by decide) (by decide) ![0, 4352] inb_S128x7168_S128x128_0_4352 rfl rfl y
  · intro y; exact piece (codesR_tile (φ := .fp8e5m2) k5_ne (by decide) (tile x1 33 (by decide) ![0, 4224] inb_S128x7168_S128x128_0_4224 rfl rfl bitsLt_bf16_f32) _ _ broadcasts_S128x1_S128x128 _) (by decide) (by decide) ![0, 4224] inb_S128x7168_S128x128_0_4224 rfl rfl y
  · intro y; exact piece (codesR_tile (φ := .fp8e5m2) k5_ne (by decide) (tile x1 32 (by decide) ![0, 4096] inb_S128x7168_S128x128_0_4096 rfl rfl bitsLt_bf16_f32) _ _ broadcasts_S128x1_S128x128 _) (by decide) (by decide) ![0, 4096] inb_S128x7168_S128x128_0_4096 rfl rfl y
  · intro y; exact piece (codesR_tile (φ := .fp8e5m2) k5_ne (by decide) (tile x1 31 (by decide) ![0, 3968] inb_S128x7168_S128x128_0_3968 rfl rfl bitsLt_bf16_f32) _ _ broadcasts_S128x1_S128x128 _) (by decide) (by decide) ![0, 3968] inb_S128x7168_S128x128_0_3968 rfl rfl y
  · intro y; exact piece (codesR_tile (φ := .fp8e5m2) k5_ne (by decide) (tile x1 30 (by decide) ![0, 3840] inb_S128x7168_S128x128_0_3840 rfl rfl bitsLt_bf16_f32) _ _ broadcasts_S128x1_S128x128 _) (by decide) (by decide) ![0, 3840] inb_S128x7168_S128x128_0_3840 rfl rfl y
  · intro y; exact piece (codesR_tile (φ := .fp8e5m2) k5_ne (by decide) (tile x1 29 (by decide) ![0, 3712] inb_S128x7168_S128x128_0_3712 rfl rfl bitsLt_bf16_f32) _ _ broadcasts_S128x1_S128x128 _) (by decide) (by decide) ![0, 3712] inb_S128x7168_S128x128_0_3712 rfl rfl y
  · intro y; exact piece (codesR_tile (φ := .fp8e5m2) k5_ne (by decide) (tile x1 28 (by decide) ![0, 3584] inb_S128x7168_S128x128_0_3584 rfl rfl bitsLt_bf16_f32) _ _ broadcasts_S128x1_S128x128 _) (by decide) (by decide) ![0, 3584] inb_S128x7168_S128x128_0_3584 rfl rfl y
  · intro y; exact piece (codesR_tile (φ := .fp8e5m2) k5_ne (by decide) (tile x1 27 (by decide) ![0, 3456] inb_S128x7168_S128x128_0_3456 rfl rfl bitsLt_bf16_f32) _ _ broadcasts_S128x1_S128x128 _) (by decide) (by decide) ![0, 3456] inb_S128x7168_S128x128_0_3456 rfl rfl y
  · intro y; exact piece (codesR_tile (φ := .fp8e5m2) k5_ne (by decide) (tile x1 26 (by decide) ![0, 3328] inb_S128x7168_S128x128_0_3328 rfl rfl bitsLt_bf16_f32) _ _ broadcasts_S128x1_S128x128 _) (by decide) (by decide) ![0, 3328] inb_S128x7168_S128x128_0_3328 rfl rfl y
  · intro y; exact piece (codesR_tile (φ := .fp8e5m2) k5_ne (by decide) (tile x1 25 (by decide) ![0, 3200] inb_S128x7168_S128x128_0_3200 rfl rfl bitsLt_bf16_f32) _ _ broadcasts_S128x1_S128x128 _) (by decide) (by decide) ![0, 3200] inb_S128x7168_S128x128_0_3200 rfl rfl y
  · intro y; exact piece (codesR_tile (φ := .fp8e5m2) k5_ne (by decide) (tile x1 24 (by decide) ![0, 3072] inb_S128x7168_S128x128_0_3072 rfl rfl bitsLt_bf16_f32) _ _ broadcasts_S128x1_S128x128 _) (by decide) (by decide) ![0, 3072] inb_S128x7168_S128x128_0_3072 rfl rfl y
  · intro y; exact piece (codesR_tile (φ := .fp8e5m2) k5_ne (by decide) (tile x1 23 (by decide) ![0, 2944] inb_S128x7168_S128x128_0_2944 rfl rfl bitsLt_bf16_f32) _ _ broadcasts_S128x1_S128x128 _) (by decide) (by decide) ![0, 2944] inb_S128x7168_S128x128_0_2944 rfl rfl y
  · intro y; exact piece (codesR_tile (φ := .fp8e5m2) k5_ne (by decide) (tile x1 22 (by decide) ![0, 2816] inb_S128x7168_S128x128_0_2816 rfl rfl bitsLt_bf16_f32) _ _ broadcasts_S128x1_S128x128 _) (by decide) (by decide) ![0, 2816] inb_S128x7168_S128x128_0_2816 rfl rfl y
  · intro y; exact piece (codesR_tile (φ := .fp8e5m2) k5_ne (by decide) (tile x1 21 (by decide) ![0, 2688] inb_S128x7168_S128x128_0_2688 rfl rfl bitsLt_bf16_f32) _ _ broadcasts_S128x1_S128x128 _) (by decide) (by decide) ![0, 2688] inb_S128x7168_S128x128_0_2688 rfl rfl y
  · intro y; exact piece (codesR_tile (φ := .fp8e5m2) k5_ne (by decide) (tile x1 20 (by decide) ![0, 2560] inb_S128x7168_S128x128_0_2560 rfl rfl bitsLt_bf16_f32) _ _ broadcasts_S128x1_S128x128 _) (by decide) (by decide) ![0, 2560] inb_S128x7168_S128x128_0_2560 rfl rfl y
  · intro y; exact piece (codesR_tile (φ := .fp8e5m2) k5_ne (by decide) (tile x1 19 (by decide) ![0, 2432] inb_S128x7168_S128x128_0_2432 rfl rfl bitsLt_bf16_f32) _ _ broadcasts_S128x1_S128x128 _) (by decide) (by decide) ![0, 2432] inb_S128x7168_S128x128_0_2432 rfl rfl y
  · intro y; exact piece (codesR_tile (φ := .fp8e5m2) k5_ne (by decide) (tile x1 18 (by decide) ![0, 2304] inb_S128x7168_S128x128_0_2304 rfl rfl bitsLt_bf16_f32) _ _ broadcasts_S128x1_S128x128 _) (by decide) (by decide) ![0, 2304] inb_S128x7168_S128x128_0_2304 rfl rfl y
  · intro y; exact piece (codesR_tile (φ := .fp8e5m2) k5_ne (by decide) (tile x1 17 (by decide) ![0, 2176] inb_S128x7168_S128x128_0_2176 rfl rfl bitsLt_bf16_f32) _ _ broadcasts_S128x1_S128x128 _) (by decide) (by decide) ![0, 2176] inb_S128x7168_S128x128_0_2176 rfl rfl y
  · intro y; exact piece (codesR_tile (φ := .fp8e5m2) k5_ne (by decide) (tile x1 16 (by decide) ![0, 2048] inb_S128x7168_S128x128_0_2048 rfl rfl bitsLt_bf16_f32) _ _ broadcasts_S128x1_S128x128 _) (by decide) (by decide) ![0, 2048] inb_S128x7168_S128x128_0_2048 rfl rfl y
  · intro y; exact piece (codesR_tile (φ := .fp8e5m2) k5_ne (by decide) (tile x1 15 (by decide) ![0, 1920] inb_S128x7168_S128x128_0_1920 rfl rfl bitsLt_bf16_f32) _ _ broadcasts_S128x1_S128x128 _) (by decide) (by decide) ![0, 1920] inb_S128x7168_S128x128_0_1920 rfl rfl y
  · intro y; exact piece (codesR_tile (φ := .fp8e5m2) k5_ne (by decide) (tile x1 14 (by decide) ![0, 1792] inb_S128x7168_S128x128_0_1792 rfl rfl bitsLt_bf16_f32) _ _ broadcasts_S128x1_S128x128 _) (by decide) (by decide) ![0, 1792] inb_S128x7168_S128x128_0_1792 rfl rfl y
  · intro y; exact piece (codesR_tile (φ := .fp8e5m2) k5_ne (by decide) (tile x1 13 (by decide) ![0, 1664] inb_S128x7168_S128x128_0_1664 rfl rfl bitsLt_bf16_f32) _ _ broadcasts_S128x1_S128x128 _) (by decide) (by decide) ![0, 1664] inb_S128x7168_S128x128_0_1664 rfl rfl y
  · intro y; exact piece (codesR_tile (φ := .fp8e5m2) k5_ne (by decide) (tile x1 12 (by decide) ![0, 1536] inb_S128x7168_S128x128_0_1536 rfl rfl bitsLt_bf16_f32) _ _ broadcasts_S128x1_S128x128 _) (by decide) (by decide) ![0, 1536] inb_S128x7168_S128x128_0_1536 rfl rfl y
  · intro y; exact piece (codesR_tile (φ := .fp8e5m2) k5_ne (by decide) (tile x1 11 (by decide) ![0, 1408] inb_S128x7168_S128x128_0_1408 rfl rfl bitsLt_bf16_f32) _ _ broadcasts_S128x1_S128x128 _) (by decide) (by decide) ![0, 1408] inb_S128x7168_S128x128_0_1408 rfl rfl y
  · intro y; exact piece (codesR_tile (φ := .fp8e5m2) k5_ne (by decide) (tile x1 10 (by decide) ![0, 1280] inb_S128x7168_S128x128_0_1280 rfl rfl bitsLt_bf16_f32) _ _ broadcasts_S128x1_S128x128 _) (by decide) (by decide) ![0, 1280] inb_S128x7168_S128x128_0_1280 rfl rfl y
  · intro y; exact piece (codesR_tile (φ := .fp8e5m2) k5_ne (by decide) (tile x1 9 (by decide) ![0, 1152] inb_S128x7168_S128x128_0_1152 rfl rfl bitsLt_bf16_f32) _ _ broadcasts_S128x1_S128x128 _) (by decide) (by decide) ![0, 1152] inb_S128x7168_S128x128_0_1152 rfl rfl y
  · intro y; exact piece (codesR_tile (φ := .fp8e5m2) k5_ne (by decide) (tile x1 8 (by decide) ![0, 1024] inb_S128x7168_S128x128_0_1024 rfl rfl bitsLt_bf16_f32) _ _ broadcasts_S128x1_S128x128 _) (by decide) (by decide) ![0, 1024] inb_S128x7168_S128x128_0_1024 rfl rfl y
  · intro y; exact piece (codesR_tile (φ := .fp8e5m2) k5_ne (by decide) (tile x1 7 (by decide) ![0, 896] inb_S128x7168_S128x128_0_896 rfl rfl bitsLt_bf16_f32) _ _ broadcasts_S128x1_S128x128 _) (by decide) (by decide) ![0, 896] inb_S128x7168_S128x128_0_896 rfl rfl y
  · intro y; exact piece (codesR_tile (φ := .fp8e5m2) k5_ne (by decide) (tile x1 6 (by decide) ![0, 768] inb_S128x7168_S128x128_0_768 rfl rfl bitsLt_bf16_f32) _ _ broadcasts_S128x1_S128x128 _) (by decide) (by decide) ![0, 768] inb_S128x7168_S128x128_0_768 rfl rfl y
  · intro y; exact piece (codesR_tile (φ := .fp8e5m2) k5_ne (by decide) (tile x1 5 (by decide) ![0, 640] inb_S128x7168_S128x128_0_640 rfl rfl bitsLt_bf16_f32) _ _ broadcasts_S128x1_S128x128 _) (by decide) (by decide) ![0, 640] inb_S128x7168_S128x128_0_640 rfl rfl y
  · intro y; exact piece (codesR_tile (φ := .fp8e5m2) k5_ne (by decide) (tile x1 4 (by decide) ![0, 512] inb_S128x7168_S128x128_0_512 rfl rfl bitsLt_bf16_f32) _ _ broadcasts_S128x1_S128x128 _) (by decide) (by decide) ![0, 512] inb_S128x7168_S128x128_0_512 rfl rfl y
  · intro y; exact piece (codesR_tile (φ := .fp8e5m2) k5_ne (by decide) (tile x1 3 (by decide) ![0, 384] inb_S128x7168_S128x128_0_384 rfl rfl bitsLt_bf16_f32) _ _ broadcasts_S128x1_S128x128 _) (by decide) (by decide) ![0, 384] inb_S128x7168_S128x128_0_384 rfl rfl y
  · intro y; exact piece (codesR_tile (φ := .fp8e5m2) k5_ne (by decide) (tile x1 2 (by decide) ![0, 256] inb_S128x7168_S128x128_0_256 rfl rfl bitsLt_bf16_f32) _ _ broadcasts_S128x1_S128x128 _) (by decide) (by decide) ![0, 256] inb_S128x7168_S128x128_0_256 rfl rfl y
  · intro y; exact piece (codesR_tile (φ := .fp8e5m2) k5_ne (by decide) (tile x1 1 (by decide) ![0, 128] inb_S128x7168_S128x128_0_128 rfl rfl bitsLt_bf16_f32) _ _ broadcasts_S128x1_S128x128 _) (by decide) (by decide) ![0, 128] inb_S128x7168_S128x128_0_128 rfl rfl y
  · intro y; exact piece (codesR_tile (φ := .fp8e5m2) k5_ne (by decide) (tile x1 0 (by decide) ![0, 0] inb_S128x7168_S128x128_0_0 rfl rfl bitsLt_bf16_f32) _ _ broadcasts_S128x1_S128x128 _) (by decide) (by decide) ![0, 0] inb_S128x7168_S128x128_0_0 rfl rfl y

/-- Output 8: the row scales. -/
theorem o8 (x0 x1 : Vec Ideal S128x7168 .bf16) (y : S128x56.Idx) : out0_8 x0 x1 y = (fun z => rowS e5 (ent x1) (z 0) (z 1).val : S128x56.Idx → EReal) y := by
  unfold out0_8
  refine View.canon_append_of_piecesOf (Val := Elt Ideal) (fun z => rowS e5 (ent x1) (z 0) (z 1).val) [] [_, _, _, _, _, _, _, _, _, _, _, _, _, _, _, _, _, _, _, _, _, _, _, _, _, _, _, _, _, _, _, _, _, _, _, _, _, _, _, _, _, _, _, _, _, _, _, _, _, _, _, _, _, _, _, _] ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩ y (cover0_8 _ _ _ _ _ _ _ _ _ _ _ _ _ _ _ _ _ _ _ _ _ _ _ _ _ _ _ _ _ _ _ _ _ _ _ _ _ _ _ _ _ _ _ _ _ _ _ _ _ _ _ _ _ _ _ _ y)
  · intro y; exact pieceS (G := rowS e5 (ent x1)) (g := 55) (scalesR_tile k5_ne (tile x1 55 (by decide) ![0, 7040] inb_S128x7168_S128x128_0_7040 rfl rfl bitsLt_bf16_f32) _ _) ![0, 55] inb_S128x56_S128x1_0_55 rfl rfl y
  · intro y; exact pieceS (G := rowS e5 (ent x1)) (g := 54) (scalesR_tile k5_ne (tile x1 54 (by decide) ![0, 6912] inb_S128x7168_S128x128_0_6912 rfl rfl bitsLt_bf16_f32) _ _) ![0, 54] inb_S128x56_S128x1_0_54 rfl rfl y
  · intro y; exact pieceS (G := rowS e5 (ent x1)) (g := 53) (scalesR_tile k5_ne (tile x1 53 (by decide) ![0, 6784] inb_S128x7168_S128x128_0_6784 rfl rfl bitsLt_bf16_f32) _ _) ![0, 53] inb_S128x56_S128x1_0_53 rfl rfl y
  · intro y; exact pieceS (G := rowS e5 (ent x1)) (g := 52) (scalesR_tile k5_ne (tile x1 52 (by decide) ![0, 6656] inb_S128x7168_S128x128_0_6656 rfl rfl bitsLt_bf16_f32) _ _) ![0, 52] inb_S128x56_S128x1_0_52 rfl rfl y
  · intro y; exact pieceS (G := rowS e5 (ent x1)) (g := 51) (scalesR_tile k5_ne (tile x1 51 (by decide) ![0, 6528] inb_S128x7168_S128x128_0_6528 rfl rfl bitsLt_bf16_f32) _ _) ![0, 51] inb_S128x56_S128x1_0_51 rfl rfl y
  · intro y; exact pieceS (G := rowS e5 (ent x1)) (g := 50) (scalesR_tile k5_ne (tile x1 50 (by decide) ![0, 6400] inb_S128x7168_S128x128_0_6400 rfl rfl bitsLt_bf16_f32) _ _) ![0, 50] inb_S128x56_S128x1_0_50 rfl rfl y
  · intro y; exact pieceS (G := rowS e5 (ent x1)) (g := 49) (scalesR_tile k5_ne (tile x1 49 (by decide) ![0, 6272] inb_S128x7168_S128x128_0_6272 rfl rfl bitsLt_bf16_f32) _ _) ![0, 49] inb_S128x56_S128x1_0_49 rfl rfl y
  · intro y; exact pieceS (G := rowS e5 (ent x1)) (g := 48) (scalesR_tile k5_ne (tile x1 48 (by decide) ![0, 6144] inb_S128x7168_S128x128_0_6144 rfl rfl bitsLt_bf16_f32) _ _) ![0, 48] inb_S128x56_S128x1_0_48 rfl rfl y
  · intro y; exact pieceS (G := rowS e5 (ent x1)) (g := 47) (scalesR_tile k5_ne (tile x1 47 (by decide) ![0, 6016] inb_S128x7168_S128x128_0_6016 rfl rfl bitsLt_bf16_f32) _ _) ![0, 47] inb_S128x56_S128x1_0_47 rfl rfl y
  · intro y; exact pieceS (G := rowS e5 (ent x1)) (g := 46) (scalesR_tile k5_ne (tile x1 46 (by decide) ![0, 5888] inb_S128x7168_S128x128_0_5888 rfl rfl bitsLt_bf16_f32) _ _) ![0, 46] inb_S128x56_S128x1_0_46 rfl rfl y
  · intro y; exact pieceS (G := rowS e5 (ent x1)) (g := 45) (scalesR_tile k5_ne (tile x1 45 (by decide) ![0, 5760] inb_S128x7168_S128x128_0_5760 rfl rfl bitsLt_bf16_f32) _ _) ![0, 45] inb_S128x56_S128x1_0_45 rfl rfl y
  · intro y; exact pieceS (G := rowS e5 (ent x1)) (g := 44) (scalesR_tile k5_ne (tile x1 44 (by decide) ![0, 5632] inb_S128x7168_S128x128_0_5632 rfl rfl bitsLt_bf16_f32) _ _) ![0, 44] inb_S128x56_S128x1_0_44 rfl rfl y
  · intro y; exact pieceS (G := rowS e5 (ent x1)) (g := 43) (scalesR_tile k5_ne (tile x1 43 (by decide) ![0, 5504] inb_S128x7168_S128x128_0_5504 rfl rfl bitsLt_bf16_f32) _ _) ![0, 43] inb_S128x56_S128x1_0_43 rfl rfl y
  · intro y; exact pieceS (G := rowS e5 (ent x1)) (g := 42) (scalesR_tile k5_ne (tile x1 42 (by decide) ![0, 5376] inb_S128x7168_S128x128_0_5376 rfl rfl bitsLt_bf16_f32) _ _) ![0, 42] inb_S128x56_S128x1_0_42 rfl rfl y
  · intro y; exact pieceS (G := rowS e5 (ent x1)) (g := 41) (scalesR_tile k5_ne (tile x1 41 (by decide) ![0, 5248] inb_S128x7168_S128x128_0_5248 rfl rfl bitsLt_bf16_f32) _ _) ![0, 41] inb_S128x56_S128x1_0_41 rfl rfl y
  · intro y; exact pieceS (G := rowS e5 (ent x1)) (g := 40) (scalesR_tile k5_ne (tile x1 40 (by decide) ![0, 5120] inb_S128x7168_S128x128_0_5120 rfl rfl bitsLt_bf16_f32) _ _) ![0, 40] inb_S128x56_S128x1_0_40 rfl rfl y
  · intro y; exact pieceS (G := rowS e5 (ent x1)) (g := 39) (scalesR_tile k5_ne (tile x1 39 (by decide) ![0, 4992] inb_S128x7168_S128x128_0_4992 rfl rfl bitsLt_bf16_f32) _ _) ![0, 39] inb_S128x56_S128x1_0_39 rfl rfl y
  · intro y; exact pieceS (G := rowS e5 (ent x1)) (g := 38) (scalesR_tile k5_ne (tile x1 38 (by decide) ![0, 4864] inb_S128x7168_S128x128_0_4864 rfl rfl bitsLt_bf16_f32) _ _) ![0, 38] inb_S128x56_S128x1_0_38 rfl rfl y
  · intro y; exact pieceS (G := rowS e5 (ent x1)) (g := 37) (scalesR_tile k5_ne (tile x1 37 (by decide) ![0, 4736] inb_S128x7168_S128x128_0_4736 rfl rfl bitsLt_bf16_f32) _ _) ![0, 37] inb_S128x56_S128x1_0_37 rfl rfl y
  · intro y; exact pieceS (G := rowS e5 (ent x1)) (g := 36) (scalesR_tile k5_ne (tile x1 36 (by decide) ![0, 4608] inb_S128x7168_S128x128_0_4608 rfl rfl bitsLt_bf16_f32) _ _) ![0, 36] inb_S128x56_S128x1_0_36 rfl rfl y
  · intro y; exact pieceS (G := rowS e5 (ent x1)) (g := 35) (scalesR_tile k5_ne (tile x1 35 (by decide) ![0, 4480] inb_S128x7168_S128x128_0_4480 rfl rfl bitsLt_bf16_f32) _ _) ![0, 35] inb_S128x56_S128x1_0_35 rfl rfl y
  · intro y; exact pieceS (G := rowS e5 (ent x1)) (g := 34) (scalesR_tile k5_ne (tile x1 34 (by decide) ![0, 4352] inb_S128x7168_S128x128_0_4352 rfl rfl bitsLt_bf16_f32) _ _) ![0, 34] inb_S128x56_S128x1_0_34 rfl rfl y
  · intro y; exact pieceS (G := rowS e5 (ent x1)) (g := 33) (scalesR_tile k5_ne (tile x1 33 (by decide) ![0, 4224] inb_S128x7168_S128x128_0_4224 rfl rfl bitsLt_bf16_f32) _ _) ![0, 33] inb_S128x56_S128x1_0_33 rfl rfl y
  · intro y; exact pieceS (G := rowS e5 (ent x1)) (g := 32) (scalesR_tile k5_ne (tile x1 32 (by decide) ![0, 4096] inb_S128x7168_S128x128_0_4096 rfl rfl bitsLt_bf16_f32) _ _) ![0, 32] inb_S128x56_S128x1_0_32 rfl rfl y
  · intro y; exact pieceS (G := rowS e5 (ent x1)) (g := 31) (scalesR_tile k5_ne (tile x1 31 (by decide) ![0, 3968] inb_S128x7168_S128x128_0_3968 rfl rfl bitsLt_bf16_f32) _ _) ![0, 31] inb_S128x56_S128x1_0_31 rfl rfl y
  · intro y; exact pieceS (G := rowS e5 (ent x1)) (g := 30) (scalesR_tile k5_ne (tile x1 30 (by decide) ![0, 3840] inb_S128x7168_S128x128_0_3840 rfl rfl bitsLt_bf16_f32) _ _) ![0, 30] inb_S128x56_S128x1_0_30 rfl rfl y
  · intro y; exact pieceS (G := rowS e5 (ent x1)) (g := 29) (scalesR_tile k5_ne (tile x1 29 (by decide) ![0, 3712] inb_S128x7168_S128x128_0_3712 rfl rfl bitsLt_bf16_f32) _ _) ![0, 29] inb_S128x56_S128x1_0_29 rfl rfl y
  · intro y; exact pieceS (G := rowS e5 (ent x1)) (g := 28) (scalesR_tile k5_ne (tile x1 28 (by decide) ![0, 3584] inb_S128x7168_S128x128_0_3584 rfl rfl bitsLt_bf16_f32) _ _) ![0, 28] inb_S128x56_S128x1_0_28 rfl rfl y
  · intro y; exact pieceS (G := rowS e5 (ent x1)) (g := 27) (scalesR_tile k5_ne (tile x1 27 (by decide) ![0, 3456] inb_S128x7168_S128x128_0_3456 rfl rfl bitsLt_bf16_f32) _ _) ![0, 27] inb_S128x56_S128x1_0_27 rfl rfl y
  · intro y; exact pieceS (G := rowS e5 (ent x1)) (g := 26) (scalesR_tile k5_ne (tile x1 26 (by decide) ![0, 3328] inb_S128x7168_S128x128_0_3328 rfl rfl bitsLt_bf16_f32) _ _) ![0, 26] inb_S128x56_S128x1_0_26 rfl rfl y
  · intro y; exact pieceS (G := rowS e5 (ent x1)) (g := 25) (scalesR_tile k5_ne (tile x1 25 (by decide) ![0, 3200] inb_S128x7168_S128x128_0_3200 rfl rfl bitsLt_bf16_f32) _ _) ![0, 25] inb_S128x56_S128x1_0_25 rfl rfl y
  · intro y; exact pieceS (G := rowS e5 (ent x1)) (g := 24) (scalesR_tile k5_ne (tile x1 24 (by decide) ![0, 3072] inb_S128x7168_S128x128_0_3072 rfl rfl bitsLt_bf16_f32) _ _) ![0, 24] inb_S128x56_S128x1_0_24 rfl rfl y
  · intro y; exact pieceS (G := rowS e5 (ent x1)) (g := 23) (scalesR_tile k5_ne (tile x1 23 (by decide) ![0, 2944] inb_S128x7168_S128x128_0_2944 rfl rfl bitsLt_bf16_f32) _ _) ![0, 23] inb_S128x56_S128x1_0_23 rfl rfl y
  · intro y; exact pieceS (G := rowS e5 (ent x1)) (g := 22) (scalesR_tile k5_ne (tile x1 22 (by decide) ![0, 2816] inb_S128x7168_S128x128_0_2816 rfl rfl bitsLt_bf16_f32) _ _) ![0, 22] inb_S128x56_S128x1_0_22 rfl rfl y
  · intro y; exact pieceS (G := rowS e5 (ent x1)) (g := 21) (scalesR_tile k5_ne (tile x1 21 (by decide) ![0, 2688] inb_S128x7168_S128x128_0_2688 rfl rfl bitsLt_bf16_f32) _ _) ![0, 21] inb_S128x56_S128x1_0_21 rfl rfl y
  · intro y; exact pieceS (G := rowS e5 (ent x1)) (g := 20) (scalesR_tile k5_ne (tile x1 20 (by decide) ![0, 2560] inb_S128x7168_S128x128_0_2560 rfl rfl bitsLt_bf16_f32) _ _) ![0, 20] inb_S128x56_S128x1_0_20 rfl rfl y
  · intro y; exact pieceS (G := rowS e5 (ent x1)) (g := 19) (scalesR_tile k5_ne (tile x1 19 (by decide) ![0, 2432] inb_S128x7168_S128x128_0_2432 rfl rfl bitsLt_bf16_f32) _ _) ![0, 19] inb_S128x56_S128x1_0_19 rfl rfl y
  · intro y; exact pieceS (G := rowS e5 (ent x1)) (g := 18) (scalesR_tile k5_ne (tile x1 18 (by decide) ![0, 2304] inb_S128x7168_S128x128_0_2304 rfl rfl bitsLt_bf16_f32) _ _) ![0, 18] inb_S128x56_S128x1_0_18 rfl rfl y
  · intro y; exact pieceS (G := rowS e5 (ent x1)) (g := 17) (scalesR_tile k5_ne (tile x1 17 (by decide) ![0, 2176] inb_S128x7168_S128x128_0_2176 rfl rfl bitsLt_bf16_f32) _ _) ![0, 17] inb_S128x56_S128x1_0_17 rfl rfl y
  · intro y; exact pieceS (G := rowS e5 (ent x1)) (g := 16) (scalesR_tile k5_ne (tile x1 16 (by decide) ![0, 2048] inb_S128x7168_S128x128_0_2048 rfl rfl bitsLt_bf16_f32) _ _) ![0, 16] inb_S128x56_S128x1_0_16 rfl rfl y
  · intro y; exact pieceS (G := rowS e5 (ent x1)) (g := 15) (scalesR_tile k5_ne (tile x1 15 (by decide) ![0, 1920] inb_S128x7168_S128x128_0_1920 rfl rfl bitsLt_bf16_f32) _ _) ![0, 15] inb_S128x56_S128x1_0_15 rfl rfl y
  · intro y; exact pieceS (G := rowS e5 (ent x1)) (g := 14) (scalesR_tile k5_ne (tile x1 14 (by decide) ![0, 1792] inb_S128x7168_S128x128_0_1792 rfl rfl bitsLt_bf16_f32) _ _) ![0, 14] inb_S128x56_S128x1_0_14 rfl rfl y
  · intro y; exact pieceS (G := rowS e5 (ent x1)) (g := 13) (scalesR_tile k5_ne (tile x1 13 (by decide) ![0, 1664] inb_S128x7168_S128x128_0_1664 rfl rfl bitsLt_bf16_f32) _ _) ![0, 13] inb_S128x56_S128x1_0_13 rfl rfl y
  · intro y; exact pieceS (G := rowS e5 (ent x1)) (g := 12) (scalesR_tile k5_ne (tile x1 12 (by decide) ![0, 1536] inb_S128x7168_S128x128_0_1536 rfl rfl bitsLt_bf16_f32) _ _) ![0, 12] inb_S128x56_S128x1_0_12 rfl rfl y
  · intro y; exact pieceS (G := rowS e5 (ent x1)) (g := 11) (scalesR_tile k5_ne (tile x1 11 (by decide) ![0, 1408] inb_S128x7168_S128x128_0_1408 rfl rfl bitsLt_bf16_f32) _ _) ![0, 11] inb_S128x56_S128x1_0_11 rfl rfl y
  · intro y; exact pieceS (G := rowS e5 (ent x1)) (g := 10) (scalesR_tile k5_ne (tile x1 10 (by decide) ![0, 1280] inb_S128x7168_S128x128_0_1280 rfl rfl bitsLt_bf16_f32) _ _) ![0, 10] inb_S128x56_S128x1_0_10 rfl rfl y
  · intro y; exact pieceS (G := rowS e5 (ent x1)) (g := 9) (scalesR_tile k5_ne (tile x1 9 (by decide) ![0, 1152] inb_S128x7168_S128x128_0_1152 rfl rfl bitsLt_bf16_f32) _ _) ![0, 9] inb_S128x56_S128x1_0_9 rfl rfl y
  · intro y; exact pieceS (G := rowS e5 (ent x1)) (g := 8) (scalesR_tile k5_ne (tile x1 8 (by decide) ![0, 1024] inb_S128x7168_S128x128_0_1024 rfl rfl bitsLt_bf16_f32) _ _) ![0, 8] inb_S128x56_S128x1_0_8 rfl rfl y
  · intro y; exact pieceS (G := rowS e5 (ent x1)) (g := 7) (scalesR_tile k5_ne (tile x1 7 (by decide) ![0, 896] inb_S128x7168_S128x128_0_896 rfl rfl bitsLt_bf16_f32) _ _) ![0, 7] inb_S128x56_S128x1_0_7 rfl rfl y
  · intro y; exact pieceS (G := rowS e5 (ent x1)) (g := 6) (scalesR_tile k5_ne (tile x1 6 (by decide) ![0, 768] inb_S128x7168_S128x128_0_768 rfl rfl bitsLt_bf16_f32) _ _) ![0, 6] inb_S128x56_S128x1_0_6 rfl rfl y
  · intro y; exact pieceS (G := rowS e5 (ent x1)) (g := 5) (scalesR_tile k5_ne (tile x1 5 (by decide) ![0, 640] inb_S128x7168_S128x128_0_640 rfl rfl bitsLt_bf16_f32) _ _) ![0, 5] inb_S128x56_S128x1_0_5 rfl rfl y
  · intro y; exact pieceS (G := rowS e5 (ent x1)) (g := 4) (scalesR_tile k5_ne (tile x1 4 (by decide) ![0, 512] inb_S128x7168_S128x128_0_512 rfl rfl bitsLt_bf16_f32) _ _) ![0, 4] inb_S128x56_S128x1_0_4 rfl rfl y
  · intro y; exact pieceS (G := rowS e5 (ent x1)) (g := 3) (scalesR_tile k5_ne (tile x1 3 (by decide) ![0, 384] inb_S128x7168_S128x128_0_384 rfl rfl bitsLt_bf16_f32) _ _) ![0, 3] inb_S128x56_S128x1_0_3 rfl rfl y
  · intro y; exact pieceS (G := rowS e5 (ent x1)) (g := 2) (scalesR_tile k5_ne (tile x1 2 (by decide) ![0, 256] inb_S128x7168_S128x128_0_256 rfl rfl bitsLt_bf16_f32) _ _) ![0, 2] inb_S128x56_S128x1_0_2 rfl rfl y
  · intro y; exact pieceS (G := rowS e5 (ent x1)) (g := 1) (scalesR_tile k5_ne (tile x1 1 (by decide) ![0, 128] inb_S128x7168_S128x128_0_128 rfl rfl bitsLt_bf16_f32) _ _) ![0, 1] inb_S128x56_S128x1_0_1 rfl rfl y
  · intro y; exact pieceS (G := rowS e5 (ent x1)) (g := 0) (scalesR_tile k5_ne (tile x1 0 (by decide) ![0, 0] inb_S128x7168_S128x128_0_0 rfl rfl bitsLt_bf16_f32) _ _) ![0, 0] inb_S128x56_S128x1_0_0 rfl rfl y

/-- Output 9: the column codes. -/
theorem o9 (x0 x1 : Vec Ideal S128x7168 .bf16) (y : S128x7168.Idx) : out0_9 x0 x1 y = (fun z => colQ e5 (ent x1) (z 0) (z 1) : S128x7168.Idx → EReal) y := by
  unfold out0_9
  refine View.canon_append_of_piecesOf (Val := Elt Ideal) (fun z => colQ e5 (ent x1) (z 0) (z 1)) [] [_, _, _, _, _, _, _, _, _, _, _, _, _, _, _, _, _, _, _, _, _, _, _, _, _, _, _, _, _, _, _, _, _, _, _, _, _, _, _, _, _, _, _, _, _, _, _, _, _, _, _, _, _, _, _, _] ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩ y (cover0_9 _ _ _ _ _ _ _ _ _ _ _ _ _ _ _ _ _ _ _ _ _ _ _ _ _ _ _ _ _ _ _ _ _ _ _ _ _ _ _ _ _ _ _ _ _ _ _ _ _ _ _ _ _ _ _ _ y)
  · intro y; exact piece (codesC_tile (φ := .fp8e5m2) k5_ne (by decide) (tile x1 55 (by decide) ![0, 7040] inb_S128x7168_S128x128_0_7040 rfl rfl bitsLt_bf16_f32) _ _ broadcasts_S1x128_S128x128 _) (by decide) (by decide) ![0, 7040] inb_S128x7168_S128x128_0_7040 rfl rfl y
  · intro y; exact piece (codesC_tile (φ := .fp8e5m2) k5_ne (by decide) (tile x1 54 (by decide) ![0, 6912] inb_S128x7168_S128x128_0_6912 rfl rfl bitsLt_bf16_f32) _ _ broadcasts_S1x128_S128x128 _) (by decide) (by decide) ![0, 6912] inb_S128x7168_S128x128_0_6912 rfl rfl y
  · intro y; exact piece (codesC_tile (φ := .fp8e5m2) k5_ne (by decide) (tile x1 53 (by decide) ![0, 6784] inb_S128x7168_S128x128_0_6784 rfl rfl bitsLt_bf16_f32) _ _ broadcasts_S1x128_S128x128 _) (by decide) (by decide) ![0, 6784] inb_S128x7168_S128x128_0_6784 rfl rfl y
  · intro y; exact piece (codesC_tile (φ := .fp8e5m2) k5_ne (by decide) (tile x1 52 (by decide) ![0, 6656] inb_S128x7168_S128x128_0_6656 rfl rfl bitsLt_bf16_f32) _ _ broadcasts_S1x128_S128x128 _) (by decide) (by decide) ![0, 6656] inb_S128x7168_S128x128_0_6656 rfl rfl y
  · intro y; exact piece (codesC_tile (φ := .fp8e5m2) k5_ne (by decide) (tile x1 51 (by decide) ![0, 6528] inb_S128x7168_S128x128_0_6528 rfl rfl bitsLt_bf16_f32) _ _ broadcasts_S1x128_S128x128 _) (by decide) (by decide) ![0, 6528] inb_S128x7168_S128x128_0_6528 rfl rfl y
  · intro y; exact piece (codesC_tile (φ := .fp8e5m2) k5_ne (by decide) (tile x1 50 (by decide) ![0, 6400] inb_S128x7168_S128x128_0_6400 rfl rfl bitsLt_bf16_f32) _ _ broadcasts_S1x128_S128x128 _) (by decide) (by decide) ![0, 6400] inb_S128x7168_S128x128_0_6400 rfl rfl y
  · intro y; exact piece (codesC_tile (φ := .fp8e5m2) k5_ne (by decide) (tile x1 49 (by decide) ![0, 6272] inb_S128x7168_S128x128_0_6272 rfl rfl bitsLt_bf16_f32) _ _ broadcasts_S1x128_S128x128 _) (by decide) (by decide) ![0, 6272] inb_S128x7168_S128x128_0_6272 rfl rfl y
  · intro y; exact piece (codesC_tile (φ := .fp8e5m2) k5_ne (by decide) (tile x1 48 (by decide) ![0, 6144] inb_S128x7168_S128x128_0_6144 rfl rfl bitsLt_bf16_f32) _ _ broadcasts_S1x128_S128x128 _) (by decide) (by decide) ![0, 6144] inb_S128x7168_S128x128_0_6144 rfl rfl y
  · intro y; exact piece (codesC_tile (φ := .fp8e5m2) k5_ne (by decide) (tile x1 47 (by decide) ![0, 6016] inb_S128x7168_S128x128_0_6016 rfl rfl bitsLt_bf16_f32) _ _ broadcasts_S1x128_S128x128 _) (by decide) (by decide) ![0, 6016] inb_S128x7168_S128x128_0_6016 rfl rfl y
  · intro y; exact piece (codesC_tile (φ := .fp8e5m2) k5_ne (by decide) (tile x1 46 (by decide) ![0, 5888] inb_S128x7168_S128x128_0_5888 rfl rfl bitsLt_bf16_f32) _ _ broadcasts_S1x128_S128x128 _) (by decide) (by decide) ![0, 5888] inb_S128x7168_S128x128_0_5888 rfl rfl y
  · intro y; exact piece (codesC_tile (φ := .fp8e5m2) k5_ne (by decide) (tile x1 45 (by decide) ![0, 5760] inb_S128x7168_S128x128_0_5760 rfl rfl bitsLt_bf16_f32) _ _ broadcasts_S1x128_S128x128 _) (by decide) (by decide) ![0, 5760] inb_S128x7168_S128x128_0_5760 rfl rfl y
  · intro y; exact piece (codesC_tile (φ := .fp8e5m2) k5_ne (by decide) (tile x1 44 (by decide) ![0, 5632] inb_S128x7168_S128x128_0_5632 rfl rfl bitsLt_bf16_f32) _ _ broadcasts_S1x128_S128x128 _) (by decide) (by decide) ![0, 5632] inb_S128x7168_S128x128_0_5632 rfl rfl y
  · intro y; exact piece (codesC_tile (φ := .fp8e5m2) k5_ne (by decide) (tile x1 43 (by decide) ![0, 5504] inb_S128x7168_S128x128_0_5504 rfl rfl bitsLt_bf16_f32) _ _ broadcasts_S1x128_S128x128 _) (by decide) (by decide) ![0, 5504] inb_S128x7168_S128x128_0_5504 rfl rfl y
  · intro y; exact piece (codesC_tile (φ := .fp8e5m2) k5_ne (by decide) (tile x1 42 (by decide) ![0, 5376] inb_S128x7168_S128x128_0_5376 rfl rfl bitsLt_bf16_f32) _ _ broadcasts_S1x128_S128x128 _) (by decide) (by decide) ![0, 5376] inb_S128x7168_S128x128_0_5376 rfl rfl y
  · intro y; exact piece (codesC_tile (φ := .fp8e5m2) k5_ne (by decide) (tile x1 41 (by decide) ![0, 5248] inb_S128x7168_S128x128_0_5248 rfl rfl bitsLt_bf16_f32) _ _ broadcasts_S1x128_S128x128 _) (by decide) (by decide) ![0, 5248] inb_S128x7168_S128x128_0_5248 rfl rfl y
  · intro y; exact piece (codesC_tile (φ := .fp8e5m2) k5_ne (by decide) (tile x1 40 (by decide) ![0, 5120] inb_S128x7168_S128x128_0_5120 rfl rfl bitsLt_bf16_f32) _ _ broadcasts_S1x128_S128x128 _) (by decide) (by decide) ![0, 5120] inb_S128x7168_S128x128_0_5120 rfl rfl y
  · intro y; exact piece (codesC_tile (φ := .fp8e5m2) k5_ne (by decide) (tile x1 39 (by decide) ![0, 4992] inb_S128x7168_S128x128_0_4992 rfl rfl bitsLt_bf16_f32) _ _ broadcasts_S1x128_S128x128 _) (by decide) (by decide) ![0, 4992] inb_S128x7168_S128x128_0_4992 rfl rfl y
  · intro y; exact piece (codesC_tile (φ := .fp8e5m2) k5_ne (by decide) (tile x1 38 (by decide) ![0, 4864] inb_S128x7168_S128x128_0_4864 rfl rfl bitsLt_bf16_f32) _ _ broadcasts_S1x128_S128x128 _) (by decide) (by decide) ![0, 4864] inb_S128x7168_S128x128_0_4864 rfl rfl y
  · intro y; exact piece (codesC_tile (φ := .fp8e5m2) k5_ne (by decide) (tile x1 37 (by decide) ![0, 4736] inb_S128x7168_S128x128_0_4736 rfl rfl bitsLt_bf16_f32) _ _ broadcasts_S1x128_S128x128 _) (by decide) (by decide) ![0, 4736] inb_S128x7168_S128x128_0_4736 rfl rfl y
  · intro y; exact piece (codesC_tile (φ := .fp8e5m2) k5_ne (by decide) (tile x1 36 (by decide) ![0, 4608] inb_S128x7168_S128x128_0_4608 rfl rfl bitsLt_bf16_f32) _ _ broadcasts_S1x128_S128x128 _) (by decide) (by decide) ![0, 4608] inb_S128x7168_S128x128_0_4608 rfl rfl y
  · intro y; exact piece (codesC_tile (φ := .fp8e5m2) k5_ne (by decide) (tile x1 35 (by decide) ![0, 4480] inb_S128x7168_S128x128_0_4480 rfl rfl bitsLt_bf16_f32) _ _ broadcasts_S1x128_S128x128 _) (by decide) (by decide) ![0, 4480] inb_S128x7168_S128x128_0_4480 rfl rfl y
  · intro y; exact piece (codesC_tile (φ := .fp8e5m2) k5_ne (by decide) (tile x1 34 (by decide) ![0, 4352] inb_S128x7168_S128x128_0_4352 rfl rfl bitsLt_bf16_f32) _ _ broadcasts_S1x128_S128x128 _) (by decide) (by decide) ![0, 4352] inb_S128x7168_S128x128_0_4352 rfl rfl y
  · intro y; exact piece (codesC_tile (φ := .fp8e5m2) k5_ne (by decide) (tile x1 33 (by decide) ![0, 4224] inb_S128x7168_S128x128_0_4224 rfl rfl bitsLt_bf16_f32) _ _ broadcasts_S1x128_S128x128 _) (by decide) (by decide) ![0, 4224] inb_S128x7168_S128x128_0_4224 rfl rfl y
  · intro y; exact piece (codesC_tile (φ := .fp8e5m2) k5_ne (by decide) (tile x1 32 (by decide) ![0, 4096] inb_S128x7168_S128x128_0_4096 rfl rfl bitsLt_bf16_f32) _ _ broadcasts_S1x128_S128x128 _) (by decide) (by decide) ![0, 4096] inb_S128x7168_S128x128_0_4096 rfl rfl y
  · intro y; exact piece (codesC_tile (φ := .fp8e5m2) k5_ne (by decide) (tile x1 31 (by decide) ![0, 3968] inb_S128x7168_S128x128_0_3968 rfl rfl bitsLt_bf16_f32) _ _ broadcasts_S1x128_S128x128 _) (by decide) (by decide) ![0, 3968] inb_S128x7168_S128x128_0_3968 rfl rfl y
  · intro y; exact piece (codesC_tile (φ := .fp8e5m2) k5_ne (by decide) (tile x1 30 (by decide) ![0, 3840] inb_S128x7168_S128x128_0_3840 rfl rfl bitsLt_bf16_f32) _ _ broadcasts_S1x128_S128x128 _) (by decide) (by decide) ![0, 3840] inb_S128x7168_S128x128_0_3840 rfl rfl y
  · intro y; exact piece (codesC_tile (φ := .fp8e5m2) k5_ne (by decide) (tile x1 29 (by decide) ![0, 3712] inb_S128x7168_S128x128_0_3712 rfl rfl bitsLt_bf16_f32) _ _ broadcasts_S1x128_S128x128 _) (by decide) (by decide) ![0, 3712] inb_S128x7168_S128x128_0_3712 rfl rfl y
  · intro y; exact piece (codesC_tile (φ := .fp8e5m2) k5_ne (by decide) (tile x1 28 (by decide) ![0, 3584] inb_S128x7168_S128x128_0_3584 rfl rfl bitsLt_bf16_f32) _ _ broadcasts_S1x128_S128x128 _) (by decide) (by decide) ![0, 3584] inb_S128x7168_S128x128_0_3584 rfl rfl y
  · intro y; exact piece (codesC_tile (φ := .fp8e5m2) k5_ne (by decide) (tile x1 27 (by decide) ![0, 3456] inb_S128x7168_S128x128_0_3456 rfl rfl bitsLt_bf16_f32) _ _ broadcasts_S1x128_S128x128 _) (by decide) (by decide) ![0, 3456] inb_S128x7168_S128x128_0_3456 rfl rfl y
  · intro y; exact piece (codesC_tile (φ := .fp8e5m2) k5_ne (by decide) (tile x1 26 (by decide) ![0, 3328] inb_S128x7168_S128x128_0_3328 rfl rfl bitsLt_bf16_f32) _ _ broadcasts_S1x128_S128x128 _) (by decide) (by decide) ![0, 3328] inb_S128x7168_S128x128_0_3328 rfl rfl y
  · intro y; exact piece (codesC_tile (φ := .fp8e5m2) k5_ne (by decide) (tile x1 25 (by decide) ![0, 3200] inb_S128x7168_S128x128_0_3200 rfl rfl bitsLt_bf16_f32) _ _ broadcasts_S1x128_S128x128 _) (by decide) (by decide) ![0, 3200] inb_S128x7168_S128x128_0_3200 rfl rfl y
  · intro y; exact piece (codesC_tile (φ := .fp8e5m2) k5_ne (by decide) (tile x1 24 (by decide) ![0, 3072] inb_S128x7168_S128x128_0_3072 rfl rfl bitsLt_bf16_f32) _ _ broadcasts_S1x128_S128x128 _) (by decide) (by decide) ![0, 3072] inb_S128x7168_S128x128_0_3072 rfl rfl y
  · intro y; exact piece (codesC_tile (φ := .fp8e5m2) k5_ne (by decide) (tile x1 23 (by decide) ![0, 2944] inb_S128x7168_S128x128_0_2944 rfl rfl bitsLt_bf16_f32) _ _ broadcasts_S1x128_S128x128 _) (by decide) (by decide) ![0, 2944] inb_S128x7168_S128x128_0_2944 rfl rfl y
  · intro y; exact piece (codesC_tile (φ := .fp8e5m2) k5_ne (by decide) (tile x1 22 (by decide) ![0, 2816] inb_S128x7168_S128x128_0_2816 rfl rfl bitsLt_bf16_f32) _ _ broadcasts_S1x128_S128x128 _) (by decide) (by decide) ![0, 2816] inb_S128x7168_S128x128_0_2816 rfl rfl y
  · intro y; exact piece (codesC_tile (φ := .fp8e5m2) k5_ne (by decide) (tile x1 21 (by decide) ![0, 2688] inb_S128x7168_S128x128_0_2688 rfl rfl bitsLt_bf16_f32) _ _ broadcasts_S1x128_S128x128 _) (by decide) (by decide) ![0, 2688] inb_S128x7168_S128x128_0_2688 rfl rfl y
  · intro y; exact piece (codesC_tile (φ := .fp8e5m2) k5_ne (by decide) (tile x1 20 (by decide) ![0, 2560] inb_S128x7168_S128x128_0_2560 rfl rfl bitsLt_bf16_f32) _ _ broadcasts_S1x128_S128x128 _) (by decide) (by decide) ![0, 2560] inb_S128x7168_S128x128_0_2560 rfl rfl y
  · intro y; exact piece (codesC_tile (φ := .fp8e5m2) k5_ne (by decide) (tile x1 19 (by decide) ![0, 2432] inb_S128x7168_S128x128_0_2432 rfl rfl bitsLt_bf16_f32) _ _ broadcasts_S1x128_S128x128 _) (by decide) (by decide) ![0, 2432] inb_S128x7168_S128x128_0_2432 rfl rfl y
  · intro y; exact piece (codesC_tile (φ := .fp8e5m2) k5_ne (by decide) (tile x1 18 (by decide) ![0, 2304] inb_S128x7168_S128x128_0_2304 rfl rfl bitsLt_bf16_f32) _ _ broadcasts_S1x128_S128x128 _) (by decide) (by decide) ![0, 2304] inb_S128x7168_S128x128_0_2304 rfl rfl y
  · intro y; exact piece (codesC_tile (φ := .fp8e5m2) k5_ne (by decide) (tile x1 17 (by decide) ![0, 2176] inb_S128x7168_S128x128_0_2176 rfl rfl bitsLt_bf16_f32) _ _ broadcasts_S1x128_S128x128 _) (by decide) (by decide) ![0, 2176] inb_S128x7168_S128x128_0_2176 rfl rfl y
  · intro y; exact piece (codesC_tile (φ := .fp8e5m2) k5_ne (by decide) (tile x1 16 (by decide) ![0, 2048] inb_S128x7168_S128x128_0_2048 rfl rfl bitsLt_bf16_f32) _ _ broadcasts_S1x128_S128x128 _) (by decide) (by decide) ![0, 2048] inb_S128x7168_S128x128_0_2048 rfl rfl y
  · intro y; exact piece (codesC_tile (φ := .fp8e5m2) k5_ne (by decide) (tile x1 15 (by decide) ![0, 1920] inb_S128x7168_S128x128_0_1920 rfl rfl bitsLt_bf16_f32) _ _ broadcasts_S1x128_S128x128 _) (by decide) (by decide) ![0, 1920] inb_S128x7168_S128x128_0_1920 rfl rfl y
  · intro y; exact piece (codesC_tile (φ := .fp8e5m2) k5_ne (by decide) (tile x1 14 (by decide) ![0, 1792] inb_S128x7168_S128x128_0_1792 rfl rfl bitsLt_bf16_f32) _ _ broadcasts_S1x128_S128x128 _) (by decide) (by decide) ![0, 1792] inb_S128x7168_S128x128_0_1792 rfl rfl y
  · intro y; exact piece (codesC_tile (φ := .fp8e5m2) k5_ne (by decide) (tile x1 13 (by decide) ![0, 1664] inb_S128x7168_S128x128_0_1664 rfl rfl bitsLt_bf16_f32) _ _ broadcasts_S1x128_S128x128 _) (by decide) (by decide) ![0, 1664] inb_S128x7168_S128x128_0_1664 rfl rfl y
  · intro y; exact piece (codesC_tile (φ := .fp8e5m2) k5_ne (by decide) (tile x1 12 (by decide) ![0, 1536] inb_S128x7168_S128x128_0_1536 rfl rfl bitsLt_bf16_f32) _ _ broadcasts_S1x128_S128x128 _) (by decide) (by decide) ![0, 1536] inb_S128x7168_S128x128_0_1536 rfl rfl y
  · intro y; exact piece (codesC_tile (φ := .fp8e5m2) k5_ne (by decide) (tile x1 11 (by decide) ![0, 1408] inb_S128x7168_S128x128_0_1408 rfl rfl bitsLt_bf16_f32) _ _ broadcasts_S1x128_S128x128 _) (by decide) (by decide) ![0, 1408] inb_S128x7168_S128x128_0_1408 rfl rfl y
  · intro y; exact piece (codesC_tile (φ := .fp8e5m2) k5_ne (by decide) (tile x1 10 (by decide) ![0, 1280] inb_S128x7168_S128x128_0_1280 rfl rfl bitsLt_bf16_f32) _ _ broadcasts_S1x128_S128x128 _) (by decide) (by decide) ![0, 1280] inb_S128x7168_S128x128_0_1280 rfl rfl y
  · intro y; exact piece (codesC_tile (φ := .fp8e5m2) k5_ne (by decide) (tile x1 9 (by decide) ![0, 1152] inb_S128x7168_S128x128_0_1152 rfl rfl bitsLt_bf16_f32) _ _ broadcasts_S1x128_S128x128 _) (by decide) (by decide) ![0, 1152] inb_S128x7168_S128x128_0_1152 rfl rfl y
  · intro y; exact piece (codesC_tile (φ := .fp8e5m2) k5_ne (by decide) (tile x1 8 (by decide) ![0, 1024] inb_S128x7168_S128x128_0_1024 rfl rfl bitsLt_bf16_f32) _ _ broadcasts_S1x128_S128x128 _) (by decide) (by decide) ![0, 1024] inb_S128x7168_S128x128_0_1024 rfl rfl y
  · intro y; exact piece (codesC_tile (φ := .fp8e5m2) k5_ne (by decide) (tile x1 7 (by decide) ![0, 896] inb_S128x7168_S128x128_0_896 rfl rfl bitsLt_bf16_f32) _ _ broadcasts_S1x128_S128x128 _) (by decide) (by decide) ![0, 896] inb_S128x7168_S128x128_0_896 rfl rfl y
  · intro y; exact piece (codesC_tile (φ := .fp8e5m2) k5_ne (by decide) (tile x1 6 (by decide) ![0, 768] inb_S128x7168_S128x128_0_768 rfl rfl bitsLt_bf16_f32) _ _ broadcasts_S1x128_S128x128 _) (by decide) (by decide) ![0, 768] inb_S128x7168_S128x128_0_768 rfl rfl y
  · intro y; exact piece (codesC_tile (φ := .fp8e5m2) k5_ne (by decide) (tile x1 5 (by decide) ![0, 640] inb_S128x7168_S128x128_0_640 rfl rfl bitsLt_bf16_f32) _ _ broadcasts_S1x128_S128x128 _) (by decide) (by decide) ![0, 640] inb_S128x7168_S128x128_0_640 rfl rfl y
  · intro y; exact piece (codesC_tile (φ := .fp8e5m2) k5_ne (by decide) (tile x1 4 (by decide) ![0, 512] inb_S128x7168_S128x128_0_512 rfl rfl bitsLt_bf16_f32) _ _ broadcasts_S1x128_S128x128 _) (by decide) (by decide) ![0, 512] inb_S128x7168_S128x128_0_512 rfl rfl y
  · intro y; exact piece (codesC_tile (φ := .fp8e5m2) k5_ne (by decide) (tile x1 3 (by decide) ![0, 384] inb_S128x7168_S128x128_0_384 rfl rfl bitsLt_bf16_f32) _ _ broadcasts_S1x128_S128x128 _) (by decide) (by decide) ![0, 384] inb_S128x7168_S128x128_0_384 rfl rfl y
  · intro y; exact piece (codesC_tile (φ := .fp8e5m2) k5_ne (by decide) (tile x1 2 (by decide) ![0, 256] inb_S128x7168_S128x128_0_256 rfl rfl bitsLt_bf16_f32) _ _ broadcasts_S1x128_S128x128 _) (by decide) (by decide) ![0, 256] inb_S128x7168_S128x128_0_256 rfl rfl y
  · intro y; exact piece (codesC_tile (φ := .fp8e5m2) k5_ne (by decide) (tile x1 1 (by decide) ![0, 128] inb_S128x7168_S128x128_0_128 rfl rfl bitsLt_bf16_f32) _ _ broadcasts_S1x128_S128x128 _) (by decide) (by decide) ![0, 128] inb_S128x7168_S128x128_0_128 rfl rfl y
  · intro y; exact piece (codesC_tile (φ := .fp8e5m2) k5_ne (by decide) (tile x1 0 (by decide) ![0, 0] inb_S128x7168_S128x128_0_0 rfl rfl bitsLt_bf16_f32) _ _ broadcasts_S1x128_S128x128 _) (by decide) (by decide) ![0, 0] inb_S128x7168_S128x128_0_0 rfl rfl y

/-- Output 10: the column scales. -/
theorem o10 (x0 x1 : Vec Ideal S128x7168 .bf16) (y : S1x1x7168.Idx) : out0_10 x0 x1 y = (fun z => colS e5 (ent x1) 0 (z 2) : S1x1x7168.Idx → EReal) y := by
  unfold out0_10
  refine View.canon_append_of_piecesOf (Val := Elt Ideal) (fun z => colS e5 (ent x1) 0 (z 2)) [] [_, _, _, _, _, _, _, _, _, _, _, _, _, _, _, _, _, _, _, _, _, _, _, _, _, _, _, _, _, _, _, _, _, _, _, _, _, _, _, _, _, _, _, _, _, _, _, _, _, _, _, _, _, _, _, _] ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩ y (cover0_10 _ _ _ _ _ _ _ _ _ _ _ _ _ _ _ _ _ _ _ _ _ _ _ _ _ _ _ _ _ _ _ _ _ _ _ _ _ _ _ _ _ _ _ _ _ _ _ _ _ _ _ _ _ _ _ _ y)
  · intro y; exact pieceT (G := colS e5 (ent x1)) (g := 55) (by decide) (scalesC_tile k5_ne (tile x1 55 (by decide) ![0, 7040] inb_S128x7168_S128x128_0_7040 rfl rfl bitsLt_bf16_f32) _ _ _) ![0, 0, 7040] inb_S1x1x7168_S1x1x128_0_0_7040 rfl y
  · intro y; exact pieceT (G := colS e5 (ent x1)) (g := 54) (by decide) (scalesC_tile k5_ne (tile x1 54 (by decide) ![0, 6912] inb_S128x7168_S128x128_0_6912 rfl rfl bitsLt_bf16_f32) _ _ _) ![0, 0, 6912] inb_S1x1x7168_S1x1x128_0_0_6912 rfl y
  · intro y; exact pieceT (G := colS e5 (ent x1)) (g := 53) (by decide) (scalesC_tile k5_ne (tile x1 53 (by decide) ![0, 6784] inb_S128x7168_S128x128_0_6784 rfl rfl bitsLt_bf16_f32) _ _ _) ![0, 0, 6784] inb_S1x1x7168_S1x1x128_0_0_6784 rfl y
  · intro y; exact pieceT (G := colS e5 (ent x1)) (g := 52) (by decide) (scalesC_tile k5_ne (tile x1 52 (by decide) ![0, 6656] inb_S128x7168_S128x128_0_6656 rfl rfl bitsLt_bf16_f32) _ _ _) ![0, 0, 6656] inb_S1x1x7168_S1x1x128_0_0_6656 rfl y
  · intro y; exact pieceT (G := colS e5 (ent x1)) (g := 51) (by decide) (scalesC_tile k5_ne (tile x1 51 (by decide) ![0, 6528] inb_S128x7168_S128x128_0_6528 rfl rfl bitsLt_bf16_f32) _ _ _) ![0, 0, 6528] inb_S1x1x7168_S1x1x128_0_0_6528 rfl y
  · intro y; exact pieceT (G := colS e5 (ent x1)) (g := 50) (by decide) (scalesC_tile k5_ne (tile x1 50 (by decide) ![0, 6400] inb_S128x7168_S128x128_0_6400 rfl rfl bitsLt_bf16_f32) _ _ _) ![0, 0, 6400] inb_S1x1x7168_S1x1x128_0_0_6400 rfl y
  · intro y; exact pieceT (G := colS e5 (ent x1)) (g := 49) (by decide) (scalesC_tile k5_ne (tile x1 49 (by decide) ![0, 6272] inb_S128x7168_S128x128_0_6272 rfl rfl bitsLt_bf16_f32) _ _ _) ![0, 0, 6272] inb_S1x1x7168_S1x1x128_0_0_6272 rfl y
  · intro y; exact pieceT (G := colS e5 (ent x1)) (g := 48) (by decide) (scalesC_tile k5_ne (tile x1 48 (by decide) ![0, 6144] inb_S128x7168_S128x128_0_6144 rfl rfl bitsLt_bf16_f32) _ _ _) ![0, 0, 6144] inb_S1x1x7168_S1x1x128_0_0_6144 rfl y
  · intro y; exact pieceT (G := colS e5 (ent x1)) (g := 47) (by decide) (scalesC_tile k5_ne (tile x1 47 (by decide) ![0, 6016] inb_S128x7168_S128x128_0_6016 rfl rfl bitsLt_bf16_f32) _ _ _) ![0, 0, 6016] inb_S1x1x7168_S1x1x128_0_0_6016 rfl y
  · intro y; exact pieceT (G := colS e5 (ent x1)) (g := 46) (by decide) (scalesC_tile k5_ne (tile x1 46 (by decide) ![0, 5888] inb_S128x7168_S128x128_0_5888 rfl rfl bitsLt_bf16_f32) _ _ _) ![0, 0, 5888] inb_S1x1x7168_S1x1x128_0_0_5888 rfl y
  · intro y; exact pieceT (G := colS e5 (ent x1)) (g := 45) (by decide) (scalesC_tile k5_ne (tile x1 45 (by decide) ![0, 5760] inb_S128x7168_S128x128_0_5760 rfl rfl bitsLt_bf16_f32) _ _ _) ![0, 0, 5760] inb_S1x1x7168_S1x1x128_0_0_5760 rfl y
  · intro y; exact pieceT (G := colS e5 (ent x1)) (g := 44) (by decide) (scalesC_tile k5_ne (tile x1 44 (by decide) ![0, 5632] inb_S128x7168_S128x128_0_5632 rfl rfl bitsLt_bf16_f32) _ _ _) ![0, 0, 5632] inb_S1x1x7168_S1x1x128_0_0_5632 rfl y
  · intro y; exact pieceT (G := colS e5 (ent x1)) (g := 43) (by decide) (scalesC_tile k5_ne (tile x1 43 (by decide) ![0, 5504] inb_S128x7168_S128x128_0_5504 rfl rfl bitsLt_bf16_f32) _ _ _) ![0, 0, 5504] inb_S1x1x7168_S1x1x128_0_0_5504 rfl y
  · intro y; exact pieceT (G := colS e5 (ent x1)) (g := 42) (by decide) (scalesC_tile k5_ne (tile x1 42 (by decide) ![0, 5376] inb_S128x7168_S128x128_0_5376 rfl rfl bitsLt_bf16_f32) _ _ _) ![0, 0, 5376] inb_S1x1x7168_S1x1x128_0_0_5376 rfl y
  · intro y; exact pieceT (G := colS e5 (ent x1)) (g := 41) (by decide) (scalesC_tile k5_ne (tile x1 41 (by decide) ![0, 5248] inb_S128x7168_S128x128_0_5248 rfl rfl bitsLt_bf16_f32) _ _ _) ![0, 0, 5248] inb_S1x1x7168_S1x1x128_0_0_5248 rfl y
  · intro y; exact pieceT (G := colS e5 (ent x1)) (g := 40) (by decide) (scalesC_tile k5_ne (tile x1 40 (by decide) ![0, 5120] inb_S128x7168_S128x128_0_5120 rfl rfl bitsLt_bf16_f32) _ _ _) ![0, 0, 5120] inb_S1x1x7168_S1x1x128_0_0_5120 rfl y
  · intro y; exact pieceT (G := colS e5 (ent x1)) (g := 39) (by decide) (scalesC_tile k5_ne (tile x1 39 (by decide) ![0, 4992] inb_S128x7168_S128x128_0_4992 rfl rfl bitsLt_bf16_f32) _ _ _) ![0, 0, 4992] inb_S1x1x7168_S1x1x128_0_0_4992 rfl y
  · intro y; exact pieceT (G := colS e5 (ent x1)) (g := 38) (by decide) (scalesC_tile k5_ne (tile x1 38 (by decide) ![0, 4864] inb_S128x7168_S128x128_0_4864 rfl rfl bitsLt_bf16_f32) _ _ _) ![0, 0, 4864] inb_S1x1x7168_S1x1x128_0_0_4864 rfl y
  · intro y; exact pieceT (G := colS e5 (ent x1)) (g := 37) (by decide) (scalesC_tile k5_ne (tile x1 37 (by decide) ![0, 4736] inb_S128x7168_S128x128_0_4736 rfl rfl bitsLt_bf16_f32) _ _ _) ![0, 0, 4736] inb_S1x1x7168_S1x1x128_0_0_4736 rfl y
  · intro y; exact pieceT (G := colS e5 (ent x1)) (g := 36) (by decide) (scalesC_tile k5_ne (tile x1 36 (by decide) ![0, 4608] inb_S128x7168_S128x128_0_4608 rfl rfl bitsLt_bf16_f32) _ _ _) ![0, 0, 4608] inb_S1x1x7168_S1x1x128_0_0_4608 rfl y
  · intro y; exact pieceT (G := colS e5 (ent x1)) (g := 35) (by decide) (scalesC_tile k5_ne (tile x1 35 (by decide) ![0, 4480] inb_S128x7168_S128x128_0_4480 rfl rfl bitsLt_bf16_f32) _ _ _) ![0, 0, 4480] inb_S1x1x7168_S1x1x128_0_0_4480 rfl y
  · intro y; exact pieceT (G := colS e5 (ent x1)) (g := 34) (by decide) (scalesC_tile k5_ne (tile x1 34 (by decide) ![0, 4352] inb_S128x7168_S128x128_0_4352 rfl rfl bitsLt_bf16_f32) _ _ _) ![0, 0, 4352] inb_S1x1x7168_S1x1x128_0_0_4352 rfl y
  · intro y; exact pieceT (G := colS e5 (ent x1)) (g := 33) (by decide) (scalesC_tile k5_ne (tile x1 33 (by decide) ![0, 4224] inb_S128x7168_S128x128_0_4224 rfl rfl bitsLt_bf16_f32) _ _ _) ![0, 0, 4224] inb_S1x1x7168_S1x1x128_0_0_4224 rfl y
  · intro y; exact pieceT (G := colS e5 (ent x1)) (g := 32) (by decide) (scalesC_tile k5_ne (tile x1 32 (by decide) ![0, 4096] inb_S128x7168_S128x128_0_4096 rfl rfl bitsLt_bf16_f32) _ _ _) ![0, 0, 4096] inb_S1x1x7168_S1x1x128_0_0_4096 rfl y
  · intro y; exact pieceT (G := colS e5 (ent x1)) (g := 31) (by decide) (scalesC_tile k5_ne (tile x1 31 (by decide) ![0, 3968] inb_S128x7168_S128x128_0_3968 rfl rfl bitsLt_bf16_f32) _ _ _) ![0, 0, 3968] inb_S1x1x7168_S1x1x128_0_0_3968 rfl y
  · intro y; exact pieceT (G := colS e5 (ent x1)) (g := 30) (by decide) (scalesC_tile k5_ne (tile x1 30 (by decide) ![0, 3840] inb_S128x7168_S128x128_0_3840 rfl rfl bitsLt_bf16_f32) _ _ _) ![0, 0, 3840] inb_S1x1x7168_S1x1x128_0_0_3840 rfl y
  · intro y; exact pieceT (G := colS e5 (ent x1)) (g := 29) (by decide) (scalesC_tile k5_ne (tile x1 29 (by decide) ![0, 3712] inb_S128x7168_S128x128_0_3712 rfl rfl bitsLt_bf16_f32) _ _ _) ![0, 0, 3712] inb_S1x1x7168_S1x1x128_0_0_3712 rfl y
  · intro y; exact pieceT (G := colS e5 (ent x1)) (g := 28) (by decide) (scalesC_tile k5_ne (tile x1 28 (by decide) ![0, 3584] inb_S128x7168_S128x128_0_3584 rfl rfl bitsLt_bf16_f32) _ _ _) ![0, 0, 3584] inb_S1x1x7168_S1x1x128_0_0_3584 rfl y
  · intro y; exact pieceT (G := colS e5 (ent x1)) (g := 27) (by decide) (scalesC_tile k5_ne (tile x1 27 (by decide) ![0, 3456] inb_S128x7168_S128x128_0_3456 rfl rfl bitsLt_bf16_f32) _ _ _) ![0, 0, 3456] inb_S1x1x7168_S1x1x128_0_0_3456 rfl y
  · intro y; exact pieceT (G := colS e5 (ent x1)) (g := 26) (by decide) (scalesC_tile k5_ne (tile x1 26 (by decide) ![0, 3328] inb_S128x7168_S128x128_0_3328 rfl rfl bitsLt_bf16_f32) _ _ _) ![0, 0, 3328] inb_S1x1x7168_S1x1x128_0_0_3328 rfl y
  · intro y; exact pieceT (G := colS e5 (ent x1)) (g := 25) (by decide) (scalesC_tile k5_ne (tile x1 25 (by decide) ![0, 3200] inb_S128x7168_S128x128_0_3200 rfl rfl bitsLt_bf16_f32) _ _ _) ![0, 0, 3200] inb_S1x1x7168_S1x1x128_0_0_3200 rfl y
  · intro y; exact pieceT (G := colS e5 (ent x1)) (g := 24) (by decide) (scalesC_tile k5_ne (tile x1 24 (by decide) ![0, 3072] inb_S128x7168_S128x128_0_3072 rfl rfl bitsLt_bf16_f32) _ _ _) ![0, 0, 3072] inb_S1x1x7168_S1x1x128_0_0_3072 rfl y
  · intro y; exact pieceT (G := colS e5 (ent x1)) (g := 23) (by decide) (scalesC_tile k5_ne (tile x1 23 (by decide) ![0, 2944] inb_S128x7168_S128x128_0_2944 rfl rfl bitsLt_bf16_f32) _ _ _) ![0, 0, 2944] inb_S1x1x7168_S1x1x128_0_0_2944 rfl y
  · intro y; exact pieceT (G := colS e5 (ent x1)) (g := 22) (by decide) (scalesC_tile k5_ne (tile x1 22 (by decide) ![0, 2816] inb_S128x7168_S128x128_0_2816 rfl rfl bitsLt_bf16_f32) _ _ _) ![0, 0, 2816] inb_S1x1x7168_S1x1x128_0_0_2816 rfl y
  · intro y; exact pieceT (G := colS e5 (ent x1)) (g := 21) (by decide) (scalesC_tile k5_ne (tile x1 21 (by decide) ![0, 2688] inb_S128x7168_S128x128_0_2688 rfl rfl bitsLt_bf16_f32) _ _ _) ![0, 0, 2688] inb_S1x1x7168_S1x1x128_0_0_2688 rfl y
  · intro y; exact pieceT (G := colS e5 (ent x1)) (g := 20) (by decide) (scalesC_tile k5_ne (tile x1 20 (by decide) ![0, 2560] inb_S128x7168_S128x128_0_2560 rfl rfl bitsLt_bf16_f32) _ _ _) ![0, 0, 2560] inb_S1x1x7168_S1x1x128_0_0_2560 rfl y
  · intro y; exact pieceT (G := colS e5 (ent x1)) (g := 19) (by decide) (scalesC_tile k5_ne (tile x1 19 (by decide) ![0, 2432] inb_S128x7168_S128x128_0_2432 rfl rfl bitsLt_bf16_f32) _ _ _) ![0, 0, 2432] inb_S1x1x7168_S1x1x128_0_0_2432 rfl y
  · intro y; exact pieceT (G := colS e5 (ent x1)) (g := 18) (by decide) (scalesC_tile k5_ne (tile x1 18 (by decide) ![0, 2304] inb_S128x7168_S128x128_0_2304 rfl rfl bitsLt_bf16_f32) _ _ _) ![0, 0, 2304] inb_S1x1x7168_S1x1x128_0_0_2304 rfl y
  · intro y; exact pieceT (G := colS e5 (ent x1)) (g := 17) (by decide) (scalesC_tile k5_ne (tile x1 17 (by decide) ![0, 2176] inb_S128x7168_S128x128_0_2176 rfl rfl bitsLt_bf16_f32) _ _ _) ![0, 0, 2176] inb_S1x1x7168_S1x1x128_0_0_2176 rfl y
  · intro y; exact pieceT (G := colS e5 (ent x1)) (g := 16) (by decide) (scalesC_tile k5_ne (tile x1 16 (by decide) ![0, 2048] inb_S128x7168_S128x128_0_2048 rfl rfl bitsLt_bf16_f32) _ _ _) ![0, 0, 2048] inb_S1x1x7168_S1x1x128_0_0_2048 rfl y
  · intro y; exact pieceT (G := colS e5 (ent x1)) (g := 15) (by decide) (scalesC_tile k5_ne (tile x1 15 (by decide) ![0, 1920] inb_S128x7168_S128x128_0_1920 rfl rfl bitsLt_bf16_f32) _ _ _) ![0, 0, 1920] inb_S1x1x7168_S1x1x128_0_0_1920 rfl y
  · intro y; exact pieceT (G := colS e5 (ent x1)) (g := 14) (by decide) (scalesC_tile k5_ne (tile x1 14 (by decide) ![0, 1792] inb_S128x7168_S128x128_0_1792 rfl rfl bitsLt_bf16_f32) _ _ _) ![0, 0, 1792] inb_S1x1x7168_S1x1x128_0_0_1792 rfl y
  · intro y; exact pieceT (G := colS e5 (ent x1)) (g := 13) (by decide) (scalesC_tile k5_ne (tile x1 13 (by decide) ![0, 1664] inb_S128x7168_S128x128_0_1664 rfl rfl bitsLt_bf16_f32) _ _ _) ![0, 0, 1664] inb_S1x1x7168_S1x1x128_0_0_1664 rfl y
  · intro y; exact pieceT (G := colS e5 (ent x1)) (g := 12) (by decide) (scalesC_tile k5_ne (tile x1 12 (by decide) ![0, 1536] inb_S128x7168_S128x128_0_1536 rfl rfl bitsLt_bf16_f32) _ _ _) ![0, 0, 1536] inb_S1x1x7168_S1x1x128_0_0_1536 rfl y
  · intro y; exact pieceT (G := colS e5 (ent x1)) (g := 11) (by decide) (scalesC_tile k5_ne (tile x1 11 (by decide) ![0, 1408] inb_S128x7168_S128x128_0_1408 rfl rfl bitsLt_bf16_f32) _ _ _) ![0, 0, 1408] inb_S1x1x7168_S1x1x128_0_0_1408 rfl y
  · intro y; exact pieceT (G := colS e5 (ent x1)) (g := 10) (by decide) (scalesC_tile k5_ne (tile x1 10 (by decide) ![0, 1280] inb_S128x7168_S128x128_0_1280 rfl rfl bitsLt_bf16_f32) _ _ _) ![0, 0, 1280] inb_S1x1x7168_S1x1x128_0_0_1280 rfl y
  · intro y; exact pieceT (G := colS e5 (ent x1)) (g := 9) (by decide) (scalesC_tile k5_ne (tile x1 9 (by decide) ![0, 1152] inb_S128x7168_S128x128_0_1152 rfl rfl bitsLt_bf16_f32) _ _ _) ![0, 0, 1152] inb_S1x1x7168_S1x1x128_0_0_1152 rfl y
  · intro y; exact pieceT (G := colS e5 (ent x1)) (g := 8) (by decide) (scalesC_tile k5_ne (tile x1 8 (by decide) ![0, 1024] inb_S128x7168_S128x128_0_1024 rfl rfl bitsLt_bf16_f32) _ _ _) ![0, 0, 1024] inb_S1x1x7168_S1x1x128_0_0_1024 rfl y
  · intro y; exact pieceT (G := colS e5 (ent x1)) (g := 7) (by decide) (scalesC_tile k5_ne (tile x1 7 (by decide) ![0, 896] inb_S128x7168_S128x128_0_896 rfl rfl bitsLt_bf16_f32) _ _ _) ![0, 0, 896] inb_S1x1x7168_S1x1x128_0_0_896 rfl y
  · intro y; exact pieceT (G := colS e5 (ent x1)) (g := 6) (by decide) (scalesC_tile k5_ne (tile x1 6 (by decide) ![0, 768] inb_S128x7168_S128x128_0_768 rfl rfl bitsLt_bf16_f32) _ _ _) ![0, 0, 768] inb_S1x1x7168_S1x1x128_0_0_768 rfl y
  · intro y; exact pieceT (G := colS e5 (ent x1)) (g := 5) (by decide) (scalesC_tile k5_ne (tile x1 5 (by decide) ![0, 640] inb_S128x7168_S128x128_0_640 rfl rfl bitsLt_bf16_f32) _ _ _) ![0, 0, 640] inb_S1x1x7168_S1x1x128_0_0_640 rfl y
  · intro y; exact pieceT (G := colS e5 (ent x1)) (g := 4) (by decide) (scalesC_tile k5_ne (tile x1 4 (by decide) ![0, 512] inb_S128x7168_S128x128_0_512 rfl rfl bitsLt_bf16_f32) _ _ _) ![0, 0, 512] inb_S1x1x7168_S1x1x128_0_0_512 rfl y
  · intro y; exact pieceT (G := colS e5 (ent x1)) (g := 3) (by decide) (scalesC_tile k5_ne (tile x1 3 (by decide) ![0, 384] inb_S128x7168_S128x128_0_384 rfl rfl bitsLt_bf16_f32) _ _ _) ![0, 0, 384] inb_S1x1x7168_S1x1x128_0_0_384 rfl y
  · intro y; exact pieceT (G := colS e5 (ent x1)) (g := 2) (by decide) (scalesC_tile k5_ne (tile x1 2 (by decide) ![0, 256] inb_S128x7168_S128x128_0_256 rfl rfl bitsLt_bf16_f32) _ _ _) ![0, 0, 256] inb_S1x1x7168_S1x1x128_0_0_256 rfl y
  · intro y; exact pieceT (G := colS e5 (ent x1)) (g := 1) (by decide) (scalesC_tile k5_ne (tile x1 1 (by decide) ![0, 128] inb_S128x7168_S128x128_0_128 rfl rfl bitsLt_bf16_f32) _ _ _) ![0, 0, 128] inb_S1x1x7168_S1x1x128_0_0_128 rfl y
  · intro y; exact pieceT (G := colS e5 (ent x1)) (g := 0) (by decide) (scalesC_tile k5_ne (tile x1 0 (by decide) ![0, 0] inb_S128x7168_S128x128_0_0 rfl rfl bitsLt_bf16_f32) _ _ _) ![0, 0, 0] inb_S1x1x7168_S1x1x128_0_0_0 rfl y

/-- Output 11: the widened row codes. -/
theorem o11 (x0 x1 : Vec Ideal S128x7168 .bf16) (y : S128x7168.Idx) : out0_11 x0 x1 y = (fun z => rowW e5 (ent x1) (z 0) (z 1) : S128x7168.Idx → EReal) y := by
  unfold out0_11
  refine View.canon_append_of_piecesOf (Val := Elt Ideal) (fun z => rowW e5 (ent x1) (z 0) (z 1)) [] [_, _, _, _, _, _, _, _, _, _, _, _, _, _, _, _, _, _, _, _, _, _, _, _, _, _, _, _, _, _, _, _, _, _, _, _, _, _, _, _, _, _, _, _, _, _, _, _, _, _, _, _, _, _, _, _] ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩ y (cover0_11 _ _ _ _ _ _ _ _ _ _ _ _ _ _ _ _ _ _ _ _ _ _ _ _ _ _ _ _ _ _ _ _ _ _ _ _ _ _ _ _ _ _ _ _ _ _ _ _ _ _ _ _ _ _ _ _ y)
  · intro y; exact piece (widened_tile (φ := .fp8e5m2) k5_ne (by decide) (tile x1 55 (by decide) ![0, 7040] inb_S128x7168_S128x128_0_7040 rfl rfl bitsLt_bf16_f32) _ _ broadcasts_S128x1_S128x128 _ _) (by decide) (by decide) ![0, 7040] inb_S128x7168_S128x128_0_7040 rfl rfl y
  · intro y; exact piece (widened_tile (φ := .fp8e5m2) k5_ne (by decide) (tile x1 54 (by decide) ![0, 6912] inb_S128x7168_S128x128_0_6912 rfl rfl bitsLt_bf16_f32) _ _ broadcasts_S128x1_S128x128 _ _) (by decide) (by decide) ![0, 6912] inb_S128x7168_S128x128_0_6912 rfl rfl y
  · intro y; exact piece (widened_tile (φ := .fp8e5m2) k5_ne (by decide) (tile x1 53 (by decide) ![0, 6784] inb_S128x7168_S128x128_0_6784 rfl rfl bitsLt_bf16_f32) _ _ broadcasts_S128x1_S128x128 _ _) (by decide) (by decide) ![0, 6784] inb_S128x7168_S128x128_0_6784 rfl rfl y
  · intro y; exact piece (widened_tile (φ := .fp8e5m2) k5_ne (by decide) (tile x1 52 (by decide) ![0, 6656] inb_S128x7168_S128x128_0_6656 rfl rfl bitsLt_bf16_f32) _ _ broadcasts_S128x1_S128x128 _ _) (by decide) (by decide) ![0, 6656] inb_S128x7168_S128x128_0_6656 rfl rfl y
  · intro y; exact piece (widened_tile (φ := .fp8e5m2) k5_ne (by decide) (tile x1 51 (by decide) ![0, 6528] inb_S128x7168_S128x128_0_6528 rfl rfl bitsLt_bf16_f32) _ _ broadcasts_S128x1_S128x128 _ _) (by decide) (by decide) ![0, 6528] inb_S128x7168_S128x128_0_6528 rfl rfl y
  · intro y; exact piece (widened_tile (φ := .fp8e5m2) k5_ne (by decide) (tile x1 50 (by decide) ![0, 6400] inb_S128x7168_S128x128_0_6400 rfl rfl bitsLt_bf16_f32) _ _ broadcasts_S128x1_S128x128 _ _) (by decide) (by decide) ![0, 6400] inb_S128x7168_S128x128_0_6400 rfl rfl y
  · intro y; exact piece (widened_tile (φ := .fp8e5m2) k5_ne (by decide) (tile x1 49 (by decide) ![0, 6272] inb_S128x7168_S128x128_0_6272 rfl rfl bitsLt_bf16_f32) _ _ broadcasts_S128x1_S128x128 _ _) (by decide) (by decide) ![0, 6272] inb_S128x7168_S128x128_0_6272 rfl rfl y
  · intro y; exact piece (widened_tile (φ := .fp8e5m2) k5_ne (by decide) (tile x1 48 (by decide) ![0, 6144] inb_S128x7168_S128x128_0_6144 rfl rfl bitsLt_bf16_f32) _ _ broadcasts_S128x1_S128x128 _ _) (by decide) (by decide) ![0, 6144] inb_S128x7168_S128x128_0_6144 rfl rfl y
  · intro y; exact piece (widened_tile (φ := .fp8e5m2) k5_ne (by decide) (tile x1 47 (by decide) ![0, 6016] inb_S128x7168_S128x128_0_6016 rfl rfl bitsLt_bf16_f32) _ _ broadcasts_S128x1_S128x128 _ _) (by decide) (by decide) ![0, 6016] inb_S128x7168_S128x128_0_6016 rfl rfl y
  · intro y; exact piece (widened_tile (φ := .fp8e5m2) k5_ne (by decide) (tile x1 46 (by decide) ![0, 5888] inb_S128x7168_S128x128_0_5888 rfl rfl bitsLt_bf16_f32) _ _ broadcasts_S128x1_S128x128 _ _) (by decide) (by decide) ![0, 5888] inb_S128x7168_S128x128_0_5888 rfl rfl y
  · intro y; exact piece (widened_tile (φ := .fp8e5m2) k5_ne (by decide) (tile x1 45 (by decide) ![0, 5760] inb_S128x7168_S128x128_0_5760 rfl rfl bitsLt_bf16_f32) _ _ broadcasts_S128x1_S128x128 _ _) (by decide) (by decide) ![0, 5760] inb_S128x7168_S128x128_0_5760 rfl rfl y
  · intro y; exact piece (widened_tile (φ := .fp8e5m2) k5_ne (by decide) (tile x1 44 (by decide) ![0, 5632] inb_S128x7168_S128x128_0_5632 rfl rfl bitsLt_bf16_f32) _ _ broadcasts_S128x1_S128x128 _ _) (by decide) (by decide) ![0, 5632] inb_S128x7168_S128x128_0_5632 rfl rfl y
  · intro y; exact piece (widened_tile (φ := .fp8e5m2) k5_ne (by decide) (tile x1 43 (by decide) ![0, 5504] inb_S128x7168_S128x128_0_5504 rfl rfl bitsLt_bf16_f32) _ _ broadcasts_S128x1_S128x128 _ _) (by decide) (by decide) ![0, 5504] inb_S128x7168_S128x128_0_5504 rfl rfl y
  · intro y; exact piece (widened_tile (φ := .fp8e5m2) k5_ne (by decide) (tile x1 42 (by decide) ![0, 5376] inb_S128x7168_S128x128_0_5376 rfl rfl bitsLt_bf16_f32) _ _ broadcasts_S128x1_S128x128 _ _) (by decide) (by decide) ![0, 5376] inb_S128x7168_S128x128_0_5376 rfl rfl y
  · intro y; exact piece (widened_tile (φ := .fp8e5m2) k5_ne (by decide) (tile x1 41 (by decide) ![0, 5248] inb_S128x7168_S128x128_0_5248 rfl rfl bitsLt_bf16_f32) _ _ broadcasts_S128x1_S128x128 _ _) (by decide) (by decide) ![0, 5248] inb_S128x7168_S128x128_0_5248 rfl rfl y
  · intro y; exact piece (widened_tile (φ := .fp8e5m2) k5_ne (by decide) (tile x1 40 (by decide) ![0, 5120] inb_S128x7168_S128x128_0_5120 rfl rfl bitsLt_bf16_f32) _ _ broadcasts_S128x1_S128x128 _ _) (by decide) (by decide) ![0, 5120] inb_S128x7168_S128x128_0_5120 rfl rfl y
  · intro y; exact piece (widened_tile (φ := .fp8e5m2) k5_ne (by decide) (tile x1 39 (by decide) ![0, 4992] inb_S128x7168_S128x128_0_4992 rfl rfl bitsLt_bf16_f32) _ _ broadcasts_S128x1_S128x128 _ _) (by decide) (by decide) ![0, 4992] inb_S128x7168_S128x128_0_4992 rfl rfl y
  · intro y; exact piece (widened_tile (φ := .fp8e5m2) k5_ne (by decide) (tile x1 38 (by decide) ![0, 4864] inb_S128x7168_S128x128_0_4864 rfl rfl bitsLt_bf16_f32) _ _ broadcasts_S128x1_S128x128 _ _) (by decide) (by decide) ![0, 4864] inb_S128x7168_S128x128_0_4864 rfl rfl y
  · intro y; exact piece (widened_tile (φ := .fp8e5m2) k5_ne (by decide) (tile x1 37 (by decide) ![0, 4736] inb_S128x7168_S128x128_0_4736 rfl rfl bitsLt_bf16_f32) _ _ broadcasts_S128x1_S128x128 _ _) (by decide) (by decide) ![0, 4736] inb_S128x7168_S128x128_0_4736 rfl rfl y
  · intro y; exact piece (widened_tile (φ := .fp8e5m2) k5_ne (by decide) (tile x1 36 (by decide) ![0, 4608] inb_S128x7168_S128x128_0_4608 rfl rfl bitsLt_bf16_f32) _ _ broadcasts_S128x1_S128x128 _ _) (by decide) (by decide) ![0, 4608] inb_S128x7168_S128x128_0_4608 rfl rfl y
  · intro y; exact piece (widened_tile (φ := .fp8e5m2) k5_ne (by decide) (tile x1 35 (by decide) ![0, 4480] inb_S128x7168_S128x128_0_4480 rfl rfl bitsLt_bf16_f32) _ _ broadcasts_S128x1_S128x128 _ _) (by decide) (by decide) ![0, 4480] inb_S128x7168_S128x128_0_4480 rfl rfl y
  · intro y; exact piece (widened_tile (φ := .fp8e5m2) k5_ne (by decide) (tile x1 34 (by decide) ![0, 4352] inb_S128x7168_S128x128_0_4352 rfl rfl bitsLt_bf16_f32) _ _ broadcasts_S128x1_S128x128 _ _) (by decide) (by decide) ![0, 4352] inb_S128x7168_S128x128_0_4352 rfl rfl y
  · intro y; exact piece (widened_tile (φ := .fp8e5m2) k5_ne (by decide) (tile x1 33 (by decide) ![0, 4224] inb_S128x7168_S128x128_0_4224 rfl rfl bitsLt_bf16_f32) _ _ broadcasts_S128x1_S128x128 _ _) (by decide) (by decide) ![0, 4224] inb_S128x7168_S128x128_0_4224 rfl rfl y
  · intro y; exact piece (widened_tile (φ := .fp8e5m2) k5_ne (by decide) (tile x1 32 (by decide) ![0, 4096] inb_S128x7168_S128x128_0_4096 rfl rfl bitsLt_bf16_f32) _ _ broadcasts_S128x1_S128x128 _ _) (by decide) (by decide) ![0, 4096] inb_S128x7168_S128x128_0_4096 rfl rfl y
  · intro y; exact piece (widened_tile (φ := .fp8e5m2) k5_ne (by decide) (tile x1 31 (by decide) ![0, 3968] inb_S128x7168_S128x128_0_3968 rfl rfl bitsLt_bf16_f32) _ _ broadcasts_S128x1_S128x128 _ _) (by decide) (by decide) ![0, 3968] inb_S128x7168_S128x128_0_3968 rfl rfl y
  · intro y; exact piece (widened_tile (φ := .fp8e5m2) k5_ne (by decide) (tile x1 30 (by decide) ![0, 3840] inb_S128x7168_S128x128_0_3840 rfl rfl bitsLt_bf16_f32) _ _ broadcasts_S128x1_S128x128 _ _) (by decide) (by decide) ![0, 3840] inb_S128x7168_S128x128_0_3840 rfl rfl y
  · intro y; exact piece (widened_tile (φ := .fp8e5m2) k5_ne (by decide) (tile x1 29 (by decide) ![0, 3712] inb_S128x7168_S128x128_0_3712 rfl rfl bitsLt_bf16_f32) _ _ broadcasts_S128x1_S128x128 _ _) (by decide) (by decide) ![0, 3712] inb_S128x7168_S128x128_0_3712 rfl rfl y
  · intro y; exact piece (widened_tile (φ := .fp8e5m2) k5_ne (by decide) (tile x1 28 (by decide) ![0, 3584] inb_S128x7168_S128x128_0_3584 rfl rfl bitsLt_bf16_f32) _ _ broadcasts_S128x1_S128x128 _ _) (by decide) (by decide) ![0, 3584] inb_S128x7168_S128x128_0_3584 rfl rfl y
  · intro y; exact piece (widened_tile (φ := .fp8e5m2) k5_ne (by decide) (tile x1 27 (by decide) ![0, 3456] inb_S128x7168_S128x128_0_3456 rfl rfl bitsLt_bf16_f32) _ _ broadcasts_S128x1_S128x128 _ _) (by decide) (by decide) ![0, 3456] inb_S128x7168_S128x128_0_3456 rfl rfl y
  · intro y; exact piece (widened_tile (φ := .fp8e5m2) k5_ne (by decide) (tile x1 26 (by decide) ![0, 3328] inb_S128x7168_S128x128_0_3328 rfl rfl bitsLt_bf16_f32) _ _ broadcasts_S128x1_S128x128 _ _) (by decide) (by decide) ![0, 3328] inb_S128x7168_S128x128_0_3328 rfl rfl y
  · intro y; exact piece (widened_tile (φ := .fp8e5m2) k5_ne (by decide) (tile x1 25 (by decide) ![0, 3200] inb_S128x7168_S128x128_0_3200 rfl rfl bitsLt_bf16_f32) _ _ broadcasts_S128x1_S128x128 _ _) (by decide) (by decide) ![0, 3200] inb_S128x7168_S128x128_0_3200 rfl rfl y
  · intro y; exact piece (widened_tile (φ := .fp8e5m2) k5_ne (by decide) (tile x1 24 (by decide) ![0, 3072] inb_S128x7168_S128x128_0_3072 rfl rfl bitsLt_bf16_f32) _ _ broadcasts_S128x1_S128x128 _ _) (by decide) (by decide) ![0, 3072] inb_S128x7168_S128x128_0_3072 rfl rfl y
  · intro y; exact piece (widened_tile (φ := .fp8e5m2) k5_ne (by decide) (tile x1 23 (by decide) ![0, 2944] inb_S128x7168_S128x128_0_2944 rfl rfl bitsLt_bf16_f32) _ _ broadcasts_S128x1_S128x128 _ _) (by decide) (by decide) ![0, 2944] inb_S128x7168_S128x128_0_2944 rfl rfl y
  · intro y; exact piece (widened_tile (φ := .fp8e5m2) k5_ne (by decide) (tile x1 22 (by decide) ![0, 2816] inb_S128x7168_S128x128_0_2816 rfl rfl bitsLt_bf16_f32) _ _ broadcasts_S128x1_S128x128 _ _) (by decide) (by decide) ![0, 2816] inb_S128x7168_S128x128_0_2816 rfl rfl y
  · intro y; exact piece (widened_tile (φ := .fp8e5m2) k5_ne (by decide) (tile x1 21 (by decide) ![0, 2688] inb_S128x7168_S128x128_0_2688 rfl rfl bitsLt_bf16_f32) _ _ broadcasts_S128x1_S128x128 _ _) (by decide) (by decide) ![0, 2688] inb_S128x7168_S128x128_0_2688 rfl rfl y
  · intro y; exact piece (widened_tile (φ := .fp8e5m2) k5_ne (by decide) (tile x1 20 (by decide) ![0, 2560] inb_S128x7168_S128x128_0_2560 rfl rfl bitsLt_bf16_f32) _ _ broadcasts_S128x1_S128x128 _ _) (by decide) (by decide) ![0, 2560] inb_S128x7168_S128x128_0_2560 rfl rfl y
  · intro y; exact piece (widened_tile (φ := .fp8e5m2) k5_ne (by decide) (tile x1 19 (by decide) ![0, 2432] inb_S128x7168_S128x128_0_2432 rfl rfl bitsLt_bf16_f32) _ _ broadcasts_S128x1_S128x128 _ _) (by decide) (by decide) ![0, 2432] inb_S128x7168_S128x128_0_2432 rfl rfl y
  · intro y; exact piece (widened_tile (φ := .fp8e5m2) k5_ne (by decide) (tile x1 18 (by decide) ![0, 2304] inb_S128x7168_S128x128_0_2304 rfl rfl bitsLt_bf16_f32) _ _ broadcasts_S128x1_S128x128 _ _) (by decide) (by decide) ![0, 2304] inb_S128x7168_S128x128_0_2304 rfl rfl y
  · intro y; exact piece (widened_tile (φ := .fp8e5m2) k5_ne (by decide) (tile x1 17 (by decide) ![0, 2176] inb_S128x7168_S128x128_0_2176 rfl rfl bitsLt_bf16_f32) _ _ broadcasts_S128x1_S128x128 _ _) (by decide) (by decide) ![0, 2176] inb_S128x7168_S128x128_0_2176 rfl rfl y
  · intro y; exact piece (widened_tile (φ := .fp8e5m2) k5_ne (by decide) (tile x1 16 (by decide) ![0, 2048] inb_S128x7168_S128x128_0_2048 rfl rfl bitsLt_bf16_f32) _ _ broadcasts_S128x1_S128x128 _ _) (by decide) (by decide) ![0, 2048] inb_S128x7168_S128x128_0_2048 rfl rfl y
  · intro y; exact piece (widened_tile (φ := .fp8e5m2) k5_ne (by decide) (tile x1 15 (by decide) ![0, 1920] inb_S128x7168_S128x128_0_1920 rfl rfl bitsLt_bf16_f32) _ _ broadcasts_S128x1_S128x128 _ _) (by decide) (by decide) ![0, 1920] inb_S128x7168_S128x128_0_1920 rfl rfl y
  · intro y; exact piece (widened_tile (φ := .fp8e5m2) k5_ne (by decide) (tile x1 14 (by decide) ![0, 1792] inb_S128x7168_S128x128_0_1792 rfl rfl bitsLt_bf16_f32) _ _ broadcasts_S128x1_S128x128 _ _) (by decide) (by decide) ![0, 1792] inb_S128x7168_S128x128_0_1792 rfl rfl y
  · intro y; exact piece (widened_tile (φ := .fp8e5m2) k5_ne (by decide) (tile x1 13 (by decide) ![0, 1664] inb_S128x7168_S128x128_0_1664 rfl rfl bitsLt_bf16_f32) _ _ broadcasts_S128x1_S128x128 _ _) (by decide) (by decide) ![0, 1664] inb_S128x7168_S128x128_0_1664 rfl rfl y
  · intro y; exact piece (widened_tile (φ := .fp8e5m2) k5_ne (by decide) (tile x1 12 (by decide) ![0, 1536] inb_S128x7168_S128x128_0_1536 rfl rfl bitsLt_bf16_f32) _ _ broadcasts_S128x1_S128x128 _ _) (by decide) (by decide) ![0, 1536] inb_S128x7168_S128x128_0_1536 rfl rfl y
  · intro y; exact piece (widened_tile (φ := .fp8e5m2) k5_ne (by decide) (tile x1 11 (by decide) ![0, 1408] inb_S128x7168_S128x128_0_1408 rfl rfl bitsLt_bf16_f32) _ _ broadcasts_S128x1_S128x128 _ _) (by decide) (by decide) ![0, 1408] inb_S128x7168_S128x128_0_1408 rfl rfl y
  · intro y; exact piece (widened_tile (φ := .fp8e5m2) k5_ne (by decide) (tile x1 10 (by decide) ![0, 1280] inb_S128x7168_S128x128_0_1280 rfl rfl bitsLt_bf16_f32) _ _ broadcasts_S128x1_S128x128 _ _) (by decide) (by decide) ![0, 1280] inb_S128x7168_S128x128_0_1280 rfl rfl y
  · intro y; exact piece (widened_tile (φ := .fp8e5m2) k5_ne (by decide) (tile x1 9 (by decide) ![0, 1152] inb_S128x7168_S128x128_0_1152 rfl rfl bitsLt_bf16_f32) _ _ broadcasts_S128x1_S128x128 _ _) (by decide) (by decide) ![0, 1152] inb_S128x7168_S128x128_0_1152 rfl rfl y
  · intro y; exact piece (widened_tile (φ := .fp8e5m2) k5_ne (by decide) (tile x1 8 (by decide) ![0, 1024] inb_S128x7168_S128x128_0_1024 rfl rfl bitsLt_bf16_f32) _ _ broadcasts_S128x1_S128x128 _ _) (by decide) (by decide) ![0, 1024] inb_S128x7168_S128x128_0_1024 rfl rfl y
  · intro y; exact piece (widened_tile (φ := .fp8e5m2) k5_ne (by decide) (tile x1 7 (by decide) ![0, 896] inb_S128x7168_S128x128_0_896 rfl rfl bitsLt_bf16_f32) _ _ broadcasts_S128x1_S128x128 _ _) (by decide) (by decide) ![0, 896] inb_S128x7168_S128x128_0_896 rfl rfl y
  · intro y; exact piece (widened_tile (φ := .fp8e5m2) k5_ne (by decide) (tile x1 6 (by decide) ![0, 768] inb_S128x7168_S128x128_0_768 rfl rfl bitsLt_bf16_f32) _ _ broadcasts_S128x1_S128x128 _ _) (by decide) (by decide) ![0, 768] inb_S128x7168_S128x128_0_768 rfl rfl y
  · intro y; exact piece (widened_tile (φ := .fp8e5m2) k5_ne (by decide) (tile x1 5 (by decide) ![0, 640] inb_S128x7168_S128x128_0_640 rfl rfl bitsLt_bf16_f32) _ _ broadcasts_S128x1_S128x128 _ _) (by decide) (by decide) ![0, 640] inb_S128x7168_S128x128_0_640 rfl rfl y
  · intro y; exact piece (widened_tile (φ := .fp8e5m2) k5_ne (by decide) (tile x1 4 (by decide) ![0, 512] inb_S128x7168_S128x128_0_512 rfl rfl bitsLt_bf16_f32) _ _ broadcasts_S128x1_S128x128 _ _) (by decide) (by decide) ![0, 512] inb_S128x7168_S128x128_0_512 rfl rfl y
  · intro y; exact piece (widened_tile (φ := .fp8e5m2) k5_ne (by decide) (tile x1 3 (by decide) ![0, 384] inb_S128x7168_S128x128_0_384 rfl rfl bitsLt_bf16_f32) _ _ broadcasts_S128x1_S128x128 _ _) (by decide) (by decide) ![0, 384] inb_S128x7168_S128x128_0_384 rfl rfl y
  · intro y; exact piece (widened_tile (φ := .fp8e5m2) k5_ne (by decide) (tile x1 2 (by decide) ![0, 256] inb_S128x7168_S128x128_0_256 rfl rfl bitsLt_bf16_f32) _ _ broadcasts_S128x1_S128x128 _ _) (by decide) (by decide) ![0, 256] inb_S128x7168_S128x128_0_256 rfl rfl y
  · intro y; exact piece (widened_tile (φ := .fp8e5m2) k5_ne (by decide) (tile x1 1 (by decide) ![0, 128] inb_S128x7168_S128x128_0_128 rfl rfl bitsLt_bf16_f32) _ _ broadcasts_S128x1_S128x128 _ _) (by decide) (by decide) ![0, 128] inb_S128x7168_S128x128_0_128 rfl rfl y
  · intro y; exact piece (widened_tile (φ := .fp8e5m2) k5_ne (by decide) (tile x1 0 (by decide) ![0, 0] inb_S128x7168_S128x128_0_0 rfl rfl bitsLt_bf16_f32) _ _ broadcasts_S128x1_S128x128 _ _) (by decide) (by decide) ![0, 0] inb_S128x7168_S128x128_0_0 rfl rfl y

end

end Cert.QuantIdeal.Body
-- ==== Proof.QuantKernel.lean ====
/- The quantiser call's results at the ideal values, over the whole argument arrays: each point's 128 rows are whole row
   groups and exactly one group of every column. -/
module

public import proofs.«01_k».proof.Proof.Gen.QuantIdeal.Value
public import proofs.«01_k».proof.Proof.QuantBodyB

@[expose] public section

set_option maxRecDepth 65536

namespace Cert.Quantiser

noncomputable section

section Local

variable (p : Fmt) {R R' C : Nat} [NeZero R] [NeZero R'] [NeZero C] {x : Fin R → Fin C → EReal} {x' : Fin R' → Fin C → EReal}

/-- A row's codes depend on that row alone. -/
theorem rowQ_row {r : Fin R} {r' : Fin R'} (h : ∀ j, x r j = x' r' j) (j : Fin C) : rowQ p x r j = rowQ p x' r' j := by
  unfold rowQ rowE
  simp only [h]

/-- A row's scales depend on that row alone. -/
theorem rowS_row {r : Fin R} {r' : Fin R'} (h : ∀ j, x r j = x' r' j) (g : Nat) : rowS p x r g = rowS p x' r' g := by
  unfold rowS rowE
  simp only [h]

/-- A row's widened codes depend on that row alone. -/
theorem rowW_row {r : Fin R} {r' : Fin R'} (h : ∀ j, x r j = x' r' j) (j : Fin C) : rowW p x r j = rowW p x' r' j := by
  unfold rowW
  rw [rowQ_row p h, rowS_row p h]

/-- A column group's exponent depends on that group alone. -/
theorem colE_group {g g' : Nat} (h : ∀ (k : Fin 128) j, x (Fin.ofNat R (g * 128 + k.val)) j = x' (Fin.ofNat R' (g' * 128 + k.val)) j) (j : Fin C) :
    colE p x g j = colE p x' g' j := by
  unfold colE
  simp only [h]

/-- A column group's scale depends on that group alone. -/
theorem colS_group {g g' : Nat} (h : ∀ (k : Fin 128) j, x (Fin.ofNat R (g * 128 + k.val)) j = x' (Fin.ofNat R' (g' * 128 + k.val)) j) (j : Fin C) :
    colS p x g j = colS p x' g' j := by
  unfold colS
  rw [colE_group p h]

/-- A column group's codes depend on that group alone. -/
theorem colQ_group {r : Fin R} {r' : Fin R'} (hr : ∀ j, x r j = x' r' j)
    (h : ∀ (k : Fin 128) j, x (Fin.ofNat R (r.val / 128 * 128 + k.val)) j = x' (Fin.ofNat R' (r'.val / 128 * 128 + k.val)) j) (j : Fin C) :
    colQ p x r j = colQ p x' r' j := by
  unfold colQ
  rw [colE_group p h, hr]

end Local

end

end Cert.Quantiser

namespace Cert.QuantIdeal.Kernel

open Idealize Idealize.ShloMosaic Idealize.ShloMosaic.ValueIdx
open Idealize.ShloMosaic.TcCoe
open Cert.QuantIdeal Cert.QuantIdeal.Gen Cert.QuantIdeal.Body Cert.Quantiser

noncomputable section

variable (m : (ℓ : Loc nD τ sig) → Buf (Elt Ideal) ℓ)

/-- The place of an entry along an axis that has one block. -/
theorem flat {i a n : Nat} (h : i = 0) : i * n + 1 * a = a := by
  rw [h]; omega

/-- Argument 0, the whole array. -/
abbrev arr0 (c : Dev nD) : Vec Ideal S1536x7168 .bf16 := m ((c : Thread nD τ).loc main_arg0)

/-- Argument 1, the whole array. -/
abbrev arr1 (c : Dev nD) : Vec Ideal S1536x7168 .bf16 := m ((c : Thread nD τ).loc main_arg1)

theorem idx0 : ∀ t : Fin cfg0.N, win0_0.index t 0 = t.val ∧ win0_0.index t 1 = 0 := by decide

/-- Window 0 at point `t` is the point's 128 rows of the array. -/
theorem blk0 (c : Dev nD) (t : Fin cfg0.N) (d : Fin 128) (r : Fin 1536) (hr : r.val = t.val * 128 + d.val) (j : Fin 7168) :
    ent (iblk m c 0 t : Vec Ideal S128x7168 .bf16) d j = ent (arr0 m c) r j := by
  have hi := idx0 t
  show (iblk m c 0 t : Vec Ideal S128x7168 .bf16) (ix2 d j) = arr0 m c (ix2 r j)
  unfold iblk
  rw [View.read_apply]
  show V m c main_arg0 _ = m (c.tc.loc main_arg0) _
  unfold V
  congr 1
  funext a
  apply Fin.ext
  match a with
  | ⟨0, _⟩ => show win0_0.index t 0 * 128 + 1 * d.val = r.val; rw [hi.1, hr]; omega
  | ⟨1, _⟩ => show win0_0.index t 1 * 7168 + 1 * j.val = j.val; rw [hi.2]; omega

/-- The rows of the point's block of argument 0, as rows of its column group. -/
theorem grp0 (c : Dev nD) (t : Fin cfg0.N) (g : Nat) (hg : g = t.val) (u : Nat) (hu : u = 0) (k : Fin 128) (j : Fin 7168) :
    ent (iblk m c 0 t : Vec Ideal S128x7168 .bf16) (Fin.ofNat 128 (u * 128 + k.val)) j = ent (arr0 m c) (Fin.ofNat 1536 (g * 128 + k.val)) j := by
  have hN : cfg0.N = 12 := N_0
  have ht := t.isLt
  have hk := k.isLt
  refine blk0 m c t _ _ ?_ j
  show (g * 128 + k.val) % 1536 = t.val * 128 + (u * 128 + k.val) % 128
  rw [hg, hu]
  omega

theorem idx1 : ∀ t : Fin cfg0.N, win0_1.index t 0 = t.val ∧ win0_1.index t 1 = 0 := by decide

/-- Window 1 at point `t` is the point's 128 rows of the array. -/
theorem blk1 (c : Dev nD) (t : Fin cfg0.N) (d : Fin 128) (r : Fin 1536) (hr : r.val = t.val * 128 + d.val) (j : Fin 7168) :
    ent (iblk m c 1 t : Vec Ideal S128x7168 .bf16) d j = ent (arr1 m c) r j := by
  have hi := idx1 t
  show (iblk m c 1 t : Vec Ideal S128x7168 .bf16) (ix2 d j) = arr1 m c (ix2 r j)
  unfold iblk
  rw [View.read_apply]
  show V m c main_arg1 _ = m (c.tc.loc main_arg1) _
  unfold V
  congr 1
  funext a
  apply Fin.ext
  match a with
  | ⟨0, _⟩ => show win0_1.index t 0 * 128 + 1 * d.val = r.val; rw [hi.1, hr]; omega
  | ⟨1, _⟩ => show win0_1.index t 1 * 7168 + 1 * j.val = j.val; rw [hi.2]; omega

/-- The rows of the point's block of argument 1, as rows of its column group. -/
theorem grp1 (c : Dev nD) (t : Fin cfg0.N) (g : Nat) (hg : g = t.val) (u : Nat) (hu : u = 0) (k : Fin 128) (j : Fin 7168) :
    ent (iblk m c 1 t : Vec Ideal S128x7168 .bf16) (Fin.ofNat 128 (u * 128 + k.val)) j = ent (arr1 m c) (Fin.ofNat 1536 (g * 128 + k.val)) j := by
  have hN : cfg0.N = 12 := N_0
  have ht := t.isLt
  have hk := k.isLt
  refine blk1 m c t _ _ ?_ j
  show (g * 128 + k.val) % 1536 = t.val * 128 + (u * 128 + k.val) % 128
  rw [hg, hu]
  omega

/-- The widened row codes of the point's block, as rows of their column group. -/
theorem grpW (c : Dev nD) (t : Fin cfg0.N) (g : Nat) (hg : g = t.val) (u : Nat) (hu : u = 0) (k : Fin 128) (j : Fin 7168) :
    rowW e4 (ent (iblk m c 0 t : Vec Ideal S128x7168 .bf16)) (Fin.ofNat 128 (u * 128 + k.val)) j = rowW e4 (ent (arr0 m c)) (Fin.ofNat 1536 (g * 128 + k.val)) j :=
  rowW_row e4 (fun j => grp0 m c t g hg u hu k j) j

theorem idx2 : ∀ t : Fin cfg0.N, (cfg0.win 2).flush t = true ∧ win0_2.index t 0 = t.val ∧ win0_2.index t 1 = 0 := by decide

/-- Output 2, the row codes of argument 0. -/
theorem result2 (c : Dev nD) (r : Fin 1536) (j : Fin 7168) :
    ((dats m 0 c).arrAt 2 cfg0.N : Vec Ideal S1536x7168 .fp8e4m3) (ix2 r j) = rowQ e4 (ent (arr0 m c)) r j := by
  have hN : cfg0.N = 12 := N_0
  have hlt := r.isLt
  let t : Fin cfg0.N := ⟨r.val / 128, by omega⟩
  let e : Fin 128 := ⟨r.val % 128, Nat.mod_lt _ (by decide)⟩
  have he := e.isLt
  have hr : r.val = t.val * 128 + e.val := (Nat.div_add_mod' _ _).symm
  have hi := idx2 t
  have h := congrFun (Value.blocks2 m c t hi.1) (ix2 (n0 := 128) (n1 := 7168) e j)
  rw [Value.flushed2, View.read_apply] at h
  refine Eq.trans (congrArg ((dats m 0 c).arrAt 2 cfg0.N : Vec Ideal S1536x7168 .fp8e4m3) ?_) (h.trans ((o2 (iblk m c 0 t) (iblk m c 1 t) _).trans ?_))
  · funext a
    apply Fin.ext
    match a with
    | ⟨0, _⟩ => show r.val = win0_2.index t 0 * 128 + 1 * e.val; rw [hi.2.1, hr]; omega
    | ⟨1, _⟩ => exact (flat (a := j.val) (n := 7168) hi.2.2).symm
  · exact rowQ_row e4 (fun j => blk0 m c t e r hr j) j

theorem idx3 : ∀ t : Fin cfg0.N, (cfg0.win 3).flush t = true ∧ win0_3.index t 0 = t.val ∧ win0_3.index t 1 = 0 := by decide

/-- Output 3, the row scales of argument 0. -/
theorem result3 (c : Dev nD) (r : Fin 1536) (j : Fin 56) :
    ((dats m 0 c).arrAt 3 cfg0.N : Vec Ideal S1536x56 .f32) (ix2 r j) = rowS e4 (ent (arr0 m c)) r j.val := by
  have hN : cfg0.N = 12 := N_0
  have hlt := r.isLt
  let t : Fin cfg0.N := ⟨r.val / 128, by omega⟩
  let e : Fin 128 := ⟨r.val % 128, Nat.mod_lt _ (by decide)⟩
  have he := e.isLt
  have hr : r.val = t.val * 128 + e.val := (Nat.div_add_mod' _ _).symm
  have hi := idx3 t
  have h := congrFun (Value.blocks3 m c t hi.1) (ix2 (n0 := 128) (n1 := 56) e j)
  rw [Value.flushed3, View.read_apply] at h
  refine Eq.trans (congrArg ((dats m 0 c).arrAt 3 cfg0.N : Vec Ideal S1536x56 .f32) ?_) (h.trans ((o3 (iblk m c 0 t) (iblk m c 1 t) _).trans ?_))
  · funext a
    apply Fin.ext
    match a with
    | ⟨0, _⟩ => show r.val = win0_3.index t 0 * 128 + 1 * e.val; rw [hi.2.1, hr]; omega
    | ⟨1, _⟩ => exact (flat (a := j.val) (n := 56) hi.2.2).symm
  · exact rowS_row e4 (fun j => blk0 m c t e r hr j) j.val

theorem idx4 : ∀ t : Fin cfg0.N, (cfg0.win 4).flush t = true ∧ win0_4.index t 0 = t.val ∧ win0_4.index t 1 = 0 := by decide

/-- Output 4, the column codes of argument 0. -/
theorem result4 (c : Dev nD) (r : Fin 1536) (j : Fin 7168) :
    ((dats m 0 c).arrAt 4 cfg0.N : Vec Ideal S1536x7168 .fp8e4m3) (ix2 r j) = colQ e4 (rowW e4 (ent (arr0 m c))) r j := by
  have hN : cfg0.N = 12 := N_0
  have hlt := r.isLt
  let t : Fin cfg0.N := ⟨r.val / 128, by omega⟩
  let e : Fin 128 := ⟨r.val % 128, Nat.mod_lt _ (by decide)⟩
  have he := e.isLt
  have hr : r.val = t.val * 128 + e.val := (Nat.div_add_mod' _ _).symm
  have hi := idx4 t
  have h := congrFun (Value.blocks4 m c t hi.1) (ix2 (n0 := 128) (n1 := 7168) e j)
  rw [Value.flushed4, View.read_apply] at h
  refine Eq.trans (congrArg ((dats m 0 c).arrAt 4 cfg0.N : Vec Ideal S1536x7168 .fp8e4m3) ?_) (h.trans ((o4 (iblk m c 0 t) (iblk m c 1 t) _).trans ?_))
  · funext a
    apply Fin.ext
    match a with
    | ⟨0, _⟩ => show r.val = win0_4.index t 0 * 128 + 1 * e.val; rw [hi.2.1, hr]; omega
    | ⟨1, _⟩ => exact (flat (a := j.val) (n := 7168) hi.2.2).symm
  · exact colQ_group e4 (fun j => rowW_row e4 (fun j => blk0 m c t e r hr j) j) (fun k j => grpW m c t _ rfl _ (by show e.val / 128 = 0; omega) k j) j

theorem idx5 : ∀ t : Fin cfg0.N, (cfg0.win 5).flush t = true ∧ win0_5.index t 0 = t.val ∧ win0_5.index t 1 = 0 ∧ win0_5.index t 2 = 0 := by decide

/-- Output 5, the column scales of argument 0. -/
theorem result5 (c : Dev nD) (g : Fin 12) (u : Fin 1) (j : Fin 7168) :
    ((dats m 0 c).arrAt 5 cfg0.N : Vec Ideal S12x1x7168 .f32) (ix3 g u j) = colS e4 (rowW e4 (ent (arr0 m c))) g.val j := by
  have hN : cfg0.N = 12 := N_0
  have hg := g.isLt
  have hu := u.isLt
  let t : Fin cfg0.N := ⟨g.val, by omega⟩
  have hi := idx5 t
  have h := congrFun (Value.blocks5 m c t hi.1) (ix3 (n0 := 1) (n1 := 1) (n2 := 7168) 0 0 j)
  rw [Value.flushed5, View.read_apply] at h
  refine Eq.trans (congrArg ((dats m 0 c).arrAt 5 cfg0.N : Vec Ideal S12x1x7168 .f32) ?_) (h.trans ((o5 (iblk m c 0 t) (iblk m c 1 t) _).trans ?_))
  · funext a
    apply Fin.ext
    match a with
    | ⟨0, _⟩ => show g.val = win0_5.index t 0 * 1 + 1 * 0; rw [hi.2.1]; show g.val = g.val * 1 + 1 * 0; omega
    | ⟨1, _⟩ => exact (by omega : u.val = 0).trans (flat (a := 0) (n := 1) hi.2.2.1).symm
    | ⟨2, _⟩ => exact (flat (a := j.val) (n := 7168) hi.2.2.2).symm
  · exact colS_group e4 (fun k j => grpW m c t g.val rfl 0 rfl k j) j

theorem idx6 : ∀ t : Fin cfg0.N, (cfg0.win 6).flush t = true ∧ win0_6.index t 0 = t.val ∧ win0_6.index t 1 = 0 := by decide

/-- Output 6, the widened row codes of argument 0. -/
theorem result6 (c : Dev nD) (r : Fin 1536) (j : Fin 7168) :
    ((dats m 0 c).arrAt 6 cfg0.N : Vec Ideal S1536x7168 .bf16) (ix2 r j) = rowW e4 (ent (arr0 m c)) r j := by
  have hN : cfg0.N = 12 := N_0
  have hlt := r.isLt
  let t : Fin cfg0.N := ⟨r.val / 128, by omega⟩
  let e : Fin 128 := ⟨r.val % 128, Nat.mod_lt _ (by decide)⟩
  have he := e.isLt
  have hr : r.val = t.val * 128 + e.val := (Nat.div_add_mod' _ _).symm
  have hi := idx6 t
  have h := congrFun (Value.blocks6 m c t hi.1) (ix2 (n0 := 128) (n1 := 7168) e j)
  rw [Value.flushed6, View.read_apply] at h
  refine Eq.trans (congrArg ((dats m 0 c).arrAt 6 cfg0.N : Vec Ideal S1536x7168 .bf16) ?_) (h.trans ((o6 (iblk m c 0 t) (iblk m c 1 t) _).trans ?_))
  · funext a
    apply Fin.ext
    match a with
    | ⟨0, _⟩ => show r.val = win0_6.index t 0 * 128 + 1 * e.val; rw [hi.2.1, hr]; omega
    | ⟨1, _⟩ => exact (flat (a := j.val) (n := 7168) hi.2.2).symm
  · exact rowW_row e4 (fun j => blk0 m c t e r hr j) j

theorem idx7 : ∀ t : Fin cfg0.N, (cfg0.win 7).flush t = true ∧ win0_7.index t 0 = t.val ∧ win0_7.index t 1 = 0 := by decide

/-- Output 7, the row codes of argument 1. -/
theorem result7 (c : Dev nD) (r : Fin 1536) (j : Fin 7168) :
    ((dats m 0 c).arrAt 7 cfg0.N : Vec Ideal S1536x7168 .fp8e5m2) (ix2 r j) = rowQ e5 (ent (arr1 m c)) r j := by
  have hN : cfg0.N = 12 := N_0
  have hlt := r.isLt
  let t : Fin cfg0.N := ⟨r.val / 128, by omega⟩
  let e : Fin 128 := ⟨r.val % 128, Nat.mod_lt _ (by decide)⟩
  have he := e.isLt
  have hr : r.val = t.val * 128 + e.val := (Nat.div_add_mod' _ _).symm
  have hi := idx7 t
  have h := congrFun (Value.blocks7 m c t hi.1) (ix2 (n0 := 128) (n1 := 7168) e j)
  rw [Value.flushed7, View.read_apply] at h
  refine Eq.trans (congrArg ((dats m 0 c).arrAt 7 cfg0.N : Vec Ideal S1536x7168 .fp8e5m2) ?_) (h.trans ((o7 (iblk m c 0 t) (iblk m c 1 t) _).trans ?_))
  · funext a
    apply Fin.ext
    match a with
    | ⟨0, _⟩ => show r.val = win0_7.index t 0 * 128 + 1 * e.val; rw [hi.2.1, hr]; omega
    | ⟨1, _⟩ => exact (flat (a := j.val) (n := 7168) hi.2.2).symm
  · exact rowQ_row e5 (fun j => blk1 m c t e r hr j) j

theorem idx8 : ∀ t : Fin cfg0.N, (cfg0.win 8).flush t = true ∧ win0_8.index t 0 = t.val ∧ win0_8.index t 1 = 0 := by decide

/-- Output 8, the row scales of argument 1. -/
theorem result8 (c : Dev nD) (r : Fin 1536) (j : Fin 56) :
    ((dats m 0 c).arrAt 8 cfg0.N : Vec Ideal S1536x56 .f32) (ix2 r j) = rowS e5 (ent (arr1 m c)) r j.val := by
  have hN : cfg0.N = 12 := N_0
  have hlt := r.isLt
  let t : Fin cfg0.N := ⟨r.val / 128, by omega⟩
  let e : Fin 128 := ⟨r.val % 128, Nat.mod_lt _ (by decide)⟩
  have he := e.isLt
  have hr : r.val = t.val * 128 + e.val := (Nat.div_add_mod' _ _).symm
  have hi := idx8 t
  have h := congrFun (Value.blocks8 m c t hi.1) (ix2 (n0 := 128) (n1 := 56) e j)
  rw [Value.flushed8, View.read_apply] at h
  refine Eq.trans (congrArg ((dats m 0 c).arrAt 8 cfg0.N : Vec Ideal S1536x56 .f32) ?_) (h.trans ((o8 (iblk m c 0 t) (iblk m c 1 t) _).trans ?_))
  · funext a
    apply Fin.ext
    match a with
    | ⟨0, _⟩ => show r.val = win0_8.index t 0 * 128 + 1 * e.val; rw [hi.2.1, hr]; omega
    | ⟨1, _⟩ => exact (flat (a := j.val) (n := 56) hi.2.2).symm
  · exact rowS_row e5 (fun j => blk1 m c t e r hr j) j.val

theorem idx9 : ∀ t : Fin cfg0.N, (cfg0.win 9).flush t = true ∧ win0_9.index t 0 = t.val ∧ win0_9.index t 1 = 0 := by decide

/-- Output 9, the column codes of argument 1. -/
theorem result9 (c : Dev nD) (r : Fin 1536) (j : Fin 7168) :
    ((dats m 0 c).arrAt 9 cfg0.N : Vec Ideal S1536x7168 .fp8e5m2) (ix2 r j) = colQ e5 (ent (arr1 m c)) r j := by
  have hN : cfg0.N = 12 := N_0
  have hlt := r.isLt
  let t : Fin cfg0.N := ⟨r.val / 128, by omega⟩
  let e : Fin 128 := ⟨r.val % 128, Nat.mod_lt _ (by decide)⟩
  have he := e.isLt
  have hr : r.val = t.val * 128 + e.val := (Nat.div_add_mod' _ _).symm
  have hi := idx9 t
  have h := congrFun (Value.blocks9 m c t hi.1) (ix2 (n0 := 128) (n1 := 7168) e j)
  rw [Value.flushed9, View.read_apply] at h
  refine Eq.trans (congrArg ((dats m 0 c).arrAt 9 cfg0.N : Vec Ideal S1536x7168 .fp8e5m2) ?_) (h.trans ((o9 (iblk m c 0 t) (iblk m c 1 t) _).trans ?_))
  · funext a
    apply Fin.ext
    match a with
    | ⟨0, _⟩ => show r.val = win0_9.index t 0 * 128 + 1 * e.val; rw [hi.2.1, hr]; omega
    | ⟨1, _⟩ => exact (flat (a := j.val) (n := 7168) hi.2.2).symm
  · exact colQ_group e5 (fun j => blk1 m c t e r hr j) (fun k j => grp1 m c t _ rfl _ (by show e.val / 128 = 0; omega) k j) j

theorem idx10 : ∀ t : Fin cfg0.N, (cfg0.win 10).flush t = true ∧ win0_10.index t 0 = t.val ∧ win0_10.index t 1 = 0 ∧ win0_10.index t 2 = 0 := by decide

/-- Output 10, the column scales of argument 1. -/
theorem result10 (c : Dev nD) (g : Fin 12) (u : Fin 1) (j : Fin 7168) :
    ((dats m 0 c).arrAt 10 cfg0.N : Vec Ideal S12x1x7168 .f32) (ix3 g u j) = colS e5 (ent (arr1 m c)) g.val j := by
  have hN : cfg0.N = 12 := N_0
  have hg := g.isLt
  have hu := u.isLt
  let t : Fin cfg0.N := ⟨g.val, by omega⟩
  have hi := idx10 t
  have h := congrFun (Value.blocks10 m c t hi.1) (ix3 (n0 := 1) (n1 := 1) (n2 := 7168) 0 0 j)
  rw [Value.flushed10, View.read_apply] at h
  refine Eq.trans (congrArg ((dats m 0 c).arrAt 10 cfg0.N : Vec Ideal S12x1x7168 .f32) ?_) (h.trans ((o10 (iblk m c 0 t) (iblk m c 1 t) _).trans ?_))
  · funext a
    apply Fin.ext
    match a with
    | ⟨0, _⟩ => show g.val = win0_10.index t 0 * 1 + 1 * 0; rw [hi.2.1]; show g.val = g.val * 1 + 1 * 0; omega
    | ⟨1, _⟩ => exact (by omega : u.val = 0).trans (flat (a := 0) (n := 1) hi.2.2.1).symm
    | ⟨2, _⟩ => exact (flat (a := j.val) (n := 7168) hi.2.2.2).symm
  · exact colS_group e5 (fun k j => grp1 m c t g.val rfl 0 rfl k j) j

theorem idx11 : ∀ t : Fin cfg0.N, (cfg0.win 11).flush t = true ∧ win0_11.index t 0 = t.val ∧ win0_11.index t 1 = 0 := by decide

/-- Output 11, the widened row codes of argument 1. -/
theorem result11 (c : Dev nD) (r : Fin 1536) (j : Fin 7168) :
    ((dats m 0 c).arrAt 11 cfg0.N : Vec Ideal S1536x7168 .bf16) (ix2 r j) = rowW e5 (ent (arr1 m c)) r j := by
  have hN : cfg0.N = 12 := N_0
  have hlt := r.isLt
  let t : Fin cfg0.N := ⟨r.val / 128, by omega⟩
  let e : Fin 128 := ⟨r.val % 128, Nat.mod_lt _ (by decide)⟩
  have he := e.isLt
  have hr : r.val = t.val * 128 + e.val := (Nat.div_add_mod' _ _).symm
  have hi := idx11 t
  have h := congrFun (Value.blocks11 m c t hi.1) (ix2 (n0 := 128) (n1 := 7168) e j)
  rw [Value.flushed11, View.read_apply] at h
  refine Eq.trans (congrArg ((dats m 0 c).arrAt 11 cfg0.N : Vec Ideal S1536x7168 .bf16) ?_) (h.trans ((o11 (iblk m c 0 t) (iblk m c 1 t) _).trans ?_))
  · funext a
    apply Fin.ext
    match a with
    | ⟨0, _⟩ => show r.val = win0_11.index t 0 * 128 + 1 * e.val; rw [hi.2.1, hr]; omega
    | ⟨1, _⟩ => exact (flat (a := j.val) (n := 7168) hi.2.2).symm
  · exact rowW_row e5 (fun j => blk1 m c t e r hr j) j

end

end Cert.QuantIdeal.Kernel
-- ==== Proof.Quant.lean ====
/- The quantiser call and its reference agree on the ideal values: each of the ten results holds the same codes, scales or
   widened codes of the same rows and columns. -/
module

public import proofs.«01_k».proof.Defs
public import proofs.«01_k».proof.Proof.QuantRef
public import proofs.«01_k».proof.Proof.QuantKernel

@[expose] public section

namespace Cert.QuantIdeal.Agree

open Idealize Idealize.ShloMosaic Idealize.ShloMosaic.ValueIdx
open Idealize.ShloMosaic.TcCoe
open Cert.Quantiser

noncomputable section

/-- Two matrices with the same entries are the same. -/
theorem ext2 {n0 n1 : ℕ} {α : Type} {x y : Shape.Idx ⟨2, ![n0, n1]⟩ → α} (h : ∀ i j, x (ix2 i j) = y (ix2 i j)) : x = y := by
  funext k; rw [eq_ix2 k]; exact h _ _

/-- Two arrays of three axes with the same entries are the same. -/
theorem ext3 {n0 n1 n2 : ℕ} {α : Type} {x y : Shape.Idx ⟨3, ![n0, n1, n2]⟩ → α} (h : ∀ i j l, x (ix3 i j l) = y (ix3 i j l)) : x = y := by
  funext k; rw [eq_ix3 k]; exact h _ _ _

section Reference

open Cert.QuantRefIdeal Cert.QuantRefIdeal.Gen

variable (a0 a1 : Vec Ideal S1536x7168 .bf16)

/-- A load of a whole argument is the argument. -/
theorem whole (a : Vec Ideal S1536x7168 .bf16) : View.ld a r0_0 = a :=
  View.ld_unit_zero (S := S1536x7168) Cert.QuantRefIdeal.Value.hz0 _ a

theorem p20 : k0_pay20 (F := Ideal) a0 a1 = k0_pay7 a0 := by
  unfold k0_pay20
  rw [whole]

theorem p21 : k0_pay21 (F := Ideal) a0 a1 = k0_pay8 a0 := by
  unfold k0_pay21
  rw [whole]

theorem p22 : k0_pay22 (F := Ideal) a0 a1 = k0_pay14 a1 := by
  unfold k0_pay22
  rw [whole]

theorem p23 : k0_pay23 (F := Ideal) a0 a1 = k0_pay19 a1 := by
  unfold k0_pay23
  rw [whole]

/-- The reference's result 3 by the values that it is computed from. -/
theorem g4 : Cert.QuantRefIdeal.Value.G4 (F := Ideal) a0 a1 = k0_pay12 (k0_pay7 a0) (k0_pay8 a0) := by
  show k0_pay12 (k0_pay20 a0 a1) (k0_pay21 a0 a1) = _
  rw [p20, p21]

/-- The reference's result 4 by the values that it is computed from. -/
theorem g5 : Cert.QuantRefIdeal.Value.G5 (F := Ideal) a0 a1 = k0_pay13 (k0_pay7 a0) (k0_pay8 a0) := by
  show k0_pay13 (k0_pay20 a0 a1) (k0_pay21 a0 a1) = _
  rw [p20, p21]

/-- The reference's result 6 by the values that it is computed from. -/
theorem g7 : Cert.QuantRefIdeal.Value.G7 (F := Ideal) a0 a1 = k0_pay17 (k0_pay14 a1) := by
  show k0_pay17 (k0_pay22 a0 a1) = _
  rw [p22]

/-- The reference's result 7 by the values that it is computed from. -/
theorem g8 : Cert.QuantRefIdeal.Value.G8 (F := Ideal) a0 a1 = k0_pay16 (k0_pay14 a1) := by
  show k0_pay16 (k0_pay22 a0 a1) = _
  rw [p22]

/-- The reference's result 8 by the values that it is computed from. -/
theorem g9 : Cert.QuantRefIdeal.Value.G9 (F := Ideal) a0 a1 = k0_pay3 (k0_pay19 a1) := by
  show k0_pay3 (k0_pay23 a0 a1) = _
  rw [p23]

/-- The reference's result 9 by the values that it is computed from. -/
theorem g10 : Cert.QuantRefIdeal.Value.G10 (F := Ideal) a0 a1 = k0_pay4 (k0_pay19 a1) := by
  show k0_pay4 (k0_pay23 a0 a1) = _
  rw [p23]

/-- The reference's result 10 by the values that it is computed from. -/
theorem g11 : Cert.QuantRefIdeal.Value.G11 (F := Ideal) a0 a1 = k0_pay18 (k0_pay14 a1) := by
  show k0_pay18 (k0_pay22 a0 a1) = _
  rw [p22]

end Reference

variable (m : (ℓ : Loc Cert.QuantIdeal.nD Cert.QuantIdeal.τ Cert.QuantIdeal.sig) → Buf (Elt Ideal) ℓ) (c : Dev Cert.QuantIdeal.nD)

/-- Result 1: the row codes of argument 0. -/
theorem same2 : (Cert.QuantRefIdeal.Value.G2 (Kernel.arr0 m c) (Kernel.arr1 m c) : Vec Ideal Cert.QuantIdeal.S1536x7168 .fp8e4m3) = (Cert.QuantIdeal.Gen.dats m 0 c).arrAt 2 Cert.QuantIdeal.cfg0.N :=
  ext2 fun r j => (e4_rowQ (Kernel.arr0 m c) r j).trans (Kernel.result2 m c r j).symm

/-- Result 2: the row scales of argument 0. -/
theorem same3 : (Cert.QuantRefIdeal.Value.G3 (Kernel.arr0 m c) (Kernel.arr1 m c) : Vec Ideal Cert.QuantIdeal.S1536x56 .f32) = (Cert.QuantIdeal.Gen.dats m 0 c).arrAt 3 Cert.QuantIdeal.cfg0.N :=
  ext2 fun r j => (e4_rowS (Kernel.arr0 m c) r j).trans (Kernel.result3 m c r j).symm

/-- Result 3: the column codes of argument 0. -/
theorem same4 : (Cert.QuantRefIdeal.Value.G4 (Kernel.arr0 m c) (Kernel.arr1 m c) : Vec Ideal Cert.QuantIdeal.S1536x7168 .fp8e4m3) = (Cert.QuantIdeal.Gen.dats m 0 c).arrAt 4 Cert.QuantIdeal.cfg0.N :=
  (g4 (Kernel.arr0 m c) (Kernel.arr1 m c)).trans (ext2 fun r j => (e4_colQ (Kernel.arr0 m c) r j).trans (Kernel.result4 m c r j).symm)

/-- Result 4: the column scales of argument 0. -/
theorem same5 : (Cert.QuantRefIdeal.Value.G5 (Kernel.arr0 m c) (Kernel.arr1 m c) : Vec Ideal Cert.QuantIdeal.S12x1x7168 .f32) = (Cert.QuantIdeal.Gen.dats m 0 c).arrAt 5 Cert.QuantIdeal.cfg0.N :=
  (g5 (Kernel.arr0 m c) (Kernel.arr1 m c)).trans (ext3 fun g u j => (e4_colS (Kernel.arr0 m c) g u j).trans (Kernel.result5 m c g u j).symm)

/-- Result 5: the widened row codes of argument 0. -/
theorem same6 : (Cert.QuantRefIdeal.Value.G6 (Kernel.arr0 m c) (Kernel.arr1 m c) : Vec Ideal Cert.QuantIdeal.S1536x7168 .bf16) = (Cert.QuantIdeal.Gen.dats m 0 c).arrAt 6 Cert.QuantIdeal.cfg0.N :=
  ext2 fun r j => (e4_rowW (Kernel.arr0 m c) r j).trans (Kernel.result6 m c r j).symm

/-- Result 6: the row codes of argument 1. -/
theorem same7 : (Cert.QuantRefIdeal.Value.G7 (Kernel.arr0 m c) (Kernel.arr1 m c) : Vec Ideal Cert.QuantIdeal.S1536x7168 .fp8e5m2) = (Cert.QuantIdeal.Gen.dats m 0 c).arrAt 7 Cert.QuantIdeal.cfg0.N :=
  (g7 (Kernel.arr0 m c) (Kernel.arr1 m c)).trans (ext2 fun r j => (e5_rowQ (Kernel.arr1 m c) r j).trans (Kernel.result7 m c r j).symm)

/-- Result 7: the row scales of argument 1. -/
theorem same8 : (Cert.QuantRefIdeal.Value.G8 (Kernel.arr0 m c) (Kernel.arr1 m c) : Vec Ideal Cert.QuantIdeal.S1536x56 .f32) = (Cert.QuantIdeal.Gen.dats m 0 c).arrAt 8 Cert.QuantIdeal.cfg0.N :=
  (g8 (Kernel.arr0 m c) (Kernel.arr1 m c)).trans (ext2 fun r j => (e5_rowS (Kernel.arr1 m c) r j).trans (Kernel.result8 m c r j).symm)

/-- Result 8: the column codes of argument 1. -/
theorem same9 : (Cert.QuantRefIdeal.Value.G9 (Kernel.arr0 m c) (Kernel.arr1 m c) : Vec Ideal Cert.QuantIdeal.S1536x7168 .fp8e5m2) = (Cert.QuantIdeal.Gen.dats m 0 c).arrAt 9 Cert.QuantIdeal.cfg0.N :=
  (g9 (Kernel.arr0 m c) (Kernel.arr1 m c)).trans (ext2 fun r j => (e5_colQ (Kernel.arr1 m c) r j).trans (Kernel.result9 m c r j).symm)

/-- Result 9: the column scales of argument 1. -/
theorem same10 : (Cert.QuantRefIdeal.Value.G10 (Kernel.arr0 m c) (Kernel.arr1 m c) : Vec Ideal Cert.QuantIdeal.S12x1x7168 .f32) = (Cert.QuantIdeal.Gen.dats m 0 c).arrAt 10 Cert.QuantIdeal.cfg0.N :=
  (g10 (Kernel.arr0 m c) (Kernel.arr1 m c)).trans (ext3 fun g u j => (e5_colS (Kernel.arr1 m c) g u j).trans (Kernel.result10 m c g u j).symm)

/-- Result 10: the widened row codes of argument 1. -/
theorem same11 : (Cert.QuantRefIdeal.Value.G11 (Kernel.arr0 m c) (Kernel.arr1 m c) : Vec Ideal Cert.QuantIdeal.S1536x7168 .bf16) = (Cert.QuantIdeal.Gen.dats m 0 c).arrAt 11 Cert.QuantIdeal.cfg0.N :=
  (g11 (Kernel.arr0 m c) (Kernel.arr1 m c)).trans (ext2 fun r j => (e5_rowW (Kernel.arr1 m c) r j).trans (Kernel.result11 m c r j).symm)

/-- THE CLAIM of the quantiser call: it and its reference end with the same results, arguments kept. -/
theorem agree [hQuantIdeal : Cert.QuantIdeal.Facts] [hQuantRefIdeal : Cert.QuantRefIdeal.Facts] : Cert.algebraic_QuantIdeal_QuantRefIdeal := by
  intro m g m' g' _ hargs
  refine ⟨fun c => (Cert.QuantIdeal.Gen.dats m 0 c).arrAt 2 Cert.QuantIdeal.cfg0.N,
    fun c => (Cert.QuantIdeal.Gen.dats m 0 c).arrAt 3 Cert.QuantIdeal.cfg0.N,
    fun c => (Cert.QuantIdeal.Gen.dats m 0 c).arrAt 4 Cert.QuantIdeal.cfg0.N,
    fun c => (Cert.QuantIdeal.Gen.dats m 0 c).arrAt 5 Cert.QuantIdeal.cfg0.N,
    fun c => (Cert.QuantIdeal.Gen.dats m 0 c).arrAt 6 Cert.QuantIdeal.cfg0.N,
    fun c => (Cert.QuantIdeal.Gen.dats m 0 c).arrAt 7 Cert.QuantIdeal.cfg0.N,
    fun c => (Cert.QuantIdeal.Gen.dats m 0 c).arrAt 8 Cert.QuantIdeal.cfg0.N,
    fun c => (Cert.QuantIdeal.Gen.dats m 0 c).arrAt 9 Cert.QuantIdeal.cfg0.N,
    fun c => (Cert.QuantIdeal.Gen.dats m 0 c).arrAt 10 Cert.QuantIdeal.cfg0.N,
    fun c => (Cert.QuantIdeal.Gen.dats m 0 c).arrAt 11 Cert.QuantIdeal.cfg0.N,
    Cert.QuantIdeal.Value.run_blocks m g, ?_⟩
  refine (θ_run Cert.QuantRefIdeal.defs _ _).mono (fun r H c => ?_) (Cert.QuantRefIdeal.Value.run m' g')
  obtain ⟨h0, h1⟩ := hargs c
  have e0 : m' ((c : Thread Cert.QuantRefIdeal.nD Cert.QuantRefIdeal.τ).loc Cert.QuantRefIdeal.main_arg0) = Kernel.arr0 m c := h0
  have e1 : m' ((c : Thread Cert.QuantRefIdeal.nD Cert.QuantRefIdeal.τ).loc Cert.QuantRefIdeal.main_arg1) = Kernel.arr1 m c := h1
  have Hc := H c
  obtain ⟨H2, H3, H4, H5, H6, H7, H8, H9, H10, H11, Hrest⟩ := Hc
  rw [e0, e1] at H2 H3 H4 H5 H6 H7 H8 H9 H10 H11
  exact ⟨H2.trans (same2 m c), H3.trans (same3 m c), H4.trans (same4 m c), H5.trans (same5 m c), H6.trans (same6 m c), H7.trans (same7 m c), H8.trans (same8 m c), H9.trans (same9 m c), H10.trans (same10 m c), H11.trans (same11 m c), Hrest⟩

end

end Cert.QuantIdeal.Agree
-- ==== Proof.lean ====
module

public import proofs.«01_k».proof.Defs
public import proofs.«01_k».proof.Proof.Gen.Grad
public import proofs.«01_k».proof.Proof.Gen.Grad.Frame
public import proofs.«01_k».proof.Proof.Gen.GradIdeal
public import proofs.«01_k».proof.Proof.Gen.GradIdeal.Frame
public import proofs.«01_k».proof.Proof.Gen.GradRefIdeal
public import proofs.«01_k».proof.Proof.Gen.GradRefIdeal.Frame
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownRefIdeal
public import proofs.«01_k».proof.Proof.Gen.DownRefIdeal.Frame
public import proofs.«01_k».proof.Proof.Gen.Quant
public import proofs.«01_k».proof.Proof.Gen.Quant.Frame
public import proofs.«01_k».proof.Proof.Gen.QuantIdeal
public import proofs.«01_k».proof.Proof.Gen.QuantIdeal.Frame
public import proofs.«01_k».proof.Proof.Gen.QuantRefIdeal
public import proofs.«01_k».proof.Proof.Gen.QuantRefIdeal.Frame
public import proofs.«01_k».proof.Proof.Gen.QuantIdeal.Value
public import proofs.«01_k».proof.Proof.Gen.QuantRefIdeal.Value
public import proofs.«01_k».proof.Proof.Grad
public import proofs.«01_k».proof.Proof.Down
public import proofs.«01_k».proof.Proof.Quant

@[expose] public section

noncomputable section

namespace Cert.Proof

open Idealize.ShloMosaic Idealize.SL.Sem

/-- Everything the certificate claims. -/
theorem claim : Cert.Claim := ⟨Cert.Grad.Gen.facts, Cert.GradIdeal.Gen.facts, Cert.GradRefIdeal.Gen.facts, Cert.Down.Gen.facts, Cert.DownIdeal.Gen.facts, Cert.DownRefIdeal.Gen.facts, Cert.Quant.Gen.facts, Cert.QuantIdeal.Gen.facts, Cert.QuantRefIdeal.Gen.facts,
  fun m ρ _ => Cert.Grad.Gen.frame m ρ,
  fun m ρ _ => Cert.GradIdeal.Gen.frame m ρ,
  fun m ρ _ => Cert.GradRefIdeal.Gen.frame m ρ,
  fun m ρ _ => Cert.Down.Gen.frame m ρ,
  fun m ρ _ => Cert.DownIdeal.Gen.frame m ρ,
  fun m ρ _ => Cert.DownRefIdeal.Gen.frame m ρ,
  fun m ρ _ => Cert.Quant.Gen.frame m ρ,
  fun m ρ _ => Cert.QuantIdeal.Gen.frame m ρ,
  fun m ρ _ => Cert.QuantRefIdeal.Gen.frame m ρ,
  trivial,
  Cert.GradIdeal.Agree.agree (hGradIdeal := Cert.GradIdeal.Gen.facts) (hGradRefIdeal := Cert.GradRefIdeal.Gen.facts),
  trivial,
  Cert.DownIdeal.Agree.agree (hDownIdeal := Cert.DownIdeal.Gen.facts) (hDownRefIdeal := Cert.DownRefIdeal.Gen.facts),
  trivial,
  Cert.QuantIdeal.Agree.agree (hQuantIdeal := Cert.QuantIdeal.Gen.facts) (hQuantRefIdeal := Cert.QuantRefIdeal.Gen.facts)⟩

end Cert.Proof

end
